-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17)
      ∧ r.2.mem ((c.tc : Thread Cert.Kernel2.nD Cert.Kernel2.τ).loc Cert.Kernel2.main_arg18) = m ((c.tc : Thread Cert.Kernel2.nD Cert.Kernel2.τ).loc Cert.Kernel2.main_arg18)
      ∧ r.2.mem ((c.tc : Thread Cert.Kernel2.nD Cert.Kernel2.τ).loc Cert.Kernel2.main_arg19) = m ((c.tc : Thread Cert.Kernel2.nD Cert.Kernel2.τ).loc Cert.Kernel2.main_arg19)
      ∧ r.2.mem ((c.tc : Thread Cert.Kernel2.nD Cert.Kernel2.τ).loc Cert.Kernel2.main_arg20) = m ((c.tc : Thread Cert.Kernel2.nD Cert.Kernel2.τ).loc Cert.Kernel2.main_arg20)
      ∧ r.2.mem ((c.tc : Thread Cert.Kernel2.nD Cert.Kernel2.τ).loc Cert.Kernel2.main_arg21) = m ((c.tc : Thread Cert.Kernel2.nD Cert.Kernel2.τ).loc Cert.Kernel2.main_arg21)
      ∧ r.2.mem ((c.tc : Thread Cert.Kernel2.nD Cert.Kernel2.τ).loc Cert.Kernel2.main_arg22) = m ((c.tc : Thread Cert.Kernel2.nD Cert.Kernel2.τ).loc Cert.Kernel2.main_arg22)
      ∧ r.2.mem ((c.tc : Thread Cert.Kernel2.nD Cert.Kernel2.τ).loc Cert.Kernel2.main_arg23) = m ((c.tc : Thread Cert.Kernel2.nD Cert.Kernel2.τ).loc Cert.Kernel2.main_arg23)
      ∧ r.2.mem ((c.tc : Thread Cert.Kernel2.nD Cert.Kernel2.τ).loc Cert.Kernel2.main_arg24) = m ((c.tc : Thread Cert.Kernel2.nD Cert.Kernel2.τ).loc Cert.Kernel2.main_arg24))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
      ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
      ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20)
      ∧ r.2.mem ((c.tc : Thread Cert.Kernel2Ideal.nD Cert.Kernel2Ideal.τ).loc Cert.Kernel2Ideal.main_arg21) = m ((c.tc : Thread Cert.Kernel2Ideal.nD Cert.Kernel2Ideal.τ).loc Cert.Kernel2Ideal.main_arg21)
      ∧ r.2.mem ((c.tc : Thread Cert.Kernel2Ideal.nD Cert.Kernel2Ideal.τ).loc Cert.Kernel2Ideal.main_arg22) = m ((c.tc : Thread Cert.Kernel2Ideal.nD Cert.Kernel2Ideal.τ).loc Cert.Kernel2Ideal.main_arg22)
      ∧ r.2.mem ((c.tc : Thread Cert.Kernel2Ideal.nD Cert.Kernel2Ideal.τ).loc Cert.Kernel2Ideal.main_arg23) = m ((c.tc : Thread Cert.Kernel2Ideal.nD Cert.Kernel2Ideal.τ).loc Cert.Kernel2Ideal.main_arg23)
      ∧ r.2.mem ((c.tc : Thread Cert.Kernel2Ideal.nD Cert.Kernel2Ideal.τ).loc Cert.Kernel2Ideal.main_arg24) = m ((c.tc : Thread Cert.Kernel2Ideal.nD Cert.Kernel2Ideal.τ).loc Cert.Kernel2Ideal.main_arg24))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18)
      ∧ r.2.mem ((c.tc : Thread Cert.Reference2Ideal.nD Cert.Reference2Ideal.τ).loc Cert.Reference2Ideal.main_arg19) = m ((c.tc : Thread Cert.Reference2Ideal.nD Cert.Reference2Ideal.τ).loc Cert.Reference2Ideal.main_arg19)
      ∧ r.2.mem ((c.tc : Thread Cert.Reference2Ideal.nD Cert.Reference2Ideal.τ).loc Cert.Reference2Ideal.main_arg20) = m ((c.tc : Thread Cert.Reference2Ideal.nD Cert.Reference2Ideal.τ).loc Cert.Reference2Ideal.main_arg20)
      ∧ r.2.mem ((c.tc : Thread Cert.Reference2Ideal.nD Cert.Reference2Ideal.τ).loc Cert.Reference2Ideal.main_arg21) = m ((c.tc : Thread Cert.Reference2Ideal.nD Cert.Reference2Ideal.τ).loc Cert.Reference2Ideal.main_arg21)
      ∧ r.2.mem ((c.tc : Thread Cert.Reference2Ideal.nD Cert.Reference2Ideal.τ).loc Cert.Reference2Ideal.main_arg22) = m ((c.tc : Thread Cert.Reference2Ideal.nD Cert.Reference2Ideal.τ).loc Cert.Reference2Ideal.main_arg22)
      ∧ r.2.mem ((c.tc : Thread Cert.Reference2Ideal.nD Cert.Reference2Ideal.τ).loc Cert.Reference2Ideal.main_arg23) = m ((c.tc : Thread Cert.Reference2Ideal.nD Cert.Reference2Ideal.τ).loc Cert.Reference2Ideal.main_arg23)
      ∧ r.2.mem ((c.tc : Thread Cert.Reference2Ideal.nD Cert.Reference2Ideal.τ).loc Cert.Reference2Ideal.main_arg24) = m ((c.tc : Thread Cert.Reference2Ideal.nD Cert.Reference2Ideal.τ).loc Cert.Reference2Ideal.main_arg24))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_on_graph [hKernelIdeal : Cert.KernelIdeal.Facts] [hReferenceIdeal : Cert.ReferenceIdeal.Facts] [hOn_graph : Cert.On_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v28_0)) (v1 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![32, 256, 512]⟩ : Shape).Idx, (Cert.On_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).1 i = 1#1 → r.2.mem ((c.tc : Thread Cert.KernelIdeal.nD Cert.KernelIdeal.τ).loc Cert.KernelIdeal.main_v28_0) i = v0 c i)
          ∧ (∀ i : (⟨2, ![256, 256]⟩ : Shape).Idx, (Cert.On_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2 i = 1#1 → r.2.mem ((c.tc : Thread Cert.KernelIdeal.nD Cert.KernelIdeal.τ).loc Cert.KernelIdeal.main_v28_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![32, 256, 512]⟩ : Shape).Idx, (Cert.On_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).1 i = 1#1 → r.2.mem ((c.tc : Thread Cert.ReferenceIdeal.nD Cert.ReferenceIdeal.τ).loc Cert.ReferenceIdeal.main_v268) i = v0 c i)
          ∧ (∀ i : (⟨2, ![256, 256]⟩ : Shape).Idx, (Cert.On_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))).2 i = 1#1 → r.2.mem ((c.tc : Thread Cert.ReferenceIdeal.nD Cert.ReferenceIdeal.τ).loc Cert.ReferenceIdeal.main_v119) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def preserves_Kernel2_Kernel2Ideal : Prop :=
  True

def algebraic_Kernel2Ideal_Reference2Ideal_on_block [hKernel2Ideal : Cert.Kernel2Ideal.Facts] [hReference2Ideal : Cert.Reference2Ideal.Facts] [hOn_block : Cert.On_block.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)
      ∧ m' ((c.tc : Thread Cert.Reference2Ideal.nD Cert.Reference2Ideal.τ).loc Cert.Reference2Ideal.main_arg18) = m ((c.tc : Thread Cert.Kernel2Ideal.nD Cert.Kernel2Ideal.τ).loc Cert.Kernel2Ideal.main_arg18)
      ∧ m' ((c.tc : Thread Cert.Reference2Ideal.nD Cert.Reference2Ideal.τ).loc Cert.Reference2Ideal.main_arg19) = m ((c.tc : Thread Cert.Kernel2Ideal.nD Cert.Kernel2Ideal.τ).loc Cert.Kernel2Ideal.main_arg19)
      ∧ m' ((c.tc : Thread Cert.Reference2Ideal.nD Cert.Reference2Ideal.τ).loc Cert.Reference2Ideal.main_arg20) = m ((c.tc : Thread Cert.Kernel2Ideal.nD Cert.Kernel2Ideal.τ).loc Cert.Kernel2Ideal.main_arg20)
      ∧ m' ((c.tc : Thread Cert.Reference2Ideal.nD Cert.Reference2Ideal.τ).loc Cert.Reference2Ideal.main_arg21) = m ((c.tc : Thread Cert.Kernel2Ideal.nD Cert.Kernel2Ideal.τ).loc Cert.Kernel2Ideal.main_arg21)
      ∧ m' ((c.tc : Thread Cert.Reference2Ideal.nD Cert.Reference2Ideal.τ).loc Cert.Reference2Ideal.main_arg22) = m ((c.tc : Thread Cert.Kernel2Ideal.nD Cert.Kernel2Ideal.τ).loc Cert.Kernel2Ideal.main_arg22)
      ∧ m' ((c.tc : Thread Cert.Reference2Ideal.nD Cert.Reference2Ideal.τ).loc Cert.Reference2Ideal.main_arg23) = m ((c.tc : Thread Cert.Kernel2Ideal.nD Cert.Kernel2Ideal.τ).loc Cert.Kernel2Ideal.main_arg23)
      ∧ m' ((c.tc : Thread Cert.Reference2Ideal.nD Cert.Reference2Ideal.τ).loc Cert.Reference2Ideal.main_arg24) = m ((c.tc : Thread Cert.Kernel2Ideal.nD Cert.Kernel2Ideal.τ).loc Cert.Kernel2Ideal.main_arg24)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨3, ![32, 256, 512]⟩ : Shape).Idx, (Cert.On_block.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18)) (m ((c.tc : Thread Cert.Kernel2Ideal.nD Cert.Kernel2Ideal.τ).loc Cert.Kernel2Ideal.main_arg19)) (m ((c.tc : Thread Cert.Kernel2Ideal.nD Cert.Kernel2Ideal.τ).loc Cert.Kernel2Ideal.main_arg20)) (m ((c.tc : Thread Cert.Kernel2Ideal.nD Cert.Kernel2Ideal.τ).loc Cert.Kernel2Ideal.main_arg21)) (m ((c.tc : Thread Cert.Kernel2Ideal.nD Cert.Kernel2Ideal.τ).loc Cert.Kernel2Ideal.main_arg22)) (m ((c.tc : Thread Cert.Kernel2Ideal.nD Cert.Kernel2Ideal.τ).loc Cert.Kernel2Ideal.main_arg23)) (m ((c.tc : Thread Cert.Kernel2Ideal.nD Cert.Kernel2Ideal.τ).loc Cert.Kernel2Ideal.main_arg24))).1 i = 1#1 → r.2.mem ((c.tc : Thread Cert.Kernel2Ideal.nD Cert.Kernel2Ideal.τ).loc Cert.Kernel2Ideal.main_v15_0) i = v0 c i)
          ∧ (∀ i : (⟨2, ![256, 256]⟩ : Shape).Idx, (Cert.On_block.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18)) (m ((c.tc : Thread Cert.Kernel2Ideal.nD Cert.Kernel2Ideal.τ).loc Cert.Kernel2Ideal.main_arg19)) (m ((c.tc : Thread Cert.Kernel2Ideal.nD Cert.Kernel2Ideal.τ).loc Cert.Kernel2Ideal.main_arg20)) (m ((c.tc : Thread Cert.Kernel2Ideal.nD Cert.Kernel2Ideal.τ).loc Cert.Kernel2Ideal.main_arg21)) (m ((c.tc : Thread Cert.Kernel2Ideal.nD Cert.Kernel2Ideal.τ).loc Cert.Kernel2Ideal.main_arg22)) (m ((c.tc : Thread Cert.Kernel2Ideal.nD Cert.Kernel2Ideal.τ).loc Cert.Kernel2Ideal.main_arg23)) (m ((c.tc : Thread Cert.Kernel2Ideal.nD Cert.Kernel2Ideal.τ).loc Cert.Kernel2Ideal.main_arg24))).2 i = 1#1 → r.2.mem ((c.tc : Thread Cert.Kernel2Ideal.nD Cert.Kernel2Ideal.τ).loc Cert.Kernel2Ideal.main_v15_1) i = v1 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
          ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
          ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
          ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20)
          ∧ r.2.mem ((c.tc : Thread Cert.Kernel2Ideal.nD Cert.Kernel2Ideal.τ).loc Cert.Kernel2Ideal.main_arg21) = m ((c.tc : Thread Cert.Kernel2Ideal.nD Cert.Kernel2Ideal.τ).loc Cert.Kernel2Ideal.main_arg21)
          ∧ r.2.mem ((c.tc : Thread Cert.Kernel2Ideal.nD Cert.Kernel2Ideal.τ).loc Cert.Kernel2Ideal.main_arg22) = m ((c.tc : Thread Cert.Kernel2Ideal.nD Cert.Kernel2Ideal.τ).loc Cert.Kernel2Ideal.main_arg22)
          ∧ r.2.mem ((c.tc : Thread Cert.Kernel2Ideal.nD Cert.Kernel2Ideal.τ).loc Cert.Kernel2Ideal.main_arg23) = m ((c.tc : Thread Cert.Kernel2Ideal.nD Cert.Kernel2Ideal.τ).loc Cert.Kernel2Ideal.main_arg23)
          ∧ r.2.mem ((c.tc : Thread Cert.Kernel2Ideal.nD Cert.Kernel2Ideal.τ).loc Cert.Kernel2Ideal.main_arg24) = m ((c.tc : Thread Cert.Kernel2Ideal.nD Cert.Kernel2Ideal.τ).loc Cert.Kernel2Ideal.main_arg24))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨3, ![32, 256, 512]⟩ : Shape).Idx, (Cert.On_block.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18)) (m ((c.tc : Thread Cert.Kernel2Ideal.nD Cert.Kernel2Ideal.τ).loc Cert.Kernel2Ideal.main_arg19)) (m ((c.tc : Thread Cert.Kernel2Ideal.nD Cert.Kernel2Ideal.τ).loc Cert.Kernel2Ideal.main_arg20)) (m ((c.tc : Thread Cert.Kernel2Ideal.nD Cert.Kernel2Ideal.τ).loc Cert.Kernel2Ideal.main_arg21)) (m ((c.tc : Thread Cert.Kernel2Ideal.nD Cert.Kernel2Ideal.τ).loc Cert.Kernel2Ideal.main_arg22)) (m ((c.tc : Thread Cert.Kernel2Ideal.nD Cert.Kernel2Ideal.τ).loc Cert.Kernel2Ideal.main_arg23)) (m ((c.tc : Thread Cert.Kernel2Ideal.nD Cert.Kernel2Ideal.τ).loc Cert.Kernel2Ideal.main_arg24))).1 i = 1#1 → r.2.mem ((c.tc : Thread Cert.Reference2Ideal.nD Cert.Reference2Ideal.τ).loc Cert.Reference2Ideal.main_v204) i = v0 c i)
          ∧ (∀ i : (⟨2, ![256, 256]⟩ : Shape).Idx, (Cert.On_block.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18)) (m ((c.tc : Thread Cert.Kernel2Ideal.nD Cert.Kernel2Ideal.τ).loc Cert.Kernel2Ideal.main_arg19)) (m ((c.tc : Thread Cert.Kernel2Ideal.nD Cert.Kernel2Ideal.τ).loc Cert.Kernel2Ideal.main_arg20)) (m ((c.tc : Thread Cert.Kernel2Ideal.nD Cert.Kernel2Ideal.τ).loc Cert.Kernel2Ideal.main_arg21)) (m ((c.tc : Thread Cert.Kernel2Ideal.nD Cert.Kernel2Ideal.τ).loc Cert.Kernel2Ideal.main_arg22)) (m ((c.tc : Thread Cert.Kernel2Ideal.nD Cert.Kernel2Ideal.τ).loc Cert.Kernel2Ideal.main_arg23)) (m ((c.tc : Thread Cert.Kernel2Ideal.nD Cert.Kernel2Ideal.τ).loc Cert.Kernel2Ideal.main_arg24))).2 i = 1#1 → r.2.mem ((c.tc : Thread Cert.Reference2Ideal.nD Cert.Reference2Ideal.τ).loc Cert.Reference2Ideal.main_v87) i = v1 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17)
          ∧ r.2.mem ((c.tc : Thread Cert.Reference2Ideal.nD Cert.Reference2Ideal.τ).loc Cert.Reference2Ideal.main_arg18) = m' ((c.tc : Thread Cert.Reference2Ideal.nD Cert.Reference2Ideal.τ).loc Cert.Reference2Ideal.main_arg18)
          ∧ r.2.mem ((c.tc : Thread Cert.Reference2Ideal.nD Cert.Reference2Ideal.τ).loc Cert.Reference2Ideal.main_arg19) = m' ((c.tc : Thread Cert.Reference2Ideal.nD Cert.Reference2Ideal.τ).loc Cert.Reference2Ideal.main_arg19)
          ∧ r.2.mem ((c.tc : Thread Cert.Reference2Ideal.nD Cert.Reference2Ideal.τ).loc Cert.Reference2Ideal.main_arg20) = m' ((c.tc : Thread Cert.Reference2Ideal.nD Cert.Reference2Ideal.τ).loc Cert.Reference2Ideal.main_arg20)
          ∧ r.2.mem ((c.tc : Thread Cert.Reference2Ideal.nD Cert.Reference2Ideal.τ).loc Cert.Reference2Ideal.main_arg21) = m' ((c.tc : Thread Cert.Reference2Ideal.nD Cert.Reference2Ideal.τ).loc Cert.Reference2Ideal.main_arg21)
          ∧ r.2.mem ((c.tc : Thread Cert.Reference2Ideal.nD Cert.Reference2Ideal.τ).loc Cert.Reference2Ideal.main_arg22) = m' ((c.tc : Thread Cert.Reference2Ideal.nD Cert.Reference2Ideal.τ).loc Cert.Reference2Ideal.main_arg22)
          ∧ r.2.mem ((c.tc : Thread Cert.Reference2Ideal.nD Cert.Reference2Ideal.τ).loc Cert.Reference2Ideal.main_arg23) = m' ((c.tc : Thread Cert.Reference2Ideal.nD Cert.Reference2Ideal.τ).loc Cert.Reference2Ideal.main_arg23)
          ∧ r.2.mem ((c.tc : Thread Cert.Reference2Ideal.nD Cert.Reference2Ideal.τ).loc Cert.Reference2Ideal.main_arg24) = m' ((c.tc : Thread Cert.Reference2Ideal.nD Cert.Reference2Ideal.τ).loc Cert.Reference2Ideal.main_arg24))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hOn_graph : Cert.On_graph.Facts) (hOn_block : Cert.On_block.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_on_graph (hKernelIdeal := hKernelIdeal) (hReferenceIdeal := hReferenceIdeal) (hOn_graph := hOn_graph)
    ∧ preserves_Kernel2_Kernel2Ideal
    ∧ algebraic_Kernel2Ideal_Reference2Ideal_on_block (hKernel2Ideal := hKernel2Ideal) (hReference2Ideal := hReference2Ideal) (hOn_block := hOn_block)
-- ==== On_block.lean ====
abbrev S32x256x512 : Shape := ⟨3, ![32, 256, 512]⟩
abbrev S32x256x1024 : Shape := ⟨3, ![32, 256, 1024]⟩
abbrev S512x2048 : Shape := ⟨2, ![512, 2048]⟩
abbrev S1024x4 : Shape := ⟨2, ![1024, 4]⟩
abbrev S1024 : Shape := ⟨1, ![1024]⟩
abbrev S1024x512 : Shape := ⟨2, ![1024, 512]⟩
abbrev S512 : Shape := ⟨1, ![512]⟩
abbrev S256x16 : Shape := ⟨2, ![256, 16]⟩
abbrev S2048 : Shape := ⟨1, ![2048]⟩
abbrev S2048x512 : Shape := ⟨2, ![2048, 512]⟩
abbrev S_ : Shape := ⟨0, ![]⟩
abbrev S256x256 : Shape := ⟨2, ![256, 256]⟩

class Facts : Prop where
  bcast_S_S32x256x512 : S_.BroadcastsInDim S32x256x512 (![] : Fin 0 → Fin S32x256x512.rank)
  bcast_S_S256x256 : S_.BroadcastsInDim S256x256 (![] : Fin 0 → Fin S256x256.rank)

variable [Facts]

def fn {F : FTy → Type} [FloatOps F] (main_arg0 : FVec F S32x256x512 .f32) (main_arg1 : FVec F S32x256x1024 .f32) (main_arg2 : FVec F S32x256x1024 .f32) (main_arg3 : FVec F S512x2048 .f32) (main_arg4 : FVec F S1024x4 .f32) (main_arg5 : FVec F S1024 .f32) (main_arg6 : FVec F S1024 .f32) (main_arg7 : FVec F S1024x512 .f32) (main_arg8 : FVec F S512 .f32) (main_arg9 : FVec F S512 .f32) (main_arg10 : FVec F S256x16 .f32) (main_arg11 : FVec F S256x16 .f32) (main_arg12 : FVec F S512x2048 .f32) (main_arg13 : FVec F S1024x4 .f32) (main_arg14 : FVec F S1024 .f32) (main_arg15 : FVec F S1024 .f32) (main_arg16 : FVec F S1024x512 .f32) (main_arg17 : FVec F S512 .f32) (main_arg18 : FVec F S512 .f32) (main_arg19 : FVec F S512 .f32) (main_arg20 : FVec F S512 .f32) (main_arg21 : FVec F S512x2048 .f32) (main_arg22 : FVec F S2048 .f32) (main_arg23 : FVec F S2048x512 .f32) (main_arg24 : FVec F S512 .f32) : IVec S32x256x512 1 × IVec S256x256 1 :=
  let main_c : IVec S_ 1 := constantI S_ 1 1#1
  let main_v0 : IVec S32x256x512 1 := broadcastInDim S32x256x512 ![] bcast_S_S32x256x512 main_c
  let main_c_0 : IVec S_ 1 := constantI S_ 1 0#1
  let main_v1 : IVec S256x256 1 := broadcastInDim S256x256 ![] bcast_S_S256x256 main_c_0
  (main_v0, main_v1)
-- ==== On_graph.lean ====
abbrev S32x256x512 : Shape := ⟨3, ![32, 256, 512]⟩
abbrev S512x2048 : Shape := ⟨2, ![512, 2048]⟩
abbrev S1024x4 : Shape := ⟨2, ![1024, 4]⟩
abbrev S1024 : Shape := ⟨1, ![1024]⟩
abbrev S1024x64 : Shape := ⟨2, ![1024, 64]⟩
abbrev S32x1024 : Shape := ⟨2, ![32, 1024]⟩
abbrev S1024x16 : Shape := ⟨2, ![1024, 16]⟩
abbrev S1024x512 : Shape := ⟨2, ![1024, 512]⟩
abbrev S512 : Shape := ⟨1, ![512]⟩
abbrev S256x16 : Shape := ⟨2, ![256, 16]⟩
abbrev S2048 : Shape := ⟨1, ![2048]⟩
abbrev S2048x512 : Shape := ⟨2, ![2048, 512]⟩
abbrev S_ : Shape := ⟨0, ![]⟩
abbrev S256x256 : Shape := ⟨2, ![256, 256]⟩

class Facts : Prop where
  bcast_S_S32x256x512 : S_.BroadcastsInDim S32x256x512 (![] : Fin 0 → Fin S32x256x512.rank)
  bcast_S_S256x256 : S_.BroadcastsInDim S256x256 (![] : Fin 0 → Fin S256x256.rank)

variable [Facts]

def fn {F : FTy → Type} [FloatOps F] (main_arg0 : FVec F S32x256x512 .f32) (main_arg1 : FVec F S512x2048 .f32) (main_arg2 : FVec F S1024x4 .f32) (main_arg3 : FVec F S1024 .f32) (main_arg4 : FVec F S1024x64 .f32) (main_arg5 : FVec F S32x1024 .f32) (main_arg6 : FVec F S1024 .f32) (main_arg7 : FVec F S1024x16 .f32) (main_arg8 : FVec F S1024 .f32) (main_arg9 : FVec F S1024x512 .f32) (main_arg10 : FVec F S512 .f32) (main_arg11 : FVec F S512 .f32) (main_arg12 : FVec F S256x16 .f32) (main_arg13 : FVec F S256x16 .f32) (main_arg14 : FVec F S512x2048 .f32) (main_arg15 : FVec F S1024x4 .f32) (main_arg16 : FVec F S1024 .f32) (main_arg17 : FVec F S1024x64 .f32) (main_arg18 : FVec F S32x1024 .f32) (main_arg19 : FVec F S1024 .f32) (main_arg20 : FVec F S1024x16 .f32) (main_arg21 : FVec F S1024 .f32) (main_arg22 : FVec F S1024x512 .f32) (main_arg23 : FVec F S512 .f32) (main_arg24 : FVec F S512 .f32) (main_arg25 : FVec F S512 .f32) (main_arg26 : FVec F S512 .f32) (main_arg27 : FVec F S512x2048 .f32) (main_arg28 : FVec F S2048 .f32) (main_arg29 : FVec F S2048x512 .f32) (main_arg30 : FVec F S512 .f32) : IVec S32x256x512 1 × IVec S256x256 1 :=
  let main_c : IVec S_ 1 := constantI S_ 1 0#1
  let main_v0 : IVec S32x256x512 1 := broadcastInDim S32x256x512 ![] bcast_S_S32x256x512 main_c
  let main_c_0 : IVec S_ 1 := constantI S_ 1 1#1
  let main_v1 : IVec S256x256 1 := broadcastInDim S256x256 ![] bcast_S_S256x256 main_c_0
  (main_v0, main_v1)
-- ==== Kernel.lean ====
abbrev S32x256x512 : Shape := ⟨3, ![32, 256, 512]⟩
abbrev S512x2048 : Shape := ⟨2, ![512, 2048]⟩
abbrev S1024x4 : Shape := ⟨2, ![1024, 4]⟩
abbrev S1024 : Shape := ⟨1, ![1024]⟩
abbrev S1024x64 : Shape := ⟨2, ![1024, 64]⟩
abbrev S32x1024 : Shape := ⟨2, ![32, 1024]⟩
abbrev S1024x16 : Shape := ⟨2, ![1024, 16]⟩
abbrev S1024x512 : Shape := ⟨2, ![1024, 512]⟩
abbrev S512 : Shape := ⟨1, ![512]⟩
abbrev S256x16 : Shape := ⟨2, ![256, 16]⟩
abbrev S2048 : Shape := ⟨1, ![2048]⟩
abbrev S2048x512 : Shape := ⟨2, ![2048, 512]⟩
abbrev S256 : Shape := ⟨1, ![256]⟩
abbrev S1x256 : Shape := ⟨2, ![1, 256]⟩
abbrev S_ : Shape := ⟨0, ![]⟩
abbrev S16 : Shape := ⟨1, ![16]⟩
abbrev S16x1 : Shape := ⟨2, ![16, 1]⟩
abbrev S16x256 : Shape := ⟨2, ![16, 256]⟩
abbrev S4x1024 : Shape := ⟨2, ![4, 1024]⟩
abbrev S1x1024 : Shape := ⟨2, ![1, 1024]⟩
abbrev S16x1024 : Shape := ⟨2, ![16, 1024]⟩
abbrev S1x512 : Shape := ⟨2, ![1, 512]⟩
abbrev S1x2048 : Shape := ⟨2, ![1, 2048]⟩
abbrev S256x256 : Shape := ⟨2, ![256, 256]⟩
abbrev S4x256x512 : Shape := ⟨3, ![4, 256, 512]⟩
abbrev S1024x1024 : Shape := ⟨2, ![1024, 1024]⟩
abbrev S16x64x1024 : Shape := ⟨3, ![16, 64, 1024]⟩
abbrev S64x1024 : Shape := ⟨2, ![64, 1024]⟩
abbrev S128x2048 : Shape := ⟨2, ![128, 2048]⟩
abbrev S1x256x512 : Shape := ⟨3, ![1, 256, 512]⟩
abbrev S256x512 : Shape := ⟨2, ![256, 512]⟩
abbrev S255x512 : Shape := ⟨2, ![255, 512]⟩
abbrev S256x1 : Shape := ⟨2, ![256, 1]⟩
abbrev S512x1024 : Shape := ⟨2, ![512, 1024]⟩
abbrev S256x1024 : Shape := ⟨2, ![256, 1024]⟩
abbrev S255x1024 : Shape := ⟨2, ![255, 1024]⟩
abbrev S2x1024 : Shape := ⟨2, ![2, 1024]⟩
abbrev S254x1024 : Shape := ⟨2, ![254, 1024]⟩
abbrev S3x1024 : Shape := ⟨2, ![3, 1024]⟩
abbrev S253x1024 : Shape := ⟨2, ![253, 1024]⟩
abbrev S256x64 : Shape := ⟨2, ![256, 64]⟩
abbrev S256x32 : Shape := ⟨2, ![256, 32]⟩
abbrev S16x1x1024 : Shape := ⟨3, ![16, 1, 1024]⟩
abbrev S1x16x1024 : Shape := ⟨3, ![1, 16, 1024]⟩
abbrev S16x16x1024 : Shape := ⟨3, ![16, 16, 1024]⟩
abbrev S16x64 : Shape := ⟨2, ![16, 64]⟩
abbrev S16x16 : Shape := ⟨2, ![16, 16]⟩
abbrev S16x16x1 : Shape := ⟨3, ![16, 16, 1]⟩
abbrev S1x64x1024 : Shape := ⟨3, ![1, 64, 1024]⟩
abbrev S128x512 : Shape := ⟨2, ![128, 512]⟩
abbrev S128 : Shape := ⟨1, ![128]⟩
abbrev S128x1 : Shape := ⟨2, ![128, 1]⟩
abbrev S1x128x512 : Shape := ⟨3, ![1, 128, 512]⟩

abbrev nBuf : Space → Nat
  | .hbm => 78
  | .vmem => 47
  | .smem => 0
  | _ => 0

abbrev bufTy : (tb : Table) → Fin (tcTables nBuf tb) → BufTy
  | .hbm, ⟨0, _⟩ => ⟨S32x256x512, .f32⟩
  | .hbm, ⟨1, _⟩ => ⟨S512x2048, .f32⟩
  | .hbm, ⟨2, _⟩ => ⟨S1024x4, .f32⟩
  | .hbm, ⟨3, _⟩ => ⟨S1024, .f32⟩
  | .hbm, ⟨4, _⟩ => ⟨S1024x64, .f32⟩
  | .hbm, ⟨5, _⟩ => ⟨S32x1024, .f32⟩
  | .hbm, ⟨6, _⟩ => ⟨S1024, .f32⟩
  | .hbm, ⟨7, _⟩ => ⟨S1024x16, .f32⟩
  | .hbm, ⟨8, _⟩ => ⟨S1024, .f32⟩
  | .hbm, ⟨9, _⟩ => ⟨S1024x512, .f32⟩
  | .hbm, ⟨10, _⟩ => ⟨S512, .f32⟩
  | .hbm, ⟨11, _⟩ => ⟨S512, .f32⟩
  | .hbm, ⟨12, _⟩ => ⟨S256x16, .f32⟩
  | .hbm, ⟨13, _⟩ => ⟨S256x16, .f32⟩
  | .hbm, ⟨14, _⟩ => ⟨S512x2048, .f32⟩
  | .hbm, ⟨15, _⟩ => ⟨S1024x4, .f32⟩
  | .hbm, ⟨16, _⟩ => ⟨S1024, .f32⟩
  | .hbm, ⟨17, _⟩ => ⟨S1024x64, .f32⟩
  | .hbm, ⟨18, _⟩ => ⟨S32x1024, .f32⟩
  | .hbm, ⟨19, _⟩ => ⟨S1024, .f32⟩
  | .hbm, ⟨20, _⟩ => ⟨S1024x16, .f32⟩
  | .hbm, ⟨21, _⟩ => ⟨S1024, .f32⟩
  | .hbm, ⟨22, _⟩ => ⟨S1024x512, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S512x2048, .f32⟩
  | .hbm, ⟨28, _⟩ => ⟨S2048, .f32⟩
  | .hbm, ⟨29, _⟩ => ⟨S2048x512, .f32⟩
  | .hbm, ⟨30, _⟩ => ⟨S512, .f32⟩
  | .hbm, ⟨31, _⟩ => ⟨S256, .i32⟩
  | .hbm, ⟨32, _⟩ => ⟨S1x256, .i32⟩
  | .hbm, ⟨33, _⟩ => ⟨S_, .i32⟩
  | .hbm, ⟨34, _⟩ => ⟨S_, .i32⟩
  | .hbm, ⟨35, _⟩ => ⟨S1x256, .i32⟩
  | .hbm, ⟨36, _⟩ => ⟨S1x256, .i32⟩
  | .hbm, ⟨37, _⟩ => ⟨S1x256, .i32⟩
  | .hbm, ⟨38, _⟩ => ⟨S_, .i32⟩
  | .hbm, ⟨39, _⟩ => ⟨S1x256, .i32⟩
  | .hbm, ⟨40, _⟩ => ⟨S1x256, .i1⟩
  | .hbm, ⟨41, _⟩ => ⟨S1x256, .i32⟩
  | .hbm, ⟨42, _⟩ => ⟨S1x256, .i32⟩
  | .hbm, ⟨43, _⟩ => ⟨S_, .i32⟩
  | .hbm, ⟨44, _⟩ => ⟨S1x256, .i32⟩
  | .hbm, ⟨45, _⟩ => ⟨S1x256, .i1⟩
  | .hbm, ⟨46, _⟩ => ⟨S1x256, .i1⟩
  | .hbm, ⟨47, _⟩ => ⟨S_, .i32⟩
  | .hbm, ⟨48, _⟩ => ⟨S1x256, .i32⟩
  | .hbm, ⟨49, _⟩ => ⟨S1x256, .i32⟩
  | .hbm, ⟨50, _⟩ => ⟨S1x256, .i32⟩
  | .hbm, ⟨51, _⟩ => ⟨S16, .i32⟩
  | .hbm, ⟨52, _⟩ => ⟨S16x1, .i32⟩
  | .hbm, ⟨53, _⟩ => ⟨S16x256, .i32⟩
  | .hbm, ⟨54, _⟩ => ⟨S16x256, .i32⟩
  | .hbm, ⟨55, _⟩ => ⟨S16x256, .i1⟩
  | .hbm, ⟨56, _⟩ => ⟨S16x256, .f32⟩
  | .hbm, ⟨57, _⟩ => ⟨S4x1024, .f32⟩
  | .hbm, ⟨58, _⟩ => ⟨S1x1024, .f32⟩
  | .hbm, ⟨59, _⟩ => ⟨S1x1024, .f32⟩
  | .hbm, ⟨60, _⟩ => ⟨S16x1024, .f32⟩
  | .hbm, ⟨61, _⟩ => ⟨S1x1024, .f32⟩
  | .hbm, ⟨62, _⟩ => ⟨S1x512, .f32⟩
  | .hbm, ⟨63, _⟩ => ⟨S1x512, .f32⟩
  | .hbm, ⟨64, _⟩ => ⟨S16x256, .f32⟩
  | .hbm, ⟨65, _⟩ => ⟨S4x1024, .f32⟩
  | .hbm, ⟨66, _⟩ => ⟨S1x1024, .f32⟩
  | .hbm, ⟨67, _⟩ => ⟨S1x1024, .f32⟩
  | .hbm, ⟨68, _⟩ => ⟨S16x1024, .f32⟩
  | .hbm, ⟨69, _⟩ => ⟨S1x1024, .f32⟩
  | .hbm, ⟨70, _⟩ => ⟨S1x512, .f32⟩
  | .hbm, ⟨71, _⟩ => ⟨S1x512, .f32⟩
  | .hbm, ⟨72, _⟩ => ⟨S1x512, .f32⟩
  | .hbm, ⟨73, _⟩ => ⟨S1x512, .f32⟩
  | .hbm, ⟨74, _⟩ => ⟨S1x2048, .f32⟩
  | .hbm, ⟨75, _⟩ => ⟨S1x512, .f32⟩
  | .hbm, ⟨76, _⟩ => ⟨S32x256x512, .f32⟩
  | .hbm, ⟨77, _⟩ => ⟨S256x256, .f32⟩
  | .local _ .vmem, ⟨0, _⟩ => ⟨S4x256x512, .f32⟩
  | .local _ .vmem, ⟨1, _⟩ => ⟨S4x256x512, .f32⟩
  | .local _ .vmem, ⟨2, _⟩ => ⟨S512x2048, .f32⟩
  | .local _ .vmem, ⟨3, _⟩ => ⟨S4x1024, .f32⟩
  | .local _ .vmem, ⟨4, _⟩ => ⟨S1x1024, .f32⟩
  | .local _ .vmem, ⟨5, _⟩ => ⟨S1024x64, .f32⟩
  | .local _ .vmem, ⟨6, _⟩ => ⟨S32x1024, .f32⟩
  | .local _ .vmem, ⟨7, _⟩ => ⟨S1x1024, .f32⟩
  | .local _ .vmem, ⟨8, _⟩ => ⟨S16x1024, .f32⟩
  | .local _ .vmem, ⟨9, _⟩ => ⟨S1x1024, .f32⟩
  | .local _ .vmem, ⟨10, _⟩ => ⟨S1024x512, .f32⟩
  | .local _ .vmem, ⟨11, _⟩ => ⟨S1x512, .f32⟩
  | .local _ .vmem, ⟨12, _⟩ => ⟨S1x512, .f32⟩
  | .local _ .vmem, ⟨13, _⟩ => ⟨S256x16, .f32⟩
  | .local _ .vmem, ⟨14, _⟩ => ⟨S16x256, .f32⟩
  | .local _ .vmem, ⟨15, _⟩ => ⟨S512x2048, .f32⟩
  | .local _ .vmem, ⟨16, _⟩ => ⟨S4x1024, .f32⟩
  | .local _ .vmem, ⟨17, _⟩ => ⟨S1x1024, .f32⟩
  | .local _ .vmem, ⟨18, _⟩ => ⟨S1024x64, .f32⟩
  | .local _ .vmem, ⟨19, _⟩ => ⟨S32x1024, .f32⟩
  | .local _ .vmem, ⟨20, _⟩ => ⟨S1x1024, .f32⟩
  | .local _ .vmem, ⟨21, _⟩ => ⟨S16x1024, .f32⟩
  | .local _ .vmem, ⟨22, _⟩ => ⟨S1x1024, .f32⟩
  | .local _ .vmem, ⟨23, _⟩ => ⟨S1024x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S512x2048, .f32⟩
  | .local _ .vmem, ⟨29, _⟩ => ⟨S1x2048, .f32⟩
  | .local _ .vmem, ⟨30, _⟩ => ⟨S2048x512, .f32⟩
  | .local _ .vmem, ⟨31, _⟩ => ⟨S1x512, .f32⟩
  | .local _ .vmem, ⟨32, _⟩ => ⟨S16x256, .f32⟩
  | .local _ .vmem, ⟨33, _⟩ => ⟨S4x256x512, .f32⟩
  | .local _ .vmem, ⟨34, _⟩ => ⟨S4x256x512, .f32⟩
  | .local _ .vmem, ⟨35, _⟩ => ⟨S256x256, .f32⟩
  | .local _ .vmem, ⟨36, _⟩ => ⟨S1024x512, .f32⟩
  | .local _ .vmem, ⟨37, _⟩ => ⟨S1024x512, .f32⟩
  | .local _ .vmem, ⟨38, _⟩ => ⟨S1024x1024, .f32⟩
  | .local _ .vmem, ⟨39, _⟩ => ⟨S1024x1024, .f32⟩
  | .local _ .vmem, ⟨40, _⟩ => ⟨S1024x1024, .f32⟩
  | .local _ .vmem, ⟨41, _⟩ => ⟨S1024x64, .f32⟩
  | .local _ .vmem, ⟨42, _⟩ => ⟨S16x64x1024, .f32⟩
  | .local _ .vmem, ⟨43, _⟩ => ⟨S16x64x1024, .f32⟩
  | .local _ .vmem, ⟨44, _⟩ => ⟨S64x1024, .f32⟩
  | .local _ .vmem, ⟨45, _⟩ => ⟨S16x1024, .f32⟩
  | .local _ .vmem, ⟨46, _⟩ => ⟨S128x2048, .f32⟩
  | _, _ => ⟨S32x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_c : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v2 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28_0 : Ref sig .tc := ⟨.hbm, 76, rfl⟩
abbrev main_v28_1 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg28_0 : Ref sig .tc := ⟨.vmem, 29, rfl⟩
abbrev cc0_stg29_0 : Ref sig .tc := ⟨.vmem, 30, rfl⟩
abbrev cc0_stg30_0 : Ref sig .tc := ⟨.vmem, 31, rfl⟩
abbrev cc0_stg31_0 : Ref sig .tc := ⟨.vmem, 32, rfl⟩
abbrev cc0_stg32_0 : Ref sig .tc := ⟨.vmem, 33, rfl⟩
abbrev cc0_stg32_1 : Ref sig .tc := ⟨.vmem, 34, rfl⟩
abbrev cc0_stg33_0 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_scratch4 : Ref sig .tc := ⟨.vmem, 40, rfl⟩
abbrev cc0_scratch5 : Ref sig .tc := ⟨.vmem, 41, rfl⟩
abbrev cc0_scratch6 : Ref sig .tc := ⟨.vmem, 42, rfl⟩
abbrev cc0_scratch7 : Ref sig .tc := ⟨.vmem, 43, rfl⟩
abbrev cc0_scratch8 : Ref sig .tc := ⟨.vmem, 44, rfl⟩
abbrev cc0_scratch9 : Ref sig .tc := ⟨.vmem, 45, rfl⟩
abbrev cc0_scratch10 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem28_0 : DmaSem sig := 29
abbrev cc0_sem29_0 : DmaSem sig := 30
abbrev cc0_sem30_0 : DmaSem sig := 31
abbrev cc0_sem31_0 : DmaSem sig := 32
abbrev cc0_sem32_0 : DmaSem sig := 33
abbrev cc0_sem32_1 : DmaSem sig := 34
abbrev cc0_sem33_0 : DmaSem sig := 35

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v370 : BitVec 32 := Scalar.addi c0_i32 c16_i32
  let c1_i32 : BitVec 32 := 1#32
  ⟨c0_i32, v370, c1_i32⟩
def k0_mult1 (k0_t1 : Fin k0_t1_loop.trips) : BitVec 32 :=
  let c0_i32_937 : BitVec 32 := 0#32
  let c0_i32 : BitVec 32 := 0#32
  let c1_i32 : BitVec 32 := 1#32
  let arg46 : BitVec 32 := Scf.iv c0_i32 c1_i32 k0_t1
  let c16_i32_936 : BitVec 32 := 16#32
  let v1554 : BitVec 32 := Scalar.muli arg46 c16_i32_936
  let v1555 : BitVec 32 := Scalar.addi c0_i32_937 v1554
  v1555
def k0_off1 (k0_t1 : Fin k0_t1_loop.trips) (c0_i32_937 : BitVec 32) : Fin 2 → Nat :=
  let c0_i32 : BitVec 32 := 0#32
  let c1_i32 : BitVec 32 := 1#32
  let arg46 : BitVec 32 := Scf.iv c0_i32 c1_i32 k0_t1
  let c16_i32_936 : BitVec 32 := 16#32
  let v1554 : BitVec 32 := Scalar.muli arg46 c16_i32_936
  let v1555 : BitVec 32 := Scalar.addi c0_i32_937 v1554
  let v1556 : BitVec 32 := v1555
  let v1557 : Index := Scalar.indexCast v1556
  let c0_938 : Index := 0#32
  ![v1557.toNat, 0]
def k0_off2 (k0_t1 : Fin k0_t1_loop.trips) (c0_i32_937 : BitVec 32) : Fin 2 → Nat :=
  let c0_i32 : BitVec 32 := 0#32
  let c1_i32 : BitVec 32 := 1#32
  let arg46 : BitVec 32 := Scf.iv c0_i32 c1_i32 k0_t1
  let c16_i32_936 : BitVec 32 := 16#32
  let v1554 : BitVec 32 := Scalar.muli arg46 c16_i32_936
  let v1555 : BitVec 32 := Scalar.addi c0_i32_937 v1554
  let v1556 : BitVec 32 := v1555
  let v1572 : Index := Scalar.indexCast v1556
  let c0_945 : Index := 0#32
  ![v1572.toNat, 0]
def k0_mult2 (k0_t1 : Fin k0_t1_loop.trips) : BitVec 32 :=
  let c256_i32 : BitVec 32 := 256#32
  let c0_i32 : BitVec 32 := 0#32
  let c1_i32 : BitVec 32 := 1#32
  let arg46 : BitVec 32 := Scf.iv c0_i32 c1_i32 k0_t1
  let c16_i32_949 : BitVec 32 := 16#32
  let v1583 : BitVec 32 := Scalar.muli arg46 c16_i32_949
  let v1584 : BitVec 32 := Scalar.addi c256_i32 v1583
  v1584
def k0_mult3 (k0_t1 : Fin k0_t1_loop.trips) : BitVec 32 :=
  let c512_i32 : BitVec 32 := 512#32
  let c0_i32 : BitVec 32 := 0#32
  let c1_i32 : BitVec 32 := 1#32
  let arg46 : BitVec 32 := Scf.iv c0_i32 c1_i32 k0_t1
  let c16_i32_960 : BitVec 32 := 16#32
  let v1612 : BitVec 32 := Scalar.muli arg46 c16_i32_960
  let v1613 : BitVec 32 := Scalar.addi c512_i32 v1612
  v1613
def k0_mult4 (k0_t1 : Fin k0_t1_loop.trips) : BitVec 32 :=
  let c768_i32 : BitVec 32 := 768#32
  let c0_i32 : BitVec 32 := 0#32
  let c1_i32 : BitVec 32 := 1#32
  let arg46 : BitVec 32 := Scf.iv c0_i32 c1_i32 k0_t1
  let c16_i32_971 : BitVec 32 := 16#32
  let v1641 : BitVec 32 := Scalar.muli arg46 c16_i32_971
  let v1642 : BitVec 32 := Scalar.addi c768_i32 v1641
  v1642
@[reducible] def k0_t2_loop : Scf.Loop 32 :=
  let c1_i32_993 : BitVec 32 := 1#32
  let c15_i32 : BitVec 32 := 15#32
  let v1681 : BitVec 32 := Scalar.addi c1_i32_993 c15_i32
  let c1_i32_994 : BitVec 32 := 1#32
  ⟨c1_i32_993, v1681, c1_i32_994⟩
def k0_off3 (k0_t2 : Fin k0_t2_loop.trips) : Fin 3 → Nat :=
  let c1_i32_993 : BitVec 32 := 1#32
  let c1_i32_994 : BitVec 32 := 1#32
  let arg47 : BitVec 32 := Scf.iv c1_i32_993 c1_i32_994 k0_t2
  let v1755 : Index := Scalar.indexCast arg47
  let c0_1040 : Index := 0#32
  let c0_1041 : Index := 0#32
  ![v1755.toNat, 0, 0]
def k0_off4 (k0_t2 : Fin k0_t2_loop.trips) : Fin 3 → Nat :=
  let c1_i32_993 : BitVec 32 := 1#32
  let c1_i32_994 : BitVec 32 := 1#32
  let arg47 : BitVec 32 := Scf.iv c1_i32_993 c1_i32_994 k0_t2
  let c1_i32_1042 : BitVec 32 := 1#32
  let v1758 : BitVec 32 := Scalar.subi arg47 c1_i32_1042
  let v1759 : Index := Scalar.indexCast v1758
  let c0_1043 : Index := 0#32
  let c0_1044 : Index := 0#32
  ![v1759.toNat, 0, 0]
def k0_mult5 (k0_t1 : Fin k0_t1_loop.trips) : BitVec 32 :=
  let c0_i32_1001 : BitVec 32 := 0#32
  let c0_i32 : BitVec 32 := 0#32
  let c1_i32 : BitVec 32 := 1#32
  let arg46 : BitVec 32 := Scf.iv c0_i32 c1_i32 k0_t1
  let c16_i32_1000 : BitVec 32 := 16#32
  let v1687 : BitVec 32 := Scalar.muli arg46 c16_i32_1000
  let v1688 : BitVec 32 := Scalar.addi c0_i32_1001 v1687
  v1688
def k0_mult6 (k0_t1 : Fin k0_t1_loop.trips) : BitVec 32 :=
  let c256_i32_1011 : BitVec 32 := 256#32
  let c0_i32 : BitVec 32 := 0#32
  let c1_i32 : BitVec 32 := 1#32
  let arg46 : BitVec 32 := Scf.iv c0_i32 c1_i32 k0_t1
  let c16_i32_1010 : BitVec 32 := 16#32
  let v1704 : BitVec 32 := Scalar.muli arg46 c16_i32_1010
  let v1705 : BitVec 32 := Scalar.addi c256_i32_1011 v1704
  v1705
def k0_mult7 (k0_t1 : Fin k0_t1_loop.trips) : BitVec 32 :=
  let c512_i32_1021 : BitVec 32 := 512#32
  let c0_i32 : BitVec 32 := 0#32
  let c1_i32 : BitVec 32 := 1#32
  let arg46 : BitVec 32 := Scf.iv c0_i32 c1_i32 k0_t1
  let c16_i32_1020 : BitVec 32 := 16#32
  let v1721 : BitVec 32 := Scalar.muli arg46 c16_i32_1020
  let v1722 : BitVec 32 := Scalar.addi c512_i32_1021 v1721
  v1722
def k0_mult8 (k0_t1 : Fin k0_t1_loop.trips) : BitVec 32 :=
  let c768_i32_1031 : BitVec 32 := 768#32
  let c0_i32 : BitVec 32 := 0#32
  let c1_i32 : BitVec 32 := 1#32
  let arg46 : BitVec 32 := Scf.iv c0_i32 c1_i32 k0_t1
  let c16_i32_1030 : BitVec 32 := 16#32
  let v1738 : BitVec 32 := Scalar.muli arg46 c16_i32_1030
  let v1739 : BitVec 32 := Scalar.addi c768_i32_1031 v1738
  v1739
@[reducible] def k0_t3_loop : Scf.Loop 32 :=
  let c0_i32_556 : BitVec 32 := 0#32
  let c16_i32_557 : BitVec 32 := 16#32
  let v897 : BitVec 32 := Scalar.addi c0_i32_556 c16_i32_557
  let c1_i32_558 : BitVec 32 := 1#32
  ⟨c0_i32_556, v897, c1_i32_558⟩
def k0_mult9 (k0_t3 : Fin k0_t3_loop.trips) : BitVec 32 :=
  let c0_i32_937 : BitVec 32 := 0#32
  let c0_i32_556 : BitVec 32 := 0#32
  let c1_i32_558 : BitVec 32 := 1#32
  let arg46 : BitVec 32 := Scf.iv c0_i32_556 c1_i32_558 k0_t3
  let c16_i32_936 : BitVec 32 := 16#32
  let v1554 : BitVec 32 := Scalar.muli arg46 c16_i32_936
  let v1555 : BitVec 32 := Scalar.addi c0_i32_937 v1554
  v1555
def k0_off5 (k0_t3 : Fin k0_t3_loop.trips) (c0_i32_937 : BitVec 32) : Fin 2 → Nat :=
  let c0_i32_556 : BitVec 32 := 0#32
  let c1_i32_558 : BitVec 32 := 1#32
  let arg46 : BitVec 32 := Scf.iv c0_i32_556 c1_i32_558 k0_t3
  let c16_i32_936 : BitVec 32 := 16#32
  let v1554 : BitVec 32 := Scalar.muli arg46 c16_i32_936
  let v1555 : BitVec 32 := Scalar.addi c0_i32_937 v1554
  let v1556 : BitVec 32 := v1555
  let v1557 : Index := Scalar.indexCast v1556
  let c0_938 : Index := 0#32
  ![v1557.toNat, 0]
def k0_off6 (k0_t3 : Fin k0_t3_loop.trips) (c0_i32_937 : BitVec 32) : Fin 2 → Nat :=
  let c0_i32_556 : BitVec 32 := 0#32
  let c1_i32_558 : BitVec 32 := 1#32
  let arg46 : BitVec 32 := Scf.iv c0_i32_556 c1_i32_558 k0_t3
  let c16_i32_936 : BitVec 32 := 16#32
  let v1554 : BitVec 32 := Scalar.muli arg46 c16_i32_936
  let v1555 : BitVec 32 := Scalar.addi c0_i32_937 v1554
  let v1556 : BitVec 32 := v1555
  let v1572 : Index := Scalar.indexCast v1556
  let c0_945 : Index := 0#32
  ![v1572.toNat, 0]
def k0_mult10 (k0_t3 : Fin k0_t3_loop.trips) : BitVec 32 :=
  let c256_i32 : BitVec 32 := 256#32
  let c0_i32_556 : BitVec 32 := 0#32
  let c1_i32_558 : BitVec 32 := 1#32
  let arg46 : BitVec 32 := Scf.iv c0_i32_556 c1_i32_558 k0_t3
  let c16_i32_949 : BitVec 32 := 16#32
  let v1583 : BitVec 32 := Scalar.muli arg46 c16_i32_949
  let v1584 : BitVec 32 := Scalar.addi c256_i32 v1583
  v1584
def k0_mult11 (k0_t3 : Fin k0_t3_loop.trips) : BitVec 32 :=
  let c512_i32 : BitVec 32 := 512#32
  let c0_i32_556 : BitVec 32 := 0#32
  let c1_i32_558 : BitVec 32 := 1#32
  let arg46 : BitVec 32 := Scf.iv c0_i32_556 c1_i32_558 k0_t3
  let c16_i32_960 : BitVec 32 := 16#32
  let v1612 : BitVec 32 := Scalar.muli arg46 c16_i32_960
  let v1613 : BitVec 32 := Scalar.addi c512_i32 v1612
  v1613
def k0_mult12 (k0_t3 : Fin k0_t3_loop.trips) : BitVec 32 :=
  let c768_i32 : BitVec 32 := 768#32
  let c0_i32_556 : BitVec 32 := 0#32
  let c1_i32_558 : BitVec 32 := 1#32
  let arg46 : BitVec 32 := Scf.iv c0_i32_556 c1_i32_558 k0_t3
  let c16_i32_971 : BitVec 32 := 16#32
  let v1641 : BitVec 32 := Scalar.muli arg46 c16_i32_971
  let v1642 : BitVec 32 := Scalar.addi c768_i32 v1641
  v1642
@[reducible] def k0_t4_loop : Scf.Loop 32 :=
  let c1_i32_993 : BitVec 32 := 1#32
  let c15_i32 : BitVec 32 := 15#32
  let v1681 : BitVec 32 := Scalar.addi c1_i32_993 c15_i32
  let c1_i32_994 : BitVec 32 := 1#32
  ⟨c1_i32_993, v1681, c1_i32_994⟩
def k0_off7 (k0_t4 : Fin k0_t4_loop.trips) : Fin 3 → Nat :=
  let c1_i32_993 : BitVec 32 := 1#32
  let c1_i32_994 : BitVec 32 := 1#32
  let arg47 : BitVec 32 := Scf.iv c1_i32_993 c1_i32_994 k0_t4
  let v1755 : Index := Scalar.indexCast arg47
  let c0_1040 : Index := 0#32
  let c0_1041 : Index := 0#32
  ![v1755.toNat, 0, 0]
def k0_off8 (k0_t4 : Fin k0_t4_loop.trips) : Fin 3 → Nat :=
  let c1_i32_993 : BitVec 32 := 1#32
  let c1_i32_994 : BitVec 32 := 1#32
  let arg47 : BitVec 32 := Scf.iv c1_i32_993 c1_i32_994 k0_t4
  let c1_i32_1042 : BitVec 32 := 1#32
  let v1758 : BitVec 32 := Scalar.subi arg47 c1_i32_1042
  let v1759 : Index := Scalar.indexCast v1758
  let c0_1043 : Index := 0#32
  let c0_1044 : Index := 0#32
  ![v1759.toNat, 0, 0]
def k0_mult13 (k0_t3 : Fin k0_t3_loop.trips) : BitVec 32 :=
  let c0_i32_1001 : BitVec 32 := 0#32
  let c0_i32_556 : BitVec 32 := 0#32
  let c1_i32_558 : BitVec 32 := 1#32
  let arg46 : BitVec 32 := Scf.iv c0_i32_556 c1_i32_558 k0_t3
  let c16_i32_1000 : BitVec 32 := 16#32
  let v1687 : BitVec 32 := Scalar.muli arg46 c16_i32_1000
  let v1688 : BitVec 32 := Scalar.addi c0_i32_1001 v1687
  v1688
def k0_mult14 (k0_t3 : Fin k0_t3_loop.trips) : BitVec 32 :=
  let c256_i32_1011 : BitVec 32 := 256#32
  let c0_i32_556 : BitVec 32 := 0#32
  let c1_i32_558 : BitVec 32 := 1#32
  let arg46 : BitVec 32 := Scf.iv c0_i32_556 c1_i32_558 k0_t3
  let c16_i32_1010 : BitVec 32 := 16#32
  let v1704 : BitVec 32 := Scalar.muli arg46 c16_i32_1010
  let v1705 : BitVec 32 := Scalar.addi c256_i32_1011 v1704
  v1705
def k0_mult15 (k0_t3 : Fin k0_t3_loop.trips) : BitVec 32 :=
  let c512_i32_1021 : BitVec 32 := 512#32
  let c0_i32_556 : BitVec 32 := 0#32
  let c1_i32_558 : BitVec 32 := 1#32
  let arg46 : BitVec 32 := Scf.iv c0_i32_556 c1_i32_558 k0_t3
  let c16_i32_1020 : BitVec 32 := 16#32
  let v1721 : BitVec 32 := Scalar.muli arg46 c16_i32_1020
  let v1722 : BitVec 32 := Scalar.addi c512_i32_1021 v1721
  v1722
def k0_mult16 (k0_t3 : Fin k0_t3_loop.trips) : BitVec 32 :=
  let c768_i32_1031 : BitVec 32 := 768#32
  let c0_i32_556 : BitVec 32 := 0#32
  let c1_i32_558 : BitVec 32 := 1#32
  let arg46 : BitVec 32 := Scf.iv c0_i32_556 c1_i32_558 k0_t3
  let c16_i32_1030 : BitVec 32 := 16#32
  let v1738 : BitVec 32 := Scalar.muli arg46 c16_i32_1030
  let v1739 : BitVec 32 := Scalar.addi c768_i32_1031 v1738
  v1739
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S32x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S16x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1024x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S512x2048 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x2048 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S2048x512 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1x512 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S16x256 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 2 → Memref sig .tc .vmem S4x256x512 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 1 → Memref sig .tc .vmem S256x256 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S32x256x512 : Shape := ⟨3, ![32, 256, 512]⟩
abbrev S512x2048 : Shape := ⟨2, ![512, 2048]⟩
abbrev S1024x4 : Shape := ⟨2, ![1024, 4]⟩
abbrev S1024 : Shape := ⟨1, ![1024]⟩
abbrev S1024x64 : Shape := ⟨2, ![1024, 64]⟩
abbrev S32x1024 : Shape := ⟨2, ![32, 1024]⟩
abbrev S1024x16 : Shape := ⟨2, ![1024, 16]⟩
abbrev S1024x512 : Shape := ⟨2, ![1024, 512]⟩
abbrev S512 : Shape := ⟨1, ![512]⟩
abbrev S256x16 : Shape := ⟨2, ![256, 16]⟩
abbrev S2048 : Shape := ⟨1, ![2048]⟩
abbrev S2048x512 : Shape := ⟨2, ![2048, 512]⟩
abbrev S32x1x512 : Shape := ⟨3, ![32, 1, 512]⟩
abbrev S32x255x512 : Shape := ⟨3, ![32, 255, 512]⟩
abbrev S32x256x2048 : Shape := ⟨3, ![32, 256, 2048]⟩
abbrev S32x256x1024 : Shape := ⟨3, ![32, 256, 1024]⟩
abbrev S_ : Shape := ⟨0, ![]⟩
abbrev S32x259x1024 : Shape := ⟨3, ![32, 259, 1024]⟩
abbrev S1024x1 : Shape := ⟨2, ![1024, 1]⟩
abbrev S1x1x1024 : Shape := ⟨3, ![1, 1, 1024]⟩
abbrev S32x256x64 : Shape := ⟨3, ![32, 256, 64]⟩
abbrev S32x256x32 : Shape := ⟨3, ![32, 256, 32]⟩
abbrev S32x256x16 : Shape := ⟨3, ![32, 256, 16]⟩
abbrev S32x256x1024x1 : Shape := ⟨4, ![32, 256, 1024, 1]⟩
abbrev S1x1x1024x16 : Shape := ⟨4, ![1, 1, 1024, 16]⟩
abbrev S32x256x1024x16 : Shape := ⟨4, ![32, 256, 1024, 16]⟩
abbrev S32x256x1x16 : Shape := ⟨4, ![32, 256, 1, 16]⟩
abbrev S32x1024x16 : Shape := ⟨3, ![32, 1024, 16]⟩
abbrev S256x32x1024x16 : Shape := ⟨4, ![256, 32, 1024, 16]⟩
abbrev S256x32x16 : Shape := ⟨3, ![256, 32, 16]⟩
abbrev S256x32x1024 : Shape := ⟨3, ![256, 32, 1024]⟩
abbrev S1x32x1024x16 : Shape := ⟨4, ![1, 32, 1024, 16]⟩
abbrev S1x32x16 : Shape := ⟨3, ![1, 32, 16]⟩
abbrev S32x16 : Shape := ⟨2, ![32, 16]⟩
abbrev S1x32x1024 : Shape := ⟨3, ![1, 32, 1024]⟩
abbrev S32x256 : Shape := ⟨2, ![32, 256]⟩
abbrev S32x256x1 : Shape := ⟨3, ![32, 256, 1]⟩
abbrev S1x1x512 : Shape := ⟨3, ![1, 1, 512]⟩
abbrev S16x256 : Shape := ⟨2, ![16, 256]⟩
abbrev S256x256 : Shape := ⟨2, ![256, 256]⟩
abbrev S256 : Shape := ⟨1, ![256]⟩
abbrev S256x1 : Shape := ⟨2, ![256, 1]⟩
abbrev S32x512x256 : Shape := ⟨3, ![32, 512, 256]⟩
abbrev S1x1x2048 : Shape := ⟨3, ![1, 1, 2048]⟩

abbrev nBuf : Space → Nat
  | .hbm => 454
  | .vmem => 0
  | .smem => 0
  | _ => 0

abbrev hbmTy0_0 (i : Nat) : BufTy := match i % 128 with
  | 0 => ⟨S32x256x512, .f32⟩
  | 1 => ⟨S512x2048, .f32⟩
  | 2 => ⟨S1024x4, .f32⟩
  | 3 => ⟨S1024, .f32⟩
  | 4 => ⟨S1024x64, .f32⟩
  | 5 => ⟨S32x1024, .f32⟩
  | 6 => ⟨S1024, .f32⟩
  | 7 => ⟨S1024x16, .f32⟩
  | 8 => ⟨S1024, .f32⟩
  | 9 => ⟨S1024x512, .f32⟩
  | 10 => ⟨S512, .f32⟩
  | 11 => ⟨S512, .f32⟩
  | 12 => ⟨S256x16, .f32⟩
  | 13 => ⟨S256x16, .f32⟩
  | 14 => ⟨S512x2048, .f32⟩
  | 15 => ⟨S1024x4, .f32⟩
  | 16 => ⟨S1024, .f32⟩
  | 17 => ⟨S1024x64, .f32⟩
  | 18 => ⟨S32x1024, .f32⟩
  | 19 => ⟨S1024, .f32⟩
  | 20 => ⟨S1024x16, .f32⟩
  | 21 => ⟨S1024, .f32⟩
  | 22 => ⟨S1024x512, .f32⟩
  | 23 => ⟨S512, .f32⟩
  | 24 => ⟨S512, .f32⟩
  | 25 => ⟨S512, .f32⟩
  | 26 => ⟨S512, .f32⟩
  | 27 => ⟨S512x2048, .f32⟩
  | 28 => ⟨S2048, .f32⟩
  | 29 => ⟨S2048x512, .f32⟩
  | 30 => ⟨S512, .f32⟩
  | 31 => ⟨S32x1x512, .f32⟩
  | 32 => ⟨S32x255x512, .f32⟩
  | 33 => ⟨S32x255x512, .f32⟩
  | 34 => ⟨S32x255x512, .f32⟩
  | 35 => ⟨S32x256x512, .f32⟩
  | 36 => ⟨S32x256x2048, .f32⟩
  | 37 => ⟨S32x256x1024, .f32⟩
  | 38 => ⟨S32x256x1024, .f32⟩
  | 39 => ⟨S_, .i32⟩
  | 40 => ⟨S_, .f32⟩
  | 41 => ⟨S32x259x1024, .f32⟩
  | 42 => ⟨S32x256x1024, .f32⟩
  | 43 => ⟨S1024x1, .f32⟩
  | 44 => ⟨S1024, .f32⟩
  | 45 => ⟨S1x1x1024, .f32⟩
  | 46 => ⟨S32x256x1024, .f32⟩
  | 47 => ⟨S32x256x1024, .f32⟩
  | 48 => ⟨S_, .f32⟩
  | 49 => ⟨S32x256x1024, .f32⟩
  | 50 => ⟨S32x256x1024, .f32⟩
  | 51 => ⟨S32x256x1024, .f32⟩
  | 52 => ⟨S1024x1, .f32⟩
  | 53 => ⟨S1024, .f32⟩
  | 54 => ⟨S1x1x1024, .f32⟩
  | 55 => ⟨S32x256x1024, .f32⟩
  | 56 => ⟨S32x256x1024, .f32⟩
  | 57 => ⟨S32x256x1024, .f32⟩
  | 58 => ⟨S32x256x1024, .f32⟩
  | 59 => ⟨S1024x1, .f32⟩
  | 60 => ⟨S1024, .f32⟩
  | 61 => ⟨S1x1x1024, .f32⟩
  | 62 => ⟨S32x256x1024, .f32⟩
  | 63 => ⟨S32x256x1024, .f32⟩
  | 64 => ⟨S32x256x1024, .f32⟩
  | 65 => ⟨S32x256x1024, .f32⟩
  | 66 => ⟨S1024x1, .f32⟩
  | 67 => ⟨S1024, .f32⟩
  | 68 => ⟨S1x1x1024, .f32⟩
  | 69 => ⟨S32x256x1024, .f32⟩
  | 70 => ⟨S32x256x1024, .f32⟩
  | 71 => ⟨S32x256x1024, .f32⟩
  | 72 => ⟨S1x1x1024, .f32⟩
  | 73 => ⟨S32x256x1024, .f32⟩
  | 74 => ⟨S32x256x1024, .f32⟩
  | 75 => ⟨S32x256x1024, .f32⟩
  | 76 => ⟨S32x256x1024, .f32⟩
  | 77 => ⟨S_, .f32⟩
  | 78 => ⟨S32x256x1024, .f32⟩
  | 79 => ⟨S32x256x1024, .f32⟩
  | 80 => ⟨S_, .f32⟩
  | 81 => ⟨S32x256x1024, .f32⟩
  | 82 => ⟨S32x256x1024, .f32⟩
  | 83 => ⟨S32x256x1024, .f32⟩
  | 84 => ⟨S32x256x64, .f32⟩
  | 85 => ⟨S32x256x32, .f32⟩
  | 86 => ⟨S32x256x16, .f32⟩
  | 87 => ⟨S32x256x16, .f32⟩
  | 88 => ⟨S32x256x1024, .f32⟩
  | 89 => ⟨S1x1x1024, .f32⟩
  | 90 => ⟨S32x256x1024, .f32⟩
  | 91 => ⟨S32x256x1024, .f32⟩
  | 92 => ⟨S_, .f32⟩
  | 93 => ⟨S32x256x1024, .f32⟩
  | 94 => ⟨S32x256x1024, .f32⟩
  | 95 => ⟨S32x256x1024, .f32⟩
  | 96 => ⟨S32x256x1024, .f32⟩
  | 97 => ⟨S32x256x1024, .i1⟩
  | 98 => ⟨S32x256x1024, .f32⟩
  | 99 => ⟨S32x256x1024, .f32⟩
  | 100 => ⟨S32x256x1024, .f32⟩
  | 101 => ⟨S32x256x1024, .f32⟩
  | 102 => ⟨S32x256x1024, .f32⟩
  | 103 => ⟨S32x256x1024, .f32⟩
  | 104 => ⟨S32x256x1024, .f32⟩
  | 105 => ⟨S32x256x1024, .f32⟩
  | 106 => ⟨S1024x16, .f32⟩
  | 107 => ⟨S1024x16, .f32⟩
  | 108 => ⟨S32x256x1024x1, .f32⟩
  | 109 => ⟨S1x1x1024x16, .f32⟩
  | 110 => ⟨S32x256x1024x16, .f32⟩
  | 111 => ⟨S32x256x1024x16, .f32⟩
  | 112 => ⟨S32x256x1024x16, .f32⟩
  | 113 => ⟨S32x256x1024x16, .f32⟩
  | 114 => ⟨S32x256x1024x1, .f32⟩
  | 115 => ⟨S32x256x1x16, .f32⟩
  | 116 => ⟨S32x256x1024x16, .f32⟩
  | 117 => ⟨S32x256x1024x16, .f32⟩
  | 118 => ⟨S32x256x1024x16, .f32⟩
  | 119 => ⟨S32x256x1024x1, .f32⟩
  | 120 => ⟨S32x256x1024x16, .f32⟩
  | 121 => ⟨S32x256x1024x16, .f32⟩
  | 122 => ⟨S_, .f32⟩
  | 123 => ⟨S32x1024x16, .f32⟩
  | 124 => ⟨S256x32x1024x16, .f32⟩
  | 125 => ⟨S256x32x1024x16, .f32⟩
  | 126 => ⟨S256x32x16, .f32⟩
  | 127 => ⟨S_, .f32⟩
  | _ => ⟨S32x256x512, .f32⟩

abbrev hbmTy0_1 (i : Nat) : BufTy := match i % 128 with
  | 0 => ⟨S256x32x1024, .f32⟩
  | 1 => ⟨S_, .i32⟩
  | 2 => ⟨S256x32x1024x16, .f32⟩
  | 3 => ⟨S256x32x1024x16, .f32⟩
  | 4 => ⟨S256x32x16, .f32⟩
  | 5 => ⟨S_, .i32⟩
  | 6 => ⟨S32x1024x16, .f32⟩
  | 7 => ⟨S256x32x1024, .f32⟩
  | 8 => ⟨S_, .i32⟩
  | 9 => ⟨S_, .i1⟩
  | 10 => ⟨S_, .i32⟩
  | 11 => ⟨S_, .i32⟩
  | 12 => ⟨S_, .i32⟩
  | 13 => ⟨S1x32x1024x16, .f32⟩
  | 14 => ⟨S32x1024x16, .f32⟩
  | 15 => ⟨S_, .i32⟩
  | 16 => ⟨S_, .i32⟩
  | 17 => ⟨S_, .i32⟩
  | 18 => ⟨S1x32x1024x16, .f32⟩
  | 19 => ⟨S32x1024x16, .f32⟩
  | 20 => ⟨S_, .i32⟩
  | 21 => ⟨S_, .i32⟩
  | 22 => ⟨S1x32x16, .f32⟩
  | 23 => ⟨S32x16, .f32⟩
  | 24 => ⟨S32x1024x16, .f32⟩
  | 25 => ⟨S32x1024x16, .f32⟩
  | 26 => ⟨S32x1024, .f32⟩
  | 27 => ⟨S1x32x1024, .f32⟩
  | 28 => ⟨S_, .i32⟩
  | 29 => ⟨S_, .i32⟩
  | 30 => ⟨S256x32x1024, .f32⟩
  | 31 => ⟨S_, .i32⟩
  | 32 => ⟨S_, .i32⟩
  | 33 => ⟨S32x256x1024, .f32⟩
  | 34 => ⟨S1x1x1024, .f32⟩
  | 35 => ⟨S32x256x1024, .f32⟩
  | 36 => ⟨S32x256x1024, .f32⟩
  | 37 => ⟨S32x256x1024, .f32⟩
  | 38 => ⟨S32x256x1024, .f32⟩
  | 39 => ⟨S32x256x1024, .f32⟩
  | 40 => ⟨S_, .f32⟩
  | 41 => ⟨S32x256x1024, .f32⟩
  | 42 => ⟨S32x256x1024, .f32⟩
  | 43 => ⟨S_, .f32⟩
  | 44 => ⟨S32x256x1024, .f32⟩
  | 45 => ⟨S32x256x1024, .f32⟩
  | 46 => ⟨S32x256x1024, .f32⟩
  | 47 => ⟨S32x256x1024, .f32⟩
  | 48 => ⟨S32x256x512, .f32⟩
  | 49 => ⟨S32x256x512, .f32⟩
  | 50 => ⟨S_, .f32⟩
  | 51 => ⟨S32x256, .f32⟩
  | 52 => ⟨S32x256x1, .f32⟩
  | 53 => ⟨S_, .f32⟩
  | 54 => ⟨S32x256x1, .f32⟩
  | 55 => ⟨S32x256x1, .f32⟩
  | 56 => ⟨S32x256x512, .f32⟩
  | 57 => ⟨S32x256x512, .f32⟩
  | 58 => ⟨S32x256x512, .f32⟩
  | 59 => ⟨S_, .f32⟩
  | 60 => ⟨S32x256, .f32⟩
  | 61 => ⟨S32x256x1, .f32⟩
  | 62 => ⟨S_, .f32⟩
  | 63 => ⟨S32x256x1, .f32⟩
  | 64 => ⟨S32x256x1, .f32⟩
  | 65 => ⟨S32x256x512, .f32⟩
  | 66 => ⟨S32x256x512, .f32⟩
  | 67 => ⟨S_, .f32⟩
  | 68 => ⟨S32x256x1, .f32⟩
  | 69 => ⟨S32x256x1, .f32⟩
  | 70 => ⟨S32x256x1, .f32⟩
  | 71 => ⟨S32x256x512, .f32⟩
  | 72 => ⟨S32x256x512, .f32⟩
  | 73 => ⟨S1x1x512, .f32⟩
  | 74 => ⟨S32x256x512, .f32⟩
  | 75 => ⟨S32x256x512, .f32⟩
  | 76 => ⟨S1x1x512, .f32⟩
  | 77 => ⟨S32x256x512, .f32⟩
  | 78 => ⟨S32x256x512, .f32⟩
  | 79 => ⟨S16x256, .f32⟩
  | 80 => ⟨S256x256, .f32⟩
  | 81 => ⟨S_, .f32⟩
  | 82 => ⟨S256x256, .f32⟩
  | 83 => ⟨S256x256, .f32⟩
  | 84 => ⟨S_, .f32⟩
  | 85 => ⟨S256, .f32⟩
  | 86 => ⟨S_, .f32⟩
  | 87 => ⟨S256, .f32⟩
  | 88 => ⟨S256, .f32⟩
  | 89 => ⟨S256x1, .f32⟩
  | 90 => ⟨S256x256, .f32⟩
  | 91 => ⟨S256x256, .f32⟩
  | 92 => ⟨S256x256, .f32⟩
  | 93 => ⟨S_, .f32⟩
  | 94 => ⟨S256, .f32⟩
  | 95 => ⟨S256x1, .f32⟩
  | 96 => ⟨S256x256, .f32⟩
  | 97 => ⟨S256x256, .f32⟩
  | 98 => ⟨S32x512x256, .f32⟩
  | 99 => ⟨S32x256x512, .f32⟩
  | 100 => ⟨S32x256x2048, .f32⟩
  | 101 => ⟨S32x256x1024, .f32⟩
  | 102 => ⟨S32x256x1024, .f32⟩
  | 103 => ⟨S_, .i32⟩
  | 104 => ⟨S_, .f32⟩
  | 105 => ⟨S32x259x1024, .f32⟩
  | 106 => ⟨S32x256x1024, .f32⟩
  | 107 => ⟨S1024x1, .f32⟩
  | 108 => ⟨S1024, .f32⟩
  | 109 => ⟨S1x1x1024, .f32⟩
  | 110 => ⟨S32x256x1024, .f32⟩
  | 111 => ⟨S32x256x1024, .f32⟩
  | 112 => ⟨S_, .f32⟩
  | 113 => ⟨S32x256x1024, .f32⟩
  | 114 => ⟨S32x256x1024, .f32⟩
  | 115 => ⟨S32x256x1024, .f32⟩
  | 116 => ⟨S1024x1, .f32⟩
  | 117 => ⟨S1024, .f32⟩
  | 118 => ⟨S1x1x1024, .f32⟩
  | 119 => ⟨S32x256x1024, .f32⟩
  | 120 => ⟨S32x256x1024, .f32⟩
  | 121 => ⟨S32x256x1024, .f32⟩
  | 122 => ⟨S32x256x1024, .f32⟩
  | 123 => ⟨S1024x1, .f32⟩
  | 124 => ⟨S1024, .f32⟩
  | 125 => ⟨S1x1x1024, .f32⟩
  | 126 => ⟨S32x256x1024, .f32⟩
  | 127 => ⟨S32x256x1024, .f32⟩
  | _ => ⟨S32x256x512, .f32⟩

abbrev hbmTy0_2 (i : Nat) : BufTy := match i % 128 with
  | 0 => ⟨S32x256x1024, .f32⟩
  | 1 => ⟨S32x256x1024, .f32⟩
  | 2 => ⟨S1024x1, .f32⟩
  | 3 => ⟨S1024, .f32⟩
  | 4 => ⟨S1x1x1024, .f32⟩
  | 5 => ⟨S32x256x1024, .f32⟩
  | 6 => ⟨S32x256x1024, .f32⟩
  | 7 => ⟨S32x256x1024, .f32⟩
  | 8 => ⟨S1x1x1024, .f32⟩
  | 9 => ⟨S32x256x1024, .f32⟩
  | 10 => ⟨S32x256x1024, .f32⟩
  | 11 => ⟨S32x256x1024, .f32⟩
  | 12 => ⟨S32x256x1024, .f32⟩
  | 13 => ⟨S_, .f32⟩
  | 14 => ⟨S32x256x1024, .f32⟩
  | 15 => ⟨S32x256x1024, .f32⟩
  | 16 => ⟨S_, .f32⟩
  | 17 => ⟨S32x256x1024, .f32⟩
  | 18 => ⟨S32x256x1024, .f32⟩
  | 19 => ⟨S32x256x1024, .f32⟩
  | 20 => ⟨S32x256x64, .f32⟩
  | 21 => ⟨S32x256x32, .f32⟩
  | 22 => ⟨S32x256x16, .f32⟩
  | 23 => ⟨S32x256x16, .f32⟩
  | 24 => ⟨S32x256x1024, .f32⟩
  | 25 => ⟨S1x1x1024, .f32⟩
  | 26 => ⟨S32x256x1024, .f32⟩
  | 27 => ⟨S32x256x1024, .f32⟩
  | 28 => ⟨S_, .f32⟩
  | 29 => ⟨S32x256x1024, .f32⟩
  | 30 => ⟨S32x256x1024, .f32⟩
  | 31 => ⟨S32x256x1024, .f32⟩
  | 32 => ⟨S32x256x1024, .f32⟩
  | 33 => ⟨S32x256x1024, .i1⟩
  | 34 => ⟨S32x256x1024, .f32⟩
  | 35 => ⟨S32x256x1024, .f32⟩
  | 36 => ⟨S32x256x1024, .f32⟩
  | 37 => ⟨S32x256x1024, .f32⟩
  | 38 => ⟨S32x256x1024, .f32⟩
  | 39 => ⟨S32x256x1024, .f32⟩
  | 40 => ⟨S32x256x1024, .f32⟩
  | 41 => ⟨S32x256x1024, .f32⟩
  | 42 => ⟨S1024x16, .f32⟩
  | 43 => ⟨S1024x16, .f32⟩
  | 44 => ⟨S32x256x1024x1, .f32⟩
  | 45 => ⟨S1x1x1024x16, .f32⟩
  | 46 => ⟨S32x256x1024x16, .f32⟩
  | 47 => ⟨S32x256x1024x16, .f32⟩
  | 48 => ⟨S32x256x1024x16, .f32⟩
  | 49 => ⟨S32x256x1024x16, .f32⟩
  | 50 => ⟨S32x256x1024x1, .f32⟩
  | 51 => ⟨S32x256x1x16, .f32⟩
  | 52 => ⟨S32x256x1024x16, .f32⟩
  | 53 => ⟨S32x256x1024x16, .f32⟩
  | 54 => ⟨S32x256x1024x16, .f32⟩
  | 55 => ⟨S32x256x1024x1, .f32⟩
  | 56 => ⟨S32x256x1024x16, .f32⟩
  | 57 => ⟨S32x256x1024x16, .f32⟩
  | 58 => ⟨S_, .f32⟩
  | 59 => ⟨S32x1024x16, .f32⟩
  | 60 => ⟨S256x32x1024x16, .f32⟩
  | 61 => ⟨S256x32x1024x16, .f32⟩
  | 62 => ⟨S256x32x16, .f32⟩
  | 63 => ⟨S_, .f32⟩
  | 64 => ⟨S256x32x1024, .f32⟩
  | 65 => ⟨S_, .i32⟩
  | 66 => ⟨S256x32x1024x16, .f32⟩
  | 67 => ⟨S256x32x1024x16, .f32⟩
  | 68 => ⟨S256x32x16, .f32⟩
  | 69 => ⟨S_, .i32⟩
  | 70 => ⟨S32x1024x16, .f32⟩
  | 71 => ⟨S256x32x1024, .f32⟩
  | 72 => ⟨S_, .i32⟩
  | 73 => ⟨S_, .i1⟩
  | 74 => ⟨S_, .i32⟩
  | 75 => ⟨S_, .i32⟩
  | 76 => ⟨S_, .i32⟩
  | 77 => ⟨S1x32x1024x16, .f32⟩
  | 78 => ⟨S32x1024x16, .f32⟩
  | 79 => ⟨S_, .i32⟩
  | 80 => ⟨S_, .i32⟩
  | 81 => ⟨S_, .i32⟩
  | 82 => ⟨S1x32x1024x16, .f32⟩
  | 83 => ⟨S32x1024x16, .f32⟩
  | 84 => ⟨S_, .i32⟩
  | 85 => ⟨S_, .i32⟩
  | 86 => ⟨S1x32x16, .f32⟩
  | 87 => ⟨S32x16, .f32⟩
  | 88 => ⟨S32x1024x16, .f32⟩
  | 89 => ⟨S32x1024x16, .f32⟩
  | 90 => ⟨S32x1024, .f32⟩
  | 91 => ⟨S1x32x1024, .f32⟩
  | 92 => ⟨S_, .i32⟩
  | 93 => ⟨S_, .i32⟩
  | 94 => ⟨S256x32x1024, .f32⟩
  | 95 => ⟨S_, .i32⟩
  | 96 => ⟨S_, .i32⟩
  | 97 => ⟨S32x256x1024, .f32⟩
  | 98 => ⟨S1x1x1024, .f32⟩
  | 99 => ⟨S32x256x1024, .f32⟩
  | 100 => ⟨S32x256x1024, .f32⟩
  | 101 => ⟨S32x256x1024, .f32⟩
  | 102 => ⟨S32x256x1024, .f32⟩
  | 103 => ⟨S32x256x1024, .f32⟩
  | 104 => ⟨S_, .f32⟩
  | 105 => ⟨S32x256x1024, .f32⟩
  | 106 => ⟨S32x256x1024, .f32⟩
  | 107 => ⟨S_, .f32⟩
  | 108 => ⟨S32x256x1024, .f32⟩
  | 109 => ⟨S32x256x1024, .f32⟩
  | 110 => ⟨S32x256x1024, .f32⟩
  | 111 => ⟨S32x256x1024, .f32⟩
  | 112 => ⟨S32x256x512, .f32⟩
  | 113 => ⟨S32x256x512, .f32⟩
  | 114 => ⟨S_, .f32⟩
  | 115 => ⟨S32x256, .f32⟩
  | 116 => ⟨S32x256x1, .f32⟩
  | 117 => ⟨S_, .f32⟩
  | 118 => ⟨S32x256x1, .f32⟩
  | 119 => ⟨S32x256x1, .f32⟩
  | 120 => ⟨S32x256x512, .f32⟩
  | 121 => ⟨S32x256x512, .f32⟩
  | 122 => ⟨S32x256x512, .f32⟩
  | 123 => ⟨S_, .f32⟩
  | 124 => ⟨S32x256, .f32⟩
  | 125 => ⟨S32x256x1, .f32⟩
  | 126 => ⟨S_, .f32⟩
  | 127 => ⟨S32x256x1, .f32⟩
  | _ => ⟨S32x256x512, .f32⟩

abbrev hbmTy0_3 (i : Nat) : BufTy := match i % 128 with
  | 0 => ⟨S32x256x1, .f32⟩
  | 1 => ⟨S32x256x512, .f32⟩
  | 2 => ⟨S32x256x512, .f32⟩
  | 3 => ⟨S_, .f32⟩
  | 4 => ⟨S32x256x1, .f32⟩
  | 5 => ⟨S32x256x1, .f32⟩
  | 6 => ⟨S32x256x1, .f32⟩
  | 7 => ⟨S32x256x512, .f32⟩
  | 8 => ⟨S32x256x512, .f32⟩
  | 9 => ⟨S1x1x512, .f32⟩
  | 10 => ⟨S32x256x512, .f32⟩
  | 11 => ⟨S32x256x512, .f32⟩
  | 12 => ⟨S1x1x512, .f32⟩
  | 13 => ⟨S32x256x512, .f32⟩
  | 14 => ⟨S32x256x512, .f32⟩
  | 15 => ⟨S_, .f32⟩
  | 16 => ⟨S32x256, .f32⟩
  | 17 => ⟨S32x256x1, .f32⟩
  | 18 => ⟨S_, .f32⟩
  | 19 => ⟨S32x256x1, .f32⟩
  | 20 => ⟨S32x256x1, .f32⟩
  | 21 => ⟨S32x256x512, .f32⟩
  | 22 => ⟨S32x256x512, .f32⟩
  | 23 => ⟨S32x256x512, .f32⟩
  | 24 => ⟨S_, .f32⟩
  | 25 => ⟨S32x256, .f32⟩
  | 26 => ⟨S32x256x1, .f32⟩
  | 27 => ⟨S_, .f32⟩
  | 28 => ⟨S32x256x1, .f32⟩
  | 29 => ⟨S32x256x1, .f32⟩
  | 30 => ⟨S32x256x512, .f32⟩
  | 31 => ⟨S32x256x512, .f32⟩
  | 32 => ⟨S_, .f32⟩
  | 33 => ⟨S32x256x1, .f32⟩
  | 34 => ⟨S32x256x1, .f32⟩
  | 35 => ⟨S32x256x1, .f32⟩
  | 36 => ⟨S32x256x512, .f32⟩
  | 37 => ⟨S32x256x512, .f32⟩
  | 38 => ⟨S1x1x512, .f32⟩
  | 39 => ⟨S32x256x512, .f32⟩
  | 40 => ⟨S32x256x512, .f32⟩
  | 41 => ⟨S1x1x512, .f32⟩
  | 42 => ⟨S32x256x512, .f32⟩
  | 43 => ⟨S32x256x512, .f32⟩
  | 44 => ⟨S32x256x2048, .f32⟩
  | 45 => ⟨S1x1x2048, .f32⟩
  | 46 => ⟨S32x256x2048, .f32⟩
  | 47 => ⟨S32x256x2048, .f32⟩
  | 48 => ⟨S32x256x2048, .f32⟩
  | 49 => ⟨S32x256x2048, .f32⟩
  | 50 => ⟨S_, .f32⟩
  | 51 => ⟨S32x256x2048, .f32⟩
  | 52 => ⟨S32x256x2048, .f32⟩
  | 53 => ⟨S32x256x2048, .f32⟩
  | 54 => ⟨S_, .f32⟩
  | 55 => ⟨S32x256x2048, .f32⟩
  | 56 => ⟨S32x256x2048, .f32⟩
  | 57 => ⟨S32x256x2048, .f32⟩
  | 58 => ⟨S_, .f32⟩
  | 59 => ⟨S32x256x2048, .f32⟩
  | 60 => ⟨S32x256x2048, .f32⟩
  | 61 => ⟨S_, .f32⟩
  | 62 => ⟨S32x256x2048, .f32⟩
  | 63 => ⟨S32x256x2048, .f32⟩
  | 64 => ⟨S32x256x2048, .f32⟩
  | 65 => ⟨S32x256x512, .f32⟩
  | 66 => ⟨S32x256x512, .f32⟩
  | 67 => ⟨S1x1x512, .f32⟩
  | 68 => ⟨S32x256x512, .f32⟩
  | 69 => ⟨S32x256x512, .f32⟩
  | _ => ⟨S32x256x512, .f32⟩

abbrev hbmTy (i : Nat) : BufTy := match i / 128 with
  | 0 => hbmTy0_0 i
  | 1 => hbmTy0_1 i
  | 2 => hbmTy0_2 i
  | 3 => hbmTy0_3 i
  | _ => ⟨S32x256x512, .f32⟩

abbrev bufTy : (tb : Table) → Fin (tcTables nBuf tb) → BufTy
  | .hbm, ⟨i, _⟩ => hbmTy i
  | _, _ => ⟨S32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_c : Ref sig .tc := ⟨.hbm, 39, rfl⟩
abbrev main_call0_v0 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_cst : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_call1_v0 : Ref sig .tc := ⟨.hbm, 75, rfl⟩
abbrev main_call1_v1 : Ref sig .tc := ⟨.hbm, 76, rfl⟩
abbrev main_call1_cst : Ref sig .tc := ⟨.hbm, 77, rfl⟩
abbrev main_call1_v2 : Ref sig .tc := ⟨.hbm, 78, rfl⟩
abbrev main_call1_v3 : Ref sig .tc := ⟨.hbm, 79, rfl⟩
abbrev main_call1_cst_0 : Ref sig .tc := ⟨.hbm, 80, rfl⟩
abbrev main_call1_v4 : Ref sig .tc := ⟨.hbm, 81, rfl⟩
abbrev main_call1_v5 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_call2_cst : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_v8 : Ref sig .tc := ⟨.hbm, 101, rfl⟩
abbrev main_call2_v9 : Ref sig .tc := ⟨.hbm, 102, rfl⟩
abbrev main_call2_v10 : Ref sig .tc := ⟨.hbm, 103, rfl⟩
abbrev main_call2_v11 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_cst_0 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_cst_1 : Ref sig .tc := ⟨.hbm, 127, rfl⟩
abbrev main_v71 : Ref sig .tc := ⟨.hbm, 128, rfl⟩
abbrev main_c_2 : Ref sig .tc := ⟨.hbm, 129, rfl⟩
abbrev main_v72_0 : Ref sig .tc := ⟨.hbm, 130, rfl⟩
abbrev main_v72_1 : Ref sig .tc := ⟨.hbm, 131, rfl⟩
abbrev main_v72_2 : Ref sig .tc := ⟨.hbm, 132, rfl⟩
abbrev main_v72_3 : Ref sig .tc := ⟨.hbm, 133, rfl⟩
abbrev main_v72_4 : Ref sig .tc := ⟨.hbm, 134, rfl⟩
abbrev main_v72_5 : Ref sig .tc := ⟨.hbm, 135, rfl⟩
abbrev main_while0c_c_35 : Ref sig .tc := ⟨.hbm, 136, rfl⟩
abbrev main_while0c_v269 : Ref sig .tc := ⟨.hbm, 137, rfl⟩
abbrev main_while0b_call3_c : Ref sig .tc := ⟨.hbm, 138, rfl⟩
abbrev main_while0b_call3_c_0 : Ref sig .tc := ⟨.hbm, 139, rfl⟩
abbrev main_while0b_call3_c_1 : Ref sig .tc := ⟨.hbm, 140, rfl⟩
abbrev main_while0b_call3_v0 : Ref sig .tc := ⟨.hbm, 141, rfl⟩
abbrev main_while0b_v269 : Ref sig .tc := ⟨.hbm, 142, rfl⟩
abbrev main_while0b_call4_c : Ref sig .tc := ⟨.hbm, 143, rfl⟩
abbrev main_while0b_call4_c_0 : Ref sig .tc := ⟨.hbm, 144, rfl⟩
abbrev main_while0b_call4_c_1 : Ref sig .tc := ⟨.hbm, 145, rfl⟩
abbrev main_while0b_call4_v0 : Ref sig .tc := ⟨.hbm, 146, rfl⟩
abbrev main_while0b_v270 : Ref sig .tc := ⟨.hbm, 147, rfl⟩
abbrev main_while0b_call5_c : Ref sig .tc := ⟨.hbm, 148, rfl⟩
abbrev main_while0b_call5_c_0 : Ref sig .tc := ⟨.hbm, 149, rfl⟩
abbrev main_while0b_call5_v0 : Ref sig .tc := ⟨.hbm, 150, rfl⟩
abbrev main_while0b_v271 : Ref sig .tc := ⟨.hbm, 151, rfl⟩
abbrev main_while0b_v272 : Ref sig .tc := ⟨.hbm, 152, rfl⟩
abbrev main_while0b_v273 : Ref sig .tc := ⟨.hbm, 153, rfl⟩
abbrev main_while0b_v274 : Ref sig .tc := ⟨.hbm, 154, rfl⟩
abbrev main_while0b_call6_v0 : Ref sig .tc := ⟨.hbm, 155, rfl⟩
abbrev main_while0b_call6_c : Ref sig .tc := ⟨.hbm, 156, rfl⟩
abbrev main_while0b_call6_c_0 : Ref sig .tc := ⟨.hbm, 157, rfl⟩
abbrev main_while0b_v275 : Ref sig .tc := ⟨.hbm, 158, rfl⟩
abbrev main_while0b_c_35 : Ref sig .tc := ⟨.hbm, 159, rfl⟩
abbrev main_while0b_v276 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_v76 : Ref sig .tc := ⟨.hbm, 164, rfl⟩
abbrev main_v77 : Ref sig .tc := ⟨.hbm, 165, rfl⟩
abbrev main_call7_v0 : Ref sig .tc := ⟨.hbm, 166, rfl⟩
abbrev main_call7_v1 : Ref sig .tc := ⟨.hbm, 167, rfl⟩
abbrev main_call7_cst : Ref sig .tc := ⟨.hbm, 168, rfl⟩
abbrev main_call7_v2 : Ref sig .tc := ⟨.hbm, 169, rfl⟩
abbrev main_call7_v3 : Ref sig .tc := ⟨.hbm, 170, rfl⟩
abbrev main_call7_cst_0 : Ref sig .tc := ⟨.hbm, 171, rfl⟩
abbrev main_call7_v4 : Ref sig .tc := ⟨.hbm, 172, rfl⟩
abbrev main_call7_v5 : Ref sig .tc := ⟨.hbm, 173, rfl⟩
abbrev main_v78 : Ref sig .tc := ⟨.hbm, 174, rfl⟩
abbrev main_v79 : Ref sig .tc := ⟨.hbm, 175, rfl⟩
abbrev main_v80 : Ref sig .tc := ⟨.hbm, 176, rfl⟩
abbrev main_v81 : Ref sig .tc := ⟨.hbm, 177, rfl⟩
abbrev main_cst_3 : Ref sig .tc := ⟨.hbm, 178, rfl⟩
abbrev main_v82 : Ref sig .tc := ⟨.hbm, 179, rfl⟩
abbrev main_v83 : Ref sig .tc := ⟨.hbm, 180, rfl⟩
abbrev main_cst_4 : Ref sig .tc := ⟨.hbm, 181, rfl⟩
abbrev main_v84 : Ref sig .tc := ⟨.hbm, 182, rfl⟩
abbrev main_v85 : Ref sig .tc := ⟨.hbm, 183, rfl⟩
abbrev main_v86 : Ref sig .tc := ⟨.hbm, 184, rfl⟩
abbrev main_v87 : Ref sig .tc := ⟨.hbm, 185, rfl⟩
abbrev main_v88 : Ref sig .tc := ⟨.hbm, 186, rfl⟩
abbrev main_cst_5 : Ref sig .tc := ⟨.hbm, 187, rfl⟩
abbrev main_v89 : Ref sig .tc := ⟨.hbm, 188, rfl⟩
abbrev main_v90 : Ref sig .tc := ⟨.hbm, 189, rfl⟩
abbrev main_cst_6 : Ref sig .tc := ⟨.hbm, 190, rfl⟩
abbrev main_v91 : Ref sig .tc := ⟨.hbm, 191, rfl⟩
abbrev main_v92 : Ref sig .tc := ⟨.hbm, 192, rfl⟩
abbrev main_v93 : Ref sig .tc := ⟨.hbm, 193, rfl⟩
abbrev main_v94 : Ref sig .tc := ⟨.hbm, 194, rfl⟩
abbrev main_cst_7 : Ref sig .tc := ⟨.hbm, 195, rfl⟩
abbrev main_v95 : Ref sig .tc := ⟨.hbm, 196, rfl⟩
abbrev main_v96 : Ref sig .tc := ⟨.hbm, 197, rfl⟩
abbrev main_v97 : Ref sig .tc := ⟨.hbm, 198, rfl⟩
abbrev main_v98 : Ref sig .tc := ⟨.hbm, 199, rfl⟩
abbrev main_v99 : Ref sig .tc := ⟨.hbm, 200, rfl⟩
abbrev main_v100 : Ref sig .tc := ⟨.hbm, 201, rfl⟩
abbrev main_v101 : Ref sig .tc := ⟨.hbm, 202, rfl⟩
abbrev main_v102 : Ref sig .tc := ⟨.hbm, 203, rfl⟩
abbrev main_v103 : Ref sig .tc := ⟨.hbm, 204, rfl⟩
abbrev main_v104 : Ref sig .tc := ⟨.hbm, 205, rfl⟩
abbrev main_v105 : Ref sig .tc := ⟨.hbm, 206, rfl⟩
abbrev main_v106 : Ref sig .tc := ⟨.hbm, 207, rfl⟩
abbrev main_v107 : Ref sig .tc := ⟨.hbm, 208, rfl⟩
abbrev main_call8_cst : Ref sig .tc := ⟨.hbm, 209, rfl⟩
abbrev main_call8_v0 : Ref sig .tc := ⟨.hbm, 210, rfl⟩
abbrev main_v108 : Ref sig .tc := ⟨.hbm, 211, rfl⟩
abbrev main_cst_8 : Ref sig .tc := ⟨.hbm, 212, rfl⟩
abbrev main_v109 : Ref sig .tc := ⟨.hbm, 213, rfl⟩
abbrev main_cst_9 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_cst_10 : Ref sig .tc := ⟨.hbm, 221, rfl⟩
abbrev main_v116 : Ref sig .tc := ⟨.hbm, 222, rfl⟩
abbrev main_v117 : Ref sig .tc := ⟨.hbm, 223, rfl⟩
abbrev main_v118 : Ref sig .tc := ⟨.hbm, 224, rfl⟩
abbrev main_v119 : Ref sig .tc := ⟨.hbm, 225, rfl⟩
abbrev main_v120 : Ref sig .tc := ⟨.hbm, 226, rfl⟩
abbrev main_v121 : Ref sig .tc := ⟨.hbm, 227, rfl⟩
abbrev main_v122 : Ref sig .tc := ⟨.hbm, 228, rfl⟩
abbrev main_v123 : Ref sig .tc := ⟨.hbm, 229, rfl⟩
abbrev main_v124 : Ref sig .tc := ⟨.hbm, 230, rfl⟩
abbrev main_c_11 : Ref sig .tc := ⟨.hbm, 231, rfl⟩
abbrev main_call9_v0 : Ref sig .tc := ⟨.hbm, 232, rfl⟩
abbrev main_v125 : Ref sig .tc := ⟨.hbm, 233, rfl⟩
abbrev main_v126 : Ref sig .tc := ⟨.hbm, 234, rfl⟩
abbrev main_v127 : Ref sig .tc := ⟨.hbm, 235, rfl⟩
abbrev main_v128 : Ref sig .tc := ⟨.hbm, 236, rfl⟩
abbrev main_v129 : Ref sig .tc := ⟨.hbm, 237, rfl⟩
abbrev main_v130 : Ref sig .tc := ⟨.hbm, 238, rfl⟩
abbrev main_v131 : Ref sig .tc := ⟨.hbm, 239, rfl⟩
abbrev main_cst_12 : Ref sig .tc := ⟨.hbm, 240, rfl⟩
abbrev main_v132 : Ref sig .tc := ⟨.hbm, 241, rfl⟩
abbrev main_v133 : Ref sig .tc := ⟨.hbm, 242, rfl⟩
abbrev main_v134 : Ref sig .tc := ⟨.hbm, 243, rfl⟩
abbrev main_v135 : Ref sig .tc := ⟨.hbm, 244, rfl⟩
abbrev main_v136 : Ref sig .tc := ⟨.hbm, 245, rfl⟩
abbrev main_v137 : Ref sig .tc := ⟨.hbm, 246, rfl⟩
abbrev main_v138 : Ref sig .tc := ⟨.hbm, 247, rfl⟩
abbrev main_v139 : Ref sig .tc := ⟨.hbm, 248, rfl⟩
abbrev main_v140 : Ref sig .tc := ⟨.hbm, 249, rfl⟩
abbrev main_v141 : Ref sig .tc := ⟨.hbm, 250, rfl⟩
abbrev main_v142 : Ref sig .tc := ⟨.hbm, 251, rfl⟩
abbrev main_v143 : Ref sig .tc := ⟨.hbm, 252, rfl⟩
abbrev main_v144 : Ref sig .tc := ⟨.hbm, 253, rfl⟩
abbrev main_v145 : Ref sig .tc := ⟨.hbm, 254, rfl⟩
abbrev main_v146 : Ref sig .tc := ⟨.hbm, 255, rfl⟩
abbrev main_v147 : Ref sig .tc := ⟨.hbm, 256, rfl⟩
abbrev main_v148 : Ref sig .tc := ⟨.hbm, 257, rfl⟩
abbrev main_v149 : Ref sig .tc := ⟨.hbm, 258, rfl⟩
abbrev main_v150 : Ref sig .tc := ⟨.hbm, 259, rfl⟩
abbrev main_v151 : Ref sig .tc := ⟨.hbm, 260, rfl⟩
abbrev main_v152 : Ref sig .tc := ⟨.hbm, 261, rfl⟩
abbrev main_v153 : Ref sig .tc := ⟨.hbm, 262, rfl⟩
abbrev main_v154 : Ref sig .tc := ⟨.hbm, 263, rfl⟩
abbrev main_v155 : Ref sig .tc := ⟨.hbm, 264, rfl⟩
abbrev main_v156 : Ref sig .tc := ⟨.hbm, 265, rfl⟩
abbrev main_v157 : Ref sig .tc := ⟨.hbm, 266, rfl⟩
abbrev main_call10_v0 : Ref sig .tc := ⟨.hbm, 267, rfl⟩
abbrev main_call10_v1 : Ref sig .tc := ⟨.hbm, 268, rfl⟩
abbrev main_call10_cst : Ref sig .tc := ⟨.hbm, 269, rfl⟩
abbrev main_call10_v2 : Ref sig .tc := ⟨.hbm, 270, rfl⟩
abbrev main_call10_v3 : Ref sig .tc := ⟨.hbm, 271, rfl⟩
abbrev main_call10_cst_0 : Ref sig .tc := ⟨.hbm, 272, rfl⟩
abbrev main_call10_v4 : Ref sig .tc := ⟨.hbm, 273, rfl⟩
abbrev main_call10_v5 : Ref sig .tc := ⟨.hbm, 274, rfl⟩
abbrev main_v158 : Ref sig .tc := ⟨.hbm, 275, rfl⟩
abbrev main_v159 : Ref sig .tc := ⟨.hbm, 276, rfl⟩
abbrev main_v160 : Ref sig .tc := ⟨.hbm, 277, rfl⟩
abbrev main_v161 : Ref sig .tc := ⟨.hbm, 278, rfl⟩
abbrev main_v162 : Ref sig .tc := ⟨.hbm, 279, rfl⟩
abbrev main_v163 : Ref sig .tc := ⟨.hbm, 280, rfl⟩
abbrev main_v164 : Ref sig .tc := ⟨.hbm, 281, rfl⟩
abbrev main_v165 : Ref sig .tc := ⟨.hbm, 282, rfl⟩
abbrev main_v166 : Ref sig .tc := ⟨.hbm, 283, rfl⟩
abbrev main_call11_cst : Ref sig .tc := ⟨.hbm, 284, rfl⟩
abbrev main_call11_v0 : Ref sig .tc := ⟨.hbm, 285, rfl⟩
abbrev main_call11_v1 : Ref sig .tc := ⟨.hbm, 286, rfl⟩
abbrev main_call11_v2 : Ref sig .tc := ⟨.hbm, 287, rfl⟩
abbrev main_call11_v3 : Ref sig .tc := ⟨.hbm, 288, rfl⟩
abbrev main_call11_v4 : Ref sig .tc := ⟨.hbm, 289, rfl⟩
abbrev main_call11_v5 : Ref sig .tc := ⟨.hbm, 290, rfl⟩
abbrev main_call11_v6 : Ref sig .tc := ⟨.hbm, 291, rfl⟩
abbrev main_call11_v7 : Ref sig .tc := ⟨.hbm, 292, rfl⟩
abbrev main_call11_v8 : Ref sig .tc := ⟨.hbm, 293, rfl⟩
abbrev main_call11_v9 : Ref sig .tc := ⟨.hbm, 294, rfl⟩
abbrev main_call11_v10 : Ref sig .tc := ⟨.hbm, 295, rfl⟩
abbrev main_call11_v11 : Ref sig .tc := ⟨.hbm, 296, rfl⟩
abbrev main_v167 : Ref sig .tc := ⟨.hbm, 297, rfl⟩
abbrev main_v168 : Ref sig .tc := ⟨.hbm, 298, rfl⟩
abbrev main_v169 : Ref sig .tc := ⟨.hbm, 299, rfl⟩
abbrev main_v170 : Ref sig .tc := ⟨.hbm, 300, rfl⟩
abbrev main_v171 : Ref sig .tc := ⟨.hbm, 301, rfl⟩
abbrev main_v172 : Ref sig .tc := ⟨.hbm, 302, rfl⟩
abbrev main_v173 : Ref sig .tc := ⟨.hbm, 303, rfl⟩
abbrev main_v174 : Ref sig .tc := ⟨.hbm, 304, rfl⟩
abbrev main_v175 : Ref sig .tc := ⟨.hbm, 305, rfl⟩
abbrev main_v176 : Ref sig .tc := ⟨.hbm, 306, rfl⟩
abbrev main_v177 : Ref sig .tc := ⟨.hbm, 307, rfl⟩
abbrev main_v178 : Ref sig .tc := ⟨.hbm, 308, rfl⟩
abbrev main_v179 : Ref sig .tc := ⟨.hbm, 309, rfl⟩
abbrev main_v180 : Ref sig .tc := ⟨.hbm, 310, rfl⟩
abbrev main_v181 : Ref sig .tc := ⟨.hbm, 311, rfl⟩
abbrev main_v182 : Ref sig .tc := ⟨.hbm, 312, rfl⟩
abbrev main_v183 : Ref sig .tc := ⟨.hbm, 313, rfl⟩
abbrev main_cst_13 : Ref sig .tc := ⟨.hbm, 314, rfl⟩
abbrev main_v184 : Ref sig .tc := ⟨.hbm, 315, rfl⟩
abbrev main_v185 : Ref sig .tc := ⟨.hbm, 316, rfl⟩
abbrev main_v186 : Ref sig .tc := ⟨.hbm, 317, rfl⟩
abbrev main_v187 : Ref sig .tc := ⟨.hbm, 318, rfl⟩
abbrev main_cst_14 : Ref sig .tc := ⟨.hbm, 319, rfl⟩
abbrev main_v188 : Ref sig .tc := ⟨.hbm, 320, rfl⟩
abbrev main_c_15 : Ref sig .tc := ⟨.hbm, 321, rfl⟩
abbrev main_v189_0 : Ref sig .tc := ⟨.hbm, 322, rfl⟩
abbrev main_v189_1 : Ref sig .tc := ⟨.hbm, 323, rfl⟩
abbrev main_v189_2 : Ref sig .tc := ⟨.hbm, 324, rfl⟩
abbrev main_v189_3 : Ref sig .tc := ⟨.hbm, 325, rfl⟩
abbrev main_v189_4 : Ref sig .tc := ⟨.hbm, 326, rfl⟩
abbrev main_v189_5 : Ref sig .tc := ⟨.hbm, 327, rfl⟩
abbrev main_while1c_c_35 : Ref sig .tc := ⟨.hbm, 328, rfl⟩
abbrev main_while1c_v269 : Ref sig .tc := ⟨.hbm, 329, rfl⟩
abbrev main_while1b_call12_c : Ref sig .tc := ⟨.hbm, 330, rfl⟩
abbrev main_while1b_call12_c_0 : Ref sig .tc := ⟨.hbm, 331, rfl⟩
abbrev main_while1b_call12_c_1 : Ref sig .tc := ⟨.hbm, 332, rfl⟩
abbrev main_while1b_call12_v0 : Ref sig .tc := ⟨.hbm, 333, rfl⟩
abbrev main_while1b_v269 : Ref sig .tc := ⟨.hbm, 334, rfl⟩
abbrev main_while1b_call13_c : Ref sig .tc := ⟨.hbm, 335, rfl⟩
abbrev main_while1b_call13_c_0 : Ref sig .tc := ⟨.hbm, 336, rfl⟩
abbrev main_while1b_call13_c_1 : Ref sig .tc := ⟨.hbm, 337, rfl⟩
abbrev main_while1b_call13_v0 : Ref sig .tc := ⟨.hbm, 338, rfl⟩
abbrev main_while1b_v270 : Ref sig .tc := ⟨.hbm, 339, rfl⟩
abbrev main_while1b_call14_c : Ref sig .tc := ⟨.hbm, 340, rfl⟩
abbrev main_while1b_call14_c_0 : Ref sig .tc := ⟨.hbm, 341, rfl⟩
abbrev main_while1b_call14_v0 : Ref sig .tc := ⟨.hbm, 342, rfl⟩
abbrev main_while1b_v271 : Ref sig .tc := ⟨.hbm, 343, rfl⟩
abbrev main_while1b_v272 : Ref sig .tc := ⟨.hbm, 344, rfl⟩
abbrev main_while1b_v273 : Ref sig .tc := ⟨.hbm, 345, rfl⟩
abbrev main_while1b_v274 : Ref sig .tc := ⟨.hbm, 346, rfl⟩
abbrev main_while1b_call15_v0 : Ref sig .tc := ⟨.hbm, 347, rfl⟩
abbrev main_while1b_call15_c : Ref sig .tc := ⟨.hbm, 348, rfl⟩
abbrev main_while1b_call15_c_0 : Ref sig .tc := ⟨.hbm, 349, rfl⟩
abbrev main_while1b_v275 : Ref sig .tc := ⟨.hbm, 350, rfl⟩
abbrev main_while1b_c_35 : Ref sig .tc := ⟨.hbm, 351, rfl⟩
abbrev main_while1b_v276 : Ref sig .tc := ⟨.hbm, 352, rfl⟩
abbrev main_v190 : Ref sig .tc := ⟨.hbm, 353, rfl⟩
abbrev main_v191 : Ref sig .tc := ⟨.hbm, 354, rfl⟩
abbrev main_v192 : Ref sig .tc := ⟨.hbm, 355, rfl⟩
abbrev main_v193 : Ref sig .tc := ⟨.hbm, 356, rfl⟩
abbrev main_v194 : Ref sig .tc := ⟨.hbm, 357, rfl⟩
abbrev main_call16_v0 : Ref sig .tc := ⟨.hbm, 358, rfl⟩
abbrev main_call16_v1 : Ref sig .tc := ⟨.hbm, 359, rfl⟩
abbrev main_call16_cst : Ref sig .tc := ⟨.hbm, 360, rfl⟩
abbrev main_call16_v2 : Ref sig .tc := ⟨.hbm, 361, rfl⟩
abbrev main_call16_v3 : Ref sig .tc := ⟨.hbm, 362, rfl⟩
abbrev main_call16_cst_0 : Ref sig .tc := ⟨.hbm, 363, rfl⟩
abbrev main_call16_v4 : Ref sig .tc := ⟨.hbm, 364, rfl⟩
abbrev main_call16_v5 : Ref sig .tc := ⟨.hbm, 365, rfl⟩
abbrev main_v195 : Ref sig .tc := ⟨.hbm, 366, rfl⟩
abbrev main_v196 : Ref sig .tc := ⟨.hbm, 367, rfl⟩
abbrev main_v197 : Ref sig .tc := ⟨.hbm, 368, rfl⟩
abbrev main_v198 : Ref sig .tc := ⟨.hbm, 369, rfl⟩
abbrev main_cst_16 : Ref sig .tc := ⟨.hbm, 370, rfl⟩
abbrev main_v199 : Ref sig .tc := ⟨.hbm, 371, rfl⟩
abbrev main_v200 : Ref sig .tc := ⟨.hbm, 372, rfl⟩
abbrev main_cst_17 : Ref sig .tc := ⟨.hbm, 373, rfl⟩
abbrev main_v201 : Ref sig .tc := ⟨.hbm, 374, rfl⟩
abbrev main_v202 : Ref sig .tc := ⟨.hbm, 375, rfl⟩
abbrev main_v203 : Ref sig .tc := ⟨.hbm, 376, rfl⟩
abbrev main_v204 : Ref sig .tc := ⟨.hbm, 377, rfl⟩
abbrev main_v205 : Ref sig .tc := ⟨.hbm, 378, rfl⟩
abbrev main_cst_18 : Ref sig .tc := ⟨.hbm, 379, rfl⟩
abbrev main_v206 : Ref sig .tc := ⟨.hbm, 380, rfl⟩
abbrev main_v207 : Ref sig .tc := ⟨.hbm, 381, rfl⟩
abbrev main_cst_19 : Ref sig .tc := ⟨.hbm, 382, rfl⟩
abbrev main_v208 : Ref sig .tc := ⟨.hbm, 383, rfl⟩
abbrev main_v209 : Ref sig .tc := ⟨.hbm, 384, rfl⟩
abbrev main_v210 : Ref sig .tc := ⟨.hbm, 385, rfl⟩
abbrev main_v211 : Ref sig .tc := ⟨.hbm, 386, rfl⟩
abbrev main_cst_20 : Ref sig .tc := ⟨.hbm, 387, rfl⟩
abbrev main_v212 : Ref sig .tc := ⟨.hbm, 388, rfl⟩
abbrev main_v213 : Ref sig .tc := ⟨.hbm, 389, rfl⟩
abbrev main_v214 : Ref sig .tc := ⟨.hbm, 390, rfl⟩
abbrev main_v215 : Ref sig .tc := ⟨.hbm, 391, rfl⟩
abbrev main_v216 : Ref sig .tc := ⟨.hbm, 392, rfl⟩
abbrev main_v217 : Ref sig .tc := ⟨.hbm, 393, rfl⟩
abbrev main_v218 : Ref sig .tc := ⟨.hbm, 394, rfl⟩
abbrev main_v219 : Ref sig .tc := ⟨.hbm, 395, rfl⟩
abbrev main_v220 : Ref sig .tc := ⟨.hbm, 396, rfl⟩
abbrev main_v221 : Ref sig .tc := ⟨.hbm, 397, rfl⟩
abbrev main_v222 : Ref sig .tc := ⟨.hbm, 398, rfl⟩
abbrev main_cst_21 : Ref sig .tc := ⟨.hbm, 399, rfl⟩
abbrev main_v223 : Ref sig .tc := ⟨.hbm, 400, rfl⟩
abbrev main_v224 : Ref sig .tc := ⟨.hbm, 401, rfl⟩
abbrev main_cst_22 : Ref sig .tc := ⟨.hbm, 402, rfl⟩
abbrev main_v225 : Ref sig .tc := ⟨.hbm, 403, rfl⟩
abbrev main_v226 : Ref sig .tc := ⟨.hbm, 404, rfl⟩
abbrev main_v227 : Ref sig .tc := ⟨.hbm, 405, rfl⟩
abbrev main_v228 : Ref sig .tc := ⟨.hbm, 406, rfl⟩
abbrev main_v229 : Ref sig .tc := ⟨.hbm, 407, rfl⟩
abbrev main_cst_23 : Ref sig .tc := ⟨.hbm, 408, rfl⟩
abbrev main_v230 : Ref sig .tc := ⟨.hbm, 409, rfl⟩
abbrev main_v231 : Ref sig .tc := ⟨.hbm, 410, rfl⟩
abbrev main_cst_24 : Ref sig .tc := ⟨.hbm, 411, rfl⟩
abbrev main_v232 : Ref sig .tc := ⟨.hbm, 412, rfl⟩
abbrev main_v233 : Ref sig .tc := ⟨.hbm, 413, rfl⟩
abbrev main_v234 : Ref sig .tc := ⟨.hbm, 414, rfl⟩
abbrev main_v235 : Ref sig .tc := ⟨.hbm, 415, rfl⟩
abbrev main_cst_25 : Ref sig .tc := ⟨.hbm, 416, rfl⟩
abbrev main_v236 : Ref sig .tc := ⟨.hbm, 417, rfl⟩
abbrev main_v237 : Ref sig .tc := ⟨.hbm, 418, rfl⟩
abbrev main_v238 : Ref sig .tc := ⟨.hbm, 419, rfl⟩
abbrev main_v239 : Ref sig .tc := ⟨.hbm, 420, rfl⟩
abbrev main_v240 : Ref sig .tc := ⟨.hbm, 421, rfl⟩
abbrev main_v241 : Ref sig .tc := ⟨.hbm, 422, rfl⟩
abbrev main_v242 : Ref sig .tc := ⟨.hbm, 423, rfl⟩
abbrev main_v243 : Ref sig .tc := ⟨.hbm, 424, rfl⟩
abbrev main_v244 : Ref sig .tc := ⟨.hbm, 425, rfl⟩
abbrev main_v245 : Ref sig .tc := ⟨.hbm, 426, rfl⟩
abbrev main_v246 : Ref sig .tc := ⟨.hbm, 427, rfl⟩
abbrev main_v247 : Ref sig .tc := ⟨.hbm, 428, rfl⟩
abbrev main_v248 : Ref sig .tc := ⟨.hbm, 429, rfl⟩
abbrev main_v249 : Ref sig .tc := ⟨.hbm, 430, rfl⟩
abbrev main_v250 : Ref sig .tc := ⟨.hbm, 431, rfl⟩
abbrev main_v251 : Ref sig .tc := ⟨.hbm, 432, rfl⟩
abbrev main_v252 : Ref sig .tc := ⟨.hbm, 433, rfl⟩
abbrev main_cst_26 : Ref sig .tc := ⟨.hbm, 434, rfl⟩
abbrev main_v253 : Ref sig .tc := ⟨.hbm, 435, rfl⟩
abbrev main_v254 : Ref sig .tc := ⟨.hbm, 436, rfl⟩
abbrev main_v255 : Ref sig .tc := ⟨.hbm, 437, rfl⟩
abbrev main_cst_27 : Ref sig .tc := ⟨.hbm, 438, rfl⟩
abbrev main_v256 : Ref sig .tc := ⟨.hbm, 439, rfl⟩
abbrev main_v257 : Ref sig .tc := ⟨.hbm, 440, rfl⟩
abbrev main_v258 : Ref sig .tc := ⟨.hbm, 441, rfl⟩
abbrev main_cst_28 : Ref sig .tc := ⟨.hbm, 442, rfl⟩
abbrev main_v259 : Ref sig .tc := ⟨.hbm, 443, rfl⟩
abbrev main_v260 : Ref sig .tc := ⟨.hbm, 444, rfl⟩
abbrev main_cst_29 : Ref sig .tc := ⟨.hbm, 445, rfl⟩
abbrev main_v261 : Ref sig .tc := ⟨.hbm, 446, rfl⟩
abbrev main_v262 : Ref sig .tc := ⟨.hbm, 447, rfl⟩
abbrev main_v263 : Ref sig .tc := ⟨.hbm, 448, rfl⟩
abbrev main_v264 : Ref sig .tc := ⟨.hbm, 449, rfl⟩
abbrev main_v265 : Ref sig .tc := ⟨.hbm, 450, rfl⟩
abbrev main_v266 : Ref sig .tc := ⟨.hbm, 451, rfl⟩
abbrev main_v267 : Ref sig .tc := ⟨.hbm, 452, rfl⟩
abbrev main_v268 : Ref sig .tc := ⟨.hbm, 453, rfl⟩

abbrev nD : Nat := 1
abbrev τ : Topo := Topo.v7x

variable {F : FTy → Type} [FloatOps F]

abbrev main_while0_count : Scf.Loop 32 := ⟨0#32, 256#32, 1#32⟩

abbrev main_while1_count : Scf.Loop 32 := ⟨0#32, 256#32, 1#32⟩
-- ==== Kernel2.lean ====
abbrev S32x256x512 : Shape := ⟨3, ![32, 256, 512]⟩
abbrev S32x256x1024 : Shape := ⟨3, ![32, 256, 1024]⟩
abbrev S512x2048 : Shape := ⟨2, ![512, 2048]⟩
abbrev S1024x4 : Shape := ⟨2, ![1024, 4]⟩
abbrev S1024 : Shape := ⟨1, ![1024]⟩
abbrev S1024x512 : Shape := ⟨2, ![1024, 512]⟩
abbrev S512 : Shape := ⟨1, ![512]⟩
abbrev S256x16 : Shape := ⟨2, ![256, 16]⟩
abbrev S2048 : Shape := ⟨1, ![2048]⟩
abbrev S2048x512 : Shape := ⟨2, ![2048, 512]⟩
abbrev S4x1024 : Shape := ⟨2, ![4, 1024]⟩
abbrev S1x1024 : Shape := ⟨2, ![1, 1024]⟩
abbrev S1x512 : Shape := ⟨2, ![1, 512]⟩
abbrev S16x256 : Shape := ⟨2, ![16, 256]⟩
abbrev S1x2048 : Shape := ⟨2, ![1, 2048]⟩
abbrev S256x256 : Shape := ⟨2, ![256, 256]⟩
abbrev S4x256x512 : Shape := ⟨3, ![4, 256, 512]⟩
abbrev S4x256x1024 : Shape := ⟨3, ![4, 256, 1024]⟩
abbrev S1024x1024 : Shape := ⟨2, ![1024, 1024]⟩
abbrev S1024x64 : Shape := ⟨2, ![1024, 64]⟩
abbrev S16x64x1024 : Shape := ⟨3, ![16, 64, 1024]⟩
abbrev S64x1024 : Shape := ⟨2, ![64, 1024]⟩
abbrev S16x1024 : Shape := ⟨2, ![16, 1024]⟩
abbrev S128x2048 : Shape := ⟨2, ![128, 2048]⟩
abbrev S1x256x512 : Shape := ⟨3, ![1, 256, 512]⟩
abbrev S256x512 : Shape := ⟨2, ![256, 512]⟩
abbrev S255x512 : Shape := ⟨2, ![255, 512]⟩
abbrev S256 : Shape := ⟨1, ![256]⟩
abbrev S256x1 : Shape := ⟨2, ![256, 1]⟩
abbrev S512x1024 : Shape := ⟨2, ![512, 1024]⟩
abbrev S256x1024 : Shape := ⟨2, ![256, 1024]⟩
abbrev S255x1024 : Shape := ⟨2, ![255, 1024]⟩
abbrev S2x1024 : Shape := ⟨2, ![2, 1024]⟩
abbrev S254x1024 : Shape := ⟨2, ![254, 1024]⟩
abbrev S3x1024 : Shape := ⟨2, ![3, 1024]⟩
abbrev S253x1024 : Shape := ⟨2, ![253, 1024]⟩
abbrev S1x256x1024 : Shape := ⟨3, ![1, 256, 1024]⟩
abbrev S128x512 : Shape := ⟨2, ![128, 512]⟩
abbrev S128 : Shape := ⟨1, ![128]⟩
abbrev S128x1 : Shape := ⟨2, ![128, 1]⟩
abbrev S1x128x512 : Shape := ⟨3, ![1, 128, 512]⟩

abbrev nBuf : Space → Nat
  | .hbm => 42
  | .vmem => 42
  | .smem => 0
  | _ => 0

abbrev bufTy : (tb : Table) → Fin (tcTables nBuf tb) → BufTy
  | .hbm, ⟨0, _⟩ => ⟨S32x256x512, .f32⟩
  | .hbm, ⟨1, _⟩ => ⟨S32x256x1024, .f32⟩
  | .hbm, ⟨2, _⟩ => ⟨S32x256x1024, .f32⟩
  | .hbm, ⟨3, _⟩ => ⟨S512x2048, .f32⟩
  | .hbm, ⟨4, _⟩ => ⟨S1024x4, .f32⟩
  | .hbm, ⟨5, _⟩ => ⟨S1024, .f32⟩
  | .hbm, ⟨6, _⟩ => ⟨S1024, .f32⟩
  | .hbm, ⟨7, _⟩ => ⟨S1024x512, .f32⟩
  | .hbm, ⟨8, _⟩ => ⟨S512, .f32⟩
  | .hbm, ⟨9, _⟩ => ⟨S512, .f32⟩
  | .hbm, ⟨10, _⟩ => ⟨S256x16, .f32⟩
  | .hbm, ⟨11, _⟩ => ⟨S256x16, .f32⟩
  | .hbm, ⟨12, _⟩ => ⟨S512x2048, .f32⟩
  | .hbm, ⟨13, _⟩ => ⟨S1024x4, .f32⟩
  | .hbm, ⟨14, _⟩ => ⟨S1024, .f32⟩
  | .hbm, ⟨15, _⟩ => ⟨S1024, .f32⟩
  | .hbm, ⟨16, _⟩ => ⟨S1024x512, .f32⟩
  | .hbm, ⟨17, _⟩ => ⟨S512, .f32⟩
  | .hbm, ⟨18, _⟩ => ⟨S512, .f32⟩
  | .hbm, ⟨19, _⟩ => ⟨S512, .f32⟩
  | .hbm, ⟨20, _⟩ => ⟨S512, .f32⟩
  | .hbm, ⟨21, _⟩ => ⟨S512x2048, .f32⟩
  | .hbm, ⟨22, _⟩ => ⟨S2048, .f32⟩
  | .hbm, ⟨23, _⟩ => ⟨S2048x512, .f32⟩
  | .hbm, ⟨24, _⟩ => ⟨S512, .f32⟩
  | .hbm, ⟨25, _⟩ => ⟨S4x1024, .f32⟩
  | .hbm, ⟨26, _⟩ => ⟨S1x1024, .f32⟩
  | .hbm, ⟨27, _⟩ => ⟨S1x1024, .f32⟩
  | .hbm, ⟨28, _⟩ => ⟨S1x512, .f32⟩
  | .hbm, ⟨29, _⟩ => ⟨S1x512, .f32⟩
  | .hbm, ⟨30, _⟩ => ⟨S16x256, .f32⟩
  | .hbm, ⟨31, _⟩ => ⟨S4x1024, .f32⟩
  | .hbm, ⟨32, _⟩ => ⟨S1x1024, .f32⟩
  | .hbm, ⟨33, _⟩ => ⟨S1x1024, .f32⟩
  | .hbm, ⟨34, _⟩ => ⟨S1x512, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S1x2048, .f32⟩
  | .hbm, ⟨39, _⟩ => ⟨S1x512, .f32⟩
  | .hbm, ⟨40, _⟩ => ⟨S32x256x512, .f32⟩
  | .hbm, ⟨41, _⟩ => ⟨S256x256, .f32⟩
  | .local _ .vmem, ⟨0, _⟩ => ⟨S4x256x512, .f32⟩
  | .local _ .vmem, ⟨1, _⟩ => ⟨S4x256x512, .f32⟩
  | .local _ .vmem, ⟨2, _⟩ => ⟨S4x256x1024, .f32⟩
  | .local _ .vmem, ⟨3, _⟩ => ⟨S4x256x1024, .f32⟩
  | .local _ .vmem, ⟨4, _⟩ => ⟨S4x256x1024, .f32⟩
  | .local _ .vmem, ⟨5, _⟩ => ⟨S4x256x1024, .f32⟩
  | .local _ .vmem, ⟨6, _⟩ => ⟨S512x2048, .f32⟩
  | .local _ .vmem, ⟨7, _⟩ => ⟨S4x1024, .f32⟩
  | .local _ .vmem, ⟨8, _⟩ => ⟨S1x1024, .f32⟩
  | .local _ .vmem, ⟨9, _⟩ => ⟨S1x1024, .f32⟩
  | .local _ .vmem, ⟨10, _⟩ => ⟨S1024x512, .f32⟩
  | .local _ .vmem, ⟨11, _⟩ => ⟨S1x512, .f32⟩
  | .local _ .vmem, ⟨12, _⟩ => ⟨S1x512, .f32⟩
  | .local _ .vmem, ⟨13, _⟩ => ⟨S256x16, .f32⟩
  | .local _ .vmem, ⟨14, _⟩ => ⟨S16x256, .f32⟩
  | .local _ .vmem, ⟨15, _⟩ => ⟨S512x2048, .f32⟩
  | .local _ .vmem, ⟨16, _⟩ => ⟨S4x1024, .f32⟩
  | .local _ .vmem, ⟨17, _⟩ => ⟨S1x1024, .f32⟩
  | .local _ .vmem, ⟨18, _⟩ => ⟨S1x1024, .f32⟩
  | .local _ .vmem, ⟨19, _⟩ => ⟨S1024x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S512x2048, .f32⟩
  | .local _ .vmem, ⟨25, _⟩ => ⟨S1x2048, .f32⟩
  | .local _ .vmem, ⟨26, _⟩ => ⟨S2048x512, .f32⟩
  | .local _ .vmem, ⟨27, _⟩ => ⟨S1x512, .f32⟩
  | .local _ .vmem, ⟨28, _⟩ => ⟨S4x256x512, .f32⟩
  | .local _ .vmem, ⟨29, _⟩ => ⟨S4x256x512, .f32⟩
  | .local _ .vmem, ⟨30, _⟩ => ⟨S256x256, .f32⟩
  | .local _ .vmem, ⟨31, _⟩ => ⟨S1024x512, .f32⟩
  | .local _ .vmem, ⟨32, _⟩ => ⟨S1024x512, .f32⟩
  | .local _ .vmem, ⟨33, _⟩ => ⟨S1024x1024, .f32⟩
  | .local _ .vmem, ⟨34, _⟩ => ⟨S1024x1024, .f32⟩
  | .local _ .vmem, ⟨35, _⟩ => ⟨S1024x1024, .f32⟩
  | .local _ .vmem, ⟨36, _⟩ => ⟨S1024x64, .f32⟩
  | .local _ .vmem, ⟨37, _⟩ => ⟨S16x64x1024, .f32⟩
  | .local _ .vmem, ⟨38, _⟩ => ⟨S16x64x1024, .f32⟩
  | .local _ .vmem, ⟨39, _⟩ => ⟨S64x1024, .f32⟩
  | .local _ .vmem, ⟨40, _⟩ => ⟨S16x1024, .f32⟩
  | .local _ .vmem, ⟨41, _⟩ => ⟨S128x2048, .f32⟩
  | _, _ => ⟨S32x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15_0 : Ref sig .tc := ⟨.hbm, 40, rfl⟩
abbrev main_v15_1 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg24_0 : Ref sig .tc := ⟨.vmem, 27, rfl⟩
abbrev cc0_stg25_0 : Ref sig .tc := ⟨.vmem, 28, rfl⟩
abbrev cc0_stg25_1 : Ref sig .tc := ⟨.vmem, 29, rfl⟩
abbrev cc0_stg26_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_scratch5 : Ref sig .tc := ⟨.vmem, 36, rfl⟩
abbrev cc0_scratch6 : Ref sig .tc := ⟨.vmem, 37, rfl⟩
abbrev cc0_scratch7 : Ref sig .tc := ⟨.vmem, 38, rfl⟩
abbrev cc0_scratch8 : Ref sig .tc := ⟨.vmem, 39, rfl⟩
abbrev cc0_scratch9 : Ref sig .tc := ⟨.vmem, 40, rfl⟩
abbrev cc0_scratch10 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem24_0 : DmaSem sig := 27
abbrev cc0_sem25_0 : DmaSem sig := 28
abbrev cc0_sem25_1 : DmaSem sig := 29
abbrev cc0_sem26_0 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512x2048 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x2048 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S2048x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S4x256x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 1 → Memref sig .tc .vmem S256x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]
-- ==== Reference2Ideal.lean ====
abbrev S32x256x512 : Shape := ⟨3, ![32, 256, 512]⟩
abbrev S32x256x1024 : Shape := ⟨3, ![32, 256, 1024]⟩
abbrev S512x2048 : Shape := ⟨2, ![512, 2048]⟩
abbrev S1024x4 : Shape := ⟨2, ![1024, 4]⟩
abbrev S1024 : Shape := ⟨1, ![1024]⟩
abbrev S1024x512 : Shape := ⟨2, ![1024, 512]⟩
abbrev S512 : Shape := ⟨1, ![512]⟩
abbrev S256x16 : Shape := ⟨2, ![256, 16]⟩
abbrev S2048 : Shape := ⟨1, ![2048]⟩
abbrev S2048x512 : Shape := ⟨2, ![2048, 512]⟩
abbrev S32x1x512 : Shape := ⟨3, ![32, 1, 512]⟩
abbrev S32x255x512 : Shape := ⟨3, ![32, 255, 512]⟩
abbrev S32x256x2048 : Shape := ⟨3, ![32, 256, 2048]⟩
abbrev S_ : Shape := ⟨0, ![]⟩
abbrev S32x259x1024 : Shape := ⟨3, ![32, 259, 1024]⟩
abbrev S1024x1 : Shape := ⟨2, ![1024, 1]⟩
abbrev S1x1x1024 : Shape := ⟨3, ![1, 1, 1024]⟩
abbrev S32x256 : Shape := ⟨2, ![32, 256]⟩
abbrev S32x256x1 : Shape := ⟨3, ![32, 256, 1]⟩
abbrev S1x1x512 : Shape := ⟨3, ![1, 1, 512]⟩
abbrev S16x256 : Shape := ⟨2, ![16, 256]⟩
abbrev S256x256 : Shape := ⟨2, ![256, 256]⟩
abbrev S256 : Shape := ⟨1, ![256]⟩
abbrev S256x1 : Shape := ⟨2, ![256, 1]⟩
abbrev S32x512x256 : Shape := ⟨3, ![32, 512, 256]⟩
abbrev S1x1x2048 : Shape := ⟨3, ![1, 1, 2048]⟩

abbrev nBuf : Space → Nat
  | .hbm => 292
  | .vmem => 0
  | .smem => 0
  | _ => 0

abbrev hbmTy0_0 (i : Nat) : BufTy := match i % 128 with
  | 0 => ⟨S32x256x512, .f32⟩
  | 1 => ⟨S32x256x1024, .f32⟩
  | 2 => ⟨S32x256x1024, .f32⟩
  | 3 => ⟨S512x2048, .f32⟩
  | 4 => ⟨S1024x4, .f32⟩
  | 5 => ⟨S1024, .f32⟩
  | 6 => ⟨S1024, .f32⟩
  | 7 => ⟨S1024x512, .f32⟩
  | 8 => ⟨S512, .f32⟩
  | 9 => ⟨S512, .f32⟩
  | 10 => ⟨S256x16, .f32⟩
  | 11 => ⟨S256x16, .f32⟩
  | 12 => ⟨S512x2048, .f32⟩
  | 13 => ⟨S1024x4, .f32⟩
  | 14 => ⟨S1024, .f32⟩
  | 15 => ⟨S1024, .f32⟩
  | 16 => ⟨S1024x512, .f32⟩
  | 17 => ⟨S512, .f32⟩
  | 18 => ⟨S512, .f32⟩
  | 19 => ⟨S512, .f32⟩
  | 20 => ⟨S512, .f32⟩
  | 21 => ⟨S512x2048, .f32⟩
  | 22 => ⟨S2048, .f32⟩
  | 23 => ⟨S2048x512, .f32⟩
  | 24 => ⟨S512, .f32⟩
  | 25 => ⟨S32x1x512, .f32⟩
  | 26 => ⟨S32x255x512, .f32⟩
  | 27 => ⟨S32x255x512, .f32⟩
  | 28 => ⟨S32x255x512, .f32⟩
  | 29 => ⟨S32x256x512, .f32⟩
  | 30 => ⟨S32x256x2048, .f32⟩
  | 31 => ⟨S32x256x1024, .f32⟩
  | 32 => ⟨S32x256x1024, .f32⟩
  | 33 => ⟨S_, .i32⟩
  | 34 => ⟨S_, .f32⟩
  | 35 => ⟨S32x259x1024, .f32⟩
  | 36 => ⟨S32x256x1024, .f32⟩
  | 37 => ⟨S1024x1, .f32⟩
  | 38 => ⟨S1024, .f32⟩
  | 39 => ⟨S1x1x1024, .f32⟩
  | 40 => ⟨S32x256x1024, .f32⟩
  | 41 => ⟨S32x256x1024, .f32⟩
  | 42 => ⟨S_, .f32⟩
  | 43 => ⟨S32x256x1024, .f32⟩
  | 44 => ⟨S32x256x1024, .f32⟩
  | 45 => ⟨S32x256x1024, .f32⟩
  | 46 => ⟨S1024x1, .f32⟩
  | 47 => ⟨S1024, .f32⟩
  | 48 => ⟨S1x1x1024, .f32⟩
  | 49 => ⟨S32x256x1024, .f32⟩
  | 50 => ⟨S32x256x1024, .f32⟩
  | 51 => ⟨S32x256x1024, .f32⟩
  | 52 => ⟨S32x256x1024, .f32⟩
  | 53 => ⟨S1024x1, .f32⟩
  | 54 => ⟨S1024, .f32⟩
  | 55 => ⟨S1x1x1024, .f32⟩
  | 56 => ⟨S32x256x1024, .f32⟩
  | 57 => ⟨S32x256x1024, .f32⟩
  | 58 => ⟨S32x256x1024, .f32⟩
  | 59 => ⟨S32x256x1024, .f32⟩
  | 60 => ⟨S1024x1, .f32⟩
  | 61 => ⟨S1024, .f32⟩
  | 62 => ⟨S1x1x1024, .f32⟩
  | 63 => ⟨S32x256x1024, .f32⟩
  | 64 => ⟨S32x256x1024, .f32⟩
  | 65 => ⟨S32x256x1024, .f32⟩
  | 66 => ⟨S1x1x1024, .f32⟩
  | 67 => ⟨S32x256x1024, .f32⟩
  | 68 => ⟨S32x256x1024, .f32⟩
  | 69 => ⟨S32x256x1024, .f32⟩
  | 70 => ⟨S32x256x1024, .f32⟩
  | 71 => ⟨S_, .f32⟩
  | 72 => ⟨S32x256x1024, .f32⟩
  | 73 => ⟨S32x256x1024, .f32⟩
  | 74 => ⟨S_, .f32⟩
  | 75 => ⟨S32x256x1024, .f32⟩
  | 76 => ⟨S32x256x1024, .f32⟩
  | 77 => ⟨S32x256x1024, .f32⟩
  | 78 => ⟨S1x1x1024, .f32⟩
  | 79 => ⟨S32x256x1024, .f32⟩
  | 80 => ⟨S32x256x1024, .f32⟩
  | 81 => ⟨S32x256x1024, .f32⟩
  | 82 => ⟨S32x256x1024, .f32⟩
  | 83 => ⟨S32x256x1024, .f32⟩
  | 84 => ⟨S_, .f32⟩
  | 85 => ⟨S32x256x1024, .f32⟩
  | 86 => ⟨S32x256x1024, .f32⟩
  | 87 => ⟨S_, .f32⟩
  | 88 => ⟨S32x256x1024, .f32⟩
  | 89 => ⟨S32x256x1024, .f32⟩
  | 90 => ⟨S32x256x1024, .f32⟩
  | 91 => ⟨S32x256x1024, .f32⟩
  | 92 => ⟨S32x256x512, .f32⟩
  | 93 => ⟨S32x256x512, .f32⟩
  | 94 => ⟨S_, .f32⟩
  | 95 => ⟨S32x256, .f32⟩
  | 96 => ⟨S32x256x1, .f32⟩
  | 97 => ⟨S_, .f32⟩
  | 98 => ⟨S32x256x1, .f32⟩
  | 99 => ⟨S32x256x1, .f32⟩
  | 100 => ⟨S32x256x512, .f32⟩
  | 101 => ⟨S32x256x512, .f32⟩
  | 102 => ⟨S32x256x512, .f32⟩
  | 103 => ⟨S_, .f32⟩
  | 104 => ⟨S32x256, .f32⟩
  | 105 => ⟨S32x256x1, .f32⟩
  | 106 => ⟨S_, .f32⟩
  | 107 => ⟨S32x256x1, .f32⟩
  | 108 => ⟨S32x256x1, .f32⟩
  | 109 => ⟨S32x256x512, .f32⟩
  | 110 => ⟨S32x256x512, .f32⟩
  | 111 => ⟨S_, .f32⟩
  | 112 => ⟨S32x256x1, .f32⟩
  | 113 => ⟨S32x256x1, .f32⟩
  | 114 => ⟨S32x256x1, .f32⟩
  | 115 => ⟨S32x256x512, .f32⟩
  | 116 => ⟨S32x256x512, .f32⟩
  | 117 => ⟨S1x1x512, .f32⟩
  | 118 => ⟨S32x256x512, .f32⟩
  | 119 => ⟨S32x256x512, .f32⟩
  | 120 => ⟨S1x1x512, .f32⟩
  | 121 => ⟨S32x256x512, .f32⟩
  | 122 => ⟨S32x256x512, .f32⟩
  | 123 => ⟨S16x256, .f32⟩
  | 124 => ⟨S256x256, .f32⟩
  | 125 => ⟨S_, .f32⟩
  | 126 => ⟨S256x256, .f32⟩
  | 127 => ⟨S256x256, .f32⟩
  | _ => ⟨S32x256x512, .f32⟩

abbrev hbmTy0_1 (i : Nat) : BufTy := match i % 128 with
  | 0 => ⟨S_, .f32⟩
  | 1 => ⟨S256, .f32⟩
  | 2 => ⟨S_, .f32⟩
  | 3 => ⟨S256, .f32⟩
  | 4 => ⟨S256, .f32⟩
  | 5 => ⟨S256x1, .f32⟩
  | 6 => ⟨S256x256, .f32⟩
  | 7 => ⟨S256x256, .f32⟩
  | 8 => ⟨S256x256, .f32⟩
  | 9 => ⟨S_, .f32⟩
  | 10 => ⟨S256, .f32⟩
  | 11 => ⟨S256x1, .f32⟩
  | 12 => ⟨S256x256, .f32⟩
  | 13 => ⟨S256x256, .f32⟩
  | 14 => ⟨S32x512x256, .f32⟩
  | 15 => ⟨S32x256x512, .f32⟩
  | 16 => ⟨S32x256x2048, .f32⟩
  | 17 => ⟨S32x256x1024, .f32⟩
  | 18 => ⟨S32x256x1024, .f32⟩
  | 19 => ⟨S_, .i32⟩
  | 20 => ⟨S_, .f32⟩
  | 21 => ⟨S32x259x1024, .f32⟩
  | 22 => ⟨S32x256x1024, .f32⟩
  | 23 => ⟨S1024x1, .f32⟩
  | 24 => ⟨S1024, .f32⟩
  | 25 => ⟨S1x1x1024, .f32⟩
  | 26 => ⟨S32x256x1024, .f32⟩
  | 27 => ⟨S32x256x1024, .f32⟩
  | 28 => ⟨S_, .f32⟩
  | 29 => ⟨S32x256x1024, .f32⟩
  | 30 => ⟨S32x256x1024, .f32⟩
  | 31 => ⟨S32x256x1024, .f32⟩
  | 32 => ⟨S1024x1, .f32⟩
  | 33 => ⟨S1024, .f32⟩
  | 34 => ⟨S1x1x1024, .f32⟩
  | 35 => ⟨S32x256x1024, .f32⟩
  | 36 => ⟨S32x256x1024, .f32⟩
  | 37 => ⟨S32x256x1024, .f32⟩
  | 38 => ⟨S32x256x1024, .f32⟩
  | 39 => ⟨S1024x1, .f32⟩
  | 40 => ⟨S1024, .f32⟩
  | 41 => ⟨S1x1x1024, .f32⟩
  | 42 => ⟨S32x256x1024, .f32⟩
  | 43 => ⟨S32x256x1024, .f32⟩
  | 44 => ⟨S32x256x1024, .f32⟩
  | 45 => ⟨S32x256x1024, .f32⟩
  | 46 => ⟨S1024x1, .f32⟩
  | 47 => ⟨S1024, .f32⟩
  | 48 => ⟨S1x1x1024, .f32⟩
  | 49 => ⟨S32x256x1024, .f32⟩
  | 50 => ⟨S32x256x1024, .f32⟩
  | 51 => ⟨S32x256x1024, .f32⟩
  | 52 => ⟨S1x1x1024, .f32⟩
  | 53 => ⟨S32x256x1024, .f32⟩
  | 54 => ⟨S32x256x1024, .f32⟩
  | 55 => ⟨S32x256x1024, .f32⟩
  | 56 => ⟨S32x256x1024, .f32⟩
  | 57 => ⟨S_, .f32⟩
  | 58 => ⟨S32x256x1024, .f32⟩
  | 59 => ⟨S32x256x1024, .f32⟩
  | 60 => ⟨S_, .f32⟩
  | 61 => ⟨S32x256x1024, .f32⟩
  | 62 => ⟨S32x256x1024, .f32⟩
  | 63 => ⟨S32x256x1024, .f32⟩
  | 64 => ⟨S1x1x1024, .f32⟩
  | 65 => ⟨S32x256x1024, .f32⟩
  | 66 => ⟨S32x256x1024, .f32⟩
  | 67 => ⟨S32x256x1024, .f32⟩
  | 68 => ⟨S32x256x1024, .f32⟩
  | 69 => ⟨S32x256x1024, .f32⟩
  | 70 => ⟨S_, .f32⟩
  | 71 => ⟨S32x256x1024, .f32⟩
  | 72 => ⟨S32x256x1024, .f32⟩
  | 73 => ⟨S_, .f32⟩
  | 74 => ⟨S32x256x1024, .f32⟩
  | 75 => ⟨S32x256x1024, .f32⟩
  | 76 => ⟨S32x256x1024, .f32⟩
  | 77 => ⟨S32x256x1024, .f32⟩
  | 78 => ⟨S32x256x512, .f32⟩
  | 79 => ⟨S32x256x512, .f32⟩
  | 80 => ⟨S_, .f32⟩
  | 81 => ⟨S32x256, .f32⟩
  | 82 => ⟨S32x256x1, .f32⟩
  | 83 => ⟨S_, .f32⟩
  | 84 => ⟨S32x256x1, .f32⟩
  | 85 => ⟨S32x256x1, .f32⟩
  | 86 => ⟨S32x256x512, .f32⟩
  | 87 => ⟨S32x256x512, .f32⟩
  | 88 => ⟨S32x256x512, .f32⟩
  | 89 => ⟨S_, .f32⟩
  | 90 => ⟨S32x256, .f32⟩
  | 91 => ⟨S32x256x1, .f32⟩
  | 92 => ⟨S_, .f32⟩
  | 93 => ⟨S32x256x1, .f32⟩
  | 94 => ⟨S32x256x1, .f32⟩
  | 95 => ⟨S32x256x512, .f32⟩
  | 96 => ⟨S32x256x512, .f32⟩
  | 97 => ⟨S_, .f32⟩
  | 98 => ⟨S32x256x1, .f32⟩
  | 99 => ⟨S32x256x1, .f32⟩
  | 100 => ⟨S32x256x1, .f32⟩
  | 101 => ⟨S32x256x512, .f32⟩
  | 102 => ⟨S32x256x512, .f32⟩
  | 103 => ⟨S1x1x512, .f32⟩
  | 104 => ⟨S32x256x512, .f32⟩
  | 105 => ⟨S32x256x512, .f32⟩
  | 106 => ⟨S1x1x512, .f32⟩
  | 107 => ⟨S32x256x512, .f32⟩
  | 108 => ⟨S32x256x512, .f32⟩
  | 109 => ⟨S_, .f32⟩
  | 110 => ⟨S32x256, .f32⟩
  | 111 => ⟨S32x256x1, .f32⟩
  | 112 => ⟨S_, .f32⟩
  | 113 => ⟨S32x256x1, .f32⟩
  | 114 => ⟨S32x256x1, .f32⟩
  | 115 => ⟨S32x256x512, .f32⟩
  | 116 => ⟨S32x256x512, .f32⟩
  | 117 => ⟨S32x256x512, .f32⟩
  | 118 => ⟨S_, .f32⟩
  | 119 => ⟨S32x256, .f32⟩
  | 120 => ⟨S32x256x1, .f32⟩
  | 121 => ⟨S_, .f32⟩
  | 122 => ⟨S32x256x1, .f32⟩
  | 123 => ⟨S32x256x1, .f32⟩
  | 124 => ⟨S32x256x512, .f32⟩
  | 125 => ⟨S32x256x512, .f32⟩
  | 126 => ⟨S_, .f32⟩
  | 127 => ⟨S32x256x1, .f32⟩
  | _ => ⟨S32x256x512, .f32⟩

abbrev hbmTy0_2 (i : Nat) : BufTy := match i % 128 with
  | 0 => ⟨S32x256x1, .f32⟩
  | 1 => ⟨S32x256x1, .f32⟩
  | 2 => ⟨S32x256x512, .f32⟩
  | 3 => ⟨S32x256x512, .f32⟩
  | 4 => ⟨S1x1x512, .f32⟩
  | 5 => ⟨S32x256x512, .f32⟩
  | 6 => ⟨S32x256x512, .f32⟩
  | 7 => ⟨S1x1x512, .f32⟩
  | 8 => ⟨S32x256x512, .f32⟩
  | 9 => ⟨S32x256x512, .f32⟩
  | 10 => ⟨S32x256x2048, .f32⟩
  | 11 => ⟨S1x1x2048, .f32⟩
  | 12 => ⟨S32x256x2048, .f32⟩
  | 13 => ⟨S32x256x2048, .f32⟩
  | 14 => ⟨S32x256x2048, .f32⟩
  | 15 => ⟨S32x256x2048, .f32⟩
  | 16 => ⟨S_, .f32⟩
  | 17 => ⟨S32x256x2048, .f32⟩
  | 18 => ⟨S32x256x2048, .f32⟩
  | 19 => ⟨S32x256x2048, .f32⟩
  | 20 => ⟨S_, .f32⟩
  | 21 => ⟨S32x256x2048, .f32⟩
  | 22 => ⟨S32x256x2048, .f32⟩
  | 23 => ⟨S32x256x2048, .f32⟩
  | 24 => ⟨S_, .f32⟩
  | 25 => ⟨S32x256x2048, .f32⟩
  | 26 => ⟨S32x256x2048, .f32⟩
  | 27 => ⟨S_, .f32⟩
  | 28 => ⟨S32x256x2048, .f32⟩
  | 29 => ⟨S32x256x2048, .f32⟩
  | 30 => ⟨S32x256x2048, .f32⟩
  | 31 => ⟨S32x256x512, .f32⟩
  | 32 => ⟨S32x256x512, .f32⟩
  | 33 => ⟨S1x1x512, .f32⟩
  | 34 => ⟨S32x256x512, .f32⟩
  | 35 => ⟨S32x256x512, .f32⟩
  | _ => ⟨S32x256x512, .f32⟩

abbrev hbmTy (i : Nat) : BufTy := match i / 128 with
  | 0 => hbmTy0_0 i
  | 1 => hbmTy0_1 i
  | 2 => hbmTy0_2 i
  | _ => ⟨S32x256x512, .f32⟩

abbrev bufTy : (tb : Table) → Fin (tcTables nBuf tb) → BufTy
  | .hbm, ⟨i, _⟩ => hbmTy i
  | _, _ => ⟨S32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c : Ref sig .tc := ⟨.hbm, 33, rfl⟩
abbrev main_call0_v0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_call2_v0 : Ref sig .tc := ⟨.hbm, 82, rfl⟩
abbrev main_call2_v1 : Ref sig .tc := ⟨.hbm, 83, rfl⟩
abbrev main_call2_cst : Ref sig .tc := ⟨.hbm, 84, rfl⟩
abbrev main_call2_v2 : Ref sig .tc := ⟨.hbm, 85, rfl⟩
abbrev main_call2_v3 : Ref sig .tc := ⟨.hbm, 86, rfl⟩
abbrev main_call2_cst_0 : Ref sig .tc := ⟨.hbm, 87, rfl⟩
abbrev main_call2_v4 : Ref sig .tc := ⟨.hbm, 88, rfl⟩
abbrev main_call2_v5 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_0 : Ref sig .tc := ⟨.hbm, 94, rfl⟩
abbrev main_v50 : Ref sig .tc := ⟨.hbm, 95, rfl⟩
abbrev main_v51 : Ref sig .tc := ⟨.hbm, 96, rfl⟩
abbrev main_cst_1 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_cst_2 : Ref sig .tc := ⟨.hbm, 103, rfl⟩
abbrev main_v57 : Ref sig .tc := ⟨.hbm, 104, rfl⟩
abbrev main_v58 : Ref sig .tc := ⟨.hbm, 105, rfl⟩
abbrev main_cst_3 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_4 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_call3_cst : Ref sig .tc := ⟨.hbm, 125, rfl⟩
abbrev main_call3_v0 : Ref sig .tc := ⟨.hbm, 126, rfl⟩
abbrev main_v76 : Ref sig .tc := ⟨.hbm, 127, rfl⟩
abbrev main_cst_5 : Ref sig .tc := ⟨.hbm, 128, rfl⟩
abbrev main_v77 : Ref sig .tc := ⟨.hbm, 129, rfl⟩
abbrev main_cst_6 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_cst_7 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_c_8 : Ref sig .tc := ⟨.hbm, 147, rfl⟩
abbrev main_call4_v0 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_cst_9 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_call5_v0 : Ref sig .tc := ⟨.hbm, 183, rfl⟩
abbrev main_call5_v1 : Ref sig .tc := ⟨.hbm, 184, rfl⟩
abbrev main_call5_cst : Ref sig .tc := ⟨.hbm, 185, rfl⟩
abbrev main_call5_v2 : Ref sig .tc := ⟨.hbm, 186, rfl⟩
abbrev main_call5_v3 : Ref sig .tc := ⟨.hbm, 187, rfl⟩
abbrev main_call5_cst_0 : Ref sig .tc := ⟨.hbm, 188, rfl⟩
abbrev main_call5_v4 : Ref sig .tc := ⟨.hbm, 189, rfl⟩
abbrev main_call5_v5 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_call6_v0 : Ref sig .tc := ⟨.hbm, 196, rfl⟩
abbrev main_call6_v1 : Ref sig .tc := ⟨.hbm, 197, rfl⟩
abbrev main_call6_cst : Ref sig .tc := ⟨.hbm, 198, rfl⟩
abbrev main_call6_v2 : Ref sig .tc := ⟨.hbm, 199, rfl⟩
abbrev main_call6_v3 : Ref sig .tc := ⟨.hbm, 200, rfl⟩
abbrev main_call6_cst_0 : Ref sig .tc := ⟨.hbm, 201, rfl⟩
abbrev main_call6_v4 : Ref sig .tc := ⟨.hbm, 202, rfl⟩
abbrev main_call6_v5 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_cst_10 : Ref sig .tc := ⟨.hbm, 208, rfl⟩
abbrev main_v135 : Ref sig .tc := ⟨.hbm, 209, rfl⟩
abbrev main_v136 : Ref sig .tc := ⟨.hbm, 210, rfl⟩
abbrev main_cst_11 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_cst_12 : Ref sig .tc := ⟨.hbm, 217, rfl⟩
abbrev main_v142 : Ref sig .tc := ⟨.hbm, 218, rfl⟩
abbrev main_v143 : Ref sig .tc := ⟨.hbm, 219, rfl⟩
abbrev main_cst_13 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_cst_14 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_cst_15 : Ref sig .tc := ⟨.hbm, 237, rfl⟩
abbrev main_v159 : Ref sig .tc := ⟨.hbm, 238, rfl⟩
abbrev main_v160 : Ref sig .tc := ⟨.hbm, 239, rfl⟩
abbrev main_cst_16 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_cst_17 : Ref sig .tc := ⟨.hbm, 246, rfl⟩
abbrev main_v166 : Ref sig .tc := ⟨.hbm, 247, rfl⟩
abbrev main_v167 : Ref sig .tc := ⟨.hbm, 248, rfl⟩
abbrev main_cst_18 : Ref sig .tc := ⟨.hbm, 249, rfl⟩
abbrev main_v168 : Ref sig .tc := ⟨.hbm, 250, rfl⟩
abbrev main_v169 : Ref sig .tc := ⟨.hbm, 251, rfl⟩
abbrev main_v170 : Ref sig .tc := ⟨.hbm, 252, rfl⟩
abbrev main_v171 : Ref sig .tc := ⟨.hbm, 253, rfl⟩
abbrev main_cst_19 : Ref sig .tc := ⟨.hbm, 254, rfl⟩
abbrev main_v172 : Ref sig .tc := ⟨.hbm, 255, rfl⟩
abbrev main_v173 : Ref sig .tc := ⟨.hbm, 256, rfl⟩
abbrev main_v174 : Ref sig .tc := ⟨.hbm, 257, rfl⟩
abbrev main_v175 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_v188 : Ref sig .tc := ⟨.hbm, 271, rfl⟩
abbrev main_cst_20 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_cst_21 : Ref sig .tc := ⟨.hbm, 276, rfl⟩
abbrev main_v192 : Ref sig .tc := ⟨.hbm, 277, rfl⟩
abbrev main_v193 : Ref sig .tc := ⟨.hbm, 278, rfl⟩
abbrev main_v194 : Ref sig .tc := ⟨.hbm, 279, rfl⟩
abbrev main_cst_22 : Ref sig .tc := ⟨.hbm, 280, rfl⟩
abbrev main_v195 : Ref sig .tc := ⟨.hbm, 281, rfl⟩
abbrev main_v196 : Ref sig .tc := ⟨.hbm, 282, rfl⟩
abbrev main_cst_23 : Ref sig .tc := ⟨.hbm, 283, rfl⟩
abbrev main_v197 : Ref sig .tc := ⟨.hbm, 284, rfl⟩
abbrev main_v198 : Ref sig .tc := ⟨.hbm, 285, rfl⟩
abbrev main_v199 : Ref sig .tc := ⟨.hbm, 286, rfl⟩
abbrev main_v200 : Ref sig .tc := ⟨.hbm, 287, rfl⟩
abbrev main_v201 : Ref sig .tc := ⟨.hbm, 288, rfl⟩
abbrev main_v202 : Ref sig .tc := ⟨.hbm, 289, rfl⟩
abbrev main_v203 : Ref sig .tc := ⟨.hbm, 290, rfl⟩
abbrev main_v204 : Ref sig .tc := ⟨.hbm, 291, rfl⟩

abbrev nD : Nat := 1
abbrev τ : Topo := Topo.v7x

variable {F : FTy → Type} [FloatOps F]
-- ==== Proof.Calc.lean ====
/-
  A small calculus for running a straight-line kernel body over a fixed family of memrefs, each owned at known contents.
  The memrefs that are only read stand in `A` and hold `X`; the ones that are written stand in `B`, and the state says what
  each of them holds. `Ex p s Q`: from the state `s` the program `p` runs to a result and a state that satisfy `Q`.
-/
module

public import Idealize.ShloMosaic.Lib.Pipeline.Frame
public import Idealize.ShloMosaic.Lib.Pipeline.Kit
public import Idealize.ShloMosaic.Lib.VecWindow
public import Idealize.ShloMosaic.Lib.Scf
public import Idealize.ShloMosaic.Lib.Tactic

@[expose] public section

noncomputable section

namespace Cert.Calc

open Idealize.ShloMosaic Idealize.ShloMosaic.TcCoe
open Idealize.SL Idealize.SL.RA
open Idealize.SL.BI (sProp bigSep bigSep_congr)
open scoped Idealize.SL.BI
open Idealize.SL.BI.BIBase Idealize.SL.BI.Laws Idealize.SL.Sem Idealize.SL.ProofMode

variable {nD : ℕ} {τ : Topo} {sig : RefSig} {Val : EltTy → Type} {Λ : Labels}
variable {U : Type} [URA U]

local notation "𝕄" => MT nD τ sig Unit Val ℕ U ℕ

/-- The memrefs a body works on: `A` are only read, `B` are written too. -/
structure Mems (sig : RefSig) (IA IB : Type) where
  SA : IA → Shape
  A : (j : IA) → Memref sig .tc .vmem (SA j) .f32
  SB : IB → Shape
  B : (j : IB) → Memref sig .tc .vmem (SB j) .f32

variable {IA IB : Type} [Fintype IA] [DecidableEq IA] [Fintype IB] [DecidableEq IB] (M : Mems sig IA IB)

/-- What the memrefs that are only read hold. -/
abbrev Ins (Val : EltTy → Type) : Type := (j : IA) → (M.SA j).Idx → Val .f32
/-- What the memrefs that are written hold. -/
abbrev St (Val : EltTy → Type) : Type := (j : IB) → (M.SB j).Idx → Val .f32

variable {M}

/-- Every memref owned whole: the read ones at `X`, the written ones at `s`. -/
def Own (c : Dev nD) (X : Ins M Val) (s : St M Val) : sProp 𝕄 :=
  iprop(bigSep Finset.univ (fun j => owns (c : Thread nD τ) (M.A j) fullShare (X j))
    ∗ bigSep Finset.univ (fun j => owns (c : Thread nD τ) (M.B j) fullShare (s j)))

variable (nD τ U) in
/-- A memref that can be read: its contents, and that it can be taken out of the whole and given back. -/
class Rd (X : Ins M Val) {sh : Shape} (m : Memref sig .tc .vmem sh .f32) where
  get : St M Val → sh.Idx → Val .f32
  split : ∀ (c : Dev nD) s, (Own c X s : sProp 𝕄) ⊢ iprop(owns (c : Thread nD τ) m fullShare (get s) ∗ (owns (c : Thread nD τ) m fullShare (get s) -∗ Own c X s))

variable (nD τ U) in
/-- A memref that can be written: it can be taken out of the whole and given back at other contents. -/
class Wr (X : Ins M Val) {sh : Shape} (m : Memref sig .tc .vmem sh .f32) where
  cur : St M Val → sh.Idx → Val .f32
  set : St M Val → (sh.Idx → Val .f32) → St M Val
  split : ∀ (c : Dev nD) s, (Own c X s : sProp 𝕄) ⊢ iprop(owns (c : Thread nD τ) m fullShare (cur s) ∗ ∀ x, (owns (c : Thread nD τ) m fullShare x -∗ Own c X (set s x)))

theorem big_erase {I : Type} [DecidableEq I] {i : I} {s : Finset I} (h : i ∈ s) {Φ : I → sProp 𝕄} :
    bigSep s Φ = iprop(Φ i ∗ bigSep (s.erase i) Φ) := BI.bigSep_erase h

theorem own_split_B (c : Dev nD) (X : Ins M Val) (s : St M Val) (j : IB) :
    (Own c X s : sProp 𝕄) ⊢ iprop(owns (c : Thread nD τ) (M.B j) fullShare (s j)
      ∗ ∀ x, (owns (c : Thread nD τ) (M.B j) fullShare x -∗ Own c X (Function.update s j x))) := by
  unfold Own
  rw [big_erase (Finset.mem_univ j)]
  iintro ⟨HA, HB, HR⟩
  isplitl [HB]; · iexact HB
  iintro %x Hx
  rw [big_erase (Finset.mem_univ j) (Φ := fun k => owns (c : Thread nD τ) (M.B k) fullShare (Function.update s j x k))]
  have hc : (bigSep (Finset.univ.erase j) (fun k => owns (c : Thread nD τ) (M.B k) fullShare (Function.update s j x k)) : sProp 𝕄)
      = bigSep (Finset.univ.erase j) (fun k => owns (c : Thread nD τ) (M.B k) fullShare (s k)) :=
    bigSep_congr fun k hk => by rw [Function.update_of_ne (Finset.ne_of_mem_erase hk)]
  rw [hc, Function.update_self]
  isplitl [HA]; · iexact HA
  isplitl [Hx]; · iexact Hx
  iexact HR

theorem own_split_A (c : Dev nD) (X : Ins M Val) (s : St M Val) (j : IA) :
    (Own c X s : sProp 𝕄) ⊢ iprop(owns (c : Thread nD τ) (M.A j) fullShare (X j)
      ∗ (owns (c : Thread nD τ) (M.A j) fullShare (X j) -∗ Own c X s)) := by
  unfold Own
  rw [big_erase (Finset.mem_univ j)]
  iintro ⟨⟨HA, HR⟩, HB⟩
  isplitl [HA]; · iexact HA
  iintro HA
  isplitl [HA HR]
  · isplitl [HA]; · iexact HA
    iexact HR
  iexact HB

/-- A read memref, by its place. -/
abbrev rdA (X : Ins M Val) (j : IA) : Rd nD τ U X (M.A j) := ⟨fun _ => X j, fun c s => own_split_A c X s j⟩
/-- A written memref, by its place, read. -/
abbrev rdB (X : Ins M Val) (j : IB) : Rd nD τ U X (M.B j) := ⟨fun s => s j, fun c s => by
  iintro H
  ihave H := (own_split_B c X s j) $$ H
  icases H with ⟨HB, HR⟩
  isplitl [HB]; · iexact HB
  iintro HB
  ihave H := HR $$ %(s j) HB
  rw [Function.update_eq_self]
  iexact H⟩
/-- A written memref, by its place. -/
abbrev wrB (X : Ins M Val) (j : IB) : Wr nD τ U X (M.B j) :=
  ⟨fun s => s j, fun s x => Function.update s j x, fun c s => own_split_B c X s j⟩

section Ex

variable (defs : Defs nD τ sig Val Λ) (𝒱 : Variants) (c : Dev nD) (bd : Option 𝒱.V) (X : Ins M Val)
variable (U)

/-- From the state `s` the program runs to a result and a state satisfying `Q`. -/
def Ex {α : Type} (p : Prog (TpuEff nD τ sig Val Λ .tc) α) (s : St M Val) (Q : α → St M Val → Prop) : Prop :=
  ∃ a s', Q a s' ∧ ∀ (E : Set ℕ) (Φ : α → sProp 𝕄), ((Own c X s' : sProp 𝕄) ⊢ Φ a) →
    (Own c X s : sProp 𝕄) ⊢ wp frame (wpE defs 𝒱 (c : Thread nD τ) bd) E p Φ

variable {U}
variable {defs 𝒱 c bd X} {α β : Type}

theorem Ex.mono {p : Prog (TpuEff nD τ sig Val Λ .tc) α} {s : St M Val} {Q Q' : α → St M Val → Prop}
    (h : Ex U defs 𝒱 c bd X p s Q) (hq : ∀ a s', Q a s' → Q' a s') : Ex U defs 𝒱 c bd X p s Q' := by
  obtain ⟨a, s', h1, h2⟩ := h; exact ⟨a, s', hq _ _ h1, h2⟩

theorem Ex.ret {s : St M Val} {Q : α → St M Val → Prop} (a : α) (h : Q a s) : Ex U defs 𝒱 c bd X (pure a) s Q := by
  refine ⟨a, s, h, fun E Φ hΦ => ?_⟩
  show _ ⊢ wp _ _ _ (Prog.ret a) _
  rw [wp_ret]
  iintro H
  imodintro
  iapply hΦ; iexact H

theorem Ex.bind {p : Prog (TpuEff nD τ sig Val Λ .tc) α} {k : α → Prog (TpuEff nD τ sig Val Λ .tc) β} {s : St M Val}
    {Q : β → St M Val → Prop} (h : Ex U defs 𝒱 c bd X p s fun a s' => Ex U defs 𝒱 c bd X (k a) s' Q) :
    Ex U defs 𝒱 c bd X (p >>= k) s Q := by
  obtain ⟨a, s', ⟨b, s'', h1, h2⟩, h3⟩ := h
  refine ⟨b, s'', h1, fun E Φ hΦ => ?_⟩
  rw [wp_bind]
  exact h3 E _ (h2 E Φ hΦ)

theorem Ex.load {sh : Shape} {m : Memref sig .tc .vmem sh .f32} [rd : Rd nD τ U X m] {off size : Fin sh.rank → ℕ}
    {inb : ∀ a, off a + size a ≤ sh.size a} {hl} {k} {s : St M Val} {Q : β → St M Val → Prop}
    (h : Ex U defs 𝒱 c bd X (k (VecWindow.window (rd.get s) off size inb)) s Q) :
    Ex U defs 𝒱 c bd X (Prog.lift (.load m (Rect.unit off size inb).toLoadRect hl) >>= k) s Q := by
  obtain ⟨b, s', h1, h2⟩ := h
  refine ⟨b, s', h1, fun E Φ hΦ => ?_⟩
  show _ ⊢ wp _ _ _ (Prog.op (.load m (Rect.unit off size inb).toLoadRect hl) k) _
  iintro H
  ihave H := (rd.split c s) $$ H
  icases H with ⟨HB, HR⟩
  unfold owns
  icases HB with ⟨%f, %hf, HB⟩
  have hw := wp_load (defs := defs) (Γ := .empty) 𝒱 (c : Thread nD τ) bd E (m := m) (r := (Rect.unit off size inb).toLoadRect) (hl := hl) (k := k)
    (S := m.view.set) (q := fullShare) (f := f) (Q := Φ) (m.view.setOn_subset_set _)
  iapply hw $$ HB
  iintro HB
  rw [View.readAt_unit m.view f inb rfl inb, hf]
  iapply (h2 E Φ hΦ)
  iapply HR
  iexists f
  isplitr; · ipureintro; exact hf
  iexact HB

theorem Ex.store {sh : Shape} {m : Memref sig .tc .vmem sh .f32} [wr : Wr nD τ U X m] {off size : Fin sh.rank → ℕ}
    {inb : ∀ a, off a + size a ≤ sh.size a} {w} {hx} {hm} {k : PUnit → Prog (TpuEff nD τ sig Val Λ .tc) β} {s : St M Val} {Q : β → St M Val → Prop}
    (h : Ex U defs 𝒱 c bd X (k ⟨⟩) (wr.set s (VecWindow.put (wr.cur s) off size w)) Q) :
    Ex U defs 𝒱 c bd X (Prog.lift (.store m (Rect.unit off size inb) w Finset.univ hx hm) >>= k) s Q := by
  obtain ⟨b, s', h1, h2⟩ := h
  refine ⟨b, s', h1, fun E Φ hΦ => ?_⟩
  show _ ⊢ wp _ _ _ (Prog.op (.store m (Rect.unit off size inb) w Finset.univ hx hm) k) _
  iintro H
  ihave H := (wr.split c s) $$ H
  icases H with ⟨HB, HR⟩
  unfold owns
  icases HB with ⟨%f, %hf, HB⟩
  have hw := wp_store (defs := defs) (Γ := .empty) 𝒱 (c : Thread nD τ) bd E (m := m) (r := Rect.unit off size inb) (w := w) (hx := hx) (hm := hm) (k := k)
    (S := m.view.set) (f := f) (Q := Φ) (View.set_slice_subset _ _)
  iapply hw $$ HB
  iintro HB
  iapply (h2 E Φ hΦ)
  iapply HR
  iexists _
  isplitr
  swap
  · iexact HB
  · ipureintro
    have := View.read_writes_cons_put m.view f inb w [] rfl
    rw [View.writes_nil, hf] at this
    exact this

/-- A counted loop, by an invariant on the carried values and the state. -/
theorem Ex.for {σ : Type} {w : ℕ} {lb ub st : BitVec w} {hok : Scf.OK lb ub st} {init : σ}
    {body : Fin (Scf.trips lb ub st) → σ → Prog (TpuEff nD τ sig Val Λ .tc) σ} {s : St M Val} {Q : σ → St M Val → Prop}
    (I : ℕ → σ → St M Val → Prop) (h0 : I 0 init s)
    (hstep : ∀ (k : Fin (Scf.trips lb ub st)) acc s, I k acc s → Ex U defs 𝒱 c bd X (body k acc) s (I (k + 1)))
    (hQ : ∀ acc s, I (Scf.trips lb ub st) acc s → Q acc s) :
    Ex U defs 𝒱 c bd X (Scf.for lb ub st hok init body) s Q := by
  rw [Scf.for_eq]
  have key : ∀ (n k : ℕ) (hn : Scf.trips lb ub st - k = n) (hk : k ≤ Scf.trips lb ub st) acc s, I k acc s →
      Ex U defs 𝒱 c bd X (Scf.forFrom body ((List.finRange (Scf.trips lb ub st)).drop k) acc) s Q := by
    intro n
    induction n with
    | zero =>
      intro k hn hk acc s hI
      obtain rfl : k = Scf.trips lb ub st := by omega
      rw [List.drop_of_length_le (by simp), Scf.forFrom_nil]
      exact Ex.ret _ (hQ _ _ hI)
    | succ n ih =>
      intro k hn hk acc s hI
      have hlt : k < Scf.trips lb ub st := by omega
      rw [List.drop_eq_getElem_cons (by simpa using hlt), List.getElem_finRange, Fin.cast_mk, Scf.forFrom_cons]
      exact Ex.bind ((hstep ⟨k, hlt⟩ acc s hI).mono fun a s' h => ih (k + 1) (by omega) (by omega) a s' h)
  exact key _ 0 rfl (Nat.zero_le _) init s h0

/-- Only that the program runs, from any state. -/
theorem Ex.andThen {p : Prog (TpuEff nD τ sig Val Λ .tc) α} {k : α → Prog (TpuEff nD τ sig Val Λ .tc) β} {s : St M Val}
    (h : Ex U defs 𝒱 c bd X p s fun _ _ => True) (hk : ∀ a s', Ex U defs 𝒱 c bd X (k a) s' fun _ _ => True) :
    Ex U defs 𝒱 c bd X (p >>= k) s fun _ _ => True :=
  Ex.bind (h.mono fun a s' _ => hk a s')

theorem Ex.forTrue {σ : Type} {w : ℕ} {lb ub st : BitVec w} {hok : Scf.OK lb ub st} {init : σ}
    {body : Fin (Scf.trips lb ub st) → σ → Prog (TpuEff nD τ sig Val Λ .tc) σ} {s : St M Val}
    (hstep : ∀ (k : Fin (Scf.trips lb ub st)) acc s, Ex U defs 𝒱 c bd X (body k acc) s fun _ _ => True) :
    Ex U defs 𝒱 c bd X (Scf.for lb ub st hok init body) s fun _ _ => True :=
  Ex.for (fun _ _ _ => True) trivial (fun k acc s _ => hstep k acc s) (fun _ _ _ => trivial)

/-- A run used inside an entailment: what the memory is before, what it is after, and a part `R` the run leaves alone. -/
theorem Ex.run {p : Prog (TpuEff nD τ sig Val Λ .tc) α} {P R : sProp 𝕄} {Φ : α → sProp 𝕄} {E : Set ℕ} {Q : α → St M Val → Prop}
    (hrun : ∀ s, Ex U defs 𝒱 c bd X p s Q) (hpre : P ⊢ iprop((∃ s, Own c X s) ∗ R))
    (hpost : ∀ a s, Q a s → iprop(Own c X s ∗ R) ⊢ Φ a) :
    P ⊢ wp frame (wpE defs 𝒱 (c : Thread nD τ) bd) E p Φ := by
  refine hpre.trans ((BI.sep_mono (sProp.exists_elim fun s => ?_) (BI.Entails.refl _)).trans ((wp_frame_r frame (wpE defs 𝒱 (c : Thread nD τ) bd) E
    (Q := fun a => iprop(R -∗ Φ a))).trans (wp_mono frame _ E fun a => BI.wand_elim (BI.Entails.refl _))))
  obtain ⟨a, s', hq, h⟩ := hrun s
  exact h E _ (BI.wand_intro (hpost a s' hq))

end Ex

end Cert.Calc
-- ==== Proof.KernelTotal.lean ====
/-
  The kernel body runs to its end from any contents of its buffers.
-/
module

public import proofs.«01_k».proof.Proof.KernelMems

@[expose] public section

noncomputable section

namespace Cert.Kernel.Hand

open Cert.Kernel Cert.Kernel.Gen Cert.Calc
open Idealize.ShloMosaic Idealize.ShloMosaic.TcCoe
open Idealize.SL Idealize.SL.RA

variable (arg1 : Memref sig .tc .vmem S4x256x512 .f32) (harg1 : arg1.IsWhole)
  (arg2 : Memref sig .tc .vmem S512x2048 .f32) (harg2 : arg2.IsWhole)
  (arg3 : Memref sig .tc .vmem S4x1024 .f32) (harg3 : arg3.IsWhole)
  (arg4 : Memref sig .tc .vmem S1x1024 .f32) (harg4 : arg4.IsWhole)
  (arg5 : Memref sig .tc .vmem S1024x64 .f32) (harg5 : arg5.IsWhole)
  (arg6 : Memref sig .tc .vmem S32x1024 .f32) (harg6 : arg6.IsWhole)
  (arg7 : Memref sig .tc .vmem S1x1024 .f32) (harg7 : arg7.IsWhole)
  (arg8 : Memref sig .tc .vmem S16x1024 .f32) (harg8 : arg8.IsWhole)
  (arg9 : Memref sig .tc .vmem S1x1024 .f32) (harg9 : arg9.IsWhole)
  (arg10 : Memref sig .tc .vmem S1024x512 .f32) (harg10 : arg10.IsWhole)
  (arg11 : Memref sig .tc .vmem S1x512 .f32) (harg11 : arg11.IsWhole)
  (arg12 : Memref sig .tc .vmem S1x512 .f32) (harg12 : arg12.IsWhole)
  (arg13 : Memref sig .tc .vmem S256x16 .f32) (harg13 : arg13.IsWhole)
  (arg14 : Memref sig .tc .vmem S16x256 .f32) (harg14 : arg14.IsWhole)
  (arg15 : Memref sig .tc .vmem S512x2048 .f32) (harg15 : arg15.IsWhole)
  (arg16 : Memref sig .tc .vmem S4x1024 .f32) (harg16 : arg16.IsWhole)
  (arg17 : Memref sig .tc .vmem S1x1024 .f32) (harg17 : arg17.IsWhole)
  (arg18 : Memref sig .tc .vmem S1024x64 .f32) (harg18 : arg18.IsWhole)
  (arg19 : Memref sig .tc .vmem S32x1024 .f32) (harg19 : arg19.IsWhole)
  (arg20 : Memref sig .tc .vmem S1x1024 .f32) (harg20 : arg20.IsWhole)
  (arg21 : Memref sig .tc .vmem S16x1024 .f32) (harg21 : arg21.IsWhole)
  (arg22 : Memref sig .tc .vmem S1x1024 .f32) (harg22 : arg22.IsWhole)
  (arg23 : Memref sig .tc .vmem S1024x512 .f32) (harg23 : arg23.IsWhole)
  (arg24 : Memref sig .tc .vmem S1x512 .f32) (harg24 : arg24.IsWhole)
  (arg25 : Memref sig .tc .vmem S1x512 .f32) (harg25 : arg25.IsWhole)
  (arg26 : Memref sig .tc .vmem S1x512 .f32) (harg26 : arg26.IsWhole)
  (arg27 : Memref sig .tc .vmem S1x512 .f32) (harg27 : arg27.IsWhole)
  (arg28 : Memref sig .tc .vmem S512x2048 .f32) (harg28 : arg28.IsWhole)
  (arg29 : Memref sig .tc .vmem S1x2048 .f32) (harg29 : arg29.IsWhole)
  (arg30 : Memref sig .tc .vmem S2048x512 .f32) (harg30 : arg30.IsWhole)
  (arg31 : Memref sig .tc .vmem S1x512 .f32) (harg31 : arg31.IsWhole)
  (arg32 : Memref sig .tc .vmem S16x256 .f32) (harg32 : arg32.IsWhole)
  (arg33 : Memref sig .tc .vmem S4x256x512 .f32) (harg33 : arg33.IsWhole)
  (arg34 : Memref sig .tc .vmem S256x256 .f32) (harg34 : arg34.IsWhole)
  (arg35 : Memref sig .tc .vmem S1024x512 .f32) (harg35 : arg35.IsWhole)
  (arg36 : Memref sig .tc .vmem S1024x512 .f32) (harg36 : arg36.IsWhole)
  (arg37 : Memref sig .tc .vmem S1024x1024 .f32) (harg37 : arg37.IsWhole)
  (arg38 : Memref sig .tc .vmem S1024x1024 .f32) (harg38 : arg38.IsWhole)
  (arg39 : Memref sig .tc .vmem S1024x1024 .f32) (harg39 : arg39.IsWhole)
  (arg40 : Memref sig .tc .vmem S1024x64 .f32) (harg40 : arg40.IsWhole)
  (arg41 : Memref sig .tc .vmem S16x64x1024 .f32) (harg41 : arg41.IsWhole)
  (arg42 : Memref sig .tc .vmem S16x64x1024 .f32) (harg42 : arg42.IsWhole)
  (arg43 : Memref sig .tc .vmem S64x1024 .f32) (harg43 : arg43.IsWhole)
  (arg44 : Memref sig .tc .vmem S16x1024 .f32) (harg44 : arg44.IsWhole)
  (arg45 : Memref sig .tc .vmem S128x2048 .f32) (harg45 : arg45.IsWhole)
variable {F : FTy → Type} [FloatOps F] {U : Type} [URA U] (𝒱 : Variants) (c : Dev nD) (bd : Option 𝒱.V)

/-- From any contents the body runs to its end. -/
theorem body_total (i : grid0.Coords) (X : Ins (mems arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45) (Elt F)) (s : St (mems arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45) (Elt F)) :
    Ex U (defs₀ (F := F)) 𝒱 c bd X (cc0_medmamba_block (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45) s fun _ _ => True := by
  rw [cc0_medmamba_block_eq_skeleton]
  unfold cc0_medmamba_block_skel
  repeat' first
    | with_reducible exact Ex.ret _ trivial
    | with_reducible refine Ex.load ?_
    | with_reducible refine Ex.store ?_
    | with_reducible refine Ex.andThen ?_ (fun a s => ?_)
    | with_reducible refine Ex.forTrue (fun k acc s => ?_)
    | (rw [k0_part1_eq_skeleton]; unfold k0_part1_skel)
    | (rw [k0_part2_eq_skeleton]; unfold k0_part2_skel)
    | (rw [k0_part3_eq_skeleton]; unfold k0_part3_skel)
    | (rw [k0_part4_eq_skeleton]; unfold k0_part4_skel)
    | (rw [k0_part5_eq_skeleton]; unfold k0_part5_skel)
    | (rw [k0_part6_eq_skeleton]; unfold k0_part6_skel)
    | (rw [k0_part7_eq_skeleton]; unfold k0_part7_skel)
    | (rw [k0_part8_eq_skeleton]; unfold k0_part8_skel)
    | (rw [k0_part9_eq_skeleton]; unfold k0_part9_skel)
    | (rw [k0_part10_eq_skeleton]; unfold k0_part10_skel)
    | (rw [k0_part11_eq_skeleton]; unfold k0_part11_skel)
    | (rw [k0_part12_eq_skeleton]; unfold k0_part12_skel)
    | (rw [k0_part13_eq_skeleton]; unfold k0_part13_skel)
    | (rw [k0_part14_eq_skeleton]; unfold k0_part14_skel)
    | (rw [k0_part15_eq_skeleton]; unfold k0_part15_skel)
    | (rw [k0_part16_eq_skeleton]; unfold k0_part16_skel)
    | (rw [k0_part17_eq_skeleton]; unfold k0_part17_skel)
    | (rw [k0_part18_eq_skeleton]; unfold k0_part18_skel)
    | (rw [k0_part19_eq_skeleton]; unfold k0_part19_skel)
    | (rw [k0_part20_eq_skeleton]; unfold k0_part20_skel)
    | (rw [k0_part21_eq_skeleton]; unfold k0_part21_skel)
    | (rw [k0_part22_eq_skeleton]; unfold k0_part22_skel)
    | (rw [k0_part23_eq_skeleton]; unfold k0_part23_skel)
    | (rw [k0_part24_eq_skeleton]; unfold k0_part24_skel)
    | (rw [k0_part25_eq_skeleton]; unfold k0_part25_skel)
    | (rw [k0_part26_eq_skeleton]; unfold k0_part26_skel)
    | (rw [k0_part27_eq_skeleton]; unfold k0_part27_skel)
    | (rw [k0_part28_eq_skeleton]; unfold k0_part28_skel)
    | (rw [k0_part29_eq_skeleton]; unfold k0_part29_skel)
    | (rw [k0_part30_eq_skeleton]; unfold k0_part30_skel)
    | (rw [k0_part31_eq_skeleton]; unfold k0_part31_skel)
    | (rw [k0_part32_eq_skeleton]; unfold k0_part32_skel)
    | (rw [k0_part33_eq_skeleton]; unfold k0_part33_skel)
    | (rw [k0_part34_eq_skeleton]; unfold k0_part34_skel)
    | (rw [k0_part35_eq_skeleton]; unfold k0_part35_skel)
    | (rw [k0_part36_eq_skeleton]; unfold k0_part36_skel)
    | (rw [k0_part37_eq_skeleton]; unfold k0_part37_skel)
    | (rw [k0_part38_eq_skeleton]; unfold k0_part38_skel)
    | (rw [k0_part39_eq_skeleton]; unfold k0_part39_skel)
    | (rw [k0_part40_eq_skeleton]; unfold k0_part40_skel)
    | (rw [k0_part41_eq_skeleton]; unfold k0_part41_skel)
    | (rw [k0_part42_eq_skeleton]; unfold k0_part42_skel)
    | (rw [k0_part43_eq_skeleton]; unfold k0_part43_skel)
    | (rw [k0_part44_eq_skeleton]; unfold k0_part44_skel)
    | (rw [k0_part45_eq_skeleton]; unfold k0_part45_skel)
    | (rw [k0_part46_eq_skeleton]; unfold k0_part46_skel)
    | (rw [k0_part47_eq_skeleton]; unfold k0_part47_skel)
    | (rw [k0_part48_eq_skeleton]; unfold k0_part48_skel)
    | (rw [k0_part49_eq_skeleton]; unfold k0_part49_skel)
    | (rw [k0_part50_eq_skeleton]; unfold k0_part50_skel)
    | (rw [k0_part51_eq_skeleton]; unfold k0_part51_skel)
    | (rw [k0_part52_eq_skeleton]; unfold k0_part52_skel)
    | (rw [k0_part53_eq_skeleton]; unfold k0_part53_skel)
    | unfold k0_t1_body
    | unfold k0_t2_body
    | unfold k0_t3_body
    | unfold k0_t4_body

end Cert.Kernel.Hand
-- ==== Proof.KernelFrame.lean ====
/-
  The launch of the kernel: eight grid steps, each running the body on its own blocks. What the body leaves in the two output
  windows is not said here; that the launch terminates, faults nowhere, leaves the arguments as they were and every
  semaphore counter at zero is.
-/
module

public import proofs.«01_k».proof.Proof.Gen.Kernel.Frame
public import proofs.«01_k».proof.Proof.Gen.Kernel.Points
public import proofs.«01_k».proof.Proof.KernelTotal
public import Idealize.ShloMosaic.Lib.Pipeline.FrameBody

@[expose] public section

set_option maxHeartbeats 1600000

noncomputable section

namespace Cert.Kernel.Hand

open Cert.Kernel Cert.Kernel.Gen Cert.Calc
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regroup

variable (arg1 : Memref sig .tc .vmem S4x256x512 .f32) (arg2 : Memref sig .tc .vmem S512x2048 .f32) (arg3 : Memref sig .tc .vmem S4x1024 .f32) (arg4 : Memref sig .tc .vmem S1x1024 .f32) (arg5 : Memref sig .tc .vmem S1024x64 .f32) (arg6 : Memref sig .tc .vmem S32x1024 .f32) (arg7 : Memref sig .tc .vmem S1x1024 .f32) (arg8 : Memref sig .tc .vmem S16x1024 .f32) (arg9 : Memref sig .tc .vmem S1x1024 .f32) (arg10 : Memref sig .tc .vmem S1024x512 .f32) (arg11 : Memref sig .tc .vmem S1x512 .f32) (arg12 : Memref sig .tc .vmem S1x512 .f32) (arg13 : Memref sig .tc .vmem S256x16 .f32) (arg14 : Memref sig .tc .vmem S16x256 .f32) (arg15 : Memref sig .tc .vmem S512x2048 .f32) (arg16 : Memref sig .tc .vmem S4x1024 .f32) (arg17 : Memref sig .tc .vmem S1x1024 .f32) (arg18 : Memref sig .tc .vmem S1024x64 .f32) (arg19 : Memref sig .tc .vmem S32x1024 .f32) (arg20 : Memref sig .tc .vmem S1x1024 .f32) (arg21 : Memref sig .tc .vmem S16x1024 .f32) (arg22 : Memref sig .tc .vmem S1x1024 .f32) (arg23 : Memref sig .tc .vmem S1024x512 .f32) (arg24 : Memref sig .tc .vmem S1x512 .f32) (arg25 : Memref sig .tc .vmem S1x512 .f32) (arg26 : Memref sig .tc .vmem S1x512 .f32) (arg27 : Memref sig .tc .vmem S1x512 .f32) (arg28 : Memref sig .tc .vmem S512x2048 .f32) (arg29 : Memref sig .tc .vmem S1x2048 .f32) (arg30 : Memref sig .tc .vmem S2048x512 .f32) (arg31 : Memref sig .tc .vmem S1x512 .f32) (arg32 : Memref sig .tc .vmem S16x256 .f32) (arg33 : Memref sig .tc .vmem S4x256x512 .f32) (arg34 : Memref sig .tc .vmem S256x256 .f32) (arg35 : Memref sig .tc .vmem S1024x512 .f32) (arg36 : Memref sig .tc .vmem S1024x512 .f32) (arg37 : Memref sig .tc .vmem S1024x1024 .f32) (arg38 : Memref sig .tc .vmem S1024x1024 .f32) (arg39 : Memref sig .tc .vmem S1024x1024 .f32) (arg40 : Memref sig .tc .vmem S1024x64 .f32) (arg41 : Memref sig .tc .vmem S16x64x1024 .f32) (arg42 : Memref sig .tc .vmem S16x64x1024 .f32) (arg43 : Memref sig .tc .vmem S64x1024 .f32) (arg44 : Memref sig .tc .vmem S16x1024 .f32) (arg45 : Memref sig .tc .vmem S128x2048 .f32)
variable (x0 : S4x256x512.Idx → Elt F .f32) (x1 : S512x2048.Idx → Elt F .f32) (x2 : S4x1024.Idx → Elt F .f32) (x3 : S1x1024.Idx → Elt F .f32) (x4 : S1024x64.Idx → Elt F .f32) (x5 : S32x1024.Idx → Elt F .f32) (x6 : S1x1024.Idx → Elt F .f32) (x7 : S16x1024.Idx → Elt F .f32) (x8 : S1x1024.Idx → Elt F .f32) (x9 : S1024x512.Idx → Elt F .f32) (x10 : S1x512.Idx → Elt F .f32) (x11 : S1x512.Idx → Elt F .f32) (x12 : S256x16.Idx → Elt F .f32) (x13 : S16x256.Idx → Elt F .f32) (x14 : S512x2048.Idx → Elt F .f32) (x15 : S4x1024.Idx → Elt F .f32) (x16 : S1x1024.Idx → Elt F .f32) (x17 : S1024x64.Idx → Elt F .f32) (x18 : S32x1024.Idx → Elt F .f32) (x19 : S1x1024.Idx → Elt F .f32) (x20 : S16x1024.Idx → Elt F .f32) (x21 : S1x1024.Idx → Elt F .f32) (x22 : S1024x512.Idx → Elt F .f32) (x23 : S1x512.Idx → Elt F .f32) (x24 : S1x512.Idx → Elt F .f32) (x25 : S1x512.Idx → Elt F .f32) (x26 : S1x512.Idx → Elt F .f32) (x27 : S512x2048.Idx → Elt F .f32) (x28 : S1x2048.Idx → Elt F .f32) (x29 : S2048x512.Idx → Elt F .f32) (x30 : S1x512.Idx → Elt F .f32) (x31 : S16x256.Idx → Elt F .f32)
variable (c : Dev nD) (s : St (mems arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45) (Elt F))

/-- What the memrefs only read hold, from the thirty-two blocks. -/
def inps : Ins (mems arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45) (Elt F)
  | .x => x0
  | .dW => x1
  | .dCw => x2
  | .dCb => x3
  | .dXp => x4
  | .dTw => x5
  | .dTb => x6
  | .dA => x7
  | .dD => x8
  | .dO => x9
  | .dLg => x10
  | .dLb => x11
  | .e1 => x12
  | .e2 => x13
  | .gW => x14
  | .gCw => x15
  | .gCb => x16
  | .gXp => x17
  | .gTw => x18
  | .gTb => x19
  | .gA => x20
  | .gD => x21
  | .gO => x22
  | .gLg => x23
  | .gLb => x24
  | .fLg => x25
  | .fLb => x26
  | .w1 => x27
  | .b1 => x28
  | .w2 => x29
  | .b2 => x30
  | .mask => x31

/-- The written buffers' contents from the thirteen of them. -/
def bufs (d32 : S4x256x512.Idx → Elt F .f32) (d33 : S256x256.Idx → Elt F .f32) (f0 : S1024x512.Idx → Elt F .f32) (f1 : S1024x512.Idx → Elt F .f32) (f2 : S1024x1024.Idx → Elt F .f32) (f3 : S1024x1024.Idx → Elt F .f32) (f4 : S1024x1024.Idx → Elt F .f32) (f5 : S1024x64.Idx → Elt F .f32) (f6 : S16x64x1024.Idx → Elt F .f32) (f7 : S16x64x1024.Idx → Elt F .f32) (f8 : S64x1024.Idx → Elt F .f32) (f9 : S16x1024.Idx → Elt F .f32) (f10 : S128x2048.Idx → Elt F .f32) : St (mems arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45) (Elt F)
  | .out => d32
  | .adj => d33
  | .sx => f0
  | .t1 => f1
  | .u => f2
  | .uc => f3
  | .dt => f4
  | .bc => f5
  | .da => f6
  | .du => f7
  | .h => f8
  | .ea => f9
  | .ffn => f10

theorem own_chain : (Own c (inps arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 x0 x1 x2 x3 x4 x5 x6 x7 x8 x9 x10 x11 x12 x13 x14 x15 x16 x17 x18 x19 x20 x21 x22 x23 x24 x25 x26 x27 x28 x29 x30 x31) s : sProp 𝕄) = iprop((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31) ∗ (owns (c : Thread nD τ) arg33 fullShare (s .out) ∗ owns (c : Thread nD τ) arg34 fullShare (s .adj) ∗ owns (c : Thread nD τ) arg35 fullShare (s .sx) ∗ owns (c : Thread nD τ) arg36 fullShare (s .t1) ∗ owns (c : Thread nD τ) arg37 fullShare (s .u) ∗ owns (c : Thread nD τ) arg38 fullShare (s .uc) ∗ owns (c : Thread nD τ) arg39 fullShare (s .dt) ∗ owns (c : Thread nD τ) arg40 fullShare (s .bc) ∗ owns (c : Thread nD τ) arg41 fullShare (s .da) ∗ owns (c : Thread nD τ) arg42 fullShare (s .du) ∗ owns (c : Thread nD τ) arg43 fullShare (s .h) ∗ owns (c : Thread nD τ) arg44 fullShare (s .ea) ∗ owns (c : Thread nD τ) arg45 fullShare (s .ffn))) := by
  unfold Own
  rw [BI.bigSep_eq_bigSepL_of_eq allIn (by decide) (by decide), BI.bigSep_eq_bigSepL_of_eq allBf (by decide) (by decide)]
  rfl

/-- The pieces a launch hands the body, regrouped: inputs, buffers, and what the body does not touch. -/
theorem gather {δ0 δ1 : Type} (y0 : δ0 → S4x256x512.Idx → Elt F .f32) (y1 : δ1 → S256x256.Idx → Elt F .f32) (g O : sProp 𝕄) :
    iprop((((∃ f, owns (c : Thread nD τ) arg35 fullShare f) ∗ (∃ f, owns (c : Thread nD τ) arg36 fullShare f) ∗ (∃ f, owns (c : Thread nD τ) arg37 fullShare f) ∗ (∃ f, owns (c : Thread nD τ) arg38 fullShare f) ∗ (∃ f, owns (c : Thread nD τ) arg39 fullShare f) ∗ (∃ f, owns (c : Thread nD τ) arg40 fullShare f) ∗ (∃ f, owns (c : Thread nD τ) arg41 fullShare f) ∗ (∃ f, owns (c : Thread nD τ) arg42 fullShare f) ∗ (∃ f, owns (c : Thread nD τ) arg43 fullShare f) ∗ (∃ f, owns (c : Thread nD τ) arg44 fullShare f) ∗ (∃ f, owns (c : Thread nD τ) arg45 fullShare f)) ∗ g) ∗ O ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ (∃ d, owns (c : Thread nD τ) arg33 fullShare (y0 d)) ∗ (∃ d, owns (c : Thread nD τ) arg34 fullShare (y1 d)))
      ⊢ iprop((∃ s, Own c (inps arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 x0 x1 x2 x3 x4 x5 x6 x7 x8 x9 x10 x11 x12 x13 x14 x15 x16 x17 x18 x19 x20 x21 x22 x23 x24 x25 x26 x27 x28 x29 x30 x31) s) ∗ (g ∗ O)) := by
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩⟩, Hg⟩, HO, H0, H1, H2, H3, H4, H5, H6, H7, H8, H9, H10, H11, H12, H13, H14, H15, H16, H17, H18, H19, H20, H21, H22, H23, H24, H25, H26, H27, H28, H29, H30, H31, ⟨%d32, H32⟩, ⟨%d33, H33⟩⟩
  isplitr [Hg HO]
  swap
  · isplitl [Hg]; · iexact Hg
    iexact HO
  iexists (bufs arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 (y0 d32) (y1 d33) f0 f1 f2 f3 f4 f5 f6 f7 f8 f9 f10)
  rw [own_chain]
  simp only [bufs]
  isplitl [H0 H1 H2 H3 H4 H5 H6 H7 H8 H9 H10 H11 H12 H13 H14 H15 H16 H17 H18 H19 H20 H21 H22 H23 H24 H25 H26 H27 H28 H29 H30 H31]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    iexact H31
  isplitl [H32]; · iexact H32
  isplitl [H33]; · iexact H33
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iexact S10

/-- A block known whatever was there before. -/
theorem known {S : Shape} {mr : Memref sig .tc .vmem S .f32} {δ : Type} {f : δ → S.Idx → Elt F .f32} {x : S.Idx → Elt F .f32} (h : ∀ d, f d = x) :
    (iprop(∃ d, owns (c : Thread nD τ) mr fullShare (f d)) : sProp 𝕄) ⊢ owns (c : Thread nD τ) mr fullShare x := by
  iintro ⟨%d, H⟩
  rw [h d]
  iexact H

/-- Contents of which nothing is said any more. -/
theorem forgotten {S : Shape} {mr : Memref sig .tc .vmem S .f32} (x : S.Idx → Elt F .f32) :
    owns (c : Thread nD τ) mr fullShare x ⊢ (iprop(∃ d, owns (c : Thread nD τ) mr fullShare d) : sProp 𝕄) := by
  iintro H
  iexists x; iexact H

/-- The pieces after the body, handed back. -/
theorem scatter (g O z0 z1 : sProp 𝕄) (h0 : owns (c : Thread nD τ) arg33 fullShare (s .out) ⊢ z0) (h1 : owns (c : Thread nD τ) arg34 fullShare (s .adj) ⊢ z1) :
    iprop(Own c (inps arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 x0 x1 x2 x3 x4 x5 x6 x7 x8 x9 x10 x11 x12 x13 x14 x15 x16 x17 x18 x19 x20 x21 x22 x23 x24 x25 x26 x27 x28 x29 x30 x31) s ∗ (g ∗ O)) ⊢
      iprop((((∃ f, owns (c : Thread nD τ) arg35 fullShare f) ∗ (∃ f, owns (c : Thread nD τ) arg36 fullShare f) ∗ (∃ f, owns (c : Thread nD τ) arg37 fullShare f) ∗ (∃ f, owns (c : Thread nD τ) arg38 fullShare f) ∗ (∃ f, owns (c : Thread nD τ) arg39 fullShare f) ∗ (∃ f, owns (c : Thread nD τ) arg40 fullShare f) ∗ (∃ f, owns (c : Thread nD τ) arg41 fullShare f) ∗ (∃ f, owns (c : Thread nD τ) arg42 fullShare f) ∗ (∃ f, owns (c : Thread nD τ) arg43 fullShare f) ∗ (∃ f, owns (c : Thread nD τ) arg44 fullShare f) ∗ (∃ f, owns (c : Thread nD τ) arg45 fullShare f)) ∗ g) ∗ O ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ z0 ∗ z1) := by
  rw [own_chain]
  iintro ⟨⟨⟨H0, H1, H2, H3, H4, H5, H6, H7, H8, H9, H10, H11, H12, H13, H14, H15, H16, H17, H18, H19, H20, H21, H22, H23, H24, H25, H26, H27, H28, H29, H30, H31⟩, H32, H33, S0, S1, S2, S3, S4, S5, S6, S7, S8, S9, S10⟩, Hg, HO⟩
  isplitl [Hg S0 S1 S2 S3 S4 S5 S6 S7 S8 S9 S10]
  · isplitr [Hg]
    swap
    · iexact Hg
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    iexists _; iexact S10
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iapply h0; iexact H32
  iapply h1; iexact H33

end Regroup

variable (m : (ℓ : Loc nD τ sig) → Buf (Elt F) ℓ) (ρ : Dev nD → PrngReg)

/-- The two output windows, of which nothing is said. -/
def fgt : Fin cfg0.W → Bool := fun w => decide (32 ≤ w.val)

/-- The proof data: the arrays as the launch finds them, an input window's buffer after the body still its block. -/
def dats (_ : Fin 1) (c : Dev nD) : Dat τ (Elt F) Unit ℕ (UR sig nD τ) ℕ cfg0 c where
  A w := V m c (Pipeline.arrRef spec0 w)
  after w t := (cfg0.win w).fill (cfg0.grid.coords t) (fun _ => Classical.arbitrary _) (iblk m c w t)
  Φ _ := Pipeline.ΦA spec0 c
  q _ := fullShare
  owed _ := 0

theorem idle0 (w : Fin cfg0.W) (i : cfg0.grid.Coords) : cfg0.idle w i = false := rfl
theorem loose0 (w : Fin cfg0.W) : cfg0.loose w = false := rfl

/-- No window's block is cut at the array's edge. -/
theorem uncut (w : Fin cfg0.W) (i : cfg0.grid.Coords) (a) : (cfg0.win w).clip i a = none := by
  fin_cases w <;> first | rfl | (intro a; rfl)

/-- An input window's buffer holds its block at every point, before the body as after it. -/
theorem before_eq (c : Dev nD) (w : Fin cfg0.W) (hw : (cfg0.win w).isOut = false) (t : Fin cfg0.N) (d) :
    (dats m 0 c).before w t d = (dats m 0 c).after w t :=
  ((dats m 0 c).before_in_eq_fetched w hw (fun _ => rfl) (fun t t' _ => by funext a; rw [uncut, uncut])
    (fun t => by exact (cfg0.win w).cut_fill _ _ _) t d).trans
    (Pipeline.fill_of_clip_none w _ (uncut w _) _ _ _)

set_option backward.isDefEq.respectTransparency.types false in
set_option maxRecDepth 100000 in
/-- The body at every grid point keeps the launch's account. -/
theorem body_obl (c : Dev nD) : Pipeline.BodyObligationLoose (dats m 0 c) (defs₀ (F := F)) Variants.none () Set.univ fgt := by
  intro t
  rw [bigSep_W0, bigSep_W0]
  simp only [show fgt 0 = false from rfl, show fgt 1 = false from rfl, show fgt 2 = false from rfl, show fgt 3 = false from rfl, show fgt 4 = false from rfl, show fgt 5 = false from rfl, show fgt 6 = false from rfl, show fgt 7 = false from rfl, show fgt 8 = false from rfl, show fgt 9 = false from rfl, show fgt 10 = false from rfl, show fgt 11 = false from rfl, show fgt 12 = false from rfl, show fgt 13 = false from rfl, show fgt 14 = false from rfl, show fgt 15 = false from rfl, show fgt 16 = false from rfl, show fgt 17 = false from rfl, show fgt 18 = false from rfl, show fgt 19 = false from rfl, show fgt 20 = false from rfl, show fgt 21 = false from rfl, show fgt 22 = false from rfl, show fgt 23 = false from rfl, show fgt 24 = false from rfl, show fgt 25 = false from rfl, show fgt 26 = false from rfl, show fgt 27 = false from rfl, show fgt 28 = false from rfl, show fgt 29 = false from rfl, show fgt 30 = false from rfl, show fgt 31 = false from rfl, show fgt 32 = true from rfl, show fgt 33 = true from rfl, idle0, loose0]
  rw [show (dats m 0 c).Φ t.castSucc = iprop(Pipeline.scopedRest spec0 c ∗ ∃ r, prngReg c r) from rfl, show (dats m 0 c).Φ t.succ = iprop(Pipeline.scopedRest spec0 c ∗ ∃ r, prngReg c r) from rfl, scopedRest0_eq]
  have hb := Ex.run (M := mems (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (st0_23 t) (st0_24 t) (st0_25 t) (st0_26 t) (st0_27 t) (st0_28 t) (st0_29 t) (st0_30 t) (st0_31 t) (st0_32 t) (st0_33 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10)) (X := inps (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (st0_23 t) (st0_24 t) (st0_25 t) (st0_26 t) (st0_27 t) (st0_28 t) (st0_29 t) (st0_30 t) (st0_31 t) (st0_32 t) (st0_33 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) ((dats m 0 c).after 0 t) ((dats m 0 c).after 1 t) ((dats m 0 c).after 2 t) ((dats m 0 c).after 3 t) ((dats m 0 c).after 4 t) ((dats m 0 c).after 5 t) ((dats m 0 c).after 6 t) ((dats m 0 c).after 7 t) ((dats m 0 c).after 8 t) ((dats m 0 c).after 9 t) ((dats m 0 c).after 10 t) ((dats m 0 c).after 11 t) ((dats m 0 c).after 12 t) ((dats m 0 c).after 13 t) ((dats m 0 c).after 14 t) ((dats m 0 c).after 15 t) ((dats m 0 c).after 16 t) ((dats m 0 c).after 17 t) ((dats m 0 c).after 18 t) ((dats m 0 c).after 19 t) ((dats m 0 c).after 20 t) ((dats m 0 c).after 21 t) ((dats m 0 c).after 22 t) ((dats m 0 c).after 23 t) ((dats m 0 c).after 24 t) ((dats m 0 c).after 25 t) ((dats m 0 c).after 26 t) ((dats m 0 c).after 27 t) ((dats m 0 c).after 28 t) ((dats m 0 c).after 29 t) ((dats m 0 c).after 30 t) ((dats m 0 c).after 31 t)) (c := c) (E := Set.univ) (fun s => body_total (U := UR sig nD τ) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) (st0_21 t) (hstage0_21 ((cfg0.slots t 21).cast nbuf0_21)) (st0_22 t) (hstage0_22 ((cfg0.slots t 22).cast nbuf0_22)) (st0_23 t) (hstage0_23 ((cfg0.slots t 23).cast nbuf0_23)) (st0_24 t) (hstage0_24 ((cfg0.slots t 24).cast nbuf0_24)) (st0_25 t) (hstage0_25 ((cfg0.slots t 25).cast nbuf0_25)) (st0_26 t) (hstage0_26 ((cfg0.slots t 26).cast nbuf0_26)) (st0_27 t) (hstage0_27 ((cfg0.slots t 27).cast nbuf0_27)) (st0_28 t) (hstage0_28 ((cfg0.slots t 28).cast nbuf0_28)) (st0_29 t) (hstage0_29 ((cfg0.slots t 29).cast nbuf0_29)) (st0_30 t) (hstage0_30 ((cfg0.slots t 30).cast nbuf0_30)) (st0_31 t) (hstage0_31 ((cfg0.slots t 31).cast nbuf0_31)) (st0_32 t) (hstage0_32 ((cfg0.slots t 32).cast nbuf0_32)) (st0_33 t) (hstage0_33 ((cfg0.slots t 33).cast nbuf0_33)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) Variants.none c none (grid0.coords t)
    (inps (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (st0_23 t) (st0_24 t) (st0_25 t) (st0_26 t) (st0_27 t) (st0_28 t) (st0_29 t) (st0_30 t) (st0_31 t) (st0_32 t) (st0_33 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) ((dats m 0 c).after 0 t) ((dats m 0 c).after 1 t) ((dats m 0 c).after 2 t) ((dats m 0 c).after 3 t) ((dats m 0 c).after 4 t) ((dats m 0 c).after 5 t) ((dats m 0 c).after 6 t) ((dats m 0 c).after 7 t) ((dats m 0 c).after 8 t) ((dats m 0 c).after 9 t) ((dats m 0 c).after 10 t) ((dats m 0 c).after 11 t) ((dats m 0 c).after 12 t) ((dats m 0 c).after 13 t) ((dats m 0 c).after 14 t) ((dats m 0 c).after 15 t) ((dats m 0 c).after 16 t) ((dats m 0 c).after 17 t) ((dats m 0 c).after 18 t) ((dats m 0 c).after 19 t) ((dats m 0 c).after 20 t) ((dats m 0 c).after 21 t) ((dats m 0 c).after 22 t) ((dats m 0 c).after 23 t) ((dats m 0 c).after 24 t) ((dats m 0 c).after 25 t) ((dats m 0 c).after 26 t) ((dats m 0 c).after 27 t) ((dats m 0 c).after 28 t) ((dats m 0 c).after 29 t) ((dats m 0 c).after 30 t) ((dats m 0 c).after 31 t)) s)
    (gather (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (st0_23 t) (st0_24 t) (st0_25 t) (st0_26 t) (st0_27 t) (st0_28 t) (st0_29 t) (st0_30 t) (st0_31 t) (st0_32 t) (st0_33 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) ((dats m 0 c).after 0 t) ((dats m 0 c).after 1 t) ((dats m 0 c).after 2 t) ((dats m 0 c).after 3 t) ((dats m 0 c).after 4 t) ((dats m 0 c).after 5 t) ((dats m 0 c).after 6 t) ((dats m 0 c).after 7 t) ((dats m 0 c).after 8 t) ((dats m 0 c).after 9 t) ((dats m 0 c).after 10 t) ((dats m 0 c).after 11 t) ((dats m 0 c).after 12 t) ((dats m 0 c).after 13 t) ((dats m 0 c).after 14 t) ((dats m 0 c).after 15 t) ((dats m 0 c).after 16 t) ((dats m 0 c).after 17 t) ((dats m 0 c).after 18 t) ((dats m 0 c).after 19 t) ((dats m 0 c).after 20 t) ((dats m 0 c).after 21 t) ((dats m 0 c).after 22 t) ((dats m 0 c).after 23 t) ((dats m 0 c).after 24 t) ((dats m 0 c).after 25 t) ((dats m 0 c).after 26 t) ((dats m 0 c).after 27 t) ((dats m 0 c).after 28 t) ((dats m 0 c).after 29 t) ((dats m 0 c).after 30 t) ((dats m 0 c).after 31 t) c (fun d => d) (fun d => d) iprop(∃ r, prngReg c r) ((dats m 0 c).owesAt () t.castSucc))
    (fun _ s _ => scatter (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (st0_23 t) (st0_24 t) (st0_25 t) (st0_26 t) (st0_27 t) (st0_28 t) (st0_29 t) (st0_30 t) (st0_31 t) (st0_32 t) (st0_33 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) ((dats m 0 c).after 0 t) ((dats m 0 c).after 1 t) ((dats m 0 c).after 2 t) ((dats m 0 c).after 3 t) ((dats m 0 c).after 4 t) ((dats m 0 c).after 5 t) ((dats m 0 c).after 6 t) ((dats m 0 c).after 7 t) ((dats m 0 c).after 8 t) ((dats m 0 c).after 9 t) ((dats m 0 c).after 10 t) ((dats m 0 c).after 11 t) ((dats m 0 c).after 12 t) ((dats m 0 c).after 13 t) ((dats m 0 c).after 14 t) ((dats m 0 c).after 15 t) ((dats m 0 c).after 16 t) ((dats m 0 c).after 17 t) ((dats m 0 c).after 18 t) ((dats m 0 c).after 19 t) ((dats m 0 c).after 20 t) ((dats m 0 c).after 21 t) ((dats m 0 c).after 22 t) ((dats m 0 c).after 23 t) ((dats m 0 c).after 24 t) ((dats m 0 c).after 25 t) ((dats m 0 c).after 26 t) ((dats m 0 c).after 27 t) ((dats m 0 c).after 28 t) ((dats m 0 c).after 29 t) ((dats m 0 c).after 30 t) ((dats m 0 c).after 31 t) c s iprop(∃ r, prngReg c r) ((dats m 0 c).owesAt () t.castSucc) _ _ (forgotten c _) (forgotten c _))
  simp only [owns_whole] at hb
  refine triple_restated hb rfl ?_ ?_
  · simp only [before_eq m c 0 rfl, before_eq m c 1 rfl, before_eq m c 2 rfl, before_eq m c 3 rfl, before_eq m c 4 rfl, before_eq m c 5 rfl, before_eq m c 6 rfl, before_eq m c 7 rfl, before_eq m c 8 rfl, before_eq m c 9 rfl, before_eq m c 10 rfl, before_eq m c 11 rfl, before_eq m c 12 rfl, before_eq m c 13 rfl, before_eq m c 14 rfl, before_eq m c 15 rfl, before_eq m c 16 rfl, before_eq m c 17 rfl, before_eq m c 18 rfl, before_eq m c 19 rfl, before_eq m c 20 rfl, before_eq m c 21 rfl, before_eq m c 22 rfl, before_eq m c 23 rfl, before_eq m c 24 rfl, before_eq m c 25 rfl, before_eq m c 26 rfl, before_eq m c 27 rfl, before_eq m c 28 rfl, before_eq m c 29 rfl, before_eq m c 30 rfl, before_eq m c 31 rfl]
    exact BI.sep_mono (BI.Entails.refl _) (BI.sep_mono (BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.sProp.exists_elim fun _ => BI.Entails.refl _)
      (BI.sep_mono (BI.Entails.refl _)
      (BI.Entails.refl _)))))))))))))))))))))))))))))))))))
  · intro _
    exact BI.sep_mono (BI.Entails.refl _) (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.sep_mono (BI.Entails.refl _)
      (BI.Entails.refl _)))))))))))))))))))))))))))))))))))

set_option backward.isDefEq.respectTransparency.types false in
/-- Running the launch: it ends, the windows' arrays are accounted for, and every counter is at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => body_obl m c) (hshare := fun c => (dats m 0 c).share_full fun _ => rfl)
    (howed := fun _ _ => rfl) (V := V m) (hmain := hmain m Variants.none) (hA := fun _ _ => rfl) (hΦ := fun _ _ => rfl) (hQ' := fun _ h => h)

/-- The kernel terminates without a fault and leaves its arguments and the semaphore counters as they were. -/
theorem quiescent : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) ∧ r.2.sem = fun _ => 0) :=
  (θ_run defs _ _).mono (fun _ h => ⟨fun c => ⟨(h.1.arr_in c 0 rfl).trans (V_main_arg0 m c),
      (h.1.arr_in c 1 rfl).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      (h.1.arr_in c 4 rfl).trans (V_main_arg4 m c),
      (h.1.arr_in c 5 rfl).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      (h.1.arr_in c 9 rfl).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      (h.1.arr_in c 12 rfl).trans (V_main_arg12 m c),
      ((h.1 c).2 main_arg13 (Pipeline.mem_restRefs_of main_arg13 (by decide) (by decide))).trans (V_main_arg13 m c),
      (h.1.arr_in c 14 rfl).trans (V_main_arg14 m c),
      ((h.1 c).2 main_arg15 (Pipeline.mem_restRefs_of main_arg15 (by decide) (by decide))).trans (V_main_arg15 m c),
      ((h.1 c).2 main_arg16 (Pipeline.mem_restRefs_of main_arg16 (by decide) (by decide))).trans (V_main_arg16 m c),
      (h.1.arr_in c 17 rfl).trans (V_main_arg17 m c),
      (h.1.arr_in c 18 rfl).trans (V_main_arg18 m c),
      ((h.1 c).2 main_arg19 (Pipeline.mem_restRefs_of main_arg19 (by decide) (by decide))).trans (V_main_arg19 m c),
      ((h.1 c).2 main_arg20 (Pipeline.mem_restRefs_of main_arg20 (by decide) (by decide))).trans (V_main_arg20 m c),
      ((h.1 c).2 main_arg21 (Pipeline.mem_restRefs_of main_arg21 (by decide) (by decide))).trans (V_main_arg21 m c),
      (h.1.arr_in c 22 rfl).trans (V_main_arg22 m c),
      ((h.1 c).2 main_arg23 (Pipeline.mem_restRefs_of main_arg23 (by decide) (by decide))).trans (V_main_arg23 m c),
      ((h.1 c).2 main_arg24 (Pipeline.mem_restRefs_of main_arg24 (by decide) (by decide))).trans (V_main_arg24 m c),
      ((h.1 c).2 main_arg25 (Pipeline.mem_restRefs_of main_arg25 (by decide) (by decide))).trans (V_main_arg25 m c),
      ((h.1 c).2 main_arg26 (Pipeline.mem_restRefs_of main_arg26 (by decide) (by decide))).trans (V_main_arg26 m c),
      (h.1.arr_in c 27 rfl).trans (V_main_arg27 m c),
      ((h.1 c).2 main_arg28 (Pipeline.mem_restRefs_of main_arg28 (by decide) (by decide))).trans (V_main_arg28 m c),
      (h.1.arr_in c 29 rfl).trans (V_main_arg29 m c),
      ((h.1 c).2 main_arg30 (Pipeline.mem_restRefs_of main_arg30 (by decide) (by decide))).trans (V_main_arg30 m c)⟩, h.2⟩) (run_main m ρ)

end Cert.Kernel.Hand
-- ==== Proof.KernelIdealMems.lean ====
/-
  The memrefs of the kernel body as one family: its 32 input windows are only read, its two output windows and its eleven
  scratch buffers are written. Also the instances by which a load or a store finds the memref it goes through.
-/
module

public import proofs.«01_k».proof.Proof.Gen.KernelIdeal.Skeleton
public import proofs.«01_k».proof.Proof.Gen.KernelIdeal.Launch
public import proofs.«01_k».proof.Proof.Calc

@[expose] public section

noncomputable section

namespace Cert.KernelIdeal.Hand

open Cert.KernelIdeal Cert.KernelIdeal.Gen Cert.Calc
open Idealize.ShloMosaic Idealize.ShloMosaic.TcCoe
open Idealize.SL Idealize.SL.RA

variable (arg1 : Memref sig .tc .vmem S4x256x512 .f32) (arg2 : Memref sig .tc .vmem S512x2048 .f32) (arg3 : Memref sig .tc .vmem S4x1024 .f32)
  (arg4 : Memref sig .tc .vmem S1x1024 .f32) (arg5 : Memref sig .tc .vmem S1024x64 .f32) (arg6 : Memref sig .tc .vmem S32x1024 .f32)
  (arg7 : Memref sig .tc .vmem S1x1024 .f32) (arg8 : Memref sig .tc .vmem S16x1024 .f32) (arg9 : Memref sig .tc .vmem S1x1024 .f32)
  (arg10 : Memref sig .tc .vmem S1024x512 .f32) (arg11 : Memref sig .tc .vmem S1x512 .f32) (arg12 : Memref sig .tc .vmem S1x512 .f32)
  (arg13 : Memref sig .tc .vmem S256x16 .f32) (arg14 : Memref sig .tc .vmem S16x256 .f32) (arg15 : Memref sig .tc .vmem S512x2048 .f32)
  (arg16 : Memref sig .tc .vmem S4x1024 .f32) (arg17 : Memref sig .tc .vmem S1x1024 .f32) (arg18 : Memref sig .tc .vmem S1024x64 .f32)
  (arg19 : Memref sig .tc .vmem S32x1024 .f32) (arg20 : Memref sig .tc .vmem S1x1024 .f32) (arg21 : Memref sig .tc .vmem S16x1024 .f32)
  (arg22 : Memref sig .tc .vmem S1x1024 .f32) (arg23 : Memref sig .tc .vmem S1024x512 .f32) (arg24 : Memref sig .tc .vmem S1x512 .f32)
  (arg25 : Memref sig .tc .vmem S1x512 .f32) (arg26 : Memref sig .tc .vmem S1x512 .f32) (arg27 : Memref sig .tc .vmem S1x512 .f32)
  (arg28 : Memref sig .tc .vmem S512x2048 .f32) (arg29 : Memref sig .tc .vmem S1x2048 .f32) (arg30 : Memref sig .tc .vmem S2048x512 .f32)
  (arg31 : Memref sig .tc .vmem S1x512 .f32) (arg32 : Memref sig .tc .vmem S16x256 .f32) (arg33 : Memref sig .tc .vmem S4x256x512 .f32)
  (arg34 : Memref sig .tc .vmem S256x256 .f32) (arg35 : Memref sig .tc .vmem S1024x512 .f32) (arg36 : Memref sig .tc .vmem S1024x512 .f32)
  (arg37 : Memref sig .tc .vmem S1024x1024 .f32) (arg38 : Memref sig .tc .vmem S1024x1024 .f32) (arg39 : Memref sig .tc .vmem S1024x1024 .f32)
  (arg40 : Memref sig .tc .vmem S1024x64 .f32) (arg41 : Memref sig .tc .vmem S16x64x1024 .f32) (arg42 : Memref sig .tc .vmem S16x64x1024 .f32)
  (arg43 : Memref sig .tc .vmem S64x1024 .f32) (arg44 : Memref sig .tc .vmem S16x1024 .f32) (arg45 : Memref sig .tc .vmem S128x2048 .f32)

/-- The memrefs that are only read: the step's block of x, the weights of the first state space model, the two embeddings, the
    weights of the second, those of the feed-forward layer, the mask that picks a step's own states. -/
inductive In | x | dW | dCw | dCb | dXp | dTw | dTb | dA | dD | dO | dLg | dLb | e1 | e2 | gW | gCw | gCb | gXp | gTw | gTb | gA | gD | gO | gLg | gLb | fLg | fLb | w1 | b1 | w2 | b2 | mask
  deriving DecidableEq

/-- The memrefs that are written: the two outputs, and the scratch buffers in the kernel's order. -/
inductive Bf | out | adj | sx | t1 | u | uc | dt | bc | da | du | h | ea | ffn
  deriving DecidableEq

/-- All of them, in order. -/
def allIn : List In := [.x, .dW, .dCw, .dCb, .dXp, .dTw, .dTb, .dA, .dD, .dO, .dLg, .dLb, .e1, .e2, .gW, .gCw, .gCb, .gXp, .gTw, .gTb, .gA, .gD, .gO, .gLg, .gLb, .fLg, .fLb, .w1, .b1, .w2, .b2, .mask]
instance : Fintype In := ⟨⟨allIn, by decide⟩, fun a => by cases a <;> decide⟩

/-- All of them, in order. -/
def allBf : List Bf := [.out, .adj, .sx, .t1, .u, .uc, .dt, .bc, .da, .du, .h, .ea, .ffn]
instance : Fintype Bf := ⟨⟨allBf, by decide⟩, fun a => by cases a <;> decide⟩

/-- The shapes of the memrefs that are only read. -/
abbrev shA : In → Shape
  | .x => S4x256x512
  | .dW => S512x2048
  | .dCw => S4x1024
  | .dCb => S1x1024
  | .dXp => S1024x64
  | .dTw => S32x1024
  | .dTb => S1x1024
  | .dA => S16x1024
  | .dD => S1x1024
  | .dO => S1024x512
  | .dLg => S1x512
  | .dLb => S1x512
  | .e1 => S256x16
  | .e2 => S16x256
  | .gW => S512x2048
  | .gCw => S4x1024
  | .gCb => S1x1024
  | .gXp => S1024x64
  | .gTw => S32x1024
  | .gTb => S1x1024
  | .gA => S16x1024
  | .gD => S1x1024
  | .gO => S1024x512
  | .gLg => S1x512
  | .gLb => S1x512
  | .fLg => S1x512
  | .fLb => S1x512
  | .w1 => S512x2048
  | .b1 => S1x2048
  | .w2 => S2048x512
  | .b2 => S1x512
  | .mask => S16x256
/-- The shapes of the memrefs that are written. -/
abbrev shB : Bf → Shape
  | .out => S4x256x512
  | .adj => S256x256
  | .sx => S1024x512
  | .t1 => S1024x512
  | .u => S1024x1024
  | .uc => S1024x1024
  | .dt => S1024x1024
  | .bc => S1024x64
  | .da => S16x64x1024
  | .du => S16x64x1024
  | .h => S64x1024
  | .ea => S16x1024
  | .ffn => S128x2048
/-- The body's memrefs. -/
abbrev mems : Mems sig In Bf where
  SA := shA
  A := fun
    | .x => arg1
    | .dW => arg2
    | .dCw => arg3
    | .dCb => arg4
    | .dXp => arg5
    | .dTw => arg6
    | .dTb => arg7
    | .dA => arg8
    | .dD => arg9
    | .dO => arg10
    | .dLg => arg11
    | .dLb => arg12
    | .e1 => arg13
    | .e2 => arg14
    | .gW => arg15
    | .gCw => arg16
    | .gCb => arg17
    | .gXp => arg18
    | .gTw => arg19
    | .gTb => arg20
    | .gA => arg21
    | .gD => arg22
    | .gO => arg23
    | .gLg => arg24
    | .gLb => arg25
    | .fLg => arg26
    | .fLb => arg27
    | .w1 => arg28
    | .b1 => arg29
    | .w2 => arg30
    | .b2 => arg31
    | .mask => arg32
  SB := shB
  B := fun
    | .out => arg33
    | .adj => arg34
    | .sx => arg35
    | .t1 => arg36
    | .u => arg37
    | .uc => arg38
    | .dt => arg39
    | .bc => arg40
    | .da => arg41
    | .du => arg42
    | .h => arg43
    | .ea => arg44
    | .ffn => arg45

section Instances

variable {F : FTy → Type} [FloatOps F] [Named F] {U : Type} [URA U]

variable (X : Ins (mems arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45) (Elt F))

instance : Rd nD τ U X arg1 := rdA X .x
instance : Rd nD τ U X arg2 := rdA X .dW
instance : Rd nD τ U X arg3 := rdA X .dCw
instance : Rd nD τ U X arg4 := rdA X .dCb
instance : Rd nD τ U X arg5 := rdA X .dXp
instance : Rd nD τ U X arg6 := rdA X .dTw
instance : Rd nD τ U X arg7 := rdA X .dTb
instance : Rd nD τ U X arg8 := rdA X .dA
instance : Rd nD τ U X arg9 := rdA X .dD
instance : Rd nD τ U X arg10 := rdA X .dO
instance : Rd nD τ U X arg11 := rdA X .dLg
instance : Rd nD τ U X arg12 := rdA X .dLb
instance : Rd nD τ U X arg13 := rdA X .e1
instance : Rd nD τ U X arg14 := rdA X .e2
instance : Rd nD τ U X arg15 := rdA X .gW
instance : Rd nD τ U X arg16 := rdA X .gCw
instance : Rd nD τ U X arg17 := rdA X .gCb
instance : Rd nD τ U X arg18 := rdA X .gXp
instance : Rd nD τ U X arg19 := rdA X .gTw
instance : Rd nD τ U X arg20 := rdA X .gTb
instance : Rd nD τ U X arg21 := rdA X .gA
instance : Rd nD τ U X arg22 := rdA X .gD
instance : Rd nD τ U X arg23 := rdA X .gO
instance : Rd nD τ U X arg24 := rdA X .gLg
instance : Rd nD τ U X arg25 := rdA X .gLb
instance : Rd nD τ U X arg26 := rdA X .fLg
instance : Rd nD τ U X arg27 := rdA X .fLb
instance : Rd nD τ U X arg28 := rdA X .w1
instance : Rd nD τ U X arg29 := rdA X .b1
instance : Rd nD τ U X arg30 := rdA X .w2
instance : Rd nD τ U X arg31 := rdA X .b2
instance : Rd nD τ U X arg32 := rdA X .mask
instance : Rd nD τ U X arg33 := rdB X .out
instance : Wr nD τ U X arg33 := wrB X .out
instance : Rd nD τ U X arg34 := rdB X .adj
instance : Wr nD τ U X arg34 := wrB X .adj
instance : Rd nD τ U X arg35 := rdB X .sx
instance : Wr nD τ U X arg35 := wrB X .sx
instance : Rd nD τ U X arg36 := rdB X .t1
instance : Wr nD τ U X arg36 := wrB X .t1
instance : Rd nD τ U X arg37 := rdB X .u
instance : Wr nD τ U X arg37 := wrB X .u
instance : Rd nD τ U X arg38 := rdB X .uc
instance : Wr nD τ U X arg38 := wrB X .uc
instance : Rd nD τ U X arg39 := rdB X .dt
instance : Wr nD τ U X arg39 := wrB X .dt
instance : Rd nD τ U X arg40 := rdB X .bc
instance : Wr nD τ U X arg40 := wrB X .bc
instance : Rd nD τ U X arg41 := rdB X .da
instance : Wr nD τ U X arg41 := wrB X .da
instance : Rd nD τ U X arg42 := rdB X .du
instance : Wr nD τ U X arg42 := wrB X .du
instance : Rd nD τ U X arg43 := rdB X .h
instance : Wr nD τ U X arg43 := wrB X .h
instance : Rd nD τ U X arg44 := rdB X .ea
instance : Wr nD τ U X arg44 := wrB X .ea
instance : Rd nD τ U X arg45 := rdB X .ffn
instance : Wr nD τ U X arg45 := wrB X .ffn

end Instances

end Cert.KernelIdeal.Hand
-- ==== Proof.KernelIdealAdj.lean ====
/-
  What the kernel body leaves in the graph's window: the row-wise softmax of the rectified product of the two embeddings,
  whatever the buffers held before.
-/
module

public import proofs.«01_k».proof.Proof.KernelIdealMems

@[expose] public section

set_option maxHeartbeats 1600000

noncomputable section

namespace Cert.Calc

open Idealize.ShloMosaic Idealize.ShloMosaic.TcCoe
open Idealize.SL Idealize.SL.RA Idealize.SL.Sem

/-- A window as large as the whole. -/
theorem window_all {S : Shape} {α : Type} (f : S.Idx → α) (off : Fin S.rank → ℕ) (h0 : ∀ a, off a = 0) (inb : ∀ a, off a + S.size a ≤ S.size a) :
    VecWindow.window f off S.size inb = f := by
  funext y
  refine congrArg f (funext fun a => Fin.ext ?_)
  show off a + 1 * (y a).val = (y a).val
  rw [h0 a]; omega

/-- What is put over the whole is all that is left. -/
theorem put_all {S : Shape} {α : Type} (f w : S.Idx → α) (off : Fin S.rank → ℕ) (h0 : ∀ a, off a = 0) (inb : ∀ a, off a + S.size a ≤ S.size a) :
    VecWindow.put f off S.size w = w :=
  (window_all _ off h0 inb).symm.trans (VecWindow.window_put_same f off S.size inb w)

section Keep

variable {nD : ℕ} {τ : Topo} {sig : RefSig} {Val : EltTy → Type} {Λ : Labels} {U : Type} [URA U]
variable {IA IB : Type} [Fintype IA] [DecidableEq IA] [Fintype IB] [DecidableEq IB] {M : Mems sig IA IB}
variable {defs : Defs nD τ sig Val Λ} {𝒱 : Variants} {c : Dev nD} {bd : Option 𝒱.V} {X : Ins M Val} {α β : Type}

/-- The rest of a program after a part of which only the end is known. -/
theorem Ex.after {p : Prog (TpuEff nD τ sig Val Λ .tc) α} {k : α → Prog (TpuEff nD τ sig Val Λ .tc) β} {s : St M Val}
    {Q : β → St M Val → Prop} (h : Ex U defs 𝒱 c bd X p s fun _ _ => True) (hk : ∀ a s', Ex U defs 𝒱 c bd X (k a) s' Q) :
    Ex U defs 𝒱 c bd X (p >>= k) s Q :=
  Ex.bind (h.mono fun a s' _ => hk a s')

/-- A property of the contents, handed from one part of the program to the next. -/
theorem Ex.keep {p : Prog (TpuEff nD τ sig Val Λ .tc) α} {k : α → Prog (TpuEff nD τ sig Val Λ .tc) β} {s : St M Val}
    {J : St M Val → Prop} (h : Ex U defs 𝒱 c bd X p s fun _ s' => J s')
    (hk : ∀ a s', J s' → Ex U defs 𝒱 c bd X (k a) s' fun _ s' => J s') :
    Ex U defs 𝒱 c bd X (p >>= k) s fun _ s' => J s' :=
  Ex.bind (h.mono fun a s' hs => hk a s' hs)

/-- A property of the contents that every trip of a loop keeps. -/
theorem Ex.forKeep {σ : Type} {w : ℕ} {lb ub st : BitVec w} {hok : Scf.OK lb ub st} {init : σ}
    {body : Fin (Scf.trips lb ub st) → σ → Prog (TpuEff nD τ sig Val Λ .tc) σ} {s : St M Val} {J : St M Val → Prop} (h0 : J s)
    (hstep : ∀ (k : Fin (Scf.trips lb ub st)) acc s, J s → Ex U defs 𝒱 c bd X (body k acc) s fun _ s' => J s') :
    Ex U defs 𝒱 c bd X (Scf.for lb ub st hok init body) s fun _ s' => J s' :=
  Ex.for (fun _ _ s => J s) h0 (fun k acc s hs => hstep k acc s hs) (fun _ _ hs => hs)

end Keep

end Cert.Calc

namespace Cert.KernelIdeal.Hand

open Cert.KernelIdeal Cert.KernelIdeal.Gen Cert.Calc
open Idealize.ShloMosaic Idealize.ShloMosaic.TcCoe
open Idealize.SL Idealize.SL.RA

variable (arg1 : Memref sig .tc .vmem S4x256x512 .f32) (harg1 : arg1.IsWhole)
  (arg2 : Memref sig .tc .vmem S512x2048 .f32) (harg2 : arg2.IsWhole)
  (arg3 : Memref sig .tc .vmem S4x1024 .f32) (harg3 : arg3.IsWhole)
  (arg4 : Memref sig .tc .vmem S1x1024 .f32) (harg4 : arg4.IsWhole)
  (arg5 : Memref sig .tc .vmem S1024x64 .f32) (harg5 : arg5.IsWhole)
  (arg6 : Memref sig .tc .vmem S32x1024 .f32) (harg6 : arg6.IsWhole)
  (arg7 : Memref sig .tc .vmem S1x1024 .f32) (harg7 : arg7.IsWhole)
  (arg8 : Memref sig .tc .vmem S16x1024 .f32) (harg8 : arg8.IsWhole)
  (arg9 : Memref sig .tc .vmem S1x1024 .f32) (harg9 : arg9.IsWhole)
  (arg10 : Memref sig .tc .vmem S1024x512 .f32) (harg10 : arg10.IsWhole)
  (arg11 : Memref sig .tc .vmem S1x512 .f32) (harg11 : arg11.IsWhole)
  (arg12 : Memref sig .tc .vmem S1x512 .f32) (harg12 : arg12.IsWhole)
  (arg13 : Memref sig .tc .vmem S256x16 .f32) (harg13 : arg13.IsWhole)
  (arg14 : Memref sig .tc .vmem S16x256 .f32) (harg14 : arg14.IsWhole)
  (arg15 : Memref sig .tc .vmem S512x2048 .f32) (harg15 : arg15.IsWhole)
  (arg16 : Memref sig .tc .vmem S4x1024 .f32) (harg16 : arg16.IsWhole)
  (arg17 : Memref sig .tc .vmem S1x1024 .f32) (harg17 : arg17.IsWhole)
  (arg18 : Memref sig .tc .vmem S1024x64 .f32) (harg18 : arg18.IsWhole)
  (arg19 : Memref sig .tc .vmem S32x1024 .f32) (harg19 : arg19.IsWhole)
  (arg20 : Memref sig .tc .vmem S1x1024 .f32) (harg20 : arg20.IsWhole)
  (arg21 : Memref sig .tc .vmem S16x1024 .f32) (harg21 : arg21.IsWhole)
  (arg22 : Memref sig .tc .vmem S1x1024 .f32) (harg22 : arg22.IsWhole)
  (arg23 : Memref sig .tc .vmem S1024x512 .f32) (harg23 : arg23.IsWhole)
  (arg24 : Memref sig .tc .vmem S1x512 .f32) (harg24 : arg24.IsWhole)
  (arg25 : Memref sig .tc .vmem S1x512 .f32) (harg25 : arg25.IsWhole)
  (arg26 : Memref sig .tc .vmem S1x512 .f32) (harg26 : arg26.IsWhole)
  (arg27 : Memref sig .tc .vmem S1x512 .f32) (harg27 : arg27.IsWhole)
  (arg28 : Memref sig .tc .vmem S512x2048 .f32) (harg28 : arg28.IsWhole)
  (arg29 : Memref sig .tc .vmem S1x2048 .f32) (harg29 : arg29.IsWhole)
  (arg30 : Memref sig .tc .vmem S2048x512 .f32) (harg30 : arg30.IsWhole)
  (arg31 : Memref sig .tc .vmem S1x512 .f32) (harg31 : arg31.IsWhole)
  (arg32 : Memref sig .tc .vmem S16x256 .f32) (harg32 : arg32.IsWhole)
  (arg33 : Memref sig .tc .vmem S4x256x512 .f32) (harg33 : arg33.IsWhole)
  (arg34 : Memref sig .tc .vmem S256x256 .f32) (harg34 : arg34.IsWhole)
  (arg35 : Memref sig .tc .vmem S1024x512 .f32) (harg35 : arg35.IsWhole)
  (arg36 : Memref sig .tc .vmem S1024x512 .f32) (harg36 : arg36.IsWhole)
  (arg37 : Memref sig .tc .vmem S1024x1024 .f32) (harg37 : arg37.IsWhole)
  (arg38 : Memref sig .tc .vmem S1024x1024 .f32) (harg38 : arg38.IsWhole)
  (arg39 : Memref sig .tc .vmem S1024x1024 .f32) (harg39 : arg39.IsWhole)
  (arg40 : Memref sig .tc .vmem S1024x64 .f32) (harg40 : arg40.IsWhole)
  (arg41 : Memref sig .tc .vmem S16x64x1024 .f32) (harg41 : arg41.IsWhole)
  (arg42 : Memref sig .tc .vmem S16x64x1024 .f32) (harg42 : arg42.IsWhole)
  (arg43 : Memref sig .tc .vmem S64x1024 .f32) (harg43 : arg43.IsWhole)
  (arg44 : Memref sig .tc .vmem S16x1024 .f32) (harg44 : arg44.IsWhole)
  (arg45 : Memref sig .tc .vmem S128x2048 .f32) (harg45 : arg45.IsWhole)
variable {F : FTy → Type} [FloatOps F] [Named F] {U : Type} [URA U] (𝒱 : Variants) (c : Dev nD) (bd : Option 𝒱.V)

/-- The graph from the two embeddings, the second one transposed. -/
def adjOf (a : S256x16.Idx → Elt F .f32) (b : S16x256.Idx → Elt F .f32) : S256x256.Idx → Elt F .f32 := k0_pay51 a b

/-- Whatever the body finds, it leaves the graph in its second output window. -/
theorem body_adj (i : grid0.Coords) (X : Ins (mems arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45) (Elt F)) (s : St (mems arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45) (Elt F)) :
    Ex U (defs₀ (F := F)) 𝒱 c bd X (cc0_medmamba_block (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45) s fun _ s' => s' .adj = adjOf (X .e1) (X .e2) := by
  rw [cc0_medmamba_block_eq_skeleton]
  unfold cc0_medmamba_block_skel
  refine Ex.after ?_ (fun a s => ?_)
  · rw [k0_part11_eq_skeleton]; unfold k0_part11_skel
    repeat' first
      | with_reducible exact Ex.ret _ trivial
      | with_reducible refine Ex.load ?_
      | with_reducible refine Ex.store ?_
  refine Ex.keep ?_ (fun a s hs => ?_)
  · rw [k0_part12_eq_skeleton]; unfold k0_part12_skel
    repeat' first
      | with_reducible refine Ex.load ?_
      | with_reducible refine Ex.store ?_
    refine Ex.ret _ ?_
    exact (put_all (S := S256x256) _ _ ![0, 0] (by decide) inb_S256x256_S256x256_0_0).trans
      (congrArg₂ k0_pay51 (window_all (S := S256x16) (X .e1) ![0, 0] (by decide) inb_S256x16_S256x16_0_0)
        (window_all (S := S16x256) (X .e2) ![0, 0] (by decide) inb_S16x256_S16x256_0_0))
  repeat' first
    | with_reducible refine Ex.ret _ ?_
    | with_reducible refine Ex.load ?_
    | with_reducible refine Ex.store ?_
    | with_reducible refine Ex.keep ?_ (fun a s hs => ?_)
    | with_reducible refine Ex.forKeep ?_ (fun k acc s hs => ?_)
    | with_reducible exact hs
    | exact hs
    | (rw [k0_part1_eq_skeleton]; unfold k0_part1_skel)
    | (rw [k0_part2_eq_skeleton]; unfold k0_part2_skel)
    | (rw [k0_part3_eq_skeleton]; unfold k0_part3_skel)
    | (rw [k0_part4_eq_skeleton]; unfold k0_part4_skel)
    | (rw [k0_part5_eq_skeleton]; unfold k0_part5_skel)
    | (rw [k0_part6_eq_skeleton]; unfold k0_part6_skel)
    | (rw [k0_part7_eq_skeleton]; unfold k0_part7_skel)
    | (rw [k0_part8_eq_skeleton]; unfold k0_part8_skel)
    | (rw [k0_part9_eq_skeleton]; unfold k0_part9_skel)
    | (rw [k0_part10_eq_skeleton]; unfold k0_part10_skel)
    | (rw [k0_part11_eq_skeleton]; unfold k0_part11_skel)
    | (rw [k0_part12_eq_skeleton]; unfold k0_part12_skel)
    | (rw [k0_part13_eq_skeleton]; unfold k0_part13_skel)
    | (rw [k0_part14_eq_skeleton]; unfold k0_part14_skel)
    | (rw [k0_part15_eq_skeleton]; unfold k0_part15_skel)
    | (rw [k0_part16_eq_skeleton]; unfold k0_part16_skel)
    | (rw [k0_part17_eq_skeleton]; unfold k0_part17_skel)
    | (rw [k0_part18_eq_skeleton]; unfold k0_part18_skel)
    | (rw [k0_part19_eq_skeleton]; unfold k0_part19_skel)
    | (rw [k0_part20_eq_skeleton]; unfold k0_part20_skel)
    | (rw [k0_part21_eq_skeleton]; unfold k0_part21_skel)
    | (rw [k0_part22_eq_skeleton]; unfold k0_part22_skel)
    | (rw [k0_part23_eq_skeleton]; unfold k0_part23_skel)
    | (rw [k0_part24_eq_skeleton]; unfold k0_part24_skel)
    | (rw [k0_part25_eq_skeleton]; unfold k0_part25_skel)
    | (rw [k0_part26_eq_skeleton]; unfold k0_part26_skel)
    | (rw [k0_part27_eq_skeleton]; unfold k0_part27_skel)
    | (rw [k0_part28_eq_skeleton]; unfold k0_part28_skel)
    | (rw [k0_part29_eq_skeleton]; unfold k0_part29_skel)
    | (rw [k0_part30_eq_skeleton]; unfold k0_part30_skel)
    | (rw [k0_part31_eq_skeleton]; unfold k0_part31_skel)
    | (rw [k0_part32_eq_skeleton]; unfold k0_part32_skel)
    | (rw [k0_part33_eq_skeleton]; unfold k0_part33_skel)
    | (rw [k0_part34_eq_skeleton]; unfold k0_part34_skel)
    | (rw [k0_part35_eq_skeleton]; unfold k0_part35_skel)
    | (rw [k0_part36_eq_skeleton]; unfold k0_part36_skel)
    | (rw [k0_part37_eq_skeleton]; unfold k0_part37_skel)
    | (rw [k0_part38_eq_skeleton]; unfold k0_part38_skel)
    | (rw [k0_part39_eq_skeleton]; unfold k0_part39_skel)
    | (rw [k0_part40_eq_skeleton]; unfold k0_part40_skel)
    | (rw [k0_part41_eq_skeleton]; unfold k0_part41_skel)
    | (rw [k0_part42_eq_skeleton]; unfold k0_part42_skel)
    | (rw [k0_part43_eq_skeleton]; unfold k0_part43_skel)
    | (rw [k0_part44_eq_skeleton]; unfold k0_part44_skel)
    | (rw [k0_part45_eq_skeleton]; unfold k0_part45_skel)
    | (rw [k0_part46_eq_skeleton]; unfold k0_part46_skel)
    | (rw [k0_part47_eq_skeleton]; unfold k0_part47_skel)
    | (rw [k0_part48_eq_skeleton]; unfold k0_part48_skel)
    | (rw [k0_part49_eq_skeleton]; unfold k0_part49_skel)
    | (rw [k0_part50_eq_skeleton]; unfold k0_part50_skel)
    | (rw [k0_part51_eq_skeleton]; unfold k0_part51_skel)
    | (rw [k0_part52_eq_skeleton]; unfold k0_part52_skel)
    | (rw [k0_part53_eq_skeleton]; unfold k0_part53_skel)
    | unfold k0_t1_body
    | unfold k0_t2_body
    | unfold k0_t3_body
    | unfold k0_t4_body

end Cert.KernelIdeal.Hand
-- ==== Proof.KernelIdealFrame.lean ====
/-
  The launch of the kernel: eight grid steps, each running the body on its own blocks. What the body leaves in the window of
  the first output is not said here; that the second output ends as the graph of the two embeddings, that the launch
  terminates, faults nowhere, leaves the arguments as they were and every semaphore counter at zero is.
-/
module

public import proofs.«01_k».proof.Proof.Gen.KernelIdeal.Frame
public import proofs.«01_k».proof.Proof.Gen.KernelIdeal.Points
public import proofs.«01_k».proof.Proof.KernelIdealAdj
public import Idealize.ShloMosaic.Lib.Pipeline.FrameBody
public import Idealize.ShloMosaic.Lib.Pipeline.ValueKit

@[expose] public section

set_option maxHeartbeats 1600000

noncomputable section

namespace Cert.KernelIdeal.Hand

open Cert.KernelIdeal Cert.KernelIdeal.Gen Cert.Calc
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regroup

variable (arg1 : Memref sig .tc .vmem S4x256x512 .f32) (arg2 : Memref sig .tc .vmem S512x2048 .f32) (arg3 : Memref sig .tc .vmem S4x1024 .f32) (arg4 : Memref sig .tc .vmem S1x1024 .f32) (arg5 : Memref sig .tc .vmem S1024x64 .f32) (arg6 : Memref sig .tc .vmem S32x1024 .f32) (arg7 : Memref sig .tc .vmem S1x1024 .f32) (arg8 : Memref sig .tc .vmem S16x1024 .f32) (arg9 : Memref sig .tc .vmem S1x1024 .f32) (arg10 : Memref sig .tc .vmem S1024x512 .f32) (arg11 : Memref sig .tc .vmem S1x512 .f32) (arg12 : Memref sig .tc .vmem S1x512 .f32) (arg13 : Memref sig .tc .vmem S256x16 .f32) (arg14 : Memref sig .tc .vmem S16x256 .f32) (arg15 : Memref sig .tc .vmem S512x2048 .f32) (arg16 : Memref sig .tc .vmem S4x1024 .f32) (arg17 : Memref sig .tc .vmem S1x1024 .f32) (arg18 : Memref sig .tc .vmem S1024x64 .f32) (arg19 : Memref sig .tc .vmem S32x1024 .f32) (arg20 : Memref sig .tc .vmem S1x1024 .f32) (arg21 : Memref sig .tc .vmem S16x1024 .f32) (arg22 : Memref sig .tc .vmem S1x1024 .f32) (arg23 : Memref sig .tc .vmem S1024x512 .f32) (arg24 : Memref sig .tc .vmem S1x512 .f32) (arg25 : Memref sig .tc .vmem S1x512 .f32) (arg26 : Memref sig .tc .vmem S1x512 .f32) (arg27 : Memref sig .tc .vmem S1x512 .f32) (arg28 : Memref sig .tc .vmem S512x2048 .f32) (arg29 : Memref sig .tc .vmem S1x2048 .f32) (arg30 : Memref sig .tc .vmem S2048x512 .f32) (arg31 : Memref sig .tc .vmem S1x512 .f32) (arg32 : Memref sig .tc .vmem S16x256 .f32) (arg33 : Memref sig .tc .vmem S4x256x512 .f32) (arg34 : Memref sig .tc .vmem S256x256 .f32) (arg35 : Memref sig .tc .vmem S1024x512 .f32) (arg36 : Memref sig .tc .vmem S1024x512 .f32) (arg37 : Memref sig .tc .vmem S1024x1024 .f32) (arg38 : Memref sig .tc .vmem S1024x1024 .f32) (arg39 : Memref sig .tc .vmem S1024x1024 .f32) (arg40 : Memref sig .tc .vmem S1024x64 .f32) (arg41 : Memref sig .tc .vmem S16x64x1024 .f32) (arg42 : Memref sig .tc .vmem S16x64x1024 .f32) (arg43 : Memref sig .tc .vmem S64x1024 .f32) (arg44 : Memref sig .tc .vmem S16x1024 .f32) (arg45 : Memref sig .tc .vmem S128x2048 .f32)
variable (x0 : S4x256x512.Idx → Elt F .f32) (x1 : S512x2048.Idx → Elt F .f32) (x2 : S4x1024.Idx → Elt F .f32) (x3 : S1x1024.Idx → Elt F .f32) (x4 : S1024x64.Idx → Elt F .f32) (x5 : S32x1024.Idx → Elt F .f32) (x6 : S1x1024.Idx → Elt F .f32) (x7 : S16x1024.Idx → Elt F .f32) (x8 : S1x1024.Idx → Elt F .f32) (x9 : S1024x512.Idx → Elt F .f32) (x10 : S1x512.Idx → Elt F .f32) (x11 : S1x512.Idx → Elt F .f32) (x12 : S256x16.Idx → Elt F .f32) (x13 : S16x256.Idx → Elt F .f32) (x14 : S512x2048.Idx → Elt F .f32) (x15 : S4x1024.Idx → Elt F .f32) (x16 : S1x1024.Idx → Elt F .f32) (x17 : S1024x64.Idx → Elt F .f32) (x18 : S32x1024.Idx → Elt F .f32) (x19 : S1x1024.Idx → Elt F .f32) (x20 : S16x1024.Idx → Elt F .f32) (x21 : S1x1024.Idx → Elt F .f32) (x22 : S1024x512.Idx → Elt F .f32) (x23 : S1x512.Idx → Elt F .f32) (x24 : S1x512.Idx → Elt F .f32) (x25 : S1x512.Idx → Elt F .f32) (x26 : S1x512.Idx → Elt F .f32) (x27 : S512x2048.Idx → Elt F .f32) (x28 : S1x2048.Idx → Elt F .f32) (x29 : S2048x512.Idx → Elt F .f32) (x30 : S1x512.Idx → Elt F .f32) (x31 : S16x256.Idx → Elt F .f32)
variable (c : Dev nD) (s : St (mems arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45) (Elt F))

/-- What the memrefs only read hold, from the thirty-two blocks. -/
def inps : Ins (mems arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45) (Elt F)
  | .x => x0
  | .dW => x1
  | .dCw => x2
  | .dCb => x3
  | .dXp => x4
  | .dTw => x5
  | .dTb => x6
  | .dA => x7
  | .dD => x8
  | .dO => x9
  | .dLg => x10
  | .dLb => x11
  | .e1 => x12
  | .e2 => x13
  | .gW => x14
  | .gCw => x15
  | .gCb => x16
  | .gXp => x17
  | .gTw => x18
  | .gTb => x19
  | .gA => x20
  | .gD => x21
  | .gO => x22
  | .gLg => x23
  | .gLb => x24
  | .fLg => x25
  | .fLb => x26
  | .w1 => x27
  | .b1 => x28
  | .w2 => x29
  | .b2 => x30
  | .mask => x31

/-- The written buffers' contents from the thirteen of them. -/
def bufs (d32 : S4x256x512.Idx → Elt F .f32) (d33 : S256x256.Idx → Elt F .f32) (f0 : S1024x512.Idx → Elt F .f32) (f1 : S1024x512.Idx → Elt F .f32) (f2 : S1024x1024.Idx → Elt F .f32) (f3 : S1024x1024.Idx → Elt F .f32) (f4 : S1024x1024.Idx → Elt F .f32) (f5 : S1024x64.Idx → Elt F .f32) (f6 : S16x64x1024.Idx → Elt F .f32) (f7 : S16x64x1024.Idx → Elt F .f32) (f8 : S64x1024.Idx → Elt F .f32) (f9 : S16x1024.Idx → Elt F .f32) (f10 : S128x2048.Idx → Elt F .f32) : St (mems arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45) (Elt F)
  | .out => d32
  | .adj => d33
  | .sx => f0
  | .t1 => f1
  | .u => f2
  | .uc => f3
  | .dt => f4
  | .bc => f5
  | .da => f6
  | .du => f7
  | .h => f8
  | .ea => f9
  | .ffn => f10

theorem own_chain : (Own c (inps arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 x0 x1 x2 x3 x4 x5 x6 x7 x8 x9 x10 x11 x12 x13 x14 x15 x16 x17 x18 x19 x20 x21 x22 x23 x24 x25 x26 x27 x28 x29 x30 x31) s : sProp 𝕄) = iprop((owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31) ∗ (owns (c : Thread nD τ) arg33 fullShare (s .out) ∗ owns (c : Thread nD τ) arg34 fullShare (s .adj) ∗ owns (c : Thread nD τ) arg35 fullShare (s .sx) ∗ owns (c : Thread nD τ) arg36 fullShare (s .t1) ∗ owns (c : Thread nD τ) arg37 fullShare (s .u) ∗ owns (c : Thread nD τ) arg38 fullShare (s .uc) ∗ owns (c : Thread nD τ) arg39 fullShare (s .dt) ∗ owns (c : Thread nD τ) arg40 fullShare (s .bc) ∗ owns (c : Thread nD τ) arg41 fullShare (s .da) ∗ owns (c : Thread nD τ) arg42 fullShare (s .du) ∗ owns (c : Thread nD τ) arg43 fullShare (s .h) ∗ owns (c : Thread nD τ) arg44 fullShare (s .ea) ∗ owns (c : Thread nD τ) arg45 fullShare (s .ffn))) := by
  unfold Own
  rw [BI.bigSep_eq_bigSepL_of_eq allIn (by decide) (by decide), BI.bigSep_eq_bigSepL_of_eq allBf (by decide) (by decide)]
  rfl

/-- The pieces a launch hands the body, regrouped: inputs, buffers, and what the body does not touch. -/
theorem gather {δ0 δ1 : Type} (y0 : δ0 → S4x256x512.Idx → Elt F .f32) (y1 : δ1 → S256x256.Idx → Elt F .f32) (g O : sProp 𝕄) :
    iprop((((∃ f, owns (c : Thread nD τ) arg35 fullShare f) ∗ (∃ f, owns (c : Thread nD τ) arg36 fullShare f) ∗ (∃ f, owns (c : Thread nD τ) arg37 fullShare f) ∗ (∃ f, owns (c : Thread nD τ) arg38 fullShare f) ∗ (∃ f, owns (c : Thread nD τ) arg39 fullShare f) ∗ (∃ f, owns (c : Thread nD τ) arg40 fullShare f) ∗ (∃ f, owns (c : Thread nD τ) arg41 fullShare f) ∗ (∃ f, owns (c : Thread nD τ) arg42 fullShare f) ∗ (∃ f, owns (c : Thread nD τ) arg43 fullShare f) ∗ (∃ f, owns (c : Thread nD τ) arg44 fullShare f) ∗ (∃ f, owns (c : Thread nD τ) arg45 fullShare f)) ∗ g) ∗ O ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ (∃ d, owns (c : Thread nD τ) arg33 fullShare (y0 d)) ∗ (∃ d, owns (c : Thread nD τ) arg34 fullShare (y1 d)))
      ⊢ iprop((∃ s, Own c (inps arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 x0 x1 x2 x3 x4 x5 x6 x7 x8 x9 x10 x11 x12 x13 x14 x15 x16 x17 x18 x19 x20 x21 x22 x23 x24 x25 x26 x27 x28 x29 x30 x31) s) ∗ (g ∗ O)) := by
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩⟩, Hg⟩, HO, H0, H1, H2, H3, H4, H5, H6, H7, H8, H9, H10, H11, H12, H13, H14, H15, H16, H17, H18, H19, H20, H21, H22, H23, H24, H25, H26, H27, H28, H29, H30, H31, ⟨%d32, H32⟩, ⟨%d33, H33⟩⟩
  isplitr [Hg HO]
  swap
  · isplitl [Hg]; · iexact Hg
    iexact HO
  iexists (bufs arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 (y0 d32) (y1 d33) f0 f1 f2 f3 f4 f5 f6 f7 f8 f9 f10)
  rw [own_chain]
  simp only [bufs]
  isplitl [H0 H1 H2 H3 H4 H5 H6 H7 H8 H9 H10 H11 H12 H13 H14 H15 H16 H17 H18 H19 H20 H21 H22 H23 H24 H25 H26 H27 H28 H29 H30 H31]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    iexact H31
  isplitl [H32]; · iexact H32
  isplitl [H33]; · iexact H33
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iexact S10

/-- A block known whatever was there before. -/
theorem known {S : Shape} {mr : Memref sig .tc .vmem S .f32} {δ : Type} {f : δ → S.Idx → Elt F .f32} {x : S.Idx → Elt F .f32} (h : ∀ d, f d = x) :
    (iprop(∃ d, owns (c : Thread nD τ) mr fullShare (f d)) : sProp 𝕄) ⊢ owns (c : Thread nD τ) mr fullShare x := by
  iintro ⟨%d, H⟩
  rw [h d]
  iexact H

/-- Contents of which nothing is said any more. -/
theorem forgotten {S : Shape} {mr : Memref sig .tc .vmem S .f32} (x : S.Idx → Elt F .f32) :
    owns (c : Thread nD τ) mr fullShare x ⊢ (iprop(∃ d, owns (c : Thread nD τ) mr fullShare d) : sProp 𝕄) := by
  iintro H
  iexists x; iexact H

/-- The pieces after the body, handed back. -/
theorem scatter (g O z0 z1 : sProp 𝕄) (h0 : owns (c : Thread nD τ) arg33 fullShare (s .out) ⊢ z0) (h1 : owns (c : Thread nD τ) arg34 fullShare (s .adj) ⊢ z1) :
    iprop(Own c (inps arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 arg38 arg39 arg40 arg41 arg42 arg43 arg44 arg45 x0 x1 x2 x3 x4 x5 x6 x7 x8 x9 x10 x11 x12 x13 x14 x15 x16 x17 x18 x19 x20 x21 x22 x23 x24 x25 x26 x27 x28 x29 x30 x31) s ∗ (g ∗ O)) ⊢
      iprop((((∃ f, owns (c : Thread nD τ) arg35 fullShare f) ∗ (∃ f, owns (c : Thread nD τ) arg36 fullShare f) ∗ (∃ f, owns (c : Thread nD τ) arg37 fullShare f) ∗ (∃ f, owns (c : Thread nD τ) arg38 fullShare f) ∗ (∃ f, owns (c : Thread nD τ) arg39 fullShare f) ∗ (∃ f, owns (c : Thread nD τ) arg40 fullShare f) ∗ (∃ f, owns (c : Thread nD τ) arg41 fullShare f) ∗ (∃ f, owns (c : Thread nD τ) arg42 fullShare f) ∗ (∃ f, owns (c : Thread nD τ) arg43 fullShare f) ∗ (∃ f, owns (c : Thread nD τ) arg44 fullShare f) ∗ (∃ f, owns (c : Thread nD τ) arg45 fullShare f)) ∗ g) ∗ O ∗ owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ z0 ∗ z1) := by
  rw [own_chain]
  iintro ⟨⟨⟨H0, H1, H2, H3, H4, H5, H6, H7, H8, H9, H10, H11, H12, H13, H14, H15, H16, H17, H18, H19, H20, H21, H22, H23, H24, H25, H26, H27, H28, H29, H30, H31⟩, H32, H33, S0, S1, S2, S3, S4, S5, S6, S7, S8, S9, S10⟩, Hg, HO⟩
  isplitl [Hg S0 S1 S2 S3 S4 S5 S6 S7 S8 S9 S10]
  · isplitr [Hg]
    swap
    · iexact Hg
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    iexists _; iexact S10
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iapply h0; iexact H32
  iapply h1; iexact H33

end Regroup

variable (m : (ℓ : Loc nD τ sig) → Buf (Elt F) ℓ) (ρ : Dev nD → PrngReg)

/-- The window of the first output, of which nothing is said. -/
def fgt : Fin cfg0.W → Bool := fun w => decide (w.val = 32)

/-- An input window's block at a grid point. -/
def blkA (c : Dev nD) (w : Fin cfg0.W) (t : Fin cfg0.N) : (cfg0.win w).block.Idx → Elt F (cfg0.win w).elt :=
  (cfg0.win w).fill (cfg0.grid.coords t) (fun _ => Classical.arbitrary _) (iblk m c w t)

/-- The graph of the two embeddings' blocks at a grid point. -/
def adjAt (c : Dev nD) (t : Fin cfg0.N) : (cfg0.win 33).block.Idx → Elt F (cfg0.win 33).elt :=
  adjOf (blkA m c 12 t) (blkA m c 13 t)

/-- The proof data: the arrays as the launch finds them, an input window's buffer after the body still its block, the second
    output's the graph. -/
def dats (_ : Fin 1) (c : Dev nD) : Dat τ (Elt F) Unit ℕ (UR sig nD τ) ℕ cfg0 c where
  A w := V m c (Pipeline.arrRef spec0 w)
  after w t := if h : w = 33 then Eq.rec (motive := fun w _ => (cfg0.win w).block.Idx → Elt F (cfg0.win w).elt) (adjAt m c t) h.symm
    else blkA m c w t
  Φ _ := Pipeline.ΦA spec0 c
  q _ := fullShare
  owed _ := 0

/-- The graph's window aside, a window's buffer after the body is its block. -/
theorem after_ne (c : Dev nD) (w : Fin cfg0.W) (h : w ≠ 33) (t : Fin cfg0.N) : (dats m 0 c).after w t = blkA m c w t :=
  dif_neg h

/-- The graph's window after the body. -/
theorem after_adj (c : Dev nD) (t : Fin cfg0.N) : (dats m 0 c).after 33 t = adjAt m c t := by
  unfold dats
  dsimp only
  exact dif_pos rfl

/-- The graph's window after the body, from the embeddings' windows after the body. -/
theorem after_adj' (c : Dev nD) (t : Fin cfg0.N) :
    (dats m 0 c).after 33 t = adjOf ((dats m 0 c).after 12 t) ((dats m 0 c).after 13 t) := by
  rw [after_adj, after_ne m c 12 (by decide), after_ne m c 13 (by decide)]
  rfl

/-- No input window is the graph's. -/
theorem in_ne (w : Fin cfg0.W) (hw : (cfg0.win w).isOut = false) : w ≠ 33 := by
  rintro rfl
  exact absurd hw (by decide)

theorem idle0 (w : Fin cfg0.W) (i : cfg0.grid.Coords) : cfg0.idle w i = false := rfl
theorem loose0 (w : Fin cfg0.W) : cfg0.loose w = false := rfl

/-- No window's block is cut at the array's edge. -/
theorem uncut (w : Fin cfg0.W) (i : cfg0.grid.Coords) (a) : (cfg0.win w).clip i a = none := by
  fin_cases w <;> first | rfl | (intro a; rfl)

/-- An input window's buffer holds its block at every point, before the body as after it. -/
theorem before_eq (c : Dev nD) (w : Fin cfg0.W) (hw : (cfg0.win w).isOut = false) (t : Fin cfg0.N) (d) :
    (dats m 0 c).before w t d = (dats m 0 c).after w t :=
  (((dats m 0 c).before_in_eq_fetched w hw (fun _ => rfl) (fun t t' _ => by funext a; rw [uncut, uncut])
    (fun t => by rw [after_ne m c w (in_ne w hw)]; exact (cfg0.win w).cut_fill _ _ _) t d).trans
    (Pipeline.fill_of_clip_none w _ (uncut w _) _ _ _)).trans (after_ne m c w (in_ne w hw) t).symm

set_option backward.isDefEq.respectTransparency.types false in
set_option maxRecDepth 100000 in
/-- The body at every grid point keeps the launch's account. -/
theorem body_obl (c : Dev nD) : Pipeline.BodyObligationLoose (dats m 0 c) (defs₀ (F := F)) Variants.none () Set.univ fgt := by
  intro t
  rw [bigSep_W0, bigSep_W0]
  simp only [show fgt 0 = false from rfl, show fgt 1 = false from rfl, show fgt 2 = false from rfl, show fgt 3 = false from rfl, show fgt 4 = false from rfl, show fgt 5 = false from rfl, show fgt 6 = false from rfl, show fgt 7 = false from rfl, show fgt 8 = false from rfl, show fgt 9 = false from rfl, show fgt 10 = false from rfl, show fgt 11 = false from rfl, show fgt 12 = false from rfl, show fgt 13 = false from rfl, show fgt 14 = false from rfl, show fgt 15 = false from rfl, show fgt 16 = false from rfl, show fgt 17 = false from rfl, show fgt 18 = false from rfl, show fgt 19 = false from rfl, show fgt 20 = false from rfl, show fgt 21 = false from rfl, show fgt 22 = false from rfl, show fgt 23 = false from rfl, show fgt 24 = false from rfl, show fgt 25 = false from rfl, show fgt 26 = false from rfl, show fgt 27 = false from rfl, show fgt 28 = false from rfl, show fgt 29 = false from rfl, show fgt 30 = false from rfl, show fgt 31 = false from rfl, show fgt 32 = true from rfl, show fgt 33 = false from rfl, idle0, loose0]
  rw [show (dats m 0 c).Φ t.castSucc = iprop(Pipeline.scopedRest spec0 c ∗ ∃ r, prngReg c r) from rfl, show (dats m 0 c).Φ t.succ = iprop(Pipeline.scopedRest spec0 c ∗ ∃ r, prngReg c r) from rfl, scopedRest0_eq]
  have hb := Ex.run (M := mems (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (st0_23 t) (st0_24 t) (st0_25 t) (st0_26 t) (st0_27 t) (st0_28 t) (st0_29 t) (st0_30 t) (st0_31 t) (st0_32 t) (st0_33 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10)) (X := inps (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (st0_23 t) (st0_24 t) (st0_25 t) (st0_26 t) (st0_27 t) (st0_28 t) (st0_29 t) (st0_30 t) (st0_31 t) (st0_32 t) (st0_33 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) ((dats m 0 c).after 0 t) ((dats m 0 c).after 1 t) ((dats m 0 c).after 2 t) ((dats m 0 c).after 3 t) ((dats m 0 c).after 4 t) ((dats m 0 c).after 5 t) ((dats m 0 c).after 6 t) ((dats m 0 c).after 7 t) ((dats m 0 c).after 8 t) ((dats m 0 c).after 9 t) ((dats m 0 c).after 10 t) ((dats m 0 c).after 11 t) ((dats m 0 c).after 12 t) ((dats m 0 c).after 13 t) ((dats m 0 c).after 14 t) ((dats m 0 c).after 15 t) ((dats m 0 c).after 16 t) ((dats m 0 c).after 17 t) ((dats m 0 c).after 18 t) ((dats m 0 c).after 19 t) ((dats m 0 c).after 20 t) ((dats m 0 c).after 21 t) ((dats m 0 c).after 22 t) ((dats m 0 c).after 23 t) ((dats m 0 c).after 24 t) ((dats m 0 c).after 25 t) ((dats m 0 c).after 26 t) ((dats m 0 c).after 27 t) ((dats m 0 c).after 28 t) ((dats m 0 c).after 29 t) ((dats m 0 c).after 30 t) ((dats m 0 c).after 31 t)) (c := c) (E := Set.univ) (fun s => body_adj (U := UR sig nD τ) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) (st0_21 t) (hstage0_21 ((cfg0.slots t 21).cast nbuf0_21)) (st0_22 t) (hstage0_22 ((cfg0.slots t 22).cast nbuf0_22)) (st0_23 t) (hstage0_23 ((cfg0.slots t 23).cast nbuf0_23)) (st0_24 t) (hstage0_24 ((cfg0.slots t 24).cast nbuf0_24)) (st0_25 t) (hstage0_25 ((cfg0.slots t 25).cast nbuf0_25)) (st0_26 t) (hstage0_26 ((cfg0.slots t 26).cast nbuf0_26)) (st0_27 t) (hstage0_27 ((cfg0.slots t 27).cast nbuf0_27)) (st0_28 t) (hstage0_28 ((cfg0.slots t 28).cast nbuf0_28)) (st0_29 t) (hstage0_29 ((cfg0.slots t 29).cast nbuf0_29)) (st0_30 t) (hstage0_30 ((cfg0.slots t 30).cast nbuf0_30)) (st0_31 t) (hstage0_31 ((cfg0.slots t 31).cast nbuf0_31)) (st0_32 t) (hstage0_32 ((cfg0.slots t 32).cast nbuf0_32)) (st0_33 t) (hstage0_33 ((cfg0.slots t 33).cast nbuf0_33)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) Variants.none c none (grid0.coords t)
    (inps (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (st0_23 t) (st0_24 t) (st0_25 t) (st0_26 t) (st0_27 t) (st0_28 t) (st0_29 t) (st0_30 t) (st0_31 t) (st0_32 t) (st0_33 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) ((dats m 0 c).after 0 t) ((dats m 0 c).after 1 t) ((dats m 0 c).after 2 t) ((dats m 0 c).after 3 t) ((dats m 0 c).after 4 t) ((dats m 0 c).after 5 t) ((dats m 0 c).after 6 t) ((dats m 0 c).after 7 t) ((dats m 0 c).after 8 t) ((dats m 0 c).after 9 t) ((dats m 0 c).after 10 t) ((dats m 0 c).after 11 t) ((dats m 0 c).after 12 t) ((dats m 0 c).after 13 t) ((dats m 0 c).after 14 t) ((dats m 0 c).after 15 t) ((dats m 0 c).after 16 t) ((dats m 0 c).after 17 t) ((dats m 0 c).after 18 t) ((dats m 0 c).after 19 t) ((dats m 0 c).after 20 t) ((dats m 0 c).after 21 t) ((dats m 0 c).after 22 t) ((dats m 0 c).after 23 t) ((dats m 0 c).after 24 t) ((dats m 0 c).after 25 t) ((dats m 0 c).after 26 t) ((dats m 0 c).after 27 t) ((dats m 0 c).after 28 t) ((dats m 0 c).after 29 t) ((dats m 0 c).after 30 t) ((dats m 0 c).after 31 t)) s)
    (gather (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (st0_23 t) (st0_24 t) (st0_25 t) (st0_26 t) (st0_27 t) (st0_28 t) (st0_29 t) (st0_30 t) (st0_31 t) (st0_32 t) (st0_33 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) ((dats m 0 c).after 0 t) ((dats m 0 c).after 1 t) ((dats m 0 c).after 2 t) ((dats m 0 c).after 3 t) ((dats m 0 c).after 4 t) ((dats m 0 c).after 5 t) ((dats m 0 c).after 6 t) ((dats m 0 c).after 7 t) ((dats m 0 c).after 8 t) ((dats m 0 c).after 9 t) ((dats m 0 c).after 10 t) ((dats m 0 c).after 11 t) ((dats m 0 c).after 12 t) ((dats m 0 c).after 13 t) ((dats m 0 c).after 14 t) ((dats m 0 c).after 15 t) ((dats m 0 c).after 16 t) ((dats m 0 c).after 17 t) ((dats m 0 c).after 18 t) ((dats m 0 c).after 19 t) ((dats m 0 c).after 20 t) ((dats m 0 c).after 21 t) ((dats m 0 c).after 22 t) ((dats m 0 c).after 23 t) ((dats m 0 c).after 24 t) ((dats m 0 c).after 25 t) ((dats m 0 c).after 26 t) ((dats m 0 c).after 27 t) ((dats m 0 c).after 28 t) ((dats m 0 c).after 29 t) ((dats m 0 c).after 30 t) ((dats m 0 c).after 31 t) c (fun d => d) (fun d => d) iprop(∃ r, prngReg c r) ((dats m 0 c).owesAt () t.castSucc))
    (fun _ s hs => scatter (st0_0 t) (st0_1 t) (st0_2 t) (st0_3 t) (st0_4 t) (st0_5 t) (st0_6 t) (st0_7 t) (st0_8 t) (st0_9 t) (st0_10 t) (st0_11 t) (st0_12 t) (st0_13 t) (st0_14 t) (st0_15 t) (st0_16 t) (st0_17 t) (st0_18 t) (st0_19 t) (st0_20 t) (st0_21 t) (st0_22 t) (st0_23 t) (st0_24 t) (st0_25 t) (st0_26 t) (st0_27 t) (st0_28 t) (st0_29 t) (st0_30 t) (st0_31 t) (st0_32 t) (st0_33 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9) (Memref.whole cc0_scratch10) ((dats m 0 c).after 0 t) ((dats m 0 c).after 1 t) ((dats m 0 c).after 2 t) ((dats m 0 c).after 3 t) ((dats m 0 c).after 4 t) ((dats m 0 c).after 5 t) ((dats m 0 c).after 6 t) ((dats m 0 c).after 7 t) ((dats m 0 c).after 8 t) ((dats m 0 c).after 9 t) ((dats m 0 c).after 10 t) ((dats m 0 c).after 11 t) ((dats m 0 c).after 12 t) ((dats m 0 c).after 13 t) ((dats m 0 c).after 14 t) ((dats m 0 c).after 15 t) ((dats m 0 c).after 16 t) ((dats m 0 c).after 17 t) ((dats m 0 c).after 18 t) ((dats m 0 c).after 19 t) ((dats m 0 c).after 20 t) ((dats m 0 c).after 21 t) ((dats m 0 c).after 22 t) ((dats m 0 c).after 23 t) ((dats m 0 c).after 24 t) ((dats m 0 c).after 25 t) ((dats m 0 c).after 26 t) ((dats m 0 c).after 27 t) ((dats m 0 c).after 28 t) ((dats m 0 c).after 29 t) ((dats m 0 c).after 30 t) ((dats m 0 c).after 31 t) c s iprop(∃ r, prngReg c r) ((dats m 0 c).owesAt () t.castSucc) _ (owns (c : Thread nD τ) (st0_33 t) fullShare ((dats m 0 c).after 33 t)) (forgotten c _)
      (by rw [hs.trans (after_adj' m c t).symm]))
  simp only [owns_whole] at hb
  refine triple_restated hb rfl ?_ ?_
  · simp only [before_eq m c 0 rfl, before_eq m c 1 rfl, before_eq m c 2 rfl, before_eq m c 3 rfl, before_eq m c 4 rfl, before_eq m c 5 rfl, before_eq m c 6 rfl, before_eq m c 7 rfl, before_eq m c 8 rfl, before_eq m c 9 rfl, before_eq m c 10 rfl, before_eq m c 11 rfl, before_eq m c 12 rfl, before_eq m c 13 rfl, before_eq m c 14 rfl, before_eq m c 15 rfl, before_eq m c 16 rfl, before_eq m c 17 rfl, before_eq m c 18 rfl, before_eq m c 19 rfl, before_eq m c 20 rfl, before_eq m c 21 rfl, before_eq m c 22 rfl, before_eq m c 23 rfl, before_eq m c 24 rfl, before_eq m c 25 rfl, before_eq m c 26 rfl, before_eq m c 27 rfl, before_eq m c 28 rfl, before_eq m c 29 rfl, before_eq m c 30 rfl, before_eq m c 31 rfl]
    refine BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (?_)))))))))))))))))))))))))))))))))))
    all_goals first
      | exact BI.Entails.refl _
      | exact BI.sProp.exists_elim fun _ => BI.Entails.refl _
      | exact BI.sProp.exists_elim fun d => BI.sProp.exists_intro ((dats m 0 c).before 33 t d)
  · intro _
    refine BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (BI.sep_mono ?_ (?_)))))))))))))))))))))))))))))))))))
    all_goals exact BI.Entails.refl _

set_option backward.isDefEq.respectTransparency.types false in
/-- Running the launch: it ends, the windows' arrays are accounted for, and every counter is at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => body_obl m c) (hshare := fun c => (dats m 0 c).share_full fun _ => rfl)
    (howed := fun _ _ => rfl) (V := V m) (hmain := hmain m Variants.none) (hA := fun _ _ => rfl) (hΦ := fun _ _ => rfl) (hQ' := fun _ h => h)

/-- Every argument of device `c` holds in `r` what it held at the launch. -/
abbrev Kept (r : MemSt nD τ sig (Elt F)) (c : Dev nD) : Prop :=
  r.mem ((c.tc : Thread nD τ).loc main_arg0) = m ((c.tc : Thread nD τ).loc main_arg0)
  ∧ r.mem ((c.tc : Thread nD τ).loc main_arg1) = m ((c.tc : Thread nD τ).loc main_arg1)
  ∧ r.mem ((c.tc : Thread nD τ).loc main_arg2) = m ((c.tc : Thread nD τ).loc main_arg2)
  ∧ r.mem ((c.tc : Thread nD τ).loc main_arg3) = m ((c.tc : Thread nD τ).loc main_arg3)
  ∧ r.mem ((c.tc : Thread nD τ).loc main_arg4) = m ((c.tc : Thread nD τ).loc main_arg4)
  ∧ r.mem ((c.tc : Thread nD τ).loc main_arg5) = m ((c.tc : Thread nD τ).loc main_arg5)
  ∧ r.mem ((c.tc : Thread nD τ).loc main_arg6) = m ((c.tc : Thread nD τ).loc main_arg6)
  ∧ r.mem ((c.tc : Thread nD τ).loc main_arg7) = m ((c.tc : Thread nD τ).loc main_arg7)
  ∧ r.mem ((c.tc : Thread nD τ).loc main_arg8) = m ((c.tc : Thread nD τ).loc main_arg8)
  ∧ r.mem ((c.tc : Thread nD τ).loc main_arg9) = m ((c.tc : Thread nD τ).loc main_arg9)
  ∧ r.mem ((c.tc : Thread nD τ).loc main_arg10) = m ((c.tc : Thread nD τ).loc main_arg10)
  ∧ r.mem ((c.tc : Thread nD τ).loc main_arg11) = m ((c.tc : Thread nD τ).loc main_arg11)
  ∧ r.mem ((c.tc : Thread nD τ).loc main_arg12) = m ((c.tc : Thread nD τ).loc main_arg12)
  ∧ r.mem ((c.tc : Thread nD τ).loc main_arg13) = m ((c.tc : Thread nD τ).loc main_arg13)
  ∧ r.mem ((c.tc : Thread nD τ).loc main_arg14) = m ((c.tc : Thread nD τ).loc main_arg14)
  ∧ r.mem ((c.tc : Thread nD τ).loc main_arg15) = m ((c.tc : Thread nD τ).loc main_arg15)
  ∧ r.mem ((c.tc : Thread nD τ).loc main_arg16) = m ((c.tc : Thread nD τ).loc main_arg16)
  ∧ r.mem ((c.tc : Thread nD τ).loc main_arg17) = m ((c.tc : Thread nD τ).loc main_arg17)
  ∧ r.mem ((c.tc : Thread nD τ).loc main_arg18) = m ((c.tc : Thread nD τ).loc main_arg18)
  ∧ r.mem ((c.tc : Thread nD τ).loc main_arg19) = m ((c.tc : Thread nD τ).loc main_arg19)
  ∧ r.mem ((c.tc : Thread nD τ).loc main_arg20) = m ((c.tc : Thread nD τ).loc main_arg20)
  ∧ r.mem ((c.tc : Thread nD τ).loc main_arg21) = m ((c.tc : Thread nD τ).loc main_arg21)
  ∧ r.mem ((c.tc : Thread nD τ).loc main_arg22) = m ((c.tc : Thread nD τ).loc main_arg22)
  ∧ r.mem ((c.tc : Thread nD τ).loc main_arg23) = m ((c.tc : Thread nD τ).loc main_arg23)
  ∧ r.mem ((c.tc : Thread nD τ).loc main_arg24) = m ((c.tc : Thread nD τ).loc main_arg24)
  ∧ r.mem ((c.tc : Thread nD τ).loc main_arg25) = m ((c.tc : Thread nD τ).loc main_arg25)
  ∧ r.mem ((c.tc : Thread nD τ).loc main_arg26) = m ((c.tc : Thread nD τ).loc main_arg26)
  ∧ r.mem ((c.tc : Thread nD τ).loc main_arg27) = m ((c.tc : Thread nD τ).loc main_arg27)
  ∧ r.mem ((c.tc : Thread nD τ).loc main_arg28) = m ((c.tc : Thread nD τ).loc main_arg28)
  ∧ r.mem ((c.tc : Thread nD τ).loc main_arg29) = m ((c.tc : Thread nD τ).loc main_arg29)
  ∧ r.mem ((c.tc : Thread nD τ).loc main_arg30) = m ((c.tc : Thread nD τ).loc main_arg30)

/-- At the end of the launch every argument is as it was. -/
theorem kept {r : PUnit × MemSt nD τ sig (Elt F)} (h : Pipeline.RDat.FramePost cfg0 (fun c => (dats m 0 c).toRForget fgt) (V m) r) (c : Dev nD) : Kept m r.2 c :=
  ⟨(h.arr_in c 0 rfl).trans (V_main_arg0 m c),
      (h.arr_in c 1 rfl).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (h.arr_in c 4 rfl).trans (V_main_arg4 m c),
      (h.arr_in c 5 rfl).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      (h.arr_in c 9 rfl).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      (h.arr_in c 12 rfl).trans (V_main_arg12 m c),
      ((h c).2 main_arg13 (Pipeline.mem_restRefs_of main_arg13 (by decide) (by decide))).trans (V_main_arg13 m c),
      (h.arr_in c 14 rfl).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      (h.arr_in c 17 rfl).trans (V_main_arg17 m c),
      (h.arr_in c 18 rfl).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      (h.arr_in c 22 rfl).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      (h.arr_in c 27 rfl).trans (V_main_arg27 m c),
      ((h c).2 main_arg28 (Pipeline.mem_restRefs_of main_arg28 (by decide) (by decide))).trans (V_main_arg28 m c),
      (h.arr_in c 29 rfl).trans (V_main_arg29 m c),
      ((h c).2 main_arg30 (Pipeline.mem_restRefs_of main_arg30 (by decide) (by decide))).trans (V_main_arg30 m c)⟩

/-- The kernel terminates without a fault and leaves its arguments and the semaphore counters as they were. -/
theorem quiescent : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) ∧ r.2.sem = fun _ => 0) :=
  (θ_run defs _ _).mono (fun _ h => ⟨fun c => kept m h.1 c, h.2⟩) (run_main m ρ)

end Cert.KernelIdeal.Hand
-- ==== Proof.KernelIdealGraph.lean ====
/-
  What the kernel's second result holds after the launch: the graph of the first embedding and the second one transposed.
-/
module

public import proofs.«01_k».proof.Proof.KernelIdealFrame
public import Idealize.ShloMosaic.Lib.StableHlo

@[expose] public section

noncomputable section

namespace Cert.KernelIdeal.Hand

open Cert.KernelIdeal Cert.KernelIdeal.Gen Cert.Calc
open Idealize.ShloMosaic Idealize.ShloMosaic.TcCoe Idealize.ShloMosaic.Tactic
open Idealize.SL Idealize.SL.RA Idealize.SL.Sem
open Idealize.ShloMosaic.Pipeline (Dat Cfg Window)

variable {F : FTy → Type} [FloatOps F] [Named F]
variable (m : (ℓ : Loc nD τ sig) → Buf (Elt F) ℓ) (ρ : Dev nD → PrngReg)

/-- The first embedding's block is the whole array. -/
theorem blk_e1 (A : S256x16.Idx → Elt F .f32) (t : Fin cfg0.N) (d : S256x16.Idx → Elt F .f32) :
    ((cfg0.win 12).fill (cfg0.grid.coords t) d (((cfg0.win 12).blk t).view.read (Elt F) A) : S256x16.Idx → Elt F .f32) = A := by
  funext i
  show A (((cfg0.win 12).blk t).view.emb _) = A i
  refine congrArg A (funext fun a => Fin.ext ?_)
  fin_cases a
  · show 0 * 256 + 1 * (i 0).val = (i 0).val
    omega
  · show 0 * 16 + 1 * (i 1).val = (i 1).val
    omega

/-- The second embedding's block, transposed, is the whole array. -/
theorem blk_e2 (A : S16x256.Idx → Elt F .f32) (t : Fin cfg0.N) (d : S16x256.Idx → Elt F .f32) :
    ((cfg0.win 13).fill (cfg0.grid.coords t) d (((cfg0.win 13).blk t).view.read (Elt F) A) : S16x256.Idx → Elt F .f32) = A := by
  funext i
  show A (((cfg0.win 13).blk t).view.emb _) = A i
  refine congrArg A (funext fun a => Fin.ext ?_)
  fin_cases a
  · show 0 * 16 + 1 * (i 0).val = (i 0).val
    omega
  · show 0 * 256 + 1 * (i 1).val = (i 1).val
    omega

/-- The second embedding reaches the launch transposed. -/
theorem V_e2 (c : Dev nD) : V m c main_v16 = transpose S16x256 [1, 0] (m ((c : Thread nD τ).loc main_arg13)) transposes_S256x16_S16x256_1_0 := by
  show StableHlo.after (List.flatten [hostOps0, hostOps0_1, hostOps0_2]) (fun b => m (c, b)) (Proc.devRef .tc main_v16) = _
  simp only [hostOps0, hostOps0_1, hostOps0_2, List.flatten_cons, List.flatten_nil, List.append_nil, List.cons_append, List.nil_append]
  after_results

/-- The graph's window after the body, at every grid point. -/
theorem after_graph (c : Dev nD) (t : Fin cfg0.N) : (dats m 0 c).after 33 t
    = adjOf (m ((c : Thread nD τ).loc main_arg12)) (transpose S16x256 [1, 0] (m ((c : Thread nD τ).loc main_arg13)) transposes_S256x16_S16x256_1_0) := by
  rw [after_adj]
  exact congrArg₂ adjOf ((blk_e1 (V m c main_arg12) t _).trans (V_main_arg12 m c)) ((blk_e2 (V m c main_v16) t _).trans (V_e2 m c))

/-- What the second result's array ends holding. -/
theorem arr_graph (c : Dev nD) : (dats m 0 c).arrAt 33 cfg0.N
    = adjOf (m ((c : Thread nD τ).loc main_arg12)) (transpose S16x256 [1, 0] (m ((c : Thread nD τ).loc main_arg13)) transposes_S256x16_S16x256_1_0) := by
  have h : (cfg0.win 33).WholeAt ⟨7, by decide⟩ := by decide +kernel
  refine (dats m 0 c).arrAt_eq_of_after_last 33 ⟨7, by decide⟩ h _ fun j => ?_
  rw [after_graph]
  rfl

/-- The kernel runs to its end, with its second result the graph of its two embeddings and its arguments as they were. -/
theorem graph : θ_run defs (onTc (τ := τ) (main (F := F))) (s₀ m ρ) (fun r => ∀ c : Dev nD,
      r.2.mem ((c.tc : Thread nD τ).loc main_v28_1)
        = adjOf (m ((c : Thread nD τ).loc main_arg12)) (transpose S16x256 [1, 0] (m ((c : Thread nD τ).loc main_arg13)) transposes_S256x16_S16x256_1_0)
      ∧ Kept m r.2 c) :=
  (θ_run defs _ _).mono (fun r h c => ⟨(((dats m 0 c).toRForget_arrAt_iff (fgt := fgt) (w := 33) rfl _ _).mp ((h.1 c).1 33)).trans (arr_graph m c), kept m h.1 c⟩)
    (run_main m ρ)

end Cert.KernelIdeal.Hand
-- ==== Proof.RefRun.lean ====
/-
  The reference's run: its operations as lists, and what the buffers hold after the operations before the first scan, after
  the first scan, between the two, after the second and at the end. From it the reference's frame.
-/
module

public import proofs.«01_k».proof.Proof.Gen.ReferenceIdeal
public import Idealize.ShloMosaic.Lib.Pipeline.RegionsLoop
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.ReferenceIdeal Cert.ReferenceIdeal.Gen
open Idealize.ShloMosaic.StableHlo (Plain after afterL)

variable {F : FTy → Type} [FloatOps F]

/-! ## The operations -/

/-- The operations of `pad`. -/
abbrev fn_pad_ops (arg0 : StableHlo.TRef sig ⟨S32x256x1024, .f32⟩) (arg1 : StableHlo.TRef sig ⟨S_, .i32⟩) (φ : fn_pad.Bufs) : List (HloOp τ sig (Elt F)) :=
  [ StableHlo.TRef.unary arg1 φ.v0 (sitofp .f32),
    StableHlo.TRef.binary arg0 φ.v0 φ.v1 (fun x v => pad S32x259x1024 ![0, 3, 0] ![0, 0, 0] ![0, 0, 0] x v pads_S32x256x1024_S32x259x1024_000_300_000 h_S_) ]

/-- The operations of `silu`. -/
abbrev fn_silu_ops (arg0 : StableHlo.TRef sig ⟨S32x256x1024, .f32⟩) (φ : fn_silu.Bufs) : List (HloOp τ sig (Elt F)) :=
  [ StableHlo.TRef.unary arg0 φ.v0 Host.negf,
    StableHlo.TRef.unary φ.v0 φ.v1 Host.exp,
    StableHlo.TRef.nullary φ.cst (constant S_ .f32 0x3F800000#32),
    StableHlo.TRef.unary φ.cst φ.v2 (broadcastInDim S32x256x1024 ![] bcast_S_S32x256x1024),
    StableHlo.TRef.binary φ.v2 φ.v1 φ.v3 addf,
    StableHlo.TRef.nullary φ.cst_0 (constant S_ .f32 0x3F800000#32),
    StableHlo.TRef.unary φ.cst_0 φ.v4 (broadcastInDim S32x256x1024 ![] bcast_S_S32x256x1024),
    StableHlo.TRef.binary φ.v4 φ.v3 φ.v5 Host.divf,
    StableHlo.TRef.binary arg0 φ.v5 φ.v6 mulf ]

/-- The operations of `softplus`. -/
abbrev fn_softplus_ops (arg0 : StableHlo.TRef sig ⟨S32x256x1024, .f32⟩) (φ : fn_softplus.Bufs) : List (HloOp τ sig (Elt F)) :=
  [ StableHlo.TRef.nullary φ.cst (constant S_ .f32 0x00000000#32),
    StableHlo.TRef.unary φ.cst φ.v0 (broadcastInDim S32x256x1024 ![] bcast_S_S32x256x1024),
    StableHlo.TRef.binary arg0 φ.v0 φ.v1 maximumf,
    StableHlo.TRef.unary φ.cst φ.v2 (broadcastInDim S32x256x1024 ![] bcast_S_S32x256x1024),
    StableHlo.TRef.binary arg0 φ.v2 φ.v3 subf,
    StableHlo.TRef.binary φ.v3 φ.v3 φ.v4 (cmpf .une),
    StableHlo.TRef.unary φ.cst φ.v5 (broadcastInDim S32x256x1024 ![] bcast_S_S32x256x1024),
    StableHlo.TRef.binary arg0 φ.v5 φ.v6 addf,
    StableHlo.TRef.unary φ.v3 φ.v7 Host.absf,
    StableHlo.TRef.unary φ.v7 φ.v8 Host.negf,
    StableHlo.TRef.unary φ.v8 φ.v9 Host.exp,
    StableHlo.TRef.unary φ.v9 φ.v10 Host.log1p,
    StableHlo.TRef.binary φ.v1 φ.v10 φ.v11 addf,
    StableHlo.TRef.ternary φ.v4 φ.v6 φ.v11 φ.v12 select ]

/-- The operations of `dynamic_index_in_dim`. -/
abbrev fn_dynamic_index_in_dim_ops (arg0 : StableHlo.TRef sig ⟨S256x32x1024x16, .f32⟩) (arg1 : StableHlo.TRef sig ⟨S_, .i32⟩) (φ : fn_dynamic_index_in_dim.Bufs) : List (HloOp τ sig (Elt F)) :=
  [ StableHlo.TRef.nullary φ.c (constantI S_ 32 0#32),
    StableHlo.TRef.nullary φ.c_0 (constantI S_ 32 0#32),
    StableHlo.TRef.nullary φ.c_1 (constantI S_ 32 0#32),
    StableHlo.TRef.unaryIndexed arg0 ![arg1, φ.c, φ.c_0, φ.c_1] φ.v0 (fun x i => Host.dynamicSlice S1x32x1024x16 x (fun k => (i k (Shape.Idx.first h_S_)).toInt) sliceFits_S256x32x1024x16_S1x32x1024x16),
    StableHlo.TRef.reshape φ.v0 φ.v1 (rfl : (.f32 : EltTy) = .f32) shapeCasts_S1x32x1024x16_S32x1024x16 ]

/-- The operations of `dynamic_index_in_dim_0`. -/
abbrev fn_dynamic_index_in_dim_0_ops (arg0 : StableHlo.TRef sig ⟨S256x32x16, .f32⟩) (arg1 : StableHlo.TRef sig ⟨S_, .i32⟩) (φ : fn_dynamic_index_in_dim_0.Bufs) : List (HloOp τ sig (Elt F)) :=
  [ StableHlo.TRef.nullary φ.c (constantI S_ 32 0#32),
    StableHlo.TRef.nullary φ.c_0 (constantI S_ 32 0#32),
    StableHlo.TRef.unaryIndexed arg0 ![arg1, φ.c, φ.c_0] φ.v0 (fun x i => Host.dynamicSlice S1x32x16 x (fun k => (i k (Shape.Idx.first h_S_)).toInt) sliceFits_S256x32x16_S1x32x16),
    StableHlo.TRef.reshape φ.v0 φ.v1 (rfl : (.f32 : EltTy) = .f32) shapeCasts_S1x32x16_S32x16 ]

/-- The operations of `dynamic_update_index_in_dim`. -/
abbrev fn_dynamic_update_index_in_dim_ops (arg0 : StableHlo.TRef sig ⟨S256x32x1024, .f32⟩) (arg1 : StableHlo.TRef sig ⟨S32x1024, .f32⟩) (arg2 : StableHlo.TRef sig ⟨S_, .i32⟩) (φ : fn_dynamic_update_index_in_dim.Bufs) : List (HloOp τ sig (Elt F)) :=
  [ StableHlo.TRef.unary arg1 φ.v0 (broadcastInDim S1x32x1024 ![1, 2] bcast_S32x1024_S1x32x1024_1_2),
    StableHlo.TRef.nullary φ.c (constantI S_ 32 0#32),
    StableHlo.TRef.nullary φ.c_0 (constantI S_ 32 0#32),
    StableHlo.TRef.binaryIndexed arg0 φ.v0 ![arg2, φ.c, φ.c_0] φ.v1 (fun x u i => Host.dynamicUpdateSlice x u (fun k => (i k (Shape.Idx.first h_S_)).toInt) updateFits_S256x32x1024_S1x32x1024) ]

/-- The operations of `relu`. -/
abbrev fn_relu_ops (arg0 : StableHlo.TRef sig ⟨S256x256, .f32⟩) (φ : fn_relu.Bufs) : List (HloOp τ sig (Elt F)) :=
  [ StableHlo.TRef.nullary φ.cst (constant S_ .f32 0x00000000#32),
    StableHlo.TRef.unary φ.cst φ.v0 (broadcastInDim S256x256 ![] bcast_S_S256x256),
    StableHlo.TRef.binary arg0 φ.v0 φ.v1 maximumf ]

abbrev p0_0 : List (HloOp τ sig (Elt F)) :=
  [ StableHlo.unary main_arg0 main_v0 ((extractStridedSlice S32x1x512 ![0, 0, 0] · slices_S32x256x512_S32x1x512_0_0_0) : (⟨S32x256x512, .f32⟩ : BufTy).Contents (Elt F) → (⟨S32x1x512, .f32⟩ : BufTy).Contents (Elt F)),
    StableHlo.unary main_arg0 main_v1 ((extractStridedSlice S32x255x512 ![0, 1, 0] · slices_S32x256x512_S32x255x512_0_1_0) : (⟨S32x256x512, .f32⟩ : BufTy).Contents (Elt F) → (⟨S32x255x512, .f32⟩ : BufTy).Contents (Elt F)),
    StableHlo.unary main_arg0 main_v2 ((extractStridedSlice S32x255x512 ![0, 0, 0] · slices_S32x256x512_S32x255x512_0_0_0) : (⟨S32x256x512, .f32⟩ : BufTy).Contents (Elt F) → (⟨S32x255x512, .f32⟩ : BufTy).Contents (Elt F)),
    StableHlo.binary main_v1 main_v2 main_v3 (subf : (⟨S32x255x512, .f32⟩ : BufTy).Contents (Elt F) → (⟨S32x255x512, .f32⟩ : BufTy).Contents (Elt F) → (⟨S32x255x512, .f32⟩ : BufTy).Contents (Elt F)),
    StableHlo.binary main_v0 main_v3 main_v4 ((fun a b => concatenate S32x256x512 1 [⟨S32x1x512, a⟩, ⟨S32x255x512, b⟩] concatenates_S32x1x512_S32x255x512_S32x256x512_d1) : (⟨S32x1x512, .f32⟩ : BufTy).Contents (Elt F) → (⟨S32x255x512, .f32⟩ : BufTy).Contents (Elt F) → (⟨S32x256x512, .f32⟩ : BufTy).Contents (Elt F)),
    StableHlo.binary main_v4 main_arg1 main_v5 ((fun l r => Host.dotGeneral dot_S32x256x512_S512x2048_S32x256x2048_2_0_01_1_n_n none l r) : (⟨S32x256x512, .f32⟩ : BufTy).Contents (Elt F) → (⟨S512x2048, .f32⟩ : BufTy).Contents (Elt F) → (⟨S32x256x2048, .f32⟩ : BufTy).Contents (Elt F)),
    StableHlo.unary main_v5 main_v6 ((extractStridedSlice S32x256x1024 ![0, 0, 0] · slices_S32x256x2048_S32x256x1024_0_0_0) : (⟨S32x256x2048, .f32⟩ : BufTy).Contents (Elt F) → (⟨S32x256x1024, .f32⟩ : BufTy).Contents (Elt F)),
    StableHlo.unary main_v5 main_v7 ((extractStridedSlice S32x256x1024 ![0, 0, 1024] · slices_S32x256x2048_S32x256x1024_0_0_1024) : (⟨S32x256x2048, .f32⟩ : BufTy).Contents (Elt F) → (⟨S32x256x1024, .f32⟩ : BufTy).Contents (Elt F)),
    StableHlo.nullary main_c (constantI S_ 32 0#32) ]
abbrev p0_0_W : List (Ref sig .tc) := [main_v0, main_v1, main_v2, main_v3, main_v4, main_v5, main_v6, main_v7, main_c]
abbrev p0_1 : List (HloOp τ sig (Elt F)) := fn_pad_ops (.of main_v6) (.of main_c) main_call0
abbrev p0_1_W : List (Ref sig .tc) := [main_call0_v0, main_v8]
abbrev p0_2 : List (HloOp τ sig (Elt F)) :=
  [ StableHlo.unary main_v8 main_v9 ((extractStridedSlice S32x256x1024 ![0, 0, 0] · slices_S32x259x1024_S32x256x1024_0_0_0) : (⟨S32x259x1024, .f32⟩ : BufTy).Contents (Elt F) → (⟨S32x256x1024, .f32⟩ : BufTy).Contents (Elt F)),
    StableHlo.unary main_arg2 main_v10 ((extractStridedSlice S1024x1 ![0, 0] · slices_S1024x4_S1024x1_0_0) : (⟨S1024x4, .f32⟩ : BufTy).Contents (Elt F) → (⟨S1024x1, .f32⟩ : BufTy).Contents (Elt F)),
    StableHlo.reshape main_v10 main_v11 (rfl : (.f32 : EltTy) = .f32) shapeCasts_S1024x1_S1024,
    StableHlo.unary main_v11 main_v12 (broadcastInDim S1x1x1024 ![2] bcast_S1024_S1x1x1024_2 : (⟨S1024, .f32⟩ : BufTy).Contents (Elt F) → (⟨S1x1x1024, .f32⟩ : BufTy).Contents (Elt F)),
    StableHlo.unary main_v12 main_v13 (broadcastInDim S32x256x1024 ![0, 1, 2] bcast_S1x1x1024_S32x256x1024_0_1_2 : (⟨S1x1x1024, .f32⟩ : BufTy).Contents (Elt F) → (⟨S32x256x1024, .f32⟩ : BufTy).Contents (Elt F)),
    StableHlo.binary main_v9 main_v13 main_v14 (mulf : (⟨S32x256x1024, .f32⟩ : BufTy).Contents (Elt F) → (⟨S32x256x1024, .f32⟩ : BufTy).Contents (Elt F) → (⟨S32x256x1024, .f32⟩ : BufTy).Contents (Elt F)),
    StableHlo.nullary main_cst (constant S_ .f32 0x00000000#32),
    StableHlo.unary main_cst main_v15 (broadcastInDim S32x256x1024 ![] bcast_S_S32x256x1024 : (⟨S_, .f32⟩ : BufTy).Contents (Elt F) → (⟨S32x256x1024, .f32⟩ : BufTy).Contents (Elt F)),
    StableHlo.binary main_v15 main_v14 main_v16 (addf : (⟨S32x256x1024, .f32⟩ : BufTy).Contents (Elt F) → (⟨S32x256x1024, .f32⟩ : BufTy).Contents (Elt F) → (⟨S32x256x1024, .f32⟩ : BufTy).Contents (Elt F)),
    StableHlo.unary main_v8 main_v17 ((extractStridedSlice S32x256x1024 ![0, 1, 0] · slices_S32x259x1024_S32x256x1024_0_1_0) : (⟨S32x259x1024, .f32⟩ : BufTy).Contents (Elt F) → (⟨S32x256x1024, .f32⟩ : BufTy).Contents (Elt F)),
    StableHlo.unary main_arg2 main_v18 ((extractStridedSlice S1024x1 ![0, 1] · slices_S1024x4_S1024x1_0_1) : (⟨S1024x4, .f32⟩ : BufTy).Contents (Elt F) → (⟨S1024x1, .f32⟩ : BufTy).Contents (Elt F)),
    StableHlo.reshape main_v18 main_v19 (rfl : (.f32 : EltTy) = .f32) shapeCasts_S1024x1_S1024,
    StableHlo.unary main_v19 main_v20 (broadcastInDim S1x1x1024 ![2] bcast_S1024_S1x1x1024_2 : (⟨S1024, .f32⟩ : BufTy).Contents (Elt F) → (⟨S1x1x1024, .f32⟩ : BufTy).Contents (Elt F)),
    StableHlo.unary main_v20 main_v21 (broadcastInDim S32x256x1024 ![0, 1, 2] bcast_S1x1x1024_S32x256x1024_0_1_2 : (⟨S1x1x1024, .f32⟩ : BufTy).Contents (Elt F) → (⟨S32x256x1024, .f32⟩ : BufTy).Contents (Elt F)),
    StableHlo.binary main_v17 main_v21 main_v22 (mulf : (⟨S32x256x1024, .f32⟩ : BufTy).Contents (Elt F) → (⟨S32x256x1024, .f32⟩ : BufTy).Contents (Elt F) → (⟨S32x256x1024, .f32⟩ : BufTy).Contents (Elt F)),
    StableHlo.binary main_v16 main_v22 main_v23 (addf : (⟨S32x256x1024, .f32⟩ : BufTy).Contents (Elt F) → (⟨S32x256x1024, .f32⟩ : BufTy).Contents (Elt F) → (⟨S32x256x1024, .f32⟩ : BufTy).Contents (Elt F)),
    StableHlo.unary main_v8 main_v24 ((extractStridedSlice S32x256x1024 ![0, 2, 0] · slices_S32x259x1024_S32x256x1024_0_2_0) : (⟨S32x259x1024, .f32⟩ : BufTy).Contents (Elt F) → (⟨S32x256x1024, .f32⟩ : BufTy).Contents (Elt F)),
    StableHlo.unary main_arg2 main_v25 ((extractStridedSlice S1024x1 ![0, 2] · slices_S1024x4_S1024x1_0_2) : (⟨S1024x4, .f32⟩ : BufTy).Contents (Elt F) → (⟨S1024x1, .f32⟩ : BufTy).Contents (Elt F)),
    StableHlo.reshape main_v25 main_v26 (rfl : (.f32 : EltTy) = .f32) shapeCasts_S1024x1_S1024,
    StableHlo.unary main_v26 main_v27 (broadcastInDim S1x1x1024 ![2] bcast_S1024_S1x1x1024_2 : (⟨S1024, .f32⟩ : BufTy).Contents (Elt F) → (⟨S1x1x1024, .f32⟩ : BufTy).Contents (Elt F)),
    StableHlo.unary main_v27 main_v28 (broadcastInDim S32x256x1024 ![0, 1, 2] bcast_S1x1x1024_S32x256x1024_0_1_2 : (⟨S1x1x1024, .f32⟩ : BufTy).Contents (Elt F) → (⟨S32x256x1024, .f32⟩ : BufTy).Contents (Elt F)),
    StableHlo.binary main_v24 main_v28 main_v29 (mulf : (⟨S32x256x1024, .f32⟩ : BufTy).Contents (Elt F) → (⟨S32x256x1024, .f32⟩ : BufTy).Contents (Elt F) → (⟨S32x256x1024, .f32⟩ : BufTy).Contents (Elt F)),
    StableHlo.binary main_v23 main_v29 main_v30 (addf : (⟨S32x256x1024, .f32⟩ : BufTy).Contents (Elt F) → (⟨S32x256x1024, .f32⟩ : BufTy).Contents (Elt F) → (⟨S32x256x1024, .f32⟩ : BufTy).Contents (Elt F)),
    StableHlo.unary main_v8 main_v31 ((extractStridedSlice S32x256x1024 ![0, 3, 0] · slices_S32x259x1024_S32x256x1024_0_3_0) : (⟨S32x259x1024, .f32⟩ : BufTy).Contents (Elt F) → (⟨S32x256x1024, .f32⟩ : BufTy).Contents (Elt F)),
    StableHlo.unary main_arg2 main_v32 ((extractStridedSlice S1024x1 ![0, 3] · slices_S1024x4_S1024x1_0_3) : (⟨S1024x4, .f32⟩ : BufTy).Contents (Elt F) → (⟨S1024x1, .f32⟩ : BufTy).Contents (Elt F)),
    StableHlo.reshape main_v32 main_v33 (rfl : (.f32 : EltTy) = .f32) shapeCasts_S1024x1_S1024,
    StableHlo.unary main_v33 main_v34 (broadcastInDim S1x1x1024 ![2] bcast_S1024_S1x1x1024_2 : (⟨S1024, .f32⟩ : BufTy).Contents (Elt F) → (⟨S1x1x1024, .f32⟩ : BufTy).Contents (Elt F)),
    StableHlo.unary main_v34 main_v35 (broadcastInDim S32x256x1024 ![0, 1, 2] bcast_S1x1x1024_S32x256x1024_0_1_2 : (⟨S1x1x1024, .f32⟩ : BufTy).Contents (Elt F) → (⟨S32x256x1024, .f32⟩ : BufTy).Contents (Elt F)),
    StableHlo.binary main_v31 main_v35 main_v36 (mulf : (⟨S32x256x1024, .f32⟩ : BufTy).Contents (Elt F) → (⟨S32x256x1024, .f32⟩ : BufTy).Contents (Elt F) → (⟨S32x256x1024, .f32⟩ : BufTy).Contents (Elt F)),
    StableHlo.binary main_v30 main_v36 main_v37 (addf : (⟨S32x256x1024, .f32⟩ : BufTy).Contents (Elt F) → (⟨S32x256x1024, .f32⟩ : BufTy).Contents (Elt F) → (⟨S32x256x1024, .f32⟩ : BufTy).Contents (Elt F)),
    StableHlo.unary main_arg3 main_v38 (broadcastInDim S1x1x1024 ![2] bcast_S1024_S1x1x1024_2 : (⟨S1024, .f32⟩ : BufTy).Contents (Elt F) → (⟨S1x1x1024, .f32⟩ : BufTy).Contents (Elt F)),
    StableHlo.unary main_v38 main_v39 (broadcastInDim S32x256x1024 ![0, 1, 2] bcast_S1x1x1024_S32x256x1024_0_1_2 : (⟨S1x1x1024, .f32⟩ : BufTy).Contents (Elt F) → (⟨S32x256x1024, .f32⟩ : BufTy).Contents (Elt F)),
    StableHlo.binary main_v37 main_v39 main_v40 (addf : (⟨S32x256x1024, .f32⟩ : BufTy).Contents (Elt F) → (⟨S32x256x1024, .f32⟩ : BufTy).Contents (Elt F) → (⟨S32x256x1024, .f32⟩ : BufTy).Contents (Elt F)) ]
abbrev p0_2_W : List (Ref sig .tc) := [main_v9, main_v10, main_v11, main_v12, main_v13, main_v14, main_cst, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40]
abbrev p0_3 : List (HloOp τ sig (Elt F)) := fn_silu_ops (.of main_v40) main_call1
abbrev p0_3_W : List (Ref sig .tc) := [main_call1_v0, main_call1_v1, main_call1_cst, main_call1_v2, main_call1_v3, main_call1_cst_0, main_call1_v4, main_call1_v5, main_v41]
abbrev p0_4 : List (HloOp τ sig (Elt F)) :=
  [ StableHlo.binary main_v41 main_arg4 main_v42 ((fun l r => Host.dotGeneral dot_S32x256x1024_S1024x64_S32x256x64_2_0_01_1_n_n none l r) : (⟨S32x256x1024, .f32⟩ : BufTy).Contents (Elt F) → (⟨S1024x64, .f32⟩ : BufTy).Contents (Elt F) → (⟨S32x256x64, .f32⟩ : BufTy).Contents (Elt F)),
    StableHlo.unary main_v42 main_v43 ((extractStridedSlice S32x256x32 ![0, 0, 0] · slices_S32x256x64_S32x256x32_0_0_0) : (⟨S32x256x64, .f32⟩ : BufTy).Contents (Elt F) → (⟨S32x256x32, .f32⟩ : BufTy).Contents (Elt F)),
    StableHlo.unary main_v42 main_v44 ((extractStridedSlice S32x256x16 ![0, 0, 32] · slices_S32x256x64_S32x256x16_0_0_32) : (⟨S32x256x64, .f32⟩ : BufTy).Contents (Elt F) → (⟨S32x256x16, .f32⟩ : BufTy).Contents (Elt F)),
    StableHlo.unary main_v42 main_v45 ((extractStridedSlice S32x256x16 ![0, 0, 48] · slices_S32x256x64_S32x256x16_0_0_48) : (⟨S32x256x64, .f32⟩ : BufTy).Contents (Elt F) → (⟨S32x256x16, .f32⟩ : BufTy).Contents (Elt F)),
    StableHlo.binary main_v43 main_arg5 main_v46 ((fun l r => Host.dotGeneral dot_S32x256x32_S32x1024_S32x256x1024_2_0_01_1_n_n none l r) : (⟨S32x256x32, .f32⟩ : BufTy).Contents (Elt F) → (⟨S32x1024, .f32⟩ : BufTy).Contents (Elt F) → (⟨S32x256x1024, .f32⟩ : BufTy).Contents (Elt F)),
    StableHlo.unary main_arg6 main_v47 (broadcastInDim S1x1x1024 ![2] bcast_S1024_S1x1x1024_2 : (⟨S1024, .f32⟩ : BufTy).Contents (Elt F) → (⟨S1x1x1024, .f32⟩ : BufTy).Contents (Elt F)),
    StableHlo.unary main_v47 main_v48 (broadcastInDim S32x256x1024 ![0, 1, 2] bcast_S1x1x1024_S32x256x1024_0_1_2 : (⟨S1x1x1024, .f32⟩ : BufTy).Contents (Elt F) → (⟨S32x256x1024, .f32⟩ : BufTy).Contents (Elt F)),
    StableHlo.binary main_v46 main_v48 main_v49 (addf : (⟨S32x256x1024, .f32⟩ : BufTy).Contents (Elt F) → (⟨S32x256x1024, .f32⟩ : BufTy).Contents (Elt F) → (⟨S32x256x1024, .f32⟩ : BufTy).Contents (Elt F)) ]
abbrev p0_4_W : List (Ref sig .tc) := [main_v42, main_v43, main_v44, main_v45, main_v46, main_v47, main_v48, main_v49]
abbrev p0_5 : List (HloOp τ sig (Elt F)) := fn_softplus_ops (.of main_v49) main_call2
abbrev p0_5_W : List (Ref sig .tc) := [main_call2_cst, main_call2_v0, main_call2_v1, main_call2_v2, main_call2_v3, main_call2_v4, main_call2_v5, main_call2_v6, main_call2_v7, main_call2_v8, main_call2_v9, main_call2_v10, main_call2_v11, main_v50]
abbrev p0_6 : List (HloOp τ sig (Elt F)) :=
  [ StableHlo.unary main_arg7 main_v51 (Host.exp : (⟨S1024x16, .f32⟩ : BufTy).Contents (Elt F) → (⟨S1024x16, .f32⟩ : BufTy).Contents (Elt F)),
    StableHlo.unary main_v51 main_v52 (Host.negf : (⟨S1024x16, .f32⟩ : BufTy).Contents (Elt F) → (⟨S1024x16, .f32⟩ : BufTy).Contents (Elt F)),
    StableHlo.unary main_v50 main_v53 (broadcastInDim S32x256x1024x1 ![0, 1, 2] bcast_S32x256x1024_S32x256x1024x1_0_1_2 : (⟨S32x256x1024, .f32⟩ : BufTy).Contents (Elt F) → (⟨S32x256x1024x1, .f32⟩ : BufTy).Contents (Elt F)),
    StableHlo.unary main_v52 main_v54 (broadcastInDim S1x1x1024x16 ![2, 3] bcast_S1024x16_S1x1x1024x16_2_3 : (⟨S1024x16, .f32⟩ : BufTy).Contents (Elt F) → (⟨S1x1x1024x16, .f32⟩ : BufTy).Contents (Elt F)),
    StableHlo.unary main_v53 main_v55 (broadcastInDim S32x256x1024x16 ![0, 1, 2, 3] bcast_S32x256x1024x1_S32x256x1024x16_0_1_2_3 : (⟨S32x256x1024x1, .f32⟩ : BufTy).Contents (Elt F) → (⟨S32x256x1024x16, .f32⟩ : BufTy).Contents (Elt F)),
    StableHlo.unary main_v54 main_v56 (broadcastInDim S32x256x1024x16 ![0, 1, 2, 3] bcast_S1x1x1024x16_S32x256x1024x16_0_1_2_3 : (⟨S1x1x1024x16, .f32⟩ : BufTy).Contents (Elt F) → (⟨S32x256x1024x16, .f32⟩ : BufTy).Contents (Elt F)),
    StableHlo.binary main_v55 main_v56 main_v57 (mulf : (⟨S32x256x1024x16, .f32⟩ : BufTy).Contents (Elt F) → (⟨S32x256x1024x16, .f32⟩ : BufTy).Contents (Elt F) → (⟨S32x256x1024x16, .f32⟩ : BufTy).Contents (Elt F)) ]
abbrev p0_6_W : List (Ref sig .tc) := [main_v51, main_v52, main_v53, main_v54, main_v55, main_v56, main_v57]
abbrev p1_0 : List (HloOp τ sig (Elt F)) :=
  [ StableHlo.unary main_v57 main_v58 (Host.exp : (⟨S32x256x1024x16, .f32⟩ : BufTy).Contents (Elt F) → (⟨S32x256x1024x16, .f32⟩ : BufTy).Contents (Elt F)),
    StableHlo.unary main_v50 main_v59 (broadcastInDim S32x256x1024x1 ![0, 1, 2] bcast_S32x256x1024_S32x256x1024x1_0_1_2 : (⟨S32x256x1024, .f32⟩ : BufTy).Contents (Elt F) → (⟨S32x256x1024x1, .f32⟩ : BufTy).Contents (Elt F)),
    StableHlo.unary main_v44 main_v60 (broadcastInDim S32x256x1x16 ![0, 1, 3] bcast_S32x256x16_S32x256x1x16_0_1_3 : (⟨S32x256x16, .f32⟩ : BufTy).Contents (Elt F) → (⟨S32x256x1x16, .f32⟩ : BufTy).Contents (Elt F)),
    StableHlo.unary main_v59 main_v61 (broadcastInDim S32x256x1024x16 ![0, 1, 2, 3] bcast_S32x256x1024x1_S32x256x1024x16_0_1_2_3 : (⟨S32x256x1024x1, .f32⟩ : BufTy).Contents (Elt F) → (⟨S32x256x1024x16, .f32⟩ : BufTy).Contents (Elt F)),
    StableHlo.unary main_v60 main_v62 (broadcastInDim S32x256x1024x16 ![0, 1, 2, 3] bcast_S32x256x1x16_S32x256x1024x16_0_1_2_3 : (⟨S32x256x1x16, .f32⟩ : BufTy).Contents (Elt F) → (⟨S32x256x1024x16, .f32⟩ : BufTy).Contents (Elt F)),
    StableHlo.binary main_v61 main_v62 main_v63 (mulf : (⟨S32x256x1024x16, .f32⟩ : BufTy).Contents (Elt F) → (⟨S32x256x1024x16, .f32⟩ : BufTy).Contents (Elt F) → (⟨S32x256x1024x16, .f32⟩ : BufTy).Contents (Elt F)),
    StableHlo.unary main_v41 main_v64 (broadcastInDim S32x256x1024x1 ![0, 1, 2] bcast_S32x256x1024_S32x256x1024x1_0_1_2 : (⟨S32x256x1024, .f32⟩ : BufTy).Contents (Elt F) → (⟨S32x256x1024x1, .f32⟩ : BufTy).Contents (Elt F)),
    StableHlo.unary main_v64 main_v65 (broadcastInDim S32x256x1024x16 ![0, 1, 2, 3] bcast_S32x256x1024x1_S32x256x1024x16_0_1_2_3 : (⟨S32x256x1024x1, .f32⟩ : BufTy).Contents (Elt F) → (⟨S32x256x1024x16, .f32⟩ : BufTy).Contents (Elt F)),
    StableHlo.binary main_v63 main_v65 main_v66 (mulf : (⟨S32x256x1024x16, .f32⟩ : BufTy).Contents (Elt F) → (⟨S32x256x1024x16, .f32⟩ : BufTy).Contents (Elt F) → (⟨S32x256x1024x16, .f32⟩ : BufTy).Contents (Elt F)),
    StableHlo.nullary main_cst_0 (constant S_ .f32 0x00000000#32),
    StableHlo.unary main_cst_0 main_v67 (broadcastInDim S32x1024x16 ![] bcast_S_S32x1024x16 : (⟨S_, .f32⟩ : BufTy).Contents (Elt F) → (⟨S32x1024x16, .f32⟩ : BufTy).Contents (Elt F)),
    StableHlo.unary main_v58 main_v68 ((transpose S256x32x1024x16 [1, 0, 2, 3] · transposes_S32x256x1024x16_S256x32x1024x16_1_0_2_3) : (⟨S32x256x1024x16, .f32⟩ : BufTy).Contents (Elt F) → (⟨S256x32x1024x16, .f32⟩ : BufTy).Contents (Elt F)),
    StableHlo.unary main_v66 main_v69 ((transpose S256x32x1024x16 [1, 0, 2, 3] · transposes_S32x256x1024x16_S256x32x1024x16_1_0_2_3) : (⟨S32x256x1024x16, .f32⟩ : BufTy).Contents (Elt F) → (⟨S256x32x1024x16, .f32⟩ : BufTy).Contents (Elt F)),
    StableHlo.unary main_v45 main_v70 ((transpose S256x32x16 [1, 0, 2] · transposes_S32x256x16_S256x32x16_1_0_2) : (⟨S32x256x16, .f32⟩ : BufTy).Contents (Elt F) → (⟨S256x32x16, .f32⟩ : BufTy).Contents (Elt F)),
    StableHlo.nullary main_cst_1 (constant S_ .f32 0x00000000#32),
    StableHlo.unary main_cst_1 main_v71 (broadcastInDim S256x32x1024 ![] bcast_S_S256x32x1024 : (⟨S_, .f32⟩ : BufTy).Contents (Elt F) → (⟨S256x32x1024, .f32⟩ : BufTy).Contents (Elt F)),
    StableHlo.nullary main_c_2 (constantI S_ 32 0#32),
    StableHlo.unary main_v68 main_v72_0 id,
    StableHlo.unary main_v69 main_v72_1 id,
    StableHlo.unary main_v70 main_v72_2 id,
    StableHlo.unary main_c_2 main_v72_3 id,
    StableHlo.unary main_v67 main_v72_4 id,
    StableHlo.unary main_v71 main_v72_5 id ]
abbrev p1_0_W : List (Ref sig .tc) := [main_v58, main_v59, main_v60, main_v61, main_v62, main_v63, main_v64, main_v65, main_v66, main_cst_0, main_v67, main_v68, main_v69, main_v70, main_cst_1, main_v71, main_c_2, main_v72_0, main_v72_1, main_v72_2, main_v72_3, main_v72_4, main_v72_5]
abbrev p1_1 : List (HloOp τ sig (Elt F)) :=
  [ StableHlo.unary main_v72_5 main_v73 ((transpose S32x256x1024 [1, 0, 2] · transposes_S256x32x1024_S32x256x1024_1_0_2) : (⟨S256x32x1024, .f32⟩ : BufTy).Contents (Elt F) → (⟨S32x256x1024, .f32⟩ : BufTy).Contents (Elt F)),
    StableHlo.unary main_arg8 main_v74 (broadcastInDim S1x1x1024 ![2] bcast_S1024_S1x1x1024_2 : (⟨S1024, .f32⟩ : BufTy).Contents (Elt F) → (⟨S1x1x1024, .f32⟩ : BufTy).Contents (Elt F)),
    StableHlo.unary main_v74 main_v75 (broadcastInDim S32x256x1024 ![0, 1, 2] bcast_S1x1x1024_S32x256x1024_0_1_2 : (⟨S1x1x1024, .f32⟩ : BufTy).Contents (Elt F) → (⟨S32x256x1024, .f32⟩ : BufTy).Contents (Elt F)),
    StableHlo.binary main_v41 main_v75 main_v76 (mulf : (⟨S32x256x1024, .f32⟩ : BufTy).Contents (Elt F) → (⟨S32x256x1024, .f32⟩ : BufTy).Contents (Elt F) → (⟨S32x256x1024, .f32⟩ : BufTy).Contents (Elt F)),
    StableHlo.binary main_v73 main_v76 main_v77 (addf : (⟨S32x256x1024, .f32⟩ : BufTy).Contents (Elt F) → (⟨S32x256x1024, .f32⟩ : BufTy).Contents (Elt F) → (⟨S32x256x1024, .f32⟩ : BufTy).Contents (Elt F)) ]
abbrev p1_1_W : List (Ref sig .tc) := [main_v73, main_v74, main_v75, main_v76, main_v77]
abbrev p1_2 : List (HloOp τ sig (Elt F)) := fn_silu_ops (.of main_v7) main_call7
abbrev p1_2_W : List (Ref sig .tc) := [main_call7_v0, main_call7_v1, main_call7_cst, main_call7_v2, main_call7_v3, main_call7_cst_0, main_call7_v4, main_call7_v5, main_v78]
abbrev p1_3 : List (HloOp τ sig (Elt F)) :=
  [ StableHlo.binary main_v77 main_v78 main_v79 (mulf : (⟨S32x256x1024, .f32⟩ : BufTy).Contents (Elt F) → (⟨S32x256x1024, .f32⟩ : BufTy).Contents (Elt F) → (⟨S32x256x1024, .f32⟩ : BufTy).Contents (Elt F)),
    StableHlo.binary main_v79 main_arg9 main_v80 ((fun l r => Host.dotGeneral dot_S32x256x1024_S1024x512_S32x256x512_2_0_01_1_n_n none l r) : (⟨S32x256x1024, .f32⟩ : BufTy).Contents (Elt F) → (⟨S1024x512, .f32⟩ : BufTy).Contents (Elt F) → (⟨S32x256x512, .f32⟩ : BufTy).Contents (Elt F)),
    StableHlo.binary main_arg0 main_v80 main_v81 (addf : (⟨S32x256x512, .f32⟩ : BufTy).Contents (Elt F) → (⟨S32x256x512, .f32⟩ : BufTy).Contents (Elt F) → (⟨S32x256x512, .f32⟩ : BufTy).Contents (Elt F)),
    StableHlo.nullary main_cst_3 (constant S_ .f32 0x00000000#32),
    StableHlo.binary main_v81 main_cst_3 main_v82 ((fun x v => Host.reduceAdd x v reducesTo_S32x256x512_S32x256_d2 h_S_) : (⟨S32x256x512, .f32⟩ : BufTy).Contents (Elt F) → (⟨S_, .f32⟩ : BufTy).Contents (Elt F) → (⟨S32x256, .f32⟩ : BufTy).Contents (Elt F)),
    StableHlo.unary main_v82 main_v83 (broadcastInDim S32x256x1 ![0, 1] bcast_S32x256_S32x256x1_0_1 : (⟨S32x256, .f32⟩ : BufTy).Contents (Elt F) → (⟨S32x256x1, .f32⟩ : BufTy).Contents (Elt F)),
    StableHlo.nullary main_cst_4 (constant S_ .f32 0x44000000#32),
    StableHlo.unary main_cst_4 main_v84 (broadcastInDim S32x256x1 ![] bcast_S_S32x256x1 : (⟨S_, .f32⟩ : BufTy).Contents (Elt F) → (⟨S32x256x1, .f32⟩ : BufTy).Contents (Elt F)),
    StableHlo.binary main_v83 main_v84 main_v85 (Host.divf : (⟨S32x256x1, .f32⟩ : BufTy).Contents (Elt F) → (⟨S32x256x1, .f32⟩ : BufTy).Contents (Elt F) → (⟨S32x256x1, .f32⟩ : BufTy).Contents (Elt F)),
    StableHlo.unary main_v85 main_v86 (broadcastInDim S32x256x512 ![0, 1, 2] bcast_S32x256x1_S32x256x512_0_1_2 : (⟨S32x256x1, .f32⟩ : BufTy).Contents (Elt F) → (⟨S32x256x512, .f32⟩ : BufTy).Contents (Elt F)),
    StableHlo.binary main_v81 main_v86 main_v87 (subf : (⟨S32x256x512, .f32⟩ : BufTy).Contents (Elt F) → (⟨S32x256x512, .f32⟩ : BufTy).Contents (Elt F) → (⟨S32x256x512, .f32⟩ : BufTy).Contents (Elt F)),
    StableHlo.binary main_v87 main_v87 main_v88 (mulf : (⟨S32x256x512, .f32⟩ : BufTy).Contents (Elt F) → (⟨S32x256x512, .f32⟩ : BufTy).Contents (Elt F) → (⟨S32x256x512, .f32⟩ : BufTy).Contents (Elt F)),
    StableHlo.nullary main_cst_5 (constant S_ .f32 0x00000000#32),
    StableHlo.binary main_v88 main_cst_5 main_v89 ((fun x v => Host.reduceAdd x v reducesTo_S32x256x512_S32x256_d2 h_S_) : (⟨S32x256x512, .f32⟩ : BufTy).Contents (Elt F) → (⟨S_, .f32⟩ : BufTy).Contents (Elt F) → (⟨S32x256, .f32⟩ : BufTy).Contents (Elt F)),
    StableHlo.unary main_v89 main_v90 (broadcastInDim S32x256x1 ![0, 1] bcast_S32x256_S32x256x1_0_1 : (⟨S32x256, .f32⟩ : BufTy).Contents (Elt F) → (⟨S32x256x1, .f32⟩ : BufTy).Contents (Elt F)),
    StableHlo.nullary main_cst_6 (constant S_ .f32 0x44000000#32),
    StableHlo.unary main_cst_6 main_v91 (broadcastInDim S32x256x1 ![] bcast_S_S32x256x1 : (⟨S_, .f32⟩ : BufTy).Contents (Elt F) → (⟨S32x256x1, .f32⟩ : BufTy).Contents (Elt F)),
    StableHlo.binary main_v90 main_v91 main_v92 (Host.divf : (⟨S32x256x1, .f32⟩ : BufTy).Contents (Elt F) → (⟨S32x256x1, .f32⟩ : BufTy).Contents (Elt F) → (⟨S32x256x1, .f32⟩ : BufTy).Contents (Elt F)),
    StableHlo.unary main_v85 main_v93 (broadcastInDim S32x256x512 ![0, 1, 2] bcast_S32x256x1_S32x256x512_0_1_2 : (⟨S32x256x1, .f32⟩ : BufTy).Contents (Elt F) → (⟨S32x256x512, .f32⟩ : BufTy).Contents (Elt F)),
    StableHlo.binary main_v81 main_v93 main_v94 (subf : (⟨S32x256x512, .f32⟩ : BufTy).Contents (Elt F) → (⟨S32x256x512, .f32⟩ : BufTy).Contents (Elt F) → (⟨S32x256x512, .f32⟩ : BufTy).Contents (Elt F)),
    StableHlo.nullary main_cst_7 (constant S_ .f32 0x3727C5AC#32),
    StableHlo.unary main_cst_7 main_v95 (broadcastInDim S32x256x1 ![] bcast_S_S32x256x1 : (⟨S_, .f32⟩ : BufTy).Contents (Elt F) → (⟨S32x256x1, .f32⟩ : BufTy).Contents (Elt F)),
    StableHlo.binary main_v92 main_v95 main_v96 (addf : (⟨S32x256x1, .f32⟩ : BufTy).Contents (Elt F) → (⟨S32x256x1, .f32⟩ : BufTy).Contents (Elt F) → (⟨S32x256x1, .f32⟩ : BufTy).Contents (Elt F)),
    StableHlo.unary main_v96 main_v97 (Host.rsqrt : (⟨S32x256x1, .f32⟩ : BufTy).Contents (Elt F) → (⟨S32x256x1, .f32⟩ : BufTy).Contents (Elt F)),
    StableHlo.unary main_v97 main_v98 (broadcastInDim S32x256x512 ![0, 1, 2] bcast_S32x256x1_S32x256x512_0_1_2 : (⟨S32x256x1, .f32⟩ : BufTy).Contents (Elt F) → (⟨S32x256x512, .f32⟩ : BufTy).Contents (Elt F)),
    StableHlo.binary main_v94 main_v98 main_v99 (mulf : (⟨S32x256x512, .f32⟩ : BufTy).Contents (Elt F) → (⟨S32x256x512, .f32⟩ : BufTy).Contents (Elt F) → (⟨S32x256x512, .f32⟩ : BufTy).Contents (Elt F)),
    StableHlo.unary main_arg10 main_v100 (broadcastInDim S1x1x512 ![2] bcast_S512_S1x1x512_2 : (⟨S512, .f32⟩ : BufTy).Contents (Elt F) → (⟨S1x1x512, .f32⟩ : BufTy).Contents (Elt F)),
    StableHlo.unary main_v100 main_v101 (broadcastInDim S32x256x512 ![0, 1, 2] bcast_S1x1x512_S32x256x512_0_1_2 : (⟨S1x1x512, .f32⟩ : BufTy).Contents (Elt F) → (⟨S32x256x512, .f32⟩ : BufTy).Contents (Elt F)),
    StableHlo.binary main_v99 main_v101 main_v102 (mulf : (⟨S32x256x512, .f32⟩ : BufTy).Contents (Elt F) → (⟨S32x256x512, .f32⟩ : BufTy).Contents (Elt F) → (⟨S32x256x512, .f32⟩ : BufTy).Contents (Elt F)),
    StableHlo.unary main_arg11 main_v103 (broadcastInDim S1x1x512 ![2] bcast_S512_S1x1x512_2 : (⟨S512, .f32⟩ : BufTy).Contents (Elt F) → (⟨S1x1x512, .f32⟩ : BufTy).Contents (Elt F)) ]
abbrev p1_3_W : List (Ref sig .tc) := [main_v79, main_v80, main_v81, main_cst_3, main_v82, main_v83, main_cst_4, main_v84, main_v85, main_v86, main_v87, main_v88, main_cst_5, main_v89, main_v90, main_cst_6, main_v91, main_v92, main_v93, main_v94, main_cst_7, main_v95, main_v96, main_v97, main_v98, main_v99, main_v100, main_v101, main_v102, main_v103]
abbrev p2_0 : List (HloOp τ sig (Elt F)) :=
  [ StableHlo.unary main_v103 main_v104 (broadcastInDim S32x256x512 ![0, 1, 2] bcast_S1x1x512_S32x256x512_0_1_2 : (⟨S1x1x512, .f32⟩ : BufTy).Contents (Elt F) → (⟨S32x256x512, .f32⟩ : BufTy).Contents (Elt F)),
    StableHlo.binary main_v102 main_v104 main_v105 (addf : (⟨S32x256x512, .f32⟩ : BufTy).Contents (Elt F) → (⟨S32x256x512, .f32⟩ : BufTy).Contents (Elt F) → (⟨S32x256x512, .f32⟩ : BufTy).Contents (Elt F)),
    StableHlo.unary main_arg13 main_v106 ((transpose S16x256 [1, 0] · transposes_S256x16_S16x256_1_0) : (⟨S256x16, .f32⟩ : BufTy).Contents (Elt F) → (⟨S16x256, .f32⟩ : BufTy).Contents (Elt F)),
    StableHlo.binary main_arg12 main_v106 main_v107 ((fun l r => Host.dotGeneral dot_S256x16_S16x256_S256x256_1_0_0_1_n_n none l r) : (⟨S256x16, .f32⟩ : BufTy).Contents (Elt F) → (⟨S16x256, .f32⟩ : BufTy).Contents (Elt F) → (⟨S256x256, .f32⟩ : BufTy).Contents (Elt F)) ]
abbrev p2_0_W : List (Ref sig .tc) := [main_v104, main_v105, main_v106, main_v107]
abbrev p2_1 : List (HloOp τ sig (Elt F)) := fn_relu_ops (.of main_v107) main_call8
abbrev p2_1_W : List (Ref sig .tc) := [main_call8_cst, main_call8_v0, main_v108]
abbrev p2_2 : List (HloOp τ sig (Elt F)) :=
  [ StableHlo.nullary main_cst_8 (constant S_ .f32 0xFF800000#32),
    StableHlo.binary main_v108 main_cst_8 main_v109 ((fun x v => Host.reduce FloatOps.maximumf x v reducesTo_S256x256_S256_d1 h_S_) : (⟨S256x256, .f32⟩ : BufTy).Contents (Elt F) → (⟨S_, .f32⟩ : BufTy).Contents (Elt F) → (⟨S256, .f32⟩ : BufTy).Contents (Elt F)),
    StableHlo.nullary main_cst_9 (constant S_ .f32 0xFF800000#32),
    StableHlo.unary main_cst_9 main_v110 (broadcastInDim S256 ![] bcast_S_S256 : (⟨S_, .f32⟩ : BufTy).Contents (Elt F) → (⟨S256, .f32⟩ : BufTy).Contents (Elt F)),
    StableHlo.binary main_v110 main_v109 main_v111 (maximumf : (⟨S256, .f32⟩ : BufTy).Contents (Elt F) → (⟨S256, .f32⟩ : BufTy).Contents (Elt F) → (⟨S256, .f32⟩ : BufTy).Contents (Elt F)),
    StableHlo.unary main_v111 main_v112 (broadcastInDim S256x1 ![0] bcast_S256_S256x1_0 : (⟨S256, .f32⟩ : BufTy).Contents (Elt F) → (⟨S256x1, .f32⟩ : BufTy).Contents (Elt F)),
    StableHlo.unary main_v112 main_v113 (broadcastInDim S256x256 ![0, 1] bcast_S256x1_S256x256_0_1 : (⟨S256x1, .f32⟩ : BufTy).Contents (Elt F) → (⟨S256x256, .f32⟩ : BufTy).Contents (Elt F)),
    StableHlo.binary main_v108 main_v113 main_v114 (subf : (⟨S256x256, .f32⟩ : BufTy).Contents (Elt F) → (⟨S256x256, .f32⟩ : BufTy).Contents (Elt F) → (⟨S256x256, .f32⟩ : BufTy).Contents (Elt F)),
    StableHlo.unary main_v114 main_v115 (Host.exp : (⟨S256x256, .f32⟩ : BufTy).Contents (Elt F) → (⟨S256x256, .f32⟩ : BufTy).Contents (Elt F)),
    StableHlo.nullary main_cst_10 (constant S_ .f32 0x00000000#32),
    StableHlo.binary main_v115 main_cst_10 main_v116 ((fun x v => Host.reduceAdd x v reducesTo_S256x256_S256_d1 h_S_) : (⟨S256x256, .f32⟩ : BufTy).Contents (Elt F) → (⟨S_, .f32⟩ : BufTy).Contents (Elt F) → (⟨S256, .f32⟩ : BufTy).Contents (Elt F)),
    StableHlo.unary main_v116 main_v117 (broadcastInDim S256x1 ![0] bcast_S256_S256x1_0 : (⟨S256, .f32⟩ : BufTy).Contents (Elt F) → (⟨S256x1, .f32⟩ : BufTy).Contents (Elt F)),
    StableHlo.unary main_v117 main_v118 (broadcastInDim S256x256 ![0, 1] bcast_S256x1_S256x256_0_1 : (⟨S256x1, .f32⟩ : BufTy).Contents (Elt F) → (⟨S256x256, .f32⟩ : BufTy).Contents (Elt F)),
    StableHlo.binary main_v115 main_v118 main_v119 (Host.divf : (⟨S256x256, .f32⟩ : BufTy).Contents (Elt F) → (⟨S256x256, .f32⟩ : BufTy).Contents (Elt F) → (⟨S256x256, .f32⟩ : BufTy).Contents (Elt F)),
    StableHlo.binary main_v105 main_v119 main_v120 ((fun l r => Host.dotGeneral dot_S32x256x512_S256x256_S32x512x256_1_1_02_0_n_n none l r) : (⟨S32x256x512, .f32⟩ : BufTy).Contents (Elt F) → (⟨S256x256, .f32⟩ : BufTy).Contents (Elt F) → (⟨S32x512x256, .f32⟩ : BufTy).Contents (Elt F)),
    StableHlo.unary main_v120 main_v121 ((transpose S32x256x512 [0, 2, 1] · transposes_S32x512x256_S32x256x512_0_2_1) : (⟨S32x512x256, .f32⟩ : BufTy).Contents (Elt F) → (⟨S32x256x512, .f32⟩ : BufTy).Contents (Elt F)),
    StableHlo.binary main_v121 main_arg14 main_v122 ((fun l r => Host.dotGeneral dot_S32x256x512_S512x2048_S32x256x2048_2_0_01_1_n_n none l r) : (⟨S32x256x512, .f32⟩ : BufTy).Contents (Elt F) → (⟨S512x2048, .f32⟩ : BufTy).Contents (Elt F) → (⟨S32x256x2048, .f32⟩ : BufTy).Contents (Elt F)),
    StableHlo.unary main_v122 main_v123 ((extractStridedSlice S32x256x1024 ![0, 0, 0] · slices_S32x256x2048_S32x256x1024_0_0_0) : (⟨S32x256x2048, .f32⟩ : BufTy).Contents (Elt F) → (⟨S32x256x1024, .f32⟩ : BufTy).Contents (Elt F)),
    StableHlo.unary main_v122 main_v124 ((extractStridedSlice S32x256x1024 ![0, 0, 1024] · slices_S32x256x2048_S32x256x1024_0_0_1024) : (⟨S32x256x2048, .f32⟩ : BufTy).Contents (Elt F) → (⟨S32x256x1024, .f32⟩ : BufTy).Contents (Elt F)),
    StableHlo.nullary main_c_11 (constantI S_ 32 0#32) ]
abbrev p2_2_W : List (Ref sig .tc) := [main_cst_8, main_v109, main_cst_9, main_v110, main_v111, main_v112, main_v113, main_v114, main_v115, main_cst_10, main_v116, main_v117, main_v118, main_v119, main_v120, main_v121, main_v122, main_v123, main_v124, main_c_11]
abbrev p2_3 : List (HloOp τ sig (Elt F)) := fn_pad_ops (.of main_v123) (.of main_c_11) main_call9
abbrev p2_3_W : List (Ref sig .tc) := [main_call9_v0, main_v125]
abbrev p2_4 : List (HloOp τ sig (Elt F)) :=
  [ StableHlo.unary main_v125 main_v126 ((extractStridedSlice S32x256x1024 ![0, 0, 0] · slices_S32x259x1024_S32x256x1024_0_0_0) : (⟨S32x259x1024, .f32⟩ : BufTy).Contents (Elt F) → (⟨S32x256x1024, .f32⟩ : BufTy).Contents (Elt F)),
    StableHlo.unary main_arg15 main_v127 ((extractStridedSlice S1024x1 ![0, 0] · slices_S1024x4_S1024x1_0_0) : (⟨S1024x4, .f32⟩ : BufTy).Contents (Elt F) → (⟨S1024x1, .f32⟩ : BufTy).Contents (Elt F)),
    StableHlo.reshape main_v127 main_v128 (rfl : (.f32 : EltTy) = .f32) shapeCasts_S1024x1_S1024,
    StableHlo.unary main_v128 main_v129 (broadcastInDim S1x1x1024 ![2] bcast_S1024_S1x1x1024_2 : (⟨S1024, .f32⟩ : BufTy).Contents (Elt F) → (⟨S1x1x1024, .f32⟩ : BufTy).Contents (Elt F)),
    StableHlo.unary main_v129 main_v130 (broadcastInDim S32x256x1024 ![0, 1, 2] bcast_S1x1x1024_S32x256x1024_0_1_2 : (⟨S1x1x1024, .f32⟩ : BufTy).Contents (Elt F) → (⟨S32x256x1024, .f32⟩ : BufTy).Contents (Elt F)),
    StableHlo.binary main_v126 main_v130 main_v131 (mulf : (⟨S32x256x1024, .f32⟩ : BufTy).Contents (Elt F) → (⟨S32x256x1024, .f32⟩ : BufTy).Contents (Elt F) → (⟨S32x256x1024, .f32⟩ : BufTy).Contents (Elt F)),
    StableHlo.nullary main_cst_12 (constant S_ .f32 0x00000000#32),
    StableHlo.unary main_cst_12 main_v132 (broadcastInDim S32x256x1024 ![] bcast_S_S32x256x1024 : (⟨S_, .f32⟩ : BufTy).Contents (Elt F) → (⟨S32x256x1024, .f32⟩ : BufTy).Contents (Elt F)),
    StableHlo.binary main_v132 main_v131 main_v133 (addf : (⟨S32x256x1024, .f32⟩ : BufTy).Contents (Elt F) → (⟨S32x256x1024, .f32⟩ : BufTy).Contents (Elt F) → (⟨S32x256x1024, .f32⟩ : BufTy).Contents (Elt F)),
    StableHlo.unary main_v125 main_v134 ((extractStridedSlice S32x256x1024 ![0, 1, 0] · slices_S32x259x1024_S32x256x1024_0_1_0) : (⟨S32x259x1024, .f32⟩ : BufTy).Contents (Elt F) → (⟨S32x256x1024, .f32⟩ : BufTy).Contents (Elt F)),
    StableHlo.unary main_arg15 main_v135 ((extractStridedSlice S1024x1 ![0, 1] · slices_S1024x4_S1024x1_0_1) : (⟨S1024x4, .f32⟩ : BufTy).Contents (Elt F) → (⟨S1024x1, .f32⟩ : BufTy).Contents (Elt F)),
    StableHlo.reshape main_v135 main_v136 (rfl : (.f32 : EltTy) = .f32) shapeCasts_S1024x1_S1024,
    StableHlo.unary main_v136 main_v137 (broadcastInDim S1x1x1024 ![2] bcast_S1024_S1x1x1024_2 : (⟨S1024, .f32⟩ : BufTy).Contents (Elt F) → (⟨S1x1x1024, .f32⟩ : BufTy).Contents (Elt F)),
    StableHlo.unary main_v137 main_v138 (broadcastInDim S32x256x1024 ![0, 1, 2] bcast_S1x1x1024_S32x256x1024_0_1_2 : (⟨S1x1x1024, .f32⟩ : BufTy).Contents (Elt F) → (⟨S32x256x1024, .f32⟩ : BufTy).Contents (Elt F)),
    StableHlo.binary main_v134 main_v138 main_v139 (mulf : (⟨S32x256x1024, .f32⟩ : BufTy).Contents (Elt F) → (⟨S32x256x1024, .f32⟩ : BufTy).Contents (Elt F) → (⟨S32x256x1024, .f32⟩ : BufTy).Contents (Elt F)),
    StableHlo.binary main_v133 main_v139 main_v140 (addf : (⟨S32x256x1024, .f32⟩ : BufTy).Contents (Elt F) → (⟨S32x256x1024, .f32⟩ : BufTy).Contents (Elt F) → (⟨S32x256x1024, .f32⟩ : BufTy).Contents (Elt F)),
    StableHlo.unary main_v125 main_v141 ((extractStridedSlice S32x256x1024 ![0, 2, 0] · slices_S32x259x1024_S32x256x1024_0_2_0) : (⟨S32x259x1024, .f32⟩ : BufTy).Contents (Elt F) → (⟨S32x256x1024, .f32⟩ : BufTy).Contents (Elt F)),
    StableHlo.unary main_arg15 main_v142 ((extractStridedSlice S1024x1 ![0, 2] · slices_S1024x4_S1024x1_0_2) : (⟨S1024x4, .f32⟩ : BufTy).Contents (Elt F) → (⟨S1024x1, .f32⟩ : BufTy).Contents (Elt F)),
    StableHlo.reshape main_v142 main_v143 (rfl : (.f32 : EltTy) = .f32) shapeCasts_S1024x1_S1024,
    StableHlo.unary main_v143 main_v144 (broadcastInDim S1x1x1024 ![2] bcast_S1024_S1x1x1024_2 : (⟨S1024, .f32⟩ : BufTy).Contents (Elt F) → (⟨S1x1x1024, .f32⟩ : BufTy).Contents (Elt F)),
    StableHlo.unary main_v144 main_v145 (broadcastInDim S32x256x1024 ![0, 1, 2] bcast_S1x1x1024_S32x256x1024_0_1_2 : (⟨S1x1x1024, .f32⟩ : BufTy).Contents (Elt F) → (⟨S32x256x1024, .f32⟩ : BufTy).Contents (Elt F)),
    StableHlo.binary main_v141 main_v145 main_v146 (mulf : (⟨S32x256x1024, .f32⟩ : BufTy).Contents (Elt F) → (⟨S32x256x1024, .f32⟩ : BufTy).Contents (Elt F) → (⟨S32x256x1024, .f32⟩ : BufTy).Contents (Elt F)),
    StableHlo.binary main_v140 main_v146 main_v147 (addf : (⟨S32x256x1024, .f32⟩ : BufTy).Contents (Elt F) → (⟨S32x256x1024, .f32⟩ : BufTy).Contents (Elt F) → (⟨S32x256x1024, .f32⟩ : BufTy).Contents (Elt F)),
    StableHlo.unary main_v125 main_v148 ((extractStridedSlice S32x256x1024 ![0, 3, 0] · slices_S32x259x1024_S32x256x1024_0_3_0) : (⟨S32x259x1024, .f32⟩ : BufTy).Contents (Elt F) → (⟨S32x256x1024, .f32⟩ : BufTy).Contents (Elt F)),
    StableHlo.unary main_arg15 main_v149 ((extractStridedSlice S1024x1 ![0, 3] · slices_S1024x4_S1024x1_0_3) : (⟨S1024x4, .f32⟩ : BufTy).Contents (Elt F) → (⟨S1024x1, .f32⟩ : BufTy).Contents (Elt F)),
    StableHlo.reshape main_v149 main_v150 (rfl : (.f32 : EltTy) = .f32) shapeCasts_S1024x1_S1024,
    StableHlo.unary main_v150 main_v151 (broadcastInDim S1x1x1024 ![2] bcast_S1024_S1x1x1024_2 : (⟨S1024, .f32⟩ : BufTy).Contents (Elt F) → (⟨S1x1x1024, .f32⟩ : BufTy).Contents (Elt F)),
    StableHlo.unary main_v151 main_v152 (broadcastInDim S32x256x1024 ![0, 1, 2] bcast_S1x1x1024_S32x256x1024_0_1_2 : (⟨S1x1x1024, .f32⟩ : BufTy).Contents (Elt F) → (⟨S32x256x1024, .f32⟩ : BufTy).Contents (Elt F)),
    StableHlo.binary main_v148 main_v152 main_v153 (mulf : (⟨S32x256x1024, .f32⟩ : BufTy).Contents (Elt F) → (⟨S32x256x1024, .f32⟩ : BufTy).Contents (Elt F) → (⟨S32x256x1024, .f32⟩ : BufTy).Contents (Elt F)),
    StableHlo.binary main_v147 main_v153 main_v154 (addf : (⟨S32x256x1024, .f32⟩ : BufTy).Contents (Elt F) → (⟨S32x256x1024, .f32⟩ : BufTy).Contents (Elt F) → (⟨S32x256x1024, .f32⟩ : BufTy).Contents (Elt F)),
    StableHlo.unary main_arg16 main_v155 (broadcastInDim S1x1x1024 ![2] bcast_S1024_S1x1x1024_2 : (⟨S1024, .f32⟩ : BufTy).Contents (Elt F) → (⟨S1x1x1024, .f32⟩ : BufTy).Contents (Elt F)),
    StableHlo.unary main_v155 main_v156 (broadcastInDim S32x256x1024 ![0, 1, 2] bcast_S1x1x1024_S32x256x1024_0_1_2 : (⟨S1x1x1024, .f32⟩ : BufTy).Contents (Elt F) → (⟨S32x256x1024, .f32⟩ : BufTy).Contents (Elt F)),
    StableHlo.binary main_v154 main_v156 main_v157 (addf : (⟨S32x256x1024, .f32⟩ : BufTy).Contents (Elt F) → (⟨S32x256x1024, .f32⟩ : BufTy).Contents (Elt F) → (⟨S32x256x1024, .f32⟩ : BufTy).Contents (Elt F)) ]
abbrev p2_4_W : List (Ref sig .tc) := [main_v126, main_v127, main_v128, main_v129, main_v130, main_v131, main_cst_12, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157]
abbrev p2_5 : List (HloOp τ sig (Elt F)) := fn_silu_ops (.of main_v157) main_call10
abbrev p2_5_W : List (Ref sig .tc) := [main_call10_v0, main_call10_v1, main_call10_cst, main_call10_v2, main_call10_v3, main_call10_cst_0, main_call10_v4, main_call10_v5, main_v158]
abbrev p3_0 : List (HloOp τ sig (Elt F)) :=
  [ StableHlo.binary main_v158 main_arg17 main_v159 ((fun l r => Host.dotGeneral dot_S32x256x1024_S1024x64_S32x256x64_2_0_01_1_n_n none l r) : (⟨S32x256x1024, .f32⟩ : BufTy).Contents (Elt F) → (⟨S1024x64, .f32⟩ : BufTy).Contents (Elt F) → (⟨S32x256x64, .f32⟩ : BufTy).Contents (Elt F)),
    StableHlo.unary main_v159 main_v160 ((extractStridedSlice S32x256x32 ![0, 0, 0] · slices_S32x256x64_S32x256x32_0_0_0) : (⟨S32x256x64, .f32⟩ : BufTy).Contents (Elt F) → (⟨S32x256x32, .f32⟩ : BufTy).Contents (Elt F)),
    StableHlo.unary main_v159 main_v161 ((extractStridedSlice S32x256x16 ![0, 0, 32] · slices_S32x256x64_S32x256x16_0_0_32) : (⟨S32x256x64, .f32⟩ : BufTy).Contents (Elt F) → (⟨S32x256x16, .f32⟩ : BufTy).Contents (Elt F)),
    StableHlo.unary main_v159 main_v162 ((extractStridedSlice S32x256x16 ![0, 0, 48] · slices_S32x256x64_S32x256x16_0_0_48) : (⟨S32x256x64, .f32⟩ : BufTy).Contents (Elt F) → (⟨S32x256x16, .f32⟩ : BufTy).Contents (Elt F)),
    StableHlo.binary main_v160 main_arg18 main_v163 ((fun l r => Host.dotGeneral dot_S32x256x32_S32x1024_S32x256x1024_2_0_01_1_n_n none l r) : (⟨S32x256x32, .f32⟩ : BufTy).Contents (Elt F) → (⟨S32x1024, .f32⟩ : BufTy).Contents (Elt F) → (⟨S32x256x1024, .f32⟩ : BufTy).Contents (Elt F)),
    StableHlo.unary main_arg19 main_v164 (broadcastInDim S1x1x1024 ![2] bcast_S1024_S1x1x1024_2 : (⟨S1024, .f32⟩ : BufTy).Contents (Elt F) → (⟨S1x1x1024, .f32⟩ : BufTy).Contents (Elt F)),
    StableHlo.unary main_v164 main_v165 (broadcastInDim S32x256x1024 ![0, 1, 2] bcast_S1x1x1024_S32x256x1024_0_1_2 : (⟨S1x1x1024, .f32⟩ : BufTy).Contents (Elt F) → (⟨S32x256x1024, .f32⟩ : BufTy).Contents (Elt F)),
    StableHlo.binary main_v163 main_v165 main_v166 (addf : (⟨S32x256x1024, .f32⟩ : BufTy).Contents (Elt F) → (⟨S32x256x1024, .f32⟩ : BufTy).Contents (Elt F) → (⟨S32x256x1024, .f32⟩ : BufTy).Contents (Elt F)) ]
abbrev p3_0_W : List (Ref sig .tc) := [main_v159, main_v160, main_v161, main_v162, main_v163, main_v164, main_v165, main_v166]
abbrev p3_1 : List (HloOp τ sig (Elt F)) := fn_softplus_ops (.of main_v166) main_call11
abbrev p3_1_W : List (Ref sig .tc) := [main_call11_cst, main_call11_v0, main_call11_v1, main_call11_v2, main_call11_v3, main_call11_v4, main_call11_v5, main_call11_v6, main_call11_v7, main_call11_v8, main_call11_v9, main_call11_v10, main_call11_v11, main_v167]
abbrev p3_2 : List (HloOp τ sig (Elt F)) :=
  [ StableHlo.unary main_arg20 main_v168 (Host.exp : (⟨S1024x16, .f32⟩ : BufTy).Contents (Elt F) → (⟨S1024x16, .f32⟩ : BufTy).Contents (Elt F)),
    StableHlo.unary main_v168 main_v169 (Host.negf : (⟨S1024x16, .f32⟩ : BufTy).Contents (Elt F) → (⟨S1024x16, .f32⟩ : BufTy).Contents (Elt F)),
    StableHlo.unary main_v167 main_v170 (broadcastInDim S32x256x1024x1 ![0, 1, 2] bcast_S32x256x1024_S32x256x1024x1_0_1_2 : (⟨S32x256x1024, .f32⟩ : BufTy).Contents (Elt F) → (⟨S32x256x1024x1, .f32⟩ : BufTy).Contents (Elt F)),
    StableHlo.unary main_v169 main_v171 (broadcastInDim S1x1x1024x16 ![2, 3] bcast_S1024x16_S1x1x1024x16_2_3 : (⟨S1024x16, .f32⟩ : BufTy).Contents (Elt F) → (⟨S1x1x1024x16, .f32⟩ : BufTy).Contents (Elt F)),
    StableHlo.unary main_v170 main_v172 (broadcastInDim S32x256x1024x16 ![0, 1, 2, 3] bcast_S32x256x1024x1_S32x256x1024x16_0_1_2_3 : (⟨S32x256x1024x1, .f32⟩ : BufTy).Contents (Elt F) → (⟨S32x256x1024x16, .f32⟩ : BufTy).Contents (Elt F)),
    StableHlo.unary main_v171 main_v173 (broadcastInDim S32x256x1024x16 ![0, 1, 2, 3] bcast_S1x1x1024x16_S32x256x1024x16_0_1_2_3 : (⟨S1x1x1024x16, .f32⟩ : BufTy).Contents (Elt F) → (⟨S32x256x1024x16, .f32⟩ : BufTy).Contents (Elt F)),
    StableHlo.binary main_v172 main_v173 main_v174 (mulf : (⟨S32x256x1024x16, .f32⟩ : BufTy).Contents (Elt F) → (⟨S32x256x1024x16, .f32⟩ : BufTy).Contents (Elt F) → (⟨S32x256x1024x16, .f32⟩ : BufTy).Contents (Elt F)),
    StableHlo.unary main_v174 main_v175 (Host.exp : (⟨S32x256x1024x16, .f32⟩ : BufTy).Contents (Elt F) → (⟨S32x256x1024x16, .f32⟩ : BufTy).Contents (Elt F)),
    StableHlo.unary main_v167 main_v176 (broadcastInDim S32x256x1024x1 ![0, 1, 2] bcast_S32x256x1024_S32x256x1024x1_0_1_2 : (⟨S32x256x1024, .f32⟩ : BufTy).Contents (Elt F) → (⟨S32x256x1024x1, .f32⟩ : BufTy).Contents (Elt F)),
    StableHlo.unary main_v161 main_v177 (broadcastInDim S32x256x1x16 ![0, 1, 3] bcast_S32x256x16_S32x256x1x16_0_1_3 : (⟨S32x256x16, .f32⟩ : BufTy).Contents (Elt F) → (⟨S32x256x1x16, .f32⟩ : BufTy).Contents (Elt F)),
    StableHlo.unary main_v176 main_v178 (broadcastInDim S32x256x1024x16 ![0, 1, 2, 3] bcast_S32x256x1024x1_S32x256x1024x16_0_1_2_3 : (⟨S32x256x1024x1, .f32⟩ : BufTy).Contents (Elt F) → (⟨S32x256x1024x16, .f32⟩ : BufTy).Contents (Elt F)),
    StableHlo.unary main_v177 main_v179 (broadcastInDim S32x256x1024x16 ![0, 1, 2, 3] bcast_S32x256x1x16_S32x256x1024x16_0_1_2_3 : (⟨S32x256x1x16, .f32⟩ : BufTy).Contents (Elt F) → (⟨S32x256x1024x16, .f32⟩ : BufTy).Contents (Elt F)),
    StableHlo.binary main_v178 main_v179 main_v180 (mulf : (⟨S32x256x1024x16, .f32⟩ : BufTy).Contents (Elt F) → (⟨S32x256x1024x16, .f32⟩ : BufTy).Contents (Elt F) → (⟨S32x256x1024x16, .f32⟩ : BufTy).Contents (Elt F)),
    StableHlo.unary main_v158 main_v181 (broadcastInDim S32x256x1024x1 ![0, 1, 2] bcast_S32x256x1024_S32x256x1024x1_0_1_2 : (⟨S32x256x1024, .f32⟩ : BufTy).Contents (Elt F) → (⟨S32x256x1024x1, .f32⟩ : BufTy).Contents (Elt F)),
    StableHlo.unary main_v181 main_v182 (broadcastInDim S32x256x1024x16 ![0, 1, 2, 3] bcast_S32x256x1024x1_S32x256x1024x16_0_1_2_3 : (⟨S32x256x1024x1, .f32⟩ : BufTy).Contents (Elt F) → (⟨S32x256x1024x16, .f32⟩ : BufTy).Contents (Elt F)),
    StableHlo.binary main_v180 main_v182 main_v183 (mulf : (⟨S32x256x1024x16, .f32⟩ : BufTy).Contents (Elt F) → (⟨S32x256x1024x16, .f32⟩ : BufTy).Contents (Elt F) → (⟨S32x256x1024x16, .f32⟩ : BufTy).Contents (Elt F)),
    StableHlo.nullary main_cst_13 (constant S_ .f32 0x00000000#32),
    StableHlo.unary main_cst_13 main_v184 (broadcastInDim S32x1024x16 ![] bcast_S_S32x1024x16 : (⟨S_, .f32⟩ : BufTy).Contents (Elt F) → (⟨S32x1024x16, .f32⟩ : BufTy).Contents (Elt F)),
    StableHlo.unary main_v175 main_v185 ((transpose S256x32x1024x16 [1, 0, 2, 3] · transposes_S32x256x1024x16_S256x32x1024x16_1_0_2_3) : (⟨S32x256x1024x16, .f32⟩ : BufTy).Contents (Elt F) → (⟨S256x32x1024x16, .f32⟩ : BufTy).Contents (Elt F)),
    StableHlo.unary main_v183 main_v186 ((transpose S256x32x1024x16 [1, 0, 2, 3] · transposes_S32x256x1024x16_S256x32x1024x16_1_0_2_3) : (⟨S32x256x1024x16, .f32⟩ : BufTy).Contents (Elt F) → (⟨S256x32x1024x16, .f32⟩ : BufTy).Contents (Elt F)),
    StableHlo.unary main_v162 main_v187 ((transpose S256x32x16 [1, 0, 2] · transposes_S32x256x16_S256x32x16_1_0_2) : (⟨S32x256x16, .f32⟩ : BufTy).Contents (Elt F) → (⟨S256x32x16, .f32⟩ : BufTy).Contents (Elt F)),
    StableHlo.nullary main_cst_14 (constant S_ .f32 0x00000000#32),
    StableHlo.unary main_cst_14 main_v188 (broadcastInDim S256x32x1024 ![] bcast_S_S256x32x1024 : (⟨S_, .f32⟩ : BufTy).Contents (Elt F) → (⟨S256x32x1024, .f32⟩ : BufTy).Contents (Elt F)),
    StableHlo.nullary main_c_15 (constantI S_ 32 0#32),
    StableHlo.unary main_v185 main_v189_0 id,
    StableHlo.unary main_v186 main_v189_1 id,
    StableHlo.unary main_v187 main_v189_2 id,
    StableHlo.unary main_c_15 main_v189_3 id,
    StableHlo.unary main_v184 main_v189_4 id,
    StableHlo.unary main_v188 main_v189_5 id ]
abbrev p3_2_W : List (Ref sig .tc) := [main_v168, main_v169, main_v170, main_v171, main_v172, main_v173, main_v174, main_v175, main_v176, main_v177, main_v178, main_v179, main_v180, main_v181, main_v182, main_v183, main_cst_13, main_v184, main_v185, main_v186, main_v187, main_cst_14, main_v188, main_c_15, main_v189_0, main_v189_1, main_v189_2, main_v189_3, main_v189_4, main_v189_5]
abbrev p3_3 : List (HloOp τ sig (Elt F)) :=
  [ StableHlo.unary main_v189_5 main_v190 ((transpose S32x256x1024 [1, 0, 2] · transposes_S256x32x1024_S32x256x1024_1_0_2) : (⟨S256x32x1024, .f32⟩ : BufTy).Contents (Elt F) → (⟨S32x256x1024, .f32⟩ : BufTy).Contents (Elt F)),
    StableHlo.unary main_arg21 main_v191 (broadcastInDim S1x1x1024 ![2] bcast_S1024_S1x1x1024_2 : (⟨S1024, .f32⟩ : BufTy).Contents (Elt F) → (⟨S1x1x1024, .f32⟩ : BufTy).Contents (Elt F)),
    StableHlo.unary main_v191 main_v192 (broadcastInDim S32x256x1024 ![0, 1, 2] bcast_S1x1x1024_S32x256x1024_0_1_2 : (⟨S1x1x1024, .f32⟩ : BufTy).Contents (Elt F) → (⟨S32x256x1024, .f32⟩ : BufTy).Contents (Elt F)),
    StableHlo.binary main_v158 main_v192 main_v193 (mulf : (⟨S32x256x1024, .f32⟩ : BufTy).Contents (Elt F) → (⟨S32x256x1024, .f32⟩ : BufTy).Contents (Elt F) → (⟨S32x256x1024, .f32⟩ : BufTy).Contents (Elt F)),
    StableHlo.binary main_v190 main_v193 main_v194 (addf : (⟨S32x256x1024, .f32⟩ : BufTy).Contents (Elt F) → (⟨S32x256x1024, .f32⟩ : BufTy).Contents (Elt F) → (⟨S32x256x1024, .f32⟩ : BufTy).Contents (Elt F)) ]
abbrev p3_3_W : List (Ref sig .tc) := [main_v190, main_v191, main_v192, main_v193, main_v194]
abbrev p3_4 : List (HloOp τ sig (Elt F)) := fn_silu_ops (.of main_v124) main_call16
abbrev p3_4_W : List (Ref sig .tc) := [main_call16_v0, main_call16_v1, main_call16_cst, main_call16_v2, main_call16_v3, main_call16_cst_0, main_call16_v4, main_call16_v5, main_v195]
abbrev p3_5 : List (HloOp τ sig (Elt F)) :=
  [ StableHlo.binary main_v194 main_v195 main_v196 (mulf : (⟨S32x256x1024, .f32⟩ : BufTy).Contents (Elt F) → (⟨S32x256x1024, .f32⟩ : BufTy).Contents (Elt F) → (⟨S32x256x1024, .f32⟩ : BufTy).Contents (Elt F)),
    StableHlo.binary main_v196 main_arg22 main_v197 ((fun l r => Host.dotGeneral dot_S32x256x1024_S1024x512_S32x256x512_2_0_01_1_n_n none l r) : (⟨S32x256x1024, .f32⟩ : BufTy).Contents (Elt F) → (⟨S1024x512, .f32⟩ : BufTy).Contents (Elt F) → (⟨S32x256x512, .f32⟩ : BufTy).Contents (Elt F)),
    StableHlo.binary main_v105 main_v197 main_v198 (addf : (⟨S32x256x512, .f32⟩ : BufTy).Contents (Elt F) → (⟨S32x256x512, .f32⟩ : BufTy).Contents (Elt F) → (⟨S32x256x512, .f32⟩ : BufTy).Contents (Elt F)),
    StableHlo.nullary main_cst_16 (constant S_ .f32 0x00000000#32),
    StableHlo.binary main_v198 main_cst_16 main_v199 ((fun x v => Host.reduceAdd x v reducesTo_S32x256x512_S32x256_d2 h_S_) : (⟨S32x256x512, .f32⟩ : BufTy).Contents (Elt F) → (⟨S_, .f32⟩ : BufTy).Contents (Elt F) → (⟨S32x256, .f32⟩ : BufTy).Contents (Elt F)),
    StableHlo.unary main_v199 main_v200 (broadcastInDim S32x256x1 ![0, 1] bcast_S32x256_S32x256x1_0_1 : (⟨S32x256, .f32⟩ : BufTy).Contents (Elt F) → (⟨S32x256x1, .f32⟩ : BufTy).Contents (Elt F)),
    StableHlo.nullary main_cst_17 (constant S_ .f32 0x44000000#32),
    StableHlo.unary main_cst_17 main_v201 (broadcastInDim S32x256x1 ![] bcast_S_S32x256x1 : (⟨S_, .f32⟩ : BufTy).Contents (Elt F) → (⟨S32x256x1, .f32⟩ : BufTy).Contents (Elt F)),
    StableHlo.binary main_v200 main_v201 main_v202 (Host.divf : (⟨S32x256x1, .f32⟩ : BufTy).Contents (Elt F) → (⟨S32x256x1, .f32⟩ : BufTy).Contents (Elt F) → (⟨S32x256x1, .f32⟩ : BufTy).Contents (Elt F)),
    StableHlo.unary main_v202 main_v203 (broadcastInDim S32x256x512 ![0, 1, 2] bcast_S32x256x1_S32x256x512_0_1_2 : (⟨S32x256x1, .f32⟩ : BufTy).Contents (Elt F) → (⟨S32x256x512, .f32⟩ : BufTy).Contents (Elt F)),
    StableHlo.binary main_v198 main_v203 main_v204 (subf : (⟨S32x256x512, .f32⟩ : BufTy).Contents (Elt F) → (⟨S32x256x512, .f32⟩ : BufTy).Contents (Elt F) → (⟨S32x256x512, .f32⟩ : BufTy).Contents (Elt F)),
    StableHlo.binary main_v204 main_v204 main_v205 (mulf : (⟨S32x256x512, .f32⟩ : BufTy).Contents (Elt F) → (⟨S32x256x512, .f32⟩ : BufTy).Contents (Elt F) → (⟨S32x256x512, .f32⟩ : BufTy).Contents (Elt F)),
    StableHlo.nullary main_cst_18 (constant S_ .f32 0x00000000#32),
    StableHlo.binary main_v205 main_cst_18 main_v206 ((fun x v => Host.reduceAdd x v reducesTo_S32x256x512_S32x256_d2 h_S_) : (⟨S32x256x512, .f32⟩ : BufTy).Contents (Elt F) → (⟨S_, .f32⟩ : BufTy).Contents (Elt F) → (⟨S32x256, .f32⟩ : BufTy).Contents (Elt F)) ]
abbrev p3_5_W : List (Ref sig .tc) := [main_v196, main_v197, main_v198, main_cst_16, main_v199, main_v200, main_cst_17, main_v201, main_v202, main_v203, main_v204, main_v205, main_cst_18, main_v206]
abbrev p4_0 : List (HloOp τ sig (Elt F)) :=
  [ StableHlo.unary main_v206 main_v207 (broadcastInDim S32x256x1 ![0, 1] bcast_S32x256_S32x256x1_0_1 : (⟨S32x256, .f32⟩ : BufTy).Contents (Elt F) → (⟨S32x256x1, .f32⟩ : BufTy).Contents (Elt F)),
    StableHlo.nullary main_cst_19 (constant S_ .f32 0x44000000#32),
    StableHlo.unary main_cst_19 main_v208 (broadcastInDim S32x256x1 ![] bcast_S_S32x256x1 : (⟨S_, .f32⟩ : BufTy).Contents (Elt F) → (⟨S32x256x1, .f32⟩ : BufTy).Contents (Elt F)),
    StableHlo.binary main_v207 main_v208 main_v209 (Host.divf : (⟨S32x256x1, .f32⟩ : BufTy).Contents (Elt F) → (⟨S32x256x1, .f32⟩ : BufTy).Contents (Elt F) → (⟨S32x256x1, .f32⟩ : BufTy).Contents (Elt F)),
    StableHlo.unary main_v202 main_v210 (broadcastInDim S32x256x512 ![0, 1, 2] bcast_S32x256x1_S32x256x512_0_1_2 : (⟨S32x256x1, .f32⟩ : BufTy).Contents (Elt F) → (⟨S32x256x512, .f32⟩ : BufTy).Contents (Elt F)),
    StableHlo.binary main_v198 main_v210 main_v211 (subf : (⟨S32x256x512, .f32⟩ : BufTy).Contents (Elt F) → (⟨S32x256x512, .f32⟩ : BufTy).Contents (Elt F) → (⟨S32x256x512, .f32⟩ : BufTy).Contents (Elt F)),
    StableHlo.nullary main_cst_20 (constant S_ .f32 0x3727C5AC#32),
    StableHlo.unary main_cst_20 main_v212 (broadcastInDim S32x256x1 ![] bcast_S_S32x256x1 : (⟨S_, .f32⟩ : BufTy).Contents (Elt F) → (⟨S32x256x1, .f32⟩ : BufTy).Contents (Elt F)),
    StableHlo.binary main_v209 main_v212 main_v213 (addf : (⟨S32x256x1, .f32⟩ : BufTy).Contents (Elt F) → (⟨S32x256x1, .f32⟩ : BufTy).Contents (Elt F) → (⟨S32x256x1, .f32⟩ : BufTy).Contents (Elt F)),
    StableHlo.unary main_v213 main_v214 (Host.rsqrt : (⟨S32x256x1, .f32⟩ : BufTy).Contents (Elt F) → (⟨S32x256x1, .f32⟩ : BufTy).Contents (Elt F)),
    StableHlo.unary main_v214 main_v215 (broadcastInDim S32x256x512 ![0, 1, 2] bcast_S32x256x1_S32x256x512_0_1_2 : (⟨S32x256x1, .f32⟩ : BufTy).Contents (Elt F) → (⟨S32x256x512, .f32⟩ : BufTy).Contents (Elt F)),
    StableHlo.binary main_v211 main_v215 main_v216 (mulf : (⟨S32x256x512, .f32⟩ : BufTy).Contents (Elt F) → (⟨S32x256x512, .f32⟩ : BufTy).Contents (Elt F) → (⟨S32x256x512, .f32⟩ : BufTy).Contents (Elt F)),
    StableHlo.unary main_arg23 main_v217 (broadcastInDim S1x1x512 ![2] bcast_S512_S1x1x512_2 : (⟨S512, .f32⟩ : BufTy).Contents (Elt F) → (⟨S1x1x512, .f32⟩ : BufTy).Contents (Elt F)),
    StableHlo.unary main_v217 main_v218 (broadcastInDim S32x256x512 ![0, 1, 2] bcast_S1x1x512_S32x256x512_0_1_2 : (⟨S1x1x512, .f32⟩ : BufTy).Contents (Elt F) → (⟨S32x256x512, .f32⟩ : BufTy).Contents (Elt F)),
    StableHlo.binary main_v216 main_v218 main_v219 (mulf : (⟨S32x256x512, .f32⟩ : BufTy).Contents (Elt F) → (⟨S32x256x512, .f32⟩ : BufTy).Contents (Elt F) → (⟨S32x256x512, .f32⟩ : BufTy).Contents (Elt F)),
    StableHlo.unary main_arg24 main_v220 (broadcastInDim S1x1x512 ![2] bcast_S512_S1x1x512_2 : (⟨S512, .f32⟩ : BufTy).Contents (Elt F) → (⟨S1x1x512, .f32⟩ : BufTy).Contents (Elt F)),
    StableHlo.unary main_v220 main_v221 (broadcastInDim S32x256x512 ![0, 1, 2] bcast_S1x1x512_S32x256x512_0_1_2 : (⟨S1x1x512, .f32⟩ : BufTy).Contents (Elt F) → (⟨S32x256x512, .f32⟩ : BufTy).Contents (Elt F)),
    StableHlo.binary main_v219 main_v221 main_v222 (addf : (⟨S32x256x512, .f32⟩ : BufTy).Contents (Elt F) → (⟨S32x256x512, .f32⟩ : BufTy).Contents (Elt F) → (⟨S32x256x512, .f32⟩ : BufTy).Contents (Elt F)),
    StableHlo.nullary main_cst_21 (constant S_ .f32 0x00000000#32),
    StableHlo.binary main_v222 main_cst_21 main_v223 ((fun x v => Host.reduceAdd x v reducesTo_S32x256x512_S32x256_d2 h_S_) : (⟨S32x256x512, .f32⟩ : BufTy).Contents (Elt F) → (⟨S_, .f32⟩ : BufTy).Contents (Elt F) → (⟨S32x256, .f32⟩ : BufTy).Contents (Elt F)),
    StableHlo.unary main_v223 main_v224 (broadcastInDim S32x256x1 ![0, 1] bcast_S32x256_S32x256x1_0_1 : (⟨S32x256, .f32⟩ : BufTy).Contents (Elt F) → (⟨S32x256x1, .f32⟩ : BufTy).Contents (Elt F)),
    StableHlo.nullary main_cst_22 (constant S_ .f32 0x44000000#32),
    StableHlo.unary main_cst_22 main_v225 (broadcastInDim S32x256x1 ![] bcast_S_S32x256x1 : (⟨S_, .f32⟩ : BufTy).Contents (Elt F) → (⟨S32x256x1, .f32⟩ : BufTy).Contents (Elt F)),
    StableHlo.binary main_v224 main_v225 main_v226 (Host.divf : (⟨S32x256x1, .f32⟩ : BufTy).Contents (Elt F) → (⟨S32x256x1, .f32⟩ : BufTy).Contents (Elt F) → (⟨S32x256x1, .f32⟩ : BufTy).Contents (Elt F)),
    StableHlo.unary main_v226 main_v227 (broadcastInDim S32x256x512 ![0, 1, 2] bcast_S32x256x1_S32x256x512_0_1_2 : (⟨S32x256x1, .f32⟩ : BufTy).Contents (Elt F) → (⟨S32x256x512, .f32⟩ : BufTy).Contents (Elt F)),
    StableHlo.binary main_v222 main_v227 main_v228 (subf : (⟨S32x256x512, .f32⟩ : BufTy).Contents (Elt F) → (⟨S32x256x512, .f32⟩ : BufTy).Contents (Elt F) → (⟨S32x256x512, .f32⟩ : BufTy).Contents (Elt F)),
    StableHlo.binary main_v228 main_v228 main_v229 (mulf : (⟨S32x256x512, .f32⟩ : BufTy).Contents (Elt F) → (⟨S32x256x512, .f32⟩ : BufTy).Contents (Elt F) → (⟨S32x256x512, .f32⟩ : BufTy).Contents (Elt F)),
    StableHlo.nullary main_cst_23 (constant S_ .f32 0x00000000#32),
    StableHlo.binary main_v229 main_cst_23 main_v230 ((fun x v => Host.reduceAdd x v reducesTo_S32x256x512_S32x256_d2 h_S_) : (⟨S32x256x512, .f32⟩ : BufTy).Contents (Elt F) → (⟨S_, .f32⟩ : BufTy).Contents (Elt F) → (⟨S32x256, .f32⟩ : BufTy).Contents (Elt F)),
    StableHlo.unary main_v230 main_v231 (broadcastInDim S32x256x1 ![0, 1] bcast_S32x256_S32x256x1_0_1 : (⟨S32x256, .f32⟩ : BufTy).Contents (Elt F) → (⟨S32x256x1, .f32⟩ : BufTy).Contents (Elt F)),
    StableHlo.nullary main_cst_24 (constant S_ .f32 0x44000000#32),
    StableHlo.unary main_cst_24 main_v232 (broadcastInDim S32x256x1 ![] bcast_S_S32x256x1 : (⟨S_, .f32⟩ : BufTy).Contents (Elt F) → (⟨S32x256x1, .f32⟩ : BufTy).Contents (Elt F)),
    StableHlo.binary main_v231 main_v232 main_v233 (Host.divf : (⟨S32x256x1, .f32⟩ : BufTy).Contents (Elt F) → (⟨S32x256x1, .f32⟩ : BufTy).Contents (Elt F) → (⟨S32x256x1, .f32⟩ : BufTy).Contents (Elt F)),
    StableHlo.unary main_v226 main_v234 (broadcastInDim S32x256x512 ![0, 1, 2] bcast_S32x256x1_S32x256x512_0_1_2 : (⟨S32x256x1, .f32⟩ : BufTy).Contents (Elt F) → (⟨S32x256x512, .f32⟩ : BufTy).Contents (Elt F)),
    StableHlo.binary main_v222 main_v234 main_v235 (subf : (⟨S32x256x512, .f32⟩ : BufTy).Contents (Elt F) → (⟨S32x256x512, .f32⟩ : BufTy).Contents (Elt F) → (⟨S32x256x512, .f32⟩ : BufTy).Contents (Elt F)),
    StableHlo.nullary main_cst_25 (constant S_ .f32 0x3727C5AC#32),
    StableHlo.unary main_cst_25 main_v236 (broadcastInDim S32x256x1 ![] bcast_S_S32x256x1 : (⟨S_, .f32⟩ : BufTy).Contents (Elt F) → (⟨S32x256x1, .f32⟩ : BufTy).Contents (Elt F)),
    StableHlo.binary main_v233 main_v236 main_v237 (addf : (⟨S32x256x1, .f32⟩ : BufTy).Contents (Elt F) → (⟨S32x256x1, .f32⟩ : BufTy).Contents (Elt F) → (⟨S32x256x1, .f32⟩ : BufTy).Contents (Elt F)),
    StableHlo.unary main_v237 main_v238 (Host.rsqrt : (⟨S32x256x1, .f32⟩ : BufTy).Contents (Elt F) → (⟨S32x256x1, .f32⟩ : BufTy).Contents (Elt F)),
    StableHlo.unary main_v238 main_v239 (broadcastInDim S32x256x512 ![0, 1, 2] bcast_S32x256x1_S32x256x512_0_1_2 : (⟨S32x256x1, .f32⟩ : BufTy).Contents (Elt F) → (⟨S32x256x512, .f32⟩ : BufTy).Contents (Elt F)),
    StableHlo.binary main_v235 main_v239 main_v240 (mulf : (⟨S32x256x512, .f32⟩ : BufTy).Contents (Elt F) → (⟨S32x256x512, .f32⟩ : BufTy).Contents (Elt F) → (⟨S32x256x512, .f32⟩ : BufTy).Contents (Elt F)),
    StableHlo.unary main_arg25 main_v241 (broadcastInDim S1x1x512 ![2] bcast_S512_S1x1x512_2 : (⟨S512, .f32⟩ : BufTy).Contents (Elt F) → (⟨S1x1x512, .f32⟩ : BufTy).Contents (Elt F)),
    StableHlo.unary main_v241 main_v242 (broadcastInDim S32x256x512 ![0, 1, 2] bcast_S1x1x512_S32x256x512_0_1_2 : (⟨S1x1x512, .f32⟩ : BufTy).Contents (Elt F) → (⟨S32x256x512, .f32⟩ : BufTy).Contents (Elt F)),
    StableHlo.binary main_v240 main_v242 main_v243 (mulf : (⟨S32x256x512, .f32⟩ : BufTy).Contents (Elt F) → (⟨S32x256x512, .f32⟩ : BufTy).Contents (Elt F) → (⟨S32x256x512, .f32⟩ : BufTy).Contents (Elt F)),
    StableHlo.unary main_arg26 main_v244 (broadcastInDim S1x1x512 ![2] bcast_S512_S1x1x512_2 : (⟨S512, .f32⟩ : BufTy).Contents (Elt F) → (⟨S1x1x512, .f32⟩ : BufTy).Contents (Elt F)),
    StableHlo.unary main_v244 main_v245 (broadcastInDim S32x256x512 ![0, 1, 2] bcast_S1x1x512_S32x256x512_0_1_2 : (⟨S1x1x512, .f32⟩ : BufTy).Contents (Elt F) → (⟨S32x256x512, .f32⟩ : BufTy).Contents (Elt F)),
    StableHlo.binary main_v243 main_v245 main_v246 (addf : (⟨S32x256x512, .f32⟩ : BufTy).Contents (Elt F) → (⟨S32x256x512, .f32⟩ : BufTy).Contents (Elt F) → (⟨S32x256x512, .f32⟩ : BufTy).Contents (Elt F)),
    StableHlo.binary main_v246 main_arg27 main_v247 ((fun l r => Host.dotGeneral dot_S32x256x512_S512x2048_S32x256x2048_2_0_01_1_n_n none l r) : (⟨S32x256x512, .f32⟩ : BufTy).Contents (Elt F) → (⟨S512x2048, .f32⟩ : BufTy).Contents (Elt F) → (⟨S32x256x2048, .f32⟩ : BufTy).Contents (Elt F)),
    StableHlo.unary main_arg28 main_v248 (broadcastInDim S1x1x2048 ![2] bcast_S2048_S1x1x2048_2 : (⟨S2048, .f32⟩ : BufTy).Contents (Elt F) → (⟨S1x1x2048, .f32⟩ : BufTy).Contents (Elt F)),
    StableHlo.unary main_v248 main_v249 (broadcastInDim S32x256x2048 ![0, 1, 2] bcast_S1x1x2048_S32x256x2048_0_1_2 : (⟨S1x1x2048, .f32⟩ : BufTy).Contents (Elt F) → (⟨S32x256x2048, .f32⟩ : BufTy).Contents (Elt F)),
    StableHlo.binary main_v247 main_v249 main_v250 (addf : (⟨S32x256x2048, .f32⟩ : BufTy).Contents (Elt F) → (⟨S32x256x2048, .f32⟩ : BufTy).Contents (Elt F) → (⟨S32x256x2048, .f32⟩ : BufTy).Contents (Elt F)),
    StableHlo.binary main_v250 main_v250 main_v251 (mulf : (⟨S32x256x2048, .f32⟩ : BufTy).Contents (Elt F) → (⟨S32x256x2048, .f32⟩ : BufTy).Contents (Elt F) → (⟨S32x256x2048, .f32⟩ : BufTy).Contents (Elt F)),
    StableHlo.binary main_v251 main_v250 main_v252 (mulf : (⟨S32x256x2048, .f32⟩ : BufTy).Contents (Elt F) → (⟨S32x256x2048, .f32⟩ : BufTy).Contents (Elt F) → (⟨S32x256x2048, .f32⟩ : BufTy).Contents (Elt F)),
    StableHlo.nullary main_cst_26 (constant S_ .f32 0x3D372713#32),
    StableHlo.unary main_cst_26 main_v253 (broadcastInDim S32x256x2048 ![] bcast_S_S32x256x2048 : (⟨S_, .f32⟩ : BufTy).Contents (Elt F) → (⟨S32x256x2048, .f32⟩ : BufTy).Contents (Elt F)),
    StableHlo.binary main_v253 main_v252 main_v254 (mulf : (⟨S32x256x2048, .f32⟩ : BufTy).Contents (Elt F) → (⟨S32x256x2048, .f32⟩ : BufTy).Contents (Elt F) → (⟨S32x256x2048, .f32⟩ : BufTy).Contents (Elt F)),
    StableHlo.binary main_v250 main_v254 main_v255 (addf : (⟨S32x256x2048, .f32⟩ : BufTy).Contents (Elt F) → (⟨S32x256x2048, .f32⟩ : BufTy).Contents (Elt F) → (⟨S32x256x2048, .f32⟩ : BufTy).Contents (Elt F)),
    StableHlo.nullary main_cst_27 (constant S_ .f32 0x3F4C422A#32),
    StableHlo.unary main_cst_27 main_v256 (broadcastInDim S32x256x2048 ![] bcast_S_S32x256x2048 : (⟨S_, .f32⟩ : BufTy).Contents (Elt F) → (⟨S32x256x2048, .f32⟩ : BufTy).Contents (Elt F)),
    StableHlo.binary main_v256 main_v255 main_v257 (mulf : (⟨S32x256x2048, .f32⟩ : BufTy).Contents (Elt F) → (⟨S32x256x2048, .f32⟩ : BufTy).Contents (Elt F) → (⟨S32x256x2048, .f32⟩ : BufTy).Contents (Elt F)) ]
abbrev p4_0_W : List (Ref sig .tc) := [main_v207, main_cst_19, main_v208, main_v209, main_v210, main_v211, main_cst_20, main_v212, main_v213, main_v214, main_v215, main_v216, main_v217, main_v218, main_v219, main_v220, main_v221, main_v222, main_cst_21, main_v223, main_v224, main_cst_22, main_v225, main_v226, main_v227, main_v228, main_v229, main_cst_23, main_v230, main_v231, main_cst_24, main_v232, main_v233, main_v234, main_v235, main_cst_25, main_v236, main_v237, main_v238, main_v239, main_v240, main_v241, main_v242, main_v243, main_v244, main_v245, main_v246, main_v247, main_v248, main_v249, main_v250, main_v251, main_v252, main_cst_26, main_v253, main_v254, main_v255, main_cst_27, main_v256, main_v257]
abbrev p5_0 : List (HloOp τ sig (Elt F)) :=
  [ StableHlo.unary main_v257 main_v258 (Host.tanh : (⟨S32x256x2048, .f32⟩ : BufTy).Contents (Elt F) → (⟨S32x256x2048, .f32⟩ : BufTy).Contents (Elt F)),
    StableHlo.nullary main_cst_28 (constant S_ .f32 0x3F800000#32),
    StableHlo.unary main_cst_28 main_v259 (broadcastInDim S32x256x2048 ![] bcast_S_S32x256x2048 : (⟨S_, .f32⟩ : BufTy).Contents (Elt F) → (⟨S32x256x2048, .f32⟩ : BufTy).Contents (Elt F)),
    StableHlo.binary main_v259 main_v258 main_v260 (addf : (⟨S32x256x2048, .f32⟩ : BufTy).Contents (Elt F) → (⟨S32x256x2048, .f32⟩ : BufTy).Contents (Elt F) → (⟨S32x256x2048, .f32⟩ : BufTy).Contents (Elt F)),
    StableHlo.nullary main_cst_29 (constant S_ .f32 0x3F000000#32),
    StableHlo.unary main_cst_29 main_v261 (broadcastInDim S32x256x2048 ![] bcast_S_S32x256x2048 : (⟨S_, .f32⟩ : BufTy).Contents (Elt F) → (⟨S32x256x2048, .f32⟩ : BufTy).Contents (Elt F)),
    StableHlo.binary main_v261 main_v260 main_v262 (mulf : (⟨S32x256x2048, .f32⟩ : BufTy).Contents (Elt F) → (⟨S32x256x2048, .f32⟩ : BufTy).Contents (Elt F) → (⟨S32x256x2048, .f32⟩ : BufTy).Contents (Elt F)),
    StableHlo.binary main_v250 main_v262 main_v263 (mulf : (⟨S32x256x2048, .f32⟩ : BufTy).Contents (Elt F) → (⟨S32x256x2048, .f32⟩ : BufTy).Contents (Elt F) → (⟨S32x256x2048, .f32⟩ : BufTy).Contents (Elt F)),
    StableHlo.binary main_v263 main_arg29 main_v264 ((fun l r => Host.dotGeneral dot_S32x256x2048_S2048x512_S32x256x512_2_0_01_1_n_n none l r) : (⟨S32x256x2048, .f32⟩ : BufTy).Contents (Elt F) → (⟨S2048x512, .f32⟩ : BufTy).Contents (Elt F) → (⟨S32x256x512, .f32⟩ : BufTy).Contents (Elt F)),
    StableHlo.binary main_v222 main_v264 main_v265 (addf : (⟨S32x256x512, .f32⟩ : BufTy).Contents (Elt F) → (⟨S32x256x512, .f32⟩ : BufTy).Contents (Elt F) → (⟨S32x256x512, .f32⟩ : BufTy).Contents (Elt F)),
    StableHlo.unary main_arg30 main_v266 (broadcastInDim S1x1x512 ![2] bcast_S512_S1x1x512_2 : (⟨S512, .f32⟩ : BufTy).Contents (Elt F) → (⟨S1x1x512, .f32⟩ : BufTy).Contents (Elt F)),
    StableHlo.unary main_v266 main_v267 (broadcastInDim S32x256x512 ![0, 1, 2] bcast_S1x1x512_S32x256x512_0_1_2 : (⟨S1x1x512, .f32⟩ : BufTy).Contents (Elt F) → (⟨S32x256x512, .f32⟩ : BufTy).Contents (Elt F)),
    StableHlo.binary main_v265 main_v267 main_v268 (addf : (⟨S32x256x512, .f32⟩ : BufTy).Contents (Elt F) → (⟨S32x256x512, .f32⟩ : BufTy).Contents (Elt F) → (⟨S32x256x512, .f32⟩ : BufTy).Contents (Elt F)) ]
abbrev p5_0_W : List (Ref sig .tc) := [main_v258, main_cst_28, main_v259, main_v260, main_cst_29, main_v261, main_v262, main_v263, main_v264, main_v265, main_v266, main_v267, main_v268]
abbrev b0_0 : List (HloOp τ sig (Elt F)) := fn_dynamic_index_in_dim_ops (.of main_v72_0) (.of main_v72_3) main_while0b_call3
abbrev b0_0_W : List (Ref sig .tc) := [main_while0b_call3_c, main_while0b_call3_c_0, main_while0b_call3_c_1, main_while0b_call3_v0, main_while0b_v269]
abbrev b0_1 : List (HloOp τ sig (Elt F)) := fn_dynamic_index_in_dim_ops (.of main_v72_1) (.of main_v72_3) main_while0b_call4
abbrev b0_1_W : List (Ref sig .tc) := [main_while0b_call4_c, main_while0b_call4_c_0, main_while0b_call4_c_1, main_while0b_call4_v0, main_while0b_v270]
abbrev b0_2 : List (HloOp τ sig (Elt F)) := fn_dynamic_index_in_dim_0_ops (.of main_v72_2) (.of main_v72_3) main_while0b_call5
abbrev b0_2_W : List (Ref sig .tc) := [main_while0b_call5_c, main_while0b_call5_c_0, main_while0b_call5_v0, main_while0b_v271]
abbrev b0_3 : List (HloOp τ sig (Elt F)) :=
  [ StableHlo.binary main_while0b_v269 main_v72_4 main_while0b_v272 (mulf : (⟨S32x1024x16, .f32⟩ : BufTy).Contents (Elt F) → (⟨S32x1024x16, .f32⟩ : BufTy).Contents (Elt F) → (⟨S32x1024x16, .f32⟩ : BufTy).Contents (Elt F)),
    StableHlo.binary main_while0b_v272 main_while0b_v270 main_while0b_v273 (addf : (⟨S32x1024x16, .f32⟩ : BufTy).Contents (Elt F) → (⟨S32x1024x16, .f32⟩ : BufTy).Contents (Elt F) → (⟨S32x1024x16, .f32⟩ : BufTy).Contents (Elt F)),
    StableHlo.binary main_while0b_v273 main_while0b_v271 main_while0b_v274 ((fun l r => Host.dotGeneral dot_S32x1024x16_S32x16_S32x1024_2_1_1_n_0_0 none l r) : (⟨S32x1024x16, .f32⟩ : BufTy).Contents (Elt F) → (⟨S32x16, .f32⟩ : BufTy).Contents (Elt F) → (⟨S32x1024, .f32⟩ : BufTy).Contents (Elt F)) ]
abbrev b0_3_W : List (Ref sig .tc) := [main_while0b_v272, main_while0b_v273, main_while0b_v274]
abbrev b0_4 : List (HloOp τ sig (Elt F)) := fn_dynamic_update_index_in_dim_ops (.of main_v72_5) (.of main_while0b_v274) (.of main_v72_3) main_while0b_call6
abbrev b0_4_W : List (Ref sig .tc) := [main_while0b_call6_v0, main_while0b_call6_c, main_while0b_call6_c_0, main_while0b_v275]
abbrev b0_5 : List (HloOp τ sig (Elt F)) :=
  [ StableHlo.nullary main_while0b_c_35 (constantI S_ 32 1#32),
    StableHlo.binary main_v72_3 main_while0b_c_35 main_while0b_v276 (addi : (⟨S_, .i32⟩ : BufTy).Contents (Elt F) → (⟨S_, .i32⟩ : BufTy).Contents (Elt F) → (⟨S_, .i32⟩ : BufTy).Contents (Elt F)),
    StableHlo.unary main_while0b_v276 main_v72_3 id,
    StableHlo.unary main_while0b_v273 main_v72_4 id,
    StableHlo.unary main_while0b_v275 main_v72_5 id ]
abbrev b0_5_W : List (Ref sig .tc) := [main_while0b_c_35, main_while0b_v276, main_v72_3, main_v72_4, main_v72_5]
abbrev b1_0 : List (HloOp τ sig (Elt F)) := fn_dynamic_index_in_dim_ops (.of main_v189_0) (.of main_v189_3) main_while1b_call12
abbrev b1_0_W : List (Ref sig .tc) := [main_while1b_call12_c, main_while1b_call12_c_0, main_while1b_call12_c_1, main_while1b_call12_v0, main_while1b_v269]
abbrev b1_1 : List (HloOp τ sig (Elt F)) := fn_dynamic_index_in_dim_ops (.of main_v189_1) (.of main_v189_3) main_while1b_call13
abbrev b1_1_W : List (Ref sig .tc) := [main_while1b_call13_c, main_while1b_call13_c_0, main_while1b_call13_c_1, main_while1b_call13_v0, main_while1b_v270]
abbrev b1_2 : List (HloOp τ sig (Elt F)) := fn_dynamic_index_in_dim_0_ops (.of main_v189_2) (.of main_v189_3) main_while1b_call14
abbrev b1_2_W : List (Ref sig .tc) := [main_while1b_call14_c, main_while1b_call14_c_0, main_while1b_call14_v0, main_while1b_v271]
abbrev b1_3 : List (HloOp τ sig (Elt F)) :=
  [ StableHlo.binary main_while1b_v269 main_v189_4 main_while1b_v272 (mulf : (⟨S32x1024x16, .f32⟩ : BufTy).Contents (Elt F) → (⟨S32x1024x16, .f32⟩ : BufTy).Contents (Elt F) → (⟨S32x1024x16, .f32⟩ : BufTy).Contents (Elt F)),
    StableHlo.binary main_while1b_v272 main_while1b_v270 main_while1b_v273 (addf : (⟨S32x1024x16, .f32⟩ : BufTy).Contents (Elt F) → (⟨S32x1024x16, .f32⟩ : BufTy).Contents (Elt F) → (⟨S32x1024x16, .f32⟩ : BufTy).Contents (Elt F)),
    StableHlo.binary main_while1b_v273 main_while1b_v271 main_while1b_v274 ((fun l r => Host.dotGeneral dot_S32x1024x16_S32x16_S32x1024_2_1_1_n_0_0 none l r) : (⟨S32x1024x16, .f32⟩ : BufTy).Contents (Elt F) → (⟨S32x16, .f32⟩ : BufTy).Contents (Elt F) → (⟨S32x1024, .f32⟩ : BufTy).Contents (Elt F)) ]
abbrev b1_3_W : List (Ref sig .tc) := [main_while1b_v272, main_while1b_v273, main_while1b_v274]
abbrev b1_4 : List (HloOp τ sig (Elt F)) := fn_dynamic_update_index_in_dim_ops (.of main_v189_5) (.of main_while1b_v274) (.of main_v189_3) main_while1b_call15
abbrev b1_4_W : List (Ref sig .tc) := [main_while1b_call15_v0, main_while1b_call15_c, main_while1b_call15_c_0, main_while1b_v275]
abbrev b1_5 : List (HloOp τ sig (Elt F)) :=
  [ StableHlo.nullary main_while1b_c_35 (constantI S_ 32 1#32),
    StableHlo.binary main_v189_3 main_while1b_c_35 main_while1b_v276 (addi : (⟨S_, .i32⟩ : BufTy).Contents (Elt F) → (⟨S_, .i32⟩ : BufTy).Contents (Elt F) → (⟨S_, .i32⟩ : BufTy).Contents (Elt F)),
    StableHlo.unary main_while1b_v276 main_v189_3 id,
    StableHlo.unary main_while1b_v273 main_v189_4 id,
    StableHlo.unary main_while1b_v275 main_v189_5 id ]
abbrev b1_5_W : List (Ref sig .tc) := [main_while1b_c_35, main_while1b_v276, main_v189_3, main_v189_4, main_v189_5]
abbrev c0_0 : List (HloOp τ sig (Elt F)) :=
  [ StableHlo.nullary main_while0c_c_35 (constantI S_ 32 256#32),
    StableHlo.binary main_v72_3 main_while0c_c_35 main_while0c_v269 (cmpi .slt : (⟨S_, .i32⟩ : BufTy).Contents (Elt F) → (⟨S_, .i32⟩ : BufTy).Contents (Elt F) → (⟨S_, .i1⟩ : BufTy).Contents (Elt F)) ]
abbrev c0_0_W : List (Ref sig .tc) := [main_while0c_c_35, main_while0c_v269]
abbrev c1_0 : List (HloOp τ sig (Elt F)) :=
  [ StableHlo.nullary main_while1c_c_35 (constantI S_ 32 256#32),
    StableHlo.binary main_v189_3 main_while1c_c_35 main_while1c_v269 (cmpi .slt : (⟨S_, .i32⟩ : BufTy).Contents (Elt F) → (⟨S_, .i32⟩ : BufTy).Contents (Elt F) → (⟨S_, .i1⟩ : BufTy).Contents (Elt F)) ]
abbrev c1_0_W : List (Ref sig .tc) := [main_while1c_c_35, main_while1c_v269]

/-- The operations before the first scan. -/
abbrev preI : List (List (HloOp τ sig (Elt F))) := [p0_0, p0_1, p0_2, p0_3, p0_4, p0_5, p0_6, p1_0]
/-- The operations between the two scans. -/
abbrev midI : List (List (HloOp τ sig (Elt F))) := [p1_1, p1_2, p1_3, p2_0, p2_1, p2_2, p2_3, p2_4, p2_5, p3_0, p3_1, p3_2]
/-- The operations after the second scan. -/
abbrev postI : List (List (HloOp τ sig (Elt F))) := [p3_3, p3_4, p3_5, p4_0, p5_0]
/-- The operations of one trip of scan 0. -/
abbrev bodyI0 : List (List (HloOp τ sig (Elt F))) := [b0_0, b0_1, b0_2, b0_3, b0_4, b0_5]
/-- The operations of one trip of scan 1. -/
abbrev bodyI1 : List (List (HloOp τ sig (Elt F))) := [b1_0, b1_1, b1_2, b1_3, b1_4, b1_5]

/-! ## What each list writes -/

/-- The arguments. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30]
set_option maxRecDepth 100000
theorem p0_0_sub : (p0_0 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.binary_bufs_sub .., StableHlo.binary_bufs_sub .., StableHlo.unary_bufs_sub .., StableHlo.unary_bufs_sub .., StableHlo.nullary_bufs_sub ..⟩
theorem p0_0_writes : (p0_0 : List (HloOp τ sig (Elt F))).Forall fun op => op.writes ⊆ (p0_0_W.map (Proc.devRef (τ := τ) .tc)).toFinset :=
  StableHlo.forall_writes_sub_of_map rfl
theorem p0_0_args : ∀ a ∈ argRefs, a ∉ p0_0_W := by decide
theorem p0_1_sub : (p0_1 : List (HloOp τ sig (Elt F))).Forall fun op => op.bufs ⊆ StableHlo.tcRefs τ sig :=
  ⟨StableHlo.unary_bufs_sub .., StableHlo.binary_bufs_sub ..⟩
theorem p0_1_writes : (p0_1 : List (HloOp τ sig (Elt F))).Forall fun op => op.writes ⊆ (p0_1_W.map (Proc.devRef (τ := τ) .tc)).toFinset :=
  StableHlo.forall_writes_sub_of_map rfl
theorem p0_1_args : ∀ a ∈ argRefs, a ∉ p0_1_W := by decide
theorem p0_2_sub : (p0_2 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.reshape_bufs_sub .., StableHlo.unary_bufs_sub .., StableHlo.unary_bufs_sub .., StableHlo.binary_bufs_sub .., StableHlo.binary_bufs_sub .., StableHlo.unary_bufs_sub .., StableHlo.unary_bufs_sub .., StableHlo.reshape_bufs_sub .., StableHlo.unary_bufs_sub .., StableHlo.unary_bufs_sub .., StableHlo.binary_bufs_sub .., StableHlo.binary_bufs_sub .., StableHlo.unary_bufs_sub .., StableHlo.unary_bufs_sub .., StableHlo.reshape_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩
theorem p0_2_writes : (p0_2 : List (HloOp τ sig (Elt F))).Forall fun op => op.writes ⊆ (p0_2_W.map (Proc.devRef (τ := τ) .tc)).toFinset :=
  StableHlo.forall_writes_sub_of_map rfl
theorem p0_2_args : ∀ a ∈ argRefs, a ∉ p0_2_W := by decide
theorem p0_3_sub : (p0_3 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩
theorem p0_3_writes : (p0_3 : List (HloOp τ sig (Elt F))).Forall fun op => op.writes ⊆ (p0_3_W.map (Proc.devRef (τ := τ) .tc)).toFinset :=
  StableHlo.forall_writes_sub_of_map rfl
theorem p0_3_args : ∀ a ∈ argRefs, a ∉ p0_3_W := by decide
theorem p0_4_sub : (p0_4 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub ..⟩
theorem p0_4_writes : (p0_4 : List (HloOp τ sig (Elt F))).Forall fun op => op.writes ⊆ (p0_4_W.map (Proc.devRef (τ := τ) .tc)).toFinset :=
  StableHlo.forall_writes_sub_of_map rfl
theorem p0_4_args : ∀ a ∈ argRefs, a ∉ p0_4_W := by decide
theorem p0_5_sub : (p0_5 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub ..⟩
theorem p0_5_writes : (p0_5 : List (HloOp τ sig (Elt F))).Forall fun op => op.writes ⊆ (p0_5_W.map (Proc.devRef (τ := τ) .tc)).toFinset :=
  StableHlo.forall_writes_sub_of_map rfl
theorem p0_5_args : ∀ a ∈ argRefs, a ∉ p0_5_W := by decide
theorem p0_6_sub : (p0_6 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.binary_bufs_sub ..⟩
theorem p0_6_writes : (p0_6 : List (HloOp τ sig (Elt F))).Forall fun op => op.writes ⊆ (p0_6_W.map (Proc.devRef (τ := τ) .tc)).toFinset :=
  StableHlo.forall_writes_sub_of_map rfl
theorem p0_6_args : ∀ a ∈ argRefs, a ∉ p0_6_W := by decide
theorem p1_0_sub : (p1_0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
theorem p1_0_writes : (p1_0 : List (HloOp τ sig (Elt F))).Forall fun op => op.writes ⊆ (p1_0_W.map (Proc.devRef (τ := τ) .tc)).toFinset :=
  StableHlo.forall_writes_sub_of_map rfl
theorem p1_0_args : ∀ a ∈ argRefs, a ∉ p1_0_W := by decide
theorem p1_1_sub : (p1_1 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.binary_bufs_sub ..⟩
theorem p1_1_writes : (p1_1 : List (HloOp τ sig (Elt F))).Forall fun op => op.writes ⊆ (p1_1_W.map (Proc.devRef (τ := τ) .tc)).toFinset :=
  StableHlo.forall_writes_sub_of_map rfl
theorem p1_1_args : ∀ a ∈ argRefs, a ∉ p1_1_W := by decide
theorem p1_2_sub : (p1_2 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩
theorem p1_2_writes : (p1_2 : List (HloOp τ sig (Elt F))).Forall fun op => op.writes ⊆ (p1_2_W.map (Proc.devRef (τ := τ) .tc)).toFinset :=
  StableHlo.forall_writes_sub_of_map rfl
theorem p1_2_args : ∀ a ∈ argRefs, a ∉ p1_2_W := by decide
theorem p1_3_sub : (p1_3 : List (HloOp τ sig (Elt F))).Forall fun op => op.bufs ⊆ StableHlo.tcRefs τ sig :=
  ⟨StableHlo.binary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub ..⟩
theorem p1_3_writes : (p1_3 : List (HloOp τ sig (Elt F))).Forall fun op => op.writes ⊆ (p1_3_W.map (Proc.devRef (τ := τ) .tc)).toFinset :=
  StableHlo.forall_writes_sub_of_map rfl
theorem p1_3_args : ∀ a ∈ argRefs, a ∉ p1_3_W := by decide
theorem p2_0_sub : (p2_0 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub ..⟩
theorem p2_0_writes : (p2_0 : List (HloOp τ sig (Elt F))).Forall fun op => op.writes ⊆ (p2_0_W.map (Proc.devRef (τ := τ) .tc)).toFinset :=
  StableHlo.forall_writes_sub_of_map rfl
theorem p2_0_args : ∀ a ∈ argRefs, a ∉ p2_0_W := by decide
theorem p2_1_sub : (p2_1 : List (HloOp τ sig (Elt F))).Forall fun op => op.bufs ⊆ StableHlo.tcRefs τ sig :=
  ⟨StableHlo.nullary_bufs_sub .., StableHlo.unary_bufs_sub .., StableHlo.binary_bufs_sub ..⟩
theorem p2_1_writes : (p2_1 : List (HloOp τ sig (Elt F))).Forall fun op => op.writes ⊆ (p2_1_W.map (Proc.devRef (τ := τ) .tc)).toFinset :=
  StableHlo.forall_writes_sub_of_map rfl
theorem p2_1_args : ∀ a ∈ argRefs, a ∉ p2_1_W := by decide
theorem p2_2_sub : (p2_2 : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.nullary_bufs_sub ..⟩
theorem p2_2_writes : (p2_2 : List (HloOp τ sig (Elt F))).Forall fun op => op.writes ⊆ (p2_2_W.map (Proc.devRef (τ := τ) .tc)).toFinset :=
  StableHlo.forall_writes_sub_of_map rfl
theorem p2_2_args : ∀ a ∈ argRefs, a ∉ p2_2_W := by decide
theorem p2_3_sub : (p2_3 : List (HloOp τ sig (Elt F))).Forall fun op => op.bufs ⊆ StableHlo.tcRefs τ sig :=
  ⟨StableHlo.unary_bufs_sub .., StableHlo.binary_bufs_sub ..⟩
theorem p2_3_writes : (p2_3 : List (HloOp τ sig (Elt F))).Forall fun op => op.writes ⊆ (p2_3_W.map (Proc.devRef (τ := τ) .tc)).toFinset :=
  StableHlo.forall_writes_sub_of_map rfl
theorem p2_3_args : ∀ a ∈ argRefs, a ∉ p2_3_W := by decide
theorem p2_4_sub : (p2_4 : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.reshape_bufs_sub .., StableHlo.unary_bufs_sub .., StableHlo.unary_bufs_sub .., StableHlo.binary_bufs_sub .., StableHlo.binary_bufs_sub .., StableHlo.unary_bufs_sub .., StableHlo.unary_bufs_sub .., StableHlo.reshape_bufs_sub .., StableHlo.unary_bufs_sub .., StableHlo.unary_bufs_sub .., StableHlo.binary_bufs_sub .., StableHlo.binary_bufs_sub .., StableHlo.unary_bufs_sub .., StableHlo.unary_bufs_sub .., StableHlo.reshape_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩
theorem p2_4_writes : (p2_4 : List (HloOp τ sig (Elt F))).Forall fun op => op.writes ⊆ (p2_4_W.map (Proc.devRef (τ := τ) .tc)).toFinset :=
  StableHlo.forall_writes_sub_of_map rfl
theorem p2_4_args : ∀ a ∈ argRefs, a ∉ p2_4_W := by decide
theorem p2_5_sub : (p2_5 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩
theorem p2_5_writes : (p2_5 : List (HloOp τ sig (Elt F))).Forall fun op => op.writes ⊆ (p2_5_W.map (Proc.devRef (τ := τ) .tc)).toFinset :=
  StableHlo.forall_writes_sub_of_map rfl
theorem p2_5_args : ∀ a ∈ argRefs, a ∉ p2_5_W := by decide
theorem p3_0_sub : (p3_0 : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub ..⟩
theorem p3_0_writes : (p3_0 : List (HloOp τ sig (Elt F))).Forall fun op => op.writes ⊆ (p3_0_W.map (Proc.devRef (τ := τ) .tc)).toFinset :=
  StableHlo.forall_writes_sub_of_map rfl
theorem p3_0_args : ∀ a ∈ argRefs, a ∉ p3_0_W := by decide
theorem p3_1_sub : (p3_1 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.ternary_bufs_sub ..⟩
theorem p3_1_writes : (p3_1 : List (HloOp τ sig (Elt F))).Forall fun op => op.writes ⊆ (p3_1_W.map (Proc.devRef (τ := τ) .tc)).toFinset :=
  StableHlo.forall_writes_sub_of_map rfl
theorem p3_1_args : ∀ a ∈ argRefs, a ∉ p3_1_W := by decide
theorem p3_2_sub : (p3_2 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
theorem p3_2_writes : (p3_2 : List (HloOp τ sig (Elt F))).Forall fun op => op.writes ⊆ (p3_2_W.map (Proc.devRef (τ := τ) .tc)).toFinset :=
  StableHlo.forall_writes_sub_of_map rfl
theorem p3_2_args : ∀ a ∈ argRefs, a ∉ p3_2_W := by decide
theorem p3_3_sub : (p3_3 : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.binary_bufs_sub ..⟩
theorem p3_3_writes : (p3_3 : List (HloOp τ sig (Elt F))).Forall fun op => op.writes ⊆ (p3_3_W.map (Proc.devRef (τ := τ) .tc)).toFinset :=
  StableHlo.forall_writes_sub_of_map rfl
theorem p3_3_args : ∀ a ∈ argRefs, a ∉ p3_3_W := by decide
theorem p3_4_sub : (p3_4 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩
theorem p3_4_writes : (p3_4 : List (HloOp τ sig (Elt F))).Forall fun op => op.writes ⊆ (p3_4_W.map (Proc.devRef (τ := τ) .tc)).toFinset :=
  StableHlo.forall_writes_sub_of_map rfl
theorem p3_4_args : ∀ a ∈ argRefs, a ∉ p3_4_W := by decide
theorem p3_5_sub : (p3_5 : List (HloOp τ sig (Elt F))).Forall fun op => op.bufs ⊆ StableHlo.tcRefs τ sig :=
  ⟨StableHlo.binary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub ..⟩
theorem p3_5_writes : (p3_5 : List (HloOp τ sig (Elt F))).Forall fun op => op.writes ⊆ (p3_5_W.map (Proc.devRef (τ := τ) .tc)).toFinset :=
  StableHlo.forall_writes_sub_of_map rfl
theorem p3_5_args : ∀ a ∈ argRefs, a ∉ p3_5_W := by decide
theorem p4_0_sub : (p4_0 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub ..⟩
theorem p4_0_writes : (p4_0 : List (HloOp τ sig (Elt F))).Forall fun op => op.writes ⊆ (p4_0_W.map (Proc.devRef (τ := τ) .tc)).toFinset :=
  StableHlo.forall_writes_sub_of_map rfl
theorem p4_0_args : ∀ a ∈ argRefs, a ∉ p4_0_W := by decide
theorem p5_0_sub : (p5_0 : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.unary_bufs_sub .., StableHlo.binary_bufs_sub ..⟩
theorem p5_0_writes : (p5_0 : List (HloOp τ sig (Elt F))).Forall fun op => op.writes ⊆ (p5_0_W.map (Proc.devRef (τ := τ) .tc)).toFinset :=
  StableHlo.forall_writes_sub_of_map rfl
theorem p5_0_args : ∀ a ∈ argRefs, a ∉ p5_0_W := by decide
theorem b0_0_sub : (b0_0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem b0_0_writes : (b0_0 : List (HloOp τ sig (Elt F))).Forall fun op => op.writes ⊆ (b0_0_W.map (Proc.devRef (τ := τ) .tc)).toFinset :=
  StableHlo.forall_writes_sub_of_map rfl
theorem b0_0_args : ∀ a ∈ argRefs, a ∉ b0_0_W := by decide
theorem b0_1_sub : (b0_1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem b0_1_writes : (b0_1 : List (HloOp τ sig (Elt F))).Forall fun op => op.writes ⊆ (b0_1_W.map (Proc.devRef (τ := τ) .tc)).toFinset :=
  StableHlo.forall_writes_sub_of_map rfl
theorem b0_1_args : ∀ a ∈ argRefs, a ∉ b0_1_W := by decide
theorem b0_2_sub : (b0_2 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem b0_2_writes : (b0_2 : List (HloOp τ sig (Elt F))).Forall fun op => op.writes ⊆ (b0_2_W.map (Proc.devRef (τ := τ) .tc)).toFinset :=
  StableHlo.forall_writes_sub_of_map rfl
theorem b0_2_args : ∀ a ∈ argRefs, a ∉ b0_2_W := by decide
theorem b0_3_sub : (b0_3 : List (HloOp τ sig (Elt F))).Forall fun op => op.bufs ⊆ StableHlo.tcRefs τ sig :=
  ⟨StableHlo.binary_bufs_sub .., StableHlo.binary_bufs_sub .., StableHlo.binary_bufs_sub ..⟩
theorem b0_3_writes : (b0_3 : List (HloOp τ sig (Elt F))).Forall fun op => op.writes ⊆ (b0_3_W.map (Proc.devRef (τ := τ) .tc)).toFinset :=
  StableHlo.forall_writes_sub_of_map rfl
theorem b0_3_args : ∀ a ∈ argRefs, a ∉ b0_3_W := by decide
theorem b0_4_sub : (b0_4 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem b0_4_writes : (b0_4 : List (HloOp τ sig (Elt F))).Forall fun op => op.writes ⊆ (b0_4_W.map (Proc.devRef (τ := τ) .tc)).toFinset :=
  StableHlo.forall_writes_sub_of_map rfl
theorem b0_4_args : ∀ a ∈ argRefs, a ∉ b0_4_W := by decide
theorem b0_5_sub : (b0_5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
theorem b0_5_writes : (b0_5 : List (HloOp τ sig (Elt F))).Forall fun op => op.writes ⊆ (b0_5_W.map (Proc.devRef (τ := τ) .tc)).toFinset :=
  StableHlo.forall_writes_sub_of_map rfl
theorem b0_5_args : ∀ a ∈ argRefs, a ∉ b0_5_W := by decide
theorem b1_0_sub : (b1_0 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem b1_0_writes : (b1_0 : List (HloOp τ sig (Elt F))).Forall fun op => op.writes ⊆ (b1_0_W.map (Proc.devRef (τ := τ) .tc)).toFinset :=
  StableHlo.forall_writes_sub_of_map rfl
theorem b1_0_args : ∀ a ∈ argRefs, a ∉ b1_0_W := by decide
theorem b1_1_sub : (b1_1 : List (HloOp τ sig (Elt F))).Forall fun op => op.bufs ⊆ StableHlo.tcRefs τ sig :=
  ⟨StableHlo.nullary_bufs_sub .., StableHlo.nullary_bufs_sub .., StableHlo.nullary_bufs_sub .., StableHlo.unaryIndexed_bufs_sub .., StableHlo.reshape_bufs_sub ..⟩
theorem b1_1_writes : (b1_1 : List (HloOp τ sig (Elt F))).Forall fun op => op.writes ⊆ (b1_1_W.map (Proc.devRef (τ := τ) .tc)).toFinset :=
  StableHlo.forall_writes_sub_of_map rfl
theorem b1_1_args : ∀ a ∈ argRefs, a ∉ b1_1_W := by decide
theorem b1_2_sub : (b1_2 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem b1_2_writes : (b1_2 : List (HloOp τ sig (Elt F))).Forall fun op => op.writes ⊆ (b1_2_W.map (Proc.devRef (τ := τ) .tc)).toFinset :=
  StableHlo.forall_writes_sub_of_map rfl
theorem b1_2_args : ∀ a ∈ argRefs, a ∉ b1_2_W := by decide
theorem b1_3_sub : (b1_3 : List (HloOp τ sig (Elt F))).Forall fun op => op.bufs ⊆ StableHlo.tcRefs τ sig :=
  ⟨StableHlo.binary_bufs_sub .., StableHlo.binary_bufs_sub .., StableHlo.binary_bufs_sub ..⟩
theorem b1_3_writes : (b1_3 : List (HloOp τ sig (Elt F))).Forall fun op => op.writes ⊆ (b1_3_W.map (Proc.devRef (τ := τ) .tc)).toFinset :=
  StableHlo.forall_writes_sub_of_map rfl
theorem b1_3_args : ∀ a ∈ argRefs, a ∉ b1_3_W := by decide
theorem b1_4_sub : (b1_4 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem b1_4_writes : (b1_4 : List (HloOp τ sig (Elt F))).Forall fun op => op.writes ⊆ (b1_4_W.map (Proc.devRef (τ := τ) .tc)).toFinset :=
  StableHlo.forall_writes_sub_of_map rfl
theorem b1_4_args : ∀ a ∈ argRefs, a ∉ b1_4_W := by decide
theorem b1_5_sub : (b1_5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
theorem b1_5_writes : (b1_5 : List (HloOp τ sig (Elt F))).Forall fun op => op.writes ⊆ (b1_5_W.map (Proc.devRef (τ := τ) .tc)).toFinset :=
  StableHlo.forall_writes_sub_of_map rfl
theorem b1_5_args : ∀ a ∈ argRefs, a ∉ b1_5_W := by decide
theorem c0_0_sub : (c0_0 : List (HloOp τ sig (Elt F))).Forall fun op => op.bufs ⊆ StableHlo.tcRefs τ sig :=
  ⟨StableHlo.nullary_bufs_sub .., StableHlo.binary_bufs_sub ..⟩
theorem c0_0_writes : (c0_0 : List (HloOp τ sig (Elt F))).Forall fun op => op.writes ⊆ (c0_0_W.map (Proc.devRef (τ := τ) .tc)).toFinset :=
  StableHlo.forall_writes_sub_of_map rfl
theorem c0_0_args : ∀ a ∈ argRefs, a ∉ c0_0_W := by decide
theorem c1_0_sub : (c1_0 : List (HloOp τ sig (Elt F))).Forall fun op => op.bufs ⊆ StableHlo.tcRefs τ sig :=
  ⟨StableHlo.nullary_bufs_sub .., StableHlo.binary_bufs_sub ..⟩
theorem c1_0_writes : (c1_0 : List (HloOp τ sig (Elt F))).Forall fun op => op.writes ⊆ (c1_0_W.map (Proc.devRef (τ := τ) .tc)).toFinset :=
  StableHlo.forall_writes_sub_of_map rfl
theorem c1_0_args : ∀ a ∈ argRefs, a ∉ c1_0_W := by decide
theorem hpreI : Plain (preI (F := F)) := .cons p0_0_sub (.cons p0_1_sub (.cons p0_2_sub (.cons p0_3_sub (.cons p0_4_sub (.cons p0_5_sub (.cons p0_6_sub (.cons p1_0_sub (.nil))))))))
theorem hmidI : Plain (midI (F := F)) := .cons p1_1_sub (.cons p1_2_sub (.cons p1_3_sub (.cons p2_0_sub (.cons p2_1_sub (.cons p2_2_sub (.cons p2_3_sub (.cons p2_4_sub (.cons p2_5_sub (.cons p3_0_sub (.cons p3_1_sub (.cons p3_2_sub (.nil))))))))))))
theorem hpostI : Plain (postI (F := F)) := .cons p3_3_sub (.cons p3_4_sub (.cons p3_5_sub (.cons p4_0_sub (.cons p5_0_sub (.nil)))))
theorem hbodyI0 : Plain (bodyI0 (F := F)) := .cons b0_0_sub (.cons b0_1_sub (.cons b0_2_sub (.cons b0_3_sub (.cons b0_4_sub (.cons b0_5_sub (.nil))))))
theorem hbodyI1 : Plain (bodyI1 (F := F)) := .cons b1_0_sub (.cons b1_1_sub (.cons b1_2_sub (.cons b1_3_sub (.cons b1_4_sub (.cons b1_5_sub (.nil))))))

/-! ## The program is the run of those lists -/

theorem part0_eq (c : Dev nD) : main_part0 (F := F) c = Pipeline.chainK [StableHlo.seq p0_0, StableHlo.seq p0_1, StableHlo.seq p0_2, StableHlo.seq p0_3, StableHlo.seq p0_4, StableHlo.seq p0_5]
    (StableHlo.seq p0_6 : Prog (TpuEff nD τ sig (Elt F) (HostLoop.Sig (Pipeline.Sig Λ₀ (Fin 0) fun p => (pcfgs (F := F) p).Adm) 2) .tc) PUnit) := by chain_rfl
theorem part1_eq (c : Dev nD) : main_part1 (F := F) c = Pipeline.chainK [StableHlo.seq p1_0, HostLoop.enter 0, StableHlo.seq p1_1, StableHlo.seq p1_2]
    (StableHlo.seq p1_3 : Prog (TpuEff nD τ sig (Elt F) (HostLoop.Sig (Pipeline.Sig Λ₀ (Fin 0) fun p => (pcfgs (F := F) p).Adm) 2) .tc) PUnit) := by chain_rfl
theorem part2_eq (c : Dev nD) : main_part2 (F := F) c = Pipeline.chainK [StableHlo.seq p2_0, StableHlo.seq p2_1, StableHlo.seq p2_2, StableHlo.seq p2_3, StableHlo.seq p2_4]
    (StableHlo.seq p2_5 : Prog (TpuEff nD τ sig (Elt F) (HostLoop.Sig (Pipeline.Sig Λ₀ (Fin 0) fun p => (pcfgs (F := F) p).Adm) 2) .tc) PUnit) := by chain_rfl
theorem part3_eq (c : Dev nD) : main_part3 (F := F) c = Pipeline.chainK [StableHlo.seq p3_0, StableHlo.seq p3_1, StableHlo.seq p3_2, HostLoop.enter 1, StableHlo.seq p3_3, StableHlo.seq p3_4]
    (StableHlo.seq p3_5 : Prog (TpuEff nD τ sig (Elt F) (HostLoop.Sig (Pipeline.Sig Λ₀ (Fin 0) fun p => (pcfgs (F := F) p).Adm) 2) .tc) PUnit) := by chain_rfl
theorem part4_eq (c : Dev nD) : main_part4 (F := F) c = Pipeline.chainK []
    (StableHlo.seq p4_0 : Prog (TpuEff nD τ sig (Elt F) (HostLoop.Sig (Pipeline.Sig Λ₀ (Fin 0) fun p => (pcfgs (F := F) p).Adm) 2) .tc) PUnit) := by chain_rfl
theorem part5_eq (c : Dev nD) : main_part5 (F := F) c = (Pipeline.chain [StableHlo.seq p5_0] : Prog (TpuEff nD τ sig (Elt F) (HostLoop.Sig (Pipeline.Sig Λ₀ (Fin 0) fun p => (pcfgs (F := F) p).Adm) 2) .tc) PUnit) := by chain_rfl

/-- @main is its lists and its two scans, in order. -/
theorem main_chain (c : Dev nD) : main (F := F) c = Pipeline.chain ((preI.map fun ops => (StableHlo.seq ops : Prog (TpuEff nD τ sig (Elt F) (HostLoop.Sig (Pipeline.Sig Λ₀ (Fin 0) fun p => (pcfgs (F := F) p).Adm) 2) .tc) PUnit)) ++ HostLoop.enter 0
      :: ((midI.map fun ops => StableHlo.seq ops) ++ HostLoop.enter 1 :: postI.map fun ops => StableHlo.seq ops)) := by
  have h := Pipeline.chain_of_window (part0_eq (F := F) c) (Pipeline.chain_of_window (part1_eq c) (Pipeline.chain_of_window (part2_eq c)
    (Pipeline.chain_of_window (part3_eq c) (Pipeline.chain_of_window (part4_eq c) (part5_eq c)))))
  exact Eq.trans h (by chain_rfl)

theorem body0_chain : main_while0_body (F := F) = Pipeline.chain (bodyI0.map fun ops => StableHlo.seq ops) := by chain_rfl
theorem body1_chain : main_while1_body (F := F) = Pipeline.chain (bodyI1.map fun ops => StableHlo.seq ops) := by chain_rfl

/-! ## What the buffers hold -/

variable (m : (ℓ : Loc nD τ sig) → Buf (Elt F) ℓ)

/-- The number of trips of a scan. -/
abbrev nT : ℕ := 256
/-- The buffers when the first scan is entered. -/
def V0 (c : Dev nD) : Valuation τ sig (Elt F) := afterL preI (StableHlo.launchContents m c)
/-- The buffers before the `k`-th run of the first scan's condition. -/
abbrev T0 (k : ℕ) (c : Dev nD) : Valuation τ sig (Elt F) := StableHlo.atTrip c0_0 bodyI0 (V0 m) k c
/-- The buffers after the first scan. -/
def V1 (c : Dev nD) : Valuation τ sig (Elt F) := after c0_0 (T0 m nT c)
/-- The buffers when the second scan is entered. -/
def V2 (c : Dev nD) : Valuation τ sig (Elt F) := afterL midI (V1 m c)
/-- The buffers before the `k`-th run of the second scan's condition. -/
abbrev T1 (k : ℕ) (c : Dev nD) : Valuation τ sig (Elt F) := StableHlo.atTrip c1_0 bodyI1 (V2 m) k c
/-- The buffers after the second scan. -/
def V3 (c : Dev nD) : Valuation τ sig (Elt F) := after c1_0 (T1 m nT c)
/-- The buffers at the end. -/
def V4 (c : Dev nD) : Valuation τ sig (Elt F) := afterL postI (V3 m c)

/-- A buffer that none of a list's operations writes keeps its contents through the lists. -/
theorem keep_pre (r : Ref sig .tc) (V : Valuation τ sig (Elt F)) (h : r ∉ p0_0_W ∧ r ∉ p0_1_W ∧ r ∉ p0_2_W ∧ r ∉ p0_3_W ∧ r ∉ p0_4_W ∧ r ∉ p0_5_W ∧ r ∉ p0_6_W ∧ r ∉ p1_0_W) :
    afterL preI V (Proc.devRef .tc r) = V (Proc.devRef .tc r) := by
  obtain ⟨h0, h1, h2, h3, h4, h5, h6, h7⟩ := h
  simp only [StableHlo.afterL_cons, StableHlo.afterL_nil]
  rw [StableHlo.after_of_writes_sub p1_0 _ p1_0_writes h7, StableHlo.after_of_writes_sub p0_6 _ p0_6_writes h6, StableHlo.after_of_writes_sub p0_5 _ p0_5_writes h5, StableHlo.after_of_writes_sub p0_4 _ p0_4_writes h4, StableHlo.after_of_writes_sub p0_3 _ p0_3_writes h3, StableHlo.after_of_writes_sub p0_2 _ p0_2_writes h2, StableHlo.after_of_writes_sub p0_1 _ p0_1_writes h1, StableHlo.after_of_writes_sub p0_0 _ p0_0_writes h0]

theorem keep_mid (r : Ref sig .tc) (V : Valuation τ sig (Elt F)) (h : r ∉ p1_1_W ∧ r ∉ p1_2_W ∧ r ∉ p1_3_W ∧ r ∉ p2_0_W ∧ r ∉ p2_1_W ∧ r ∉ p2_2_W ∧ r ∉ p2_3_W ∧ r ∉ p2_4_W ∧ r ∉ p2_5_W ∧ r ∉ p3_0_W ∧ r ∉ p3_1_W ∧ r ∉ p3_2_W) :
    afterL midI V (Proc.devRef .tc r) = V (Proc.devRef .tc r) := by
  obtain ⟨h0, h1, h2, h3, h4, h5, h6, h7, h8, h9, h10, h11⟩ := h
  simp only [StableHlo.afterL_cons, StableHlo.afterL_nil]
  rw [StableHlo.after_of_writes_sub p3_2 _ p3_2_writes h11, StableHlo.after_of_writes_sub p3_1 _ p3_1_writes h10, StableHlo.after_of_writes_sub p3_0 _ p3_0_writes h9, StableHlo.after_of_writes_sub p2_5 _ p2_5_writes h8, StableHlo.after_of_writes_sub p2_4 _ p2_4_writes h7, StableHlo.after_of_writes_sub p2_3 _ p2_3_writes h6, StableHlo.after_of_writes_sub p2_2 _ p2_2_writes h5, StableHlo.after_of_writes_sub p2_1 _ p2_1_writes h4, StableHlo.after_of_writes_sub p2_0 _ p2_0_writes h3, StableHlo.after_of_writes_sub p1_3 _ p1_3_writes h2, StableHlo.after_of_writes_sub p1_2 _ p1_2_writes h1, StableHlo.after_of_writes_sub p1_1 _ p1_1_writes h0]

theorem keep_post (r : Ref sig .tc) (V : Valuation τ sig (Elt F)) (h : r ∉ p3_3_W ∧ r ∉ p3_4_W ∧ r ∉ p3_5_W ∧ r ∉ p4_0_W ∧ r ∉ p5_0_W) :
    afterL postI V (Proc.devRef .tc r) = V (Proc.devRef .tc r) := by
  obtain ⟨h0, h1, h2, h3, h4⟩ := h
  simp only [StableHlo.afterL_cons, StableHlo.afterL_nil]
  rw [StableHlo.after_of_writes_sub p5_0 _ p5_0_writes h4, StableHlo.after_of_writes_sub p4_0 _ p4_0_writes h3, StableHlo.after_of_writes_sub p3_5 _ p3_5_writes h2, StableHlo.after_of_writes_sub p3_4 _ p3_4_writes h1, StableHlo.after_of_writes_sub p3_3 _ p3_3_writes h0]

theorem keep_body0 (r : Ref sig .tc) (V : Valuation τ sig (Elt F)) (h : r ∉ b0_0_W ∧ r ∉ b0_1_W ∧ r ∉ b0_2_W ∧ r ∉ b0_3_W ∧ r ∉ b0_4_W ∧ r ∉ b0_5_W) :
    afterL bodyI0 V (Proc.devRef .tc r) = V (Proc.devRef .tc r) := by
  obtain ⟨h0, h1, h2, h3, h4, h5⟩ := h
  simp only [StableHlo.afterL_cons, StableHlo.afterL_nil]
  rw [StableHlo.after_of_writes_sub b0_5 _ b0_5_writes h5, StableHlo.after_of_writes_sub b0_4 _ b0_4_writes h4, StableHlo.after_of_writes_sub b0_3 _ b0_3_writes h3, StableHlo.after_of_writes_sub b0_2 _ b0_2_writes h2, StableHlo.after_of_writes_sub b0_1 _ b0_1_writes h1, StableHlo.after_of_writes_sub b0_0 _ b0_0_writes h0]

theorem keep_body1 (r : Ref sig .tc) (V : Valuation τ sig (Elt F)) (h : r ∉ b1_0_W ∧ r ∉ b1_1_W ∧ r ∉ b1_2_W ∧ r ∉ b1_3_W ∧ r ∉ b1_4_W ∧ r ∉ b1_5_W) :
    afterL bodyI1 V (Proc.devRef .tc r) = V (Proc.devRef .tc r) := by
  obtain ⟨h0, h1, h2, h3, h4, h5⟩ := h
  simp only [StableHlo.afterL_cons, StableHlo.afterL_nil]
  rw [StableHlo.after_of_writes_sub b1_5 _ b1_5_writes h5, StableHlo.after_of_writes_sub b1_4 _ b1_4_writes h4, StableHlo.after_of_writes_sub b1_3 _ b1_3_writes h3, StableHlo.after_of_writes_sub b1_2 _ b1_2_writes h2, StableHlo.after_of_writes_sub b1_1 _ b1_1_writes h1, StableHlo.after_of_writes_sub b1_0 _ b1_0_writes h0]

/-- A buffer that neither the scan's condition nor its body writes keeps its contents through the trips. -/
theorem keep_trips0 (r : Ref sig .tc) (c : Dev nD) (hc : r ∉ c0_0_W) (h : r ∉ b0_0_W ∧ r ∉ b0_1_W ∧ r ∉ b0_2_W ∧ r ∉ b0_3_W ∧ r ∉ b0_4_W ∧ r ∉ b0_5_W) :
    ∀ n, T0 m n c (Proc.devRef .tc r) = V0 m c (Proc.devRef .tc r)
  | 0 => rfl
  | n + 1 => by
    rw [show T0 m (n + 1) c = afterL bodyI0 (after c0_0 (T0 m n c)) from rfl, keep_body0 r _ h,
      StableHlo.after_of_writes_sub c0_0 _ c0_0_writes hc]
    exact keep_trips0 r c hc h n

/-- A buffer that neither the scan's condition nor its body writes keeps its contents through the trips. -/
theorem keep_trips1 (r : Ref sig .tc) (c : Dev nD) (hc : r ∉ c1_0_W) (h : r ∉ b1_0_W ∧ r ∉ b1_1_W ∧ r ∉ b1_2_W ∧ r ∉ b1_3_W ∧ r ∉ b1_4_W ∧ r ∉ b1_5_W) :
    ∀ n, T1 m n c (Proc.devRef .tc r) = V2 m c (Proc.devRef .tc r)
  | 0 => rfl
  | n + 1 => by
    rw [show T1 m (n + 1) c = afterL bodyI1 (after c1_0 (T1 m n c)) from rfl, keep_body1 r _ h,
      StableHlo.after_of_writes_sub c1_0 _ c1_0_writes hc]
    exact keep_trips1 r c hc h n

/-- The arguments stay as they were. -/
theorem V4_args (c : Dev nD) : ∀ a ∈ argRefs, V4 m c (Proc.devRef .tc a) = m ((c : Thread nD τ).loc a) := fun a ha => by
  unfold V4
  rw [keep_post a _ ⟨p3_3_args a ha, p3_4_args a ha, p3_5_args a ha, p4_0_args a ha, p5_0_args a ha⟩]
  unfold V3
  rw [StableHlo.after_of_writes_sub c1_0 _ c1_0_writes (c1_0_args a ha), keep_trips1 m a c (c1_0_args a ha) ⟨b1_0_args a ha, b1_1_args a ha, b1_2_args a ha, b1_3_args a ha, b1_4_args a ha, b1_5_args a ha⟩]
  unfold V2
  rw [keep_mid a _ ⟨p1_1_args a ha, p1_2_args a ha, p1_3_args a ha, p2_0_args a ha, p2_1_args a ha, p2_2_args a ha, p2_3_args a ha, p2_4_args a ha, p2_5_args a ha, p3_0_args a ha, p3_1_args a ha, p3_2_args a ha⟩]
  unfold V1
  rw [StableHlo.after_of_writes_sub c0_0 _ c0_0_writes (c0_0_args a ha), keep_trips0 m a c (c0_0_args a ha) ⟨b0_0_args a ha, b0_1_args a ha, b0_2_args a ha, b0_3_args a ha, b0_4_args a ha, b0_5_args a ha⟩]
  unfold V0
  rw [keep_pre a _ ⟨p0_0_args a ha, p0_1_args a ha, p0_2_args a ha, p0_3_args a ha, p0_4_args a ha, p0_5_args a ha, p0_6_args a ha, p1_0_args a ha⟩]

/-! ## The scans' counters -/

open Idealize.ShloMosaic.StableHlo
open Idealize.ShloMosaic.Pipeline (ucRefs sub_ucRefs)

/-- One trip moves the counter one step on. -/
theorem ctr0_step (X : Valuation τ sig (Elt F)) :
    afterL bodyI0 X (Proc.devRef .tc main_v72_3) = addi (X (Proc.devRef .tc main_v72_3)) (constantI S_ 32 1#32) := by
  simp only [afterL_cons, afterL_nil]
  have h : ∀ Y : Valuation τ sig (Elt F), after b0_5 Y (Proc.devRef .tc main_v72_3) = addi (Y (Proc.devRef .tc main_v72_3)) (constantI S_ 32 1#32) := fun Y => by
    after_results
    rfl
  rw [h, after_of_writes_sub b0_4 _ b0_4_writes (by decide), after_of_writes_sub b0_3 _ b0_3_writes (by decide), after_of_writes_sub b0_2 _ b0_2_writes (by decide), after_of_writes_sub b0_1 _ b0_1_writes (by decide), after_of_writes_sub b0_0 _ b0_0_writes (by decide)]
/-- The counter is zero when the scan is entered. -/
theorem ctr0_entry (c : Dev nD) : V0 m c (Proc.devRef .tc main_v72_3) = fun _ => (0#32 : BitVec 32) := by
  unfold V0
  simp only [afterL_cons, afterL_nil]
  have h : ∀ Y : Valuation τ sig (Elt F), after p1_0 Y (Proc.devRef .tc main_v72_3) = fun _ => (0#32 : BitVec 32) := fun Y => by
    after_results
    rfl
  exact h _
theorem ctr0_at (c : Dev nD) : ∀ k, T0 m k c (Proc.devRef .tc main_v72_3) = fun _ => Scf.iv 0#32 1#32 k
  | 0 => by rw [show T0 m 0 c = V0 m c from rfl, ctr0_entry, Scf.iv_zero]
  | n + 1 => by
    rw [show T0 m (n + 1) c = afterL bodyI0 (after c0_0 (T0 m n c)) from rfl, ctr0_step,
      after_of_writes_sub c0_0 _ c0_0_writes (by decide), ctr0_at c n, Scf.iv_succ]
    rfl

/-- One trip moves the counter one step on. -/
theorem ctr1_step (X : Valuation τ sig (Elt F)) :
    afterL bodyI1 X (Proc.devRef .tc main_v189_3) = addi (X (Proc.devRef .tc main_v189_3)) (constantI S_ 32 1#32) := by
  simp only [afterL_cons, afterL_nil]
  have h : ∀ Y : Valuation τ sig (Elt F), after b1_5 Y (Proc.devRef .tc main_v189_3) = addi (Y (Proc.devRef .tc main_v189_3)) (constantI S_ 32 1#32) := fun Y => by
    after_results
    rfl
  rw [h, after_of_writes_sub b1_4 _ b1_4_writes (by decide), after_of_writes_sub b1_3 _ b1_3_writes (by decide), after_of_writes_sub b1_2 _ b1_2_writes (by decide), after_of_writes_sub b1_1 _ b1_1_writes (by decide), after_of_writes_sub b1_0 _ b1_0_writes (by decide)]
/-- The counter is zero when the scan is entered. -/
theorem ctr1_entry (c : Dev nD) : V2 m c (Proc.devRef .tc main_v189_3) = fun _ => (0#32 : BitVec 32) := by
  unfold V2
  simp only [afterL_cons, afterL_nil]
  have h : ∀ Y : Valuation τ sig (Elt F), after p3_2 Y (Proc.devRef .tc main_v189_3) = fun _ => (0#32 : BitVec 32) := fun Y => by
    after_results
    rfl
  exact h _
theorem ctr1_at (c : Dev nD) : ∀ k, T1 m k c (Proc.devRef .tc main_v189_3) = fun _ => Scf.iv 0#32 1#32 k
  | 0 => by rw [show T1 m 0 c = V2 m c from rfl, ctr1_entry, Scf.iv_zero]
  | n + 1 => by
    rw [show T1 m (n + 1) c = afterL bodyI1 (after c1_0 (T1 m n c)) from rfl, ctr1_step,
      after_of_writes_sub c1_0 _ c1_0_writes (by decide), ctr1_at c n, Scf.iv_succ]
    rfl

/-! ## The run -/

/-- The algebra of the run: no pipeline, nothing in it is used. -/
local notation "𝕄" => MT nD τ sig Unit (Elt F) ℕ (Option PUnit) ℕ

abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm := fun j => j.elim0
abbrev 𝒱₀ : Variants := Variants.none
abbrev L : GSem nD τ sig → Finset Unit := fun _ => ∅
abbrev lv : GSem nD τ sig → Unit → ℕ := fun _ _ => 0
/-- What a device carries beside its buffers: it owes nothing. -/
abbrev Rc (c : Dev nD) : sProp 𝕄 := iprop(∃ W, owes (c : Thread nD τ) (0 : CellTallies nD τ sig Unit) W)
theorem hinj : Function.Injective (Pipeline.cellOf (nD := nD) (τ := τ) (Pipeline.pin (pcfgs (F := F)) adm)) := fun p _ _ => p.1.elim0

set_option backward.isDefEq.respectTransparency.types false in
/-- The condition of scan 0 holds exactly before each of its 256 trips. -/
theorem cond0_spec : LoopCond (pcfgs (F := F)) defs₀ 𝒱₀ loops Rc (main_while0_cond (F := F)) c0_0 bodyI0 (V0 m) nT := by
  intro k hk c bd
  have hctr := ctr0_at m c k
  unfold main_while0_cond
  rw [wp_bind]
  iintro ⟨Hb, Hh, HR⟩
  iapply (wp_hlo_within (Variants.lift 𝒱₀) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift 𝒱₀) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T0 m k c) main_v72_3 HostLoop.idx0)
        (HloOp.result _ (T0 m k c) main_while0c_c_35 HostLoop.idx0) = 1#1) (k < nT)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  isplitl [Hh]; · rw [after_cons, after_cons, after_nil]; iexact Hh
  iexact HR

set_option backward.isDefEq.respectTransparency.types false in
/-- The condition of scan 1 holds exactly before each of its 256 trips. -/
theorem cond1_spec : LoopCond (pcfgs (F := F)) defs₀ 𝒱₀ loops Rc (main_while1_cond (F := F)) c1_0 bodyI1 (V2 m) nT := by
  intro k hk c bd
  have hctr := ctr1_at m c k
  unfold main_while1_cond
  rw [wp_bind]
  iintro ⟨Hb, Hh, HR⟩
  iapply (wp_hlo_within (Variants.lift 𝒱₀) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift 𝒱₀) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T1 m k c) main_v189_3 HostLoop.idx0)
        (HloOp.result _ (T1 m k c) main_while1c_c_35 HostLoop.idx0) = 1#1) (k < nT)
    rw [nullary_result_ne _ _ _ _ (by decide), nullary_result, hctr]
    exact Scf.cmpi_slt_iv_ub_iff (lb := 0#32) (ub := 256#32) (st := 1#32) (by decide) (show k ≤ Scf.trips 0#32 256#32 1#32 from hk)
  isplitl [Hb]; · iexact Hb
  isplitl [Hh]; · rw [after_cons, after_cons, after_nil]; iexact Hh
  iexact HR

/-- The program's segments. -/
def segs : List (Pipeline.CSeg (pcfgs (F := F)) adm defs₀ 𝒱₀ L lv loops tk) :=
  segsOf _ _ _ _ _ _ _ _ Rc preI hpreI (launchContents m)
    ++ loopSeg _ _ _ _ _ _ _ _ 0 (main_while0_cond (F := F)) (main_while0_body (F := F)) rfl c0_0 bodyI0 hbodyI0 body0_chain nT (V0 m) Rc (cond0_spec m)
      :: (segsOf _ _ _ _ _ _ _ _ Rc midI hmidI (V1 m)
        ++ loopSeg _ _ _ _ _ _ _ _ 1 (main_while1_cond (F := F)) (main_while1_body (F := F)) rfl c1_0 bodyI1 hbodyI1 body1_chain nT (V2 m) Rc (cond1_spec m)
          :: segsOf _ _ _ _ _ _ _ _ Rc postI hpostI (V3 m))

theorem segs_prog : (segs m).map Pipeline.CSeg.prog = (preI.map fun ops => (StableHlo.seq ops : Prog (TpuEff nD τ sig (Elt F) (HostLoop.Sig (Pipeline.Sig Λ₀ (Fin 0) fun p => (pcfgs (F := F) p).Adm) 2) .tc) PUnit)) ++ HostLoop.enter 0
      :: ((midI.map fun ops => StableHlo.seq ops) ++ HostLoop.enter 1 :: postI.map fun ops => StableHlo.seq ops) := by
  unfold segs
  rw [List.map_append, List.map_cons, List.map_append, List.map_cons, segsOf_prog, segsOf_prog, segsOf_prog]
  rfl

theorem segs_chains : Pipeline.CSeg.Chains (fun c => iprop(held (c : Thread nD τ) (ucRefs τ sig) (launchContents m c) ∗ Rc c)) (segs m)
    (fun c => iprop(held (c : Thread nD τ) (ucRefs τ sig) (V4 m c) ∗ ∃ W, owes (c : Thread nD τ) (0 : CellTallies nD τ sig Unit) W)) := by
  unfold segs
  exact Pipeline.CSeg.Chains.append (segsOf_chains _ _ _ _ _ _ _ _ Rc preI hpreI _) ⟨fun _ => .rfl,
    Pipeline.CSeg.Chains.append (segsOf_chains _ _ _ _ _ _ _ _ Rc midI hmidI _) ⟨fun _ => .rfl, segsOf_chains _ _ _ _ _ _ _ _ Rc postI hpostI _⟩⟩

set_option backward.isDefEq.respectTransparency.types false in
/-- The reference runs to its end from every memory; every buffer ends at `V4` and every semaphore at zero. -/
theorem run_main (g : Dev nD → PrngReg) : θ_run defs (onTc (τ := τ) (main (F := F))) ⟨m, fun _ => 0, g⟩
    (fun r => (∀ (c : Dev nD), ∀ b ∈ ucRefs τ sig, r.2.mem (((c : Thread nD τ)).1, b) = V4 m c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm hinj defs₀ 𝒱₀ L lv loops tk m g main (segs m)
    (fun c Q => by
      rw [main_chain c]
      show wp _ _ _ (Pipeline.chain ((segs m).map Pipeline.CSeg.prog)) Q ⊢ _
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rc c))
    (Tₙ := fun c => iprop(held (c : Thread nD τ) (ucRefs τ sig) (V4 m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem (((c : Thread nD τ)).1, b) = V4 m c b)
    (hfin := fun c s' => by
      unfold held
      iintro ⟨Hh, HSI⟩
      ihave Hr := (pointsTo_read_all (ucRefs τ sig) (fun b => (((c : Thread nD τ)).1, b)) (V4 m c) s') $$ [Hh HSI]
      · isplitl [Hh] <;> iassumption
      icases Hr with ⟨%h, HSI⟩
      imodintro
      isplitr; · ipureintro; exact h
      iexact HSI)
    (hQ := fun s h hs => ⟨h, sem_eq_zero hs fun c sm hsm => by
      have hl : ∀ sm : SemLoc sig, sm.isScoped .tc = false → False := by decide
      exact (hl sm hsm).elim⟩)

/-- Each argument ends as it began. -/
theorem arg_kept {r : PUnit × MemSt nD τ sig (Elt F)} (h : ∀ (c : Dev nD), ∀ b ∈ ucRefs τ sig, r.2.mem (((c : Thread nD τ)).1, b) = V4 m c b)
    (c : Dev nD) (a : Ref sig .tc) (ha : a ∈ argRefs) (hu : (Proc.devRef .tc a : DevRef τ sig).isScoped = false) :
    r.2.mem ((c : Thread nD τ).loc a) = m ((c : Thread nD τ).loc a) :=
  (h c _ (devRef_mem_ucRefs a hu)).trans (V4_args m c a ha)

/-- Every argument of device `c` holds in `r` what it held at the launch. -/
abbrev Kept (r : MemSt nD τ sig (Elt F)) (c : Dev nD) : Prop :=
  r.mem ((c.tc : Thread nD τ).loc main_arg0) = m ((c.tc : Thread nD τ).loc main_arg0)
  ∧ r.mem ((c.tc : Thread nD τ).loc main_arg1) = m ((c.tc : Thread nD τ).loc main_arg1)
  ∧ r.mem ((c.tc : Thread nD τ).loc main_arg2) = m ((c.tc : Thread nD τ).loc main_arg2)
  ∧ r.mem ((c.tc : Thread nD τ).loc main_arg3) = m ((c.tc : Thread nD τ).loc main_arg3)
  ∧ r.mem ((c.tc : Thread nD τ).loc main_arg4) = m ((c.tc : Thread nD τ).loc main_arg4)
  ∧ r.mem ((c.tc : Thread nD τ).loc main_arg5) = m ((c.tc : Thread nD τ).loc main_arg5)
  ∧ r.mem ((c.tc : Thread nD τ).loc main_arg6) = m ((c.tc : Thread nD τ).loc main_arg6)
  ∧ r.mem ((c.tc : Thread nD τ).loc main_arg7) = m ((c.tc : Thread nD τ).loc main_arg7)
  ∧ r.mem ((c.tc : Thread nD τ).loc main_arg8) = m ((c.tc : Thread nD τ).loc main_arg8)
  ∧ r.mem ((c.tc : Thread nD τ).loc main_arg9) = m ((c.tc : Thread nD τ).loc main_arg9)
  ∧ r.mem ((c.tc : Thread nD τ).loc main_arg10) = m ((c.tc : Thread nD τ).loc main_arg10)
  ∧ r.mem ((c.tc : Thread nD τ).loc main_arg11) = m ((c.tc : Thread nD τ).loc main_arg11)
  ∧ r.mem ((c.tc : Thread nD τ).loc main_arg12) = m ((c.tc : Thread nD τ).loc main_arg12)
  ∧ r.mem ((c.tc : Thread nD τ).loc main_arg13) = m ((c.tc : Thread nD τ).loc main_arg13)
  ∧ r.mem ((c.tc : Thread nD τ).loc main_arg14) = m ((c.tc : Thread nD τ).loc main_arg14)
  ∧ r.mem ((c.tc : Thread nD τ).loc main_arg15) = m ((c.tc : Thread nD τ).loc main_arg15)
  ∧ r.mem ((c.tc : Thread nD τ).loc main_arg16) = m ((c.tc : Thread nD τ).loc main_arg16)
  ∧ r.mem ((c.tc : Thread nD τ).loc main_arg17) = m ((c.tc : Thread nD τ).loc main_arg17)
  ∧ r.mem ((c.tc : Thread nD τ).loc main_arg18) = m ((c.tc : Thread nD τ).loc main_arg18)
  ∧ r.mem ((c.tc : Thread nD τ).loc main_arg19) = m ((c.tc : Thread nD τ).loc main_arg19)
  ∧ r.mem ((c.tc : Thread nD τ).loc main_arg20) = m ((c.tc : Thread nD τ).loc main_arg20)
  ∧ r.mem ((c.tc : Thread nD τ).loc main_arg21) = m ((c.tc : Thread nD τ).loc main_arg21)
  ∧ r.mem ((c.tc : Thread nD τ).loc main_arg22) = m ((c.tc : Thread nD τ).loc main_arg22)
  ∧ r.mem ((c.tc : Thread nD τ).loc main_arg23) = m ((c.tc : Thread nD τ).loc main_arg23)
  ∧ r.mem ((c.tc : Thread nD τ).loc main_arg24) = m ((c.tc : Thread nD τ).loc main_arg24)
  ∧ r.mem ((c.tc : Thread nD τ).loc main_arg25) = m ((c.tc : Thread nD τ).loc main_arg25)
  ∧ r.mem ((c.tc : Thread nD τ).loc main_arg26) = m ((c.tc : Thread nD τ).loc main_arg26)
  ∧ r.mem ((c.tc : Thread nD τ).loc main_arg27) = m ((c.tc : Thread nD τ).loc main_arg27)
  ∧ r.mem ((c.tc : Thread nD τ).loc main_arg28) = m ((c.tc : Thread nD τ).loc main_arg28)
  ∧ r.mem ((c.tc : Thread nD τ).loc main_arg29) = m ((c.tc : Thread nD τ).loc main_arg29)
  ∧ r.mem ((c.tc : Thread nD τ).loc main_arg30) = m ((c.tc : Thread nD τ).loc main_arg30)

/-- At the end of the run every argument is as it was. -/
theorem kept {r : PUnit × MemSt nD τ sig (Elt F)} (h : ∀ (c : Dev nD), ∀ b ∈ ucRefs τ sig, r.2.mem (((c : Thread nD τ)).1, b) = V4 m c b) (c : Dev nD) : Kept m r.2 c :=
  ⟨arg_kept m h c main_arg0 (by decide) rfl,
      arg_kept m h c main_arg1 (by decide) rfl,
      arg_kept m h c main_arg2 (by decide) rfl,
      arg_kept m h c main_arg3 (by decide) rfl,
      arg_kept m h c main_arg4 (by decide) rfl,
      arg_kept m h c main_arg5 (by decide) rfl,
      arg_kept m h c main_arg6 (by decide) rfl,
      arg_kept m h c main_arg7 (by decide) rfl,
      arg_kept m h c main_arg8 (by decide) rfl,
      arg_kept m h c main_arg9 (by decide) rfl,
      arg_kept m h c main_arg10 (by decide) rfl,
      arg_kept m h c main_arg11 (by decide) rfl,
      arg_kept m h c main_arg12 (by decide) rfl,
      arg_kept m h c main_arg13 (by decide) rfl,
      arg_kept m h c main_arg14 (by decide) rfl,
      arg_kept m h c main_arg15 (by decide) rfl,
      arg_kept m h c main_arg16 (by decide) rfl,
      arg_kept m h c main_arg17 (by decide) rfl,
      arg_kept m h c main_arg18 (by decide) rfl,
      arg_kept m h c main_arg19 (by decide) rfl,
      arg_kept m h c main_arg20 (by decide) rfl,
      arg_kept m h c main_arg21 (by decide) rfl,
      arg_kept m h c main_arg22 (by decide) rfl,
      arg_kept m h c main_arg23 (by decide) rfl,
      arg_kept m h c main_arg24 (by decide) rfl,
      arg_kept m h c main_arg25 (by decide) rfl,
      arg_kept m h c main_arg26 (by decide) rfl,
      arg_kept m h c main_arg27 (by decide) rfl,
      arg_kept m h c main_arg28 (by decide) rfl,
      arg_kept m h c main_arg29 (by decide) rfl,
      arg_kept m h c main_arg30 (by decide) rfl⟩

/-- The frame: the reference runs to its end, leaves its arguments as they were and every semaphore at zero. -/
theorem quiescent (g : Dev nD → PrngReg) : θ_run defs (onTc (τ := τ) (main (F := F))) ⟨m, fun _ => 0, g⟩ (fun r => (∀ c : Dev nD,
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) ∧ r.2.mem ((c.tc : Thread nD τ).loc main_arg16) = m ((c.tc : Thread nD τ).loc main_arg16) ∧ r.2.mem ((c.tc : Thread nD τ).loc main_arg17) = m ((c.tc : Thread nD τ).loc main_arg17) ∧ r.2.mem ((c.tc : Thread nD τ).loc main_arg18) = m ((c.tc : Thread nD τ).loc main_arg18) ∧ r.2.mem ((c.tc : Thread nD τ).loc main_arg19) = m ((c.tc : Thread nD τ).loc main_arg19) ∧ r.2.mem ((c.tc : Thread nD τ).loc main_arg20) = m ((c.tc : Thread nD τ).loc main_arg20) ∧ r.2.mem ((c.tc : Thread nD τ).loc main_arg21) = m ((c.tc : Thread nD τ).loc main_arg21) ∧ r.2.mem ((c.tc : Thread nD τ).loc main_arg22) = m ((c.tc : Thread nD τ).loc main_arg22) ∧ r.2.mem ((c.tc : Thread nD τ).loc main_arg23) = m ((c.tc : Thread nD τ).loc main_arg23) ∧ r.2.mem ((c.tc : Thread nD τ).loc main_arg24) = m ((c.tc : Thread nD τ).loc main_arg24) ∧ r.2.mem ((c.tc : Thread nD τ).loc main_arg25) = m ((c.tc : Thread nD τ).loc main_arg25) ∧ r.2.mem ((c.tc : Thread nD τ).loc main_arg26) = m ((c.tc : Thread nD τ).loc main_arg26) ∧ r.2.mem ((c.tc : Thread nD τ).loc main_arg27) = m ((c.tc : Thread nD τ).loc main_arg27) ∧ r.2.mem ((c.tc : Thread nD τ).loc main_arg28) = m ((c.tc : Thread nD τ).loc main_arg28) ∧ r.2.mem ((c.tc : Thread nD τ).loc main_arg29) = m ((c.tc : Thread nD τ).loc main_arg29) ∧ r.2.mem ((c.tc : Thread nD τ).loc main_arg30) = m ((c.tc : Thread nD τ).loc main_arg30))
    ∧ r.2.sem = fun _ => 0) :=
  (θ_run defs _ _).mono (fun _ h => ⟨fun c => kept m h.1 c, h.2⟩) (run_main m g)

end Cert.ReferenceIdeal.Hand

end
-- ==== Proof.RefGraph.lean ====
/-
  The reference's second result: the graph's adjacency, the row-wise softmax of the rectified product of the two
  embeddings, in the operations the reference prints.
-/
module

public import proofs.«01_k».proof.Proof.RefRun

@[expose] public section

noncomputable section

namespace Cert.ReferenceIdeal.Hand

open Idealize.ShloMosaic Idealize.ShloMosaic.TcCoe
open Idealize.SL.Sem
open Cert.ReferenceIdeal Cert.ReferenceIdeal.Gen
open Idealize.ShloMosaic.StableHlo (after afterL)
open Idealize.ShloMosaic.StableHlo
open Idealize.ShloMosaic.Pipeline (ucRefs)

variable {F : FTy → Type} [FloatOps F]

/-- The rectified scores. -/
def scores (a : FVec F S256x16 .f32) (b : FVec F S16x256 .f32) : FVec F S256x256 .f32 :=
  maximumf (Host.dotGeneral dot_S256x16_S16x256_S256x256_1_0_0_1_n_n none a b) (broadcastInDim S256x256 ![] bcast_S_S256x256 (constant S_ .f32 0x00000000#32))

/-- A column laid along every row's lanes. -/
def spread (v : FVec F S256 .f32) : FVec F S256x256 .f32 :=
  broadcastInDim S256x256 ![0, 1] bcast_S256x1_S256x256_0_1 (broadcastInDim S256x1 ![0] bcast_S256_S256x1_0 v)

/-- The exponentials of the scores less their row's largest. -/
def expo (s : FVec F S256x256 .f32) : FVec F S256x256 .f32 :=
  Host.exp (subf s (spread (maximumf (broadcastInDim S256 ![] bcast_S_S256 (constant S_ .f32 0xFF800000#32))
    (Host.reduce FloatOps.maximumf s (constant S_ .f32 0xFF800000#32) reducesTo_S256x256_S256_d1 h_S_))))

/-- Each row over its sum. -/
def norm (e : FVec F S256x256 .f32) : FVec F S256x256 .f32 :=
  Host.divf e (spread (Host.reduceAdd e (constant S_ .f32 0x00000000#32) reducesTo_S256x256_S256_d1 h_S_))

/-- The product of the embeddings, as the operations leave it. -/
theorem read_dot (X : Valuation τ sig (Elt F)) : after p2_0 X (Proc.devRef .tc main_v107)
    = Host.dotGeneral (so := S256x256) dot_S256x16_S16x256_S256x256_1_0_0_1_n_n none (X (Proc.devRef .tc main_arg12)) (transpose S16x256 [1, 0] (X (Proc.devRef .tc main_arg13)) transposes_S256x16_S16x256_1_0) := by
  after_results

/-- The rectified scores, as the operations leave them. -/
theorem read_relu (X : Valuation τ sig (Elt F)) : after p2_1 X (Proc.devRef .tc main_v108)
    = maximumf (X (Proc.devRef .tc main_v107) : FVec F S256x256 .f32) (broadcastInDim S256x256 ![] bcast_S_S256x256 (constant S_ .f32 0x00000000#32)) := by
  after_results
  rfl

/-- The graph, as the operations leave it. -/
theorem read_norm (X : Valuation τ sig (Elt F)) : after p2_2 X (Proc.devRef .tc main_v119)
    = norm (expo (X (Proc.devRef .tc main_v108) : FVec F S256x256 .f32)) := by
  after_results
  rfl

variable (m : (ℓ : Loc nD τ sig) → Buf (Elt F) ℓ)

/-- An argument as the operations between the scans meet it. -/
theorem V1_args (c : Dev nD) : ∀ a ∈ argRefs, V1 m c (Proc.devRef .tc a) = m ((c : Thread nD τ).loc a) := fun a ha => by
  unfold V1
  rw [after_of_writes_sub c0_0 _ c0_0_writes (c0_0_args a ha), keep_trips0 m a c (c0_0_args a ha) ⟨b0_0_args a ha, b0_1_args a ha, b0_2_args a ha, b0_3_args a ha, b0_4_args a ha, b0_5_args a ha⟩]
  unfold V0
  rw [keep_pre a _ ⟨p0_0_args a ha, p0_1_args a ha, p0_2_args a ha, p0_3_args a ha, p0_4_args a ha, p0_5_args a ha, p0_6_args a ha, p1_0_args a ha⟩]

/-- The graph after the operations between the scans. -/
theorem V2_graph (c : Dev nD) : V2 m c (Proc.devRef .tc main_v119)
    = norm (expo (scores (m ((c : Thread nD τ).loc main_arg12)) (transpose S16x256 [1, 0] (m ((c : Thread nD τ).loc main_arg13)) transposes_S256x16_S16x256_1_0))) := by
  unfold V2
  simp only [afterL_cons, afterL_nil]
  rw [after_of_writes_sub p3_2 _ p3_2_writes (by decide), after_of_writes_sub p3_1 _ p3_1_writes (by decide), after_of_writes_sub p3_0 _ p3_0_writes (by decide),
    after_of_writes_sub p2_5 _ p2_5_writes (by decide), after_of_writes_sub p2_4 _ p2_4_writes (by decide), after_of_writes_sub p2_3 _ p2_3_writes (by decide),
    read_norm, read_relu, read_dot]
  have h : ∀ a ∈ argRefs, after p1_3 (after p1_2 (after p1_1 (V1 m c))) (Proc.devRef .tc a) = m ((c : Thread nD τ).loc a) := fun a ha => by
    rw [after_of_writes_sub p1_3 _ p1_3_writes (p1_3_args a ha), after_of_writes_sub p1_2 _ p1_2_writes (p1_2_args a ha), after_of_writes_sub p1_1 _ p1_1_writes (p1_1_args a ha), V1_args m c a ha]
  rw [h main_arg12 (by decide), h main_arg13 (by decide)]
  rfl

/-- The graph at the end: no later operation writes it. -/
theorem V4_graph (c : Dev nD) : V4 m c (Proc.devRef .tc main_v119)
    = norm (expo (scores (m ((c : Thread nD τ).loc main_arg12)) (transpose S16x256 [1, 0] (m ((c : Thread nD τ).loc main_arg13)) transposes_S256x16_S16x256_1_0))) := by
  unfold V4
  rw [keep_post main_v119 _ ⟨by decide, by decide, by decide, by decide, by decide⟩]
  unfold V3
  rw [after_of_writes_sub c1_0 _ c1_0_writes (by decide), keep_trips1 m main_v119 c (by decide) ⟨by decide, by decide, by decide, by decide, by decide, by decide⟩]
  exact V2_graph m c

/-- The reference runs to its end, with its second result the graph of its two embeddings and its arguments as they were. -/
theorem graph (g : Dev nD → PrngReg) : θ_run defs (onTc (τ := τ) (main (F := F))) ⟨m, fun _ => 0, g⟩ (fun r => ∀ c : Dev nD,
    r.2.mem ((c.tc : Thread nD τ).loc main_v119)
      = norm (expo (scores (m ((c : Thread nD τ).loc main_arg12)) (transpose S16x256 [1, 0] (m ((c : Thread nD τ).loc main_arg13)) transposes_S256x16_S16x256_1_0)))
    ∧ Kept m r.2 c) :=
  (θ_run defs _ _).mono (fun _ h c => ⟨(h.1 c _ (devRef_mem_ucRefs main_v119 rfl)).trans (V4_graph m c), kept m h.1 c⟩) (run_main m g)

end Cert.ReferenceIdeal.Hand
-- ==== Proof.Graph.lean ====
/-
  One graph, two spellings: at the ideal values the kernel's second result and the reference's are the same function of
  the two embeddings. The kernel accumulates its product into zeros, reduces from the neutral words and lays a column
  along the lanes by a cast; the reference's operations have no accumulator, and it takes the larger of −∞ and each
  row's largest once more.
-/
module

public import proofs.«01_k».proof.Proof.KernelIdealGraph
public import proofs.«01_k».proof.Proof.RefGraph
public import Idealize.ShloMosaic.Lib.KernelVsHost

@[expose] public section

noncomputable section

namespace Cert.Graph

open Idealize.ShloMosaic
open Cert.ReferenceIdeal.Hand (scores spread expo)
open Cert.KernelIdeal (S256x16 S16x256 S256x256 S256x1 S256)
open Cert.KernelIdeal.Gen (shapeCasts_S256_S256x1 broadcasts_S256x1_S256x256 reduces_S256x256_S256 shapeCasts_S16x256_S16x256)

/-- The kernel's column laid along the lanes is the reference's. -/
theorem lay_eq (v : FVec Ideal S256 .f32) (h1 : S256.ShapeCasts S256x1) (h2 : S256x1.Broadcasts S256x256) :
    broadcastTo S256x256 (shapeCast S256x1 v h1) h2 = spread v := by
  funext i
  have e1 := broadcastTo_apply (shapeCast S256x1 v h1) h2 i (ValueIdx.ix2 (i 0 : Fin 256) (0 : Fin 1)) (by
    intro a
    match a with
    | ⟨0, _⟩ => rfl
    | ⟨1, _⟩ => rfl)
  have e2 := shapeCast_apply v h1 (ValueIdx.ix2 (i 0 : Fin 256) (0 : Fin 1)) (ValueIdx.ix1 (i 0 : Fin 256)) (by
    rw [Shape.rowMajor_val_two, Shape.rowMajor_val_one]; show (i 0).val = (i 0).val * 1 + 0; omega)
  refine e1.trans (e2.trans ?_)
  unfold spread
  refine (Eq.trans (broadcastInDim_apply ![0, 1] _ _ i (ValueIdx.ix2 (i 0 : Fin 256) (0 : Fin 1)) ?_) (broadcastInDim_apply ![0] _ v (ValueIdx.ix2 (i 0 : Fin 256) (0 : Fin 1)) (ValueIdx.ix1 (i 0 : Fin 256)) ?_)).symm
  · intro a
    match a with
    | ⟨0, _⟩ => rfl
    | ⟨1, _⟩ => rfl
  · intro a
    match a with
    | ⟨0, _⟩ => rfl

/-- The word the reductions start from is −∞. -/
theorem word_bot : Ideal.ofBits .f32 0xFF800000#32 = ⊥ := by simp [Ideal.ofBits, Ideal.ieee]

/-- The larger of −∞ and a value is the value. -/
theorem max_bot {s u : Shape} (dims : Fin u.rank → Fin s.rank) (h : u.BroadcastsInDim s dims) (x : FVec Ideal s .f32) :
    maximumf (broadcastInDim s dims h (constant u .f32 0xFF800000#32)) x = x := by
  funext i
  show max (Ideal.ofBits .f32 0xFF800000#32) (x i) = x i
  rw [word_bot]
  exact max_eq_right bot_le

/-- The kernel's graph of two embeddings is the reference's. -/
theorem graph_eq (a : FVec Ideal S256x16 .f32) (b : FVec Ideal S16x256 .f32) : Cert.KernelIdeal.Hand.adjOf (F := Ideal) a b = Cert.ReferenceIdeal.Hand.norm (expo (scores a b)) := by
  have hs : maximumf (matmul (F := Ideal) Cert.KernelIdeal.dot_S256x16_S16x256_S256x256_1_0_0_1_n_n none a (shapeCast S16x256 b shapeCasts_S16x256_S16x256) (constant S256x256 .f32 0x00000000#32))
      (broadcast S256x256 (Scalar.ofBits .f32 0x00000000#32)) = scores a b := by
    rw [shapeCast_self, matmul_zero_eq_dotGeneral]
    rfl
  have he : ∀ s : FVec Ideal S256x256 .f32, exp (subf s (broadcastTo S256x256 (shapeCast S256x1 (multiReduction .maximumf [1] S256 s 0xFF800000#32 reduces_S256x256_S256 (.inl rfl) rfl) shapeCasts_S256_S256x1) broadcasts_S256x1_S256x256)) = expo s := fun s => by
    rw [lay_eq]
    unfold expo
    rw [max_bot]
    have hr := hostReduce_maximumf_eq_multiReduction (u := Cert.ReferenceIdeal.S_) s 0xFF800000#32 Cert.ReferenceIdeal.Gen.reducesTo_S256x256_S256_d1 Cert.ReferenceIdeal.Gen.h_S_ reduces_S256x256_S256 (.inl rfl) rfl
    exact congrArg (fun v => exp (subf s (spread v))) hr.symm
  have hn : ∀ e : FVec Ideal S256x256 .f32, divf e (broadcastTo S256x256 (shapeCast S256x1 (multiReduction .add [1] S256 e 0x00000000#32 reduces_S256x256_S256 (.inl rfl) rfl) shapeCasts_S256_S256x1) broadcasts_S256x1_S256x256) = Cert.ReferenceIdeal.Hand.norm e := fun e => by
    rw [lay_eq]
    unfold Cert.ReferenceIdeal.Hand.norm
    have hr := multiReduction_add_eq_hostReduceAdd e 0x00000000#32 reduces_S256x256_S256 (.inl rfl) rfl (constant Cert.ReferenceIdeal.S_ .f32 0x00000000#32) Cert.ReferenceIdeal.Gen.reducesTo_S256x256_S256_d1 Cert.ReferenceIdeal.Gen.h_S_ Ideal.ofBits_zero_f32
    exact congrArg (fun v => divf e (spread v)) hr
  rw [← hs, ← he, ← hn]
  rfl

end Cert.Graph
-- ==== Proof.BlockFrame.lean ====
/-
  The frame of the idealization of the slice: what each grid point leaves of the two outputs' blocks, that the body keeps its
  inputs and gives its scratch back at every point, and so that the whole call runs to its end, leaves its arguments as they
  were and all semaphores at zero.
-/
module

public import proofs.«01_k».proof.Proof.Gen.Kernel2Ideal.Frame.RunA
public import Idealize.ShloMosaic.Lib.Claim

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The eight stores of output 25 cover its block. -/
theorem cover0_A_25 (c : Dev nD) (i : grid0.Coords) (arg1 : Memref sig .tc .vmem S4x256x512 .f32) (harg1 : arg1.IsWhole) (arg2 : Memref sig .tc .vmem S4x256x1024 .f32) (harg2 : arg2.IsWhole) (arg3 : Memref sig .tc .vmem S4x256x1024 .f32) (harg3 : arg3.IsWhole) (arg4 : Memref sig .tc .vmem S512x2048 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S256x16 .f32) (harg11 : arg11.IsWhole) (arg12 : Memref sig .tc .vmem S16x256 .f32) (harg12 : arg12.IsWhole) (arg13 : Memref sig .tc .vmem S512x2048 .f32) (harg13 : arg13.IsWhole) (arg14 : Memref sig .tc .vmem S4x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1024x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S512x2048 .f32) (harg22 : arg22.IsWhole) (arg23 : Memref sig .tc .vmem S1x2048 .f32) (harg23 : arg23.IsWhole) (arg24 : Memref sig .tc .vmem S2048x512 .f32) (harg24 : arg24.IsWhole) (arg25 : Memref sig .tc .vmem S1x512 .f32) (harg25 : arg25.IsWhole) (arg26 : Memref sig .tc .vmem S4x256x512 .f32) (harg26 : arg26.IsWhole) (arg27 : Memref sig .tc .vmem S256x256 .f32) (harg27 : arg27.IsWhole) (arg28 : Memref sig .tc .vmem S1024x512 .f32) (harg28 : arg28.IsWhole) (arg29 : Memref sig .tc .vmem S1024x512 .f32) (harg29 : arg29.IsWhole) (arg30 : Memref sig .tc .vmem S1024x1024 .f32) (harg30 : arg30.IsWhole) (arg31 : Memref sig .tc .vmem S1024x1024 .f32) (harg31 : arg31.IsWhole) (arg32 : Memref sig .tc .vmem S1024x1024 .f32) (harg32 : arg32.IsWhole) (arg33 : Memref sig .tc .vmem S1024x64 .f32) (harg33 : arg33.IsWhole) (arg34 : Memref sig .tc .vmem S16x64x1024 .f32) (harg34 : arg34.IsWhole) (arg35 : Memref sig .tc .vmem S16x64x1024 .f32) (harg35 : arg35.IsWhole) (arg36 : Memref sig .tc .vmem S64x1024 .f32) (harg36 : arg36.IsWhole) (arg37 : Memref sig .tc .vmem S16x1024 .f32) (harg37 : arg37.IsWhole) (arg38 : Memref sig .tc .vmem S128x2048 .f32) (harg38 : arg38.IsWhole)
    (x0 : Vec F S4x256x512 .f32) (x1 : Vec F S4x256x1024 .f32) (x2 : Vec F S4x256x1024 .f32) (x3 : Vec F S512x2048 .f32) (x4 : Vec F S4x1024 .f32) (x5 : Vec F S1x1024 .f32) (x6 : Vec F S1x1024 .f32) (x7 : Vec F S1024x512 .f32) (x8 : Vec F S1x512 .f32) (x9 : Vec F S1x512 .f32) (x10 : Vec F S256x16 .f32) (x11 : Vec F S16x256 .f32) (x12 : Vec F S512x2048 .f32) (x13 : Vec F S4x1024 .f32) (x14 : Vec F S1x1024 .f32) (x15 : Vec F S1x1024 .f32) (x16 : Vec F S1024x512 .f32) (x17 : Vec F S1x512 .f32) (x18 : Vec F S1x512 .f32) (x19 : Vec F S1x512 .f32) (x20 : Vec F S1x512 .f32) (x21 : Vec F S512x2048 .f32) (x22 : Vec F S1x2048 .f32) (x23 : Vec F S2048x512 .f32) (x24 : Vec F S1x512 .f32) (y : S4x256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24).1 S1x128x512.size (by sl_kernel_rfl) y

/-- What the body leaves of output 25: its stores read back. -/
def out0_A_25 (c : Dev nD) (i : grid0.Coords) (arg1 : Memref sig .tc .vmem S4x256x512 .f32) (harg1 : arg1.IsWhole) (arg2 : Memref sig .tc .vmem S4x256x1024 .f32) (harg2 : arg2.IsWhole) (arg3 : Memref sig .tc .vmem S4x256x1024 .f32) (harg3 : arg3.IsWhole) (arg4 : Memref sig .tc .vmem S512x2048 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S256x16 .f32) (harg11 : arg11.IsWhole) (arg12 : Memref sig .tc .vmem S16x256 .f32) (harg12 : arg12.IsWhole) (arg13 : Memref sig .tc .vmem S512x2048 .f32) (harg13 : arg13.IsWhole) (arg14 : Memref sig .tc .vmem S4x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1024x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S512x2048 .f32) (harg22 : arg22.IsWhole) (arg23 : Memref sig .tc .vmem S1x2048 .f32) (harg23 : arg23.IsWhole) (arg24 : Memref sig .tc .vmem S2048x512 .f32) (harg24 : arg24.IsWhole) (arg25 : Memref sig .tc .vmem S1x512 .f32) (harg25 : arg25.IsWhole) (arg26 : Memref sig .tc .vmem S4x256x512 .f32) (harg26 : arg26.IsWhole) (arg27 : Memref sig .tc .vmem S256x256 .f32) (harg27 : arg27.IsWhole) (arg28 : Memref sig .tc .vmem S1024x512 .f32) (harg28 : arg28.IsWhole) (arg29 : Memref sig .tc .vmem S1024x512 .f32) (harg29 : arg29.IsWhole) (arg30 : Memref sig .tc .vmem S1024x1024 .f32) (harg30 : arg30.IsWhole) (arg31 : Memref sig .tc .vmem S1024x1024 .f32) (harg31 : arg31.IsWhole) (arg32 : Memref sig .tc .vmem S1024x1024 .f32) (harg32 : arg32.IsWhole) (arg33 : Memref sig .tc .vmem S1024x64 .f32) (harg33 : arg33.IsWhole) (arg34 : Memref sig .tc .vmem S16x64x1024 .f32) (harg34 : arg34.IsWhole) (arg35 : Memref sig .tc .vmem S16x64x1024 .f32) (harg35 : arg35.IsWhole) (arg36 : Memref sig .tc .vmem S64x1024 .f32) (harg36 : arg36.IsWhole) (arg37 : Memref sig .tc .vmem S16x1024 .f32) (harg37 : arg37.IsWhole) (arg38 : Memref sig .tc .vmem S128x2048 .f32) (harg38 : arg38.IsWhole)
    (x0 : Vec F S4x256x512 .f32) (x1 : Vec F S4x256x1024 .f32) (x2 : Vec F S4x256x1024 .f32) (x3 : Vec F S512x2048 .f32) (x4 : Vec F S4x1024 .f32) (x5 : Vec F S1x1024 .f32) (x6 : Vec F S1x1024 .f32) (x7 : Vec F S1024x512 .f32) (x8 : Vec F S1x512 .f32) (x9 : Vec F S1x512 .f32) (x10 : Vec F S256x16 .f32) (x11 : Vec F S16x256 .f32) (x12 : Vec F S512x2048 .f32) (x13 : Vec F S4x1024 .f32) (x14 : Vec F S1x1024 .f32) (x15 : Vec F S1x1024 .f32) (x16 : Vec F S1024x512 .f32) (x17 : Vec F S1x512 .f32) (x18 : Vec F S1x512 .f32) (x19 : Vec F S1x512 .f32) (x20 : Vec F S1x512 .f32) (x21 : Vec F S512x2048 .f32) (x22 : Vec F S1x2048 .f32) (x23 : Vec F S2048x512 .f32) (x24 : Vec F S1x512 .f32) : Vec F S4x256x512 .f32 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24).1)

/-- The store of output 26 covers its block. -/
theorem cover0_A_26 (c : Dev nD) (i : grid0.Coords) (arg1 : Memref sig .tc .vmem S4x256x512 .f32) (harg1 : arg1.IsWhole) (arg2 : Memref sig .tc .vmem S4x256x1024 .f32) (harg2 : arg2.IsWhole) (arg3 : Memref sig .tc .vmem S4x256x1024 .f32) (harg3 : arg3.IsWhole) (arg4 : Memref sig .tc .vmem S512x2048 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S256x16 .f32) (harg11 : arg11.IsWhole) (arg12 : Memref sig .tc .vmem S16x256 .f32) (harg12 : arg12.IsWhole) (arg13 : Memref sig .tc .vmem S512x2048 .f32) (harg13 : arg13.IsWhole) (arg14 : Memref sig .tc .vmem S4x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1024x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S512x2048 .f32) (harg22 : arg22.IsWhole) (arg23 : Memref sig .tc .vmem S1x2048 .f32) (harg23 : arg23.IsWhole) (arg24 : Memref sig .tc .vmem S2048x512 .f32) (harg24 : arg24.IsWhole) (arg25 : Memref sig .tc .vmem S1x512 .f32) (harg25 : arg25.IsWhole) (arg26 : Memref sig .tc .vmem S4x256x512 .f32) (harg26 : arg26.IsWhole) (arg27 : Memref sig .tc .vmem S256x256 .f32) (harg27 : arg27.IsWhole) (arg28 : Memref sig .tc .vmem S1024x512 .f32) (harg28 : arg28.IsWhole) (arg29 : Memref sig .tc .vmem S1024x512 .f32) (harg29 : arg29.IsWhole) (arg30 : Memref sig .tc .vmem S1024x1024 .f32) (harg30 : arg30.IsWhole) (arg31 : Memref sig .tc .vmem S1024x1024 .f32) (harg31 : arg31.IsWhole) (arg32 : Memref sig .tc .vmem S1024x1024 .f32) (harg32 : arg32.IsWhole) (arg33 : Memref sig .tc .vmem S1024x64 .f32) (harg33 : arg33.IsWhole) (arg34 : Memref sig .tc .vmem S16x64x1024 .f32) (harg34 : arg34.IsWhole) (arg35 : Memref sig .tc .vmem S16x64x1024 .f32) (harg35 : arg35.IsWhole) (arg36 : Memref sig .tc .vmem S64x1024 .f32) (harg36 : arg36.IsWhole) (arg37 : Memref sig .tc .vmem S16x1024 .f32) (harg37 : arg37.IsWhole) (arg38 : Memref sig .tc .vmem S128x2048 .f32) (harg38 : arg38.IsWhole)
    (x0 : Vec F S4x256x512 .f32) (x1 : Vec F S4x256x1024 .f32) (x2 : Vec F S4x256x1024 .f32) (x3 : Vec F S512x2048 .f32) (x4 : Vec F S4x1024 .f32) (x5 : Vec F S1x1024 .f32) (x6 : Vec F S1x1024 .f32) (x7 : Vec F S1024x512 .f32) (x8 : Vec F S1x512 .f32) (x9 : Vec F S1x512 .f32) (x10 : Vec F S256x16 .f32) (x11 : Vec F S16x256 .f32) (x12 : Vec F S512x2048 .f32) (x13 : Vec F S4x1024 .f32) (x14 : Vec F S1x1024 .f32) (x15 : Vec F S1x1024 .f32) (x16 : Vec F S1024x512 .f32) (x17 : Vec F S1x512 .f32) (x18 : Vec F S1x512 .f32) (x19 : Vec F S1x512 .f32) (x20 : Vec F S1x512 .f32) (x21 : Vec F S512x2048 .f32) (x22 : Vec F S1x2048 .f32) (x23 : Vec F S2048x512 .f32) (x24 : Vec F S1x512 .f32) (y : S256x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24).2.1 S256x256.size (by sl_kernel_rfl) y

/-- What the body leaves of output 26: its store read back. -/
def out0_A_26 (c : Dev nD) (i : grid0.Coords) (arg1 : Memref sig .tc .vmem S4x256x512 .f32) (harg1 : arg1.IsWhole) (arg2 : Memref sig .tc .vmem S4x256x1024 .f32) (harg2 : arg2.IsWhole) (arg3 : Memref sig .tc .vmem S4x256x1024 .f32) (harg3 : arg3.IsWhole) (arg4 : Memref sig .tc .vmem S512x2048 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1024x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S256x16 .f32) (harg11 : arg11.IsWhole) (arg12 : Memref sig .tc .vmem S16x256 .f32) (harg12 : arg12.IsWhole) (arg13 : Memref sig .tc .vmem S512x2048 .f32) (harg13 : arg13.IsWhole) (arg14 : Memref sig .tc .vmem S4x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1024x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x512 .f32) (harg21 : arg21.IsWhole) (arg22 : Memref sig .tc .vmem S512x2048 .f32) (harg22 : arg22.IsWhole) (arg23 : Memref sig .tc .vmem S1x2048 .f32) (harg23 : arg23.IsWhole) (arg24 : Memref sig .tc .vmem S2048x512 .f32) (harg24 : arg24.IsWhole) (arg25 : Memref sig .tc .vmem S1x512 .f32) (harg25 : arg25.IsWhole) (arg26 : Memref sig .tc .vmem S4x256x512 .f32) (harg26 : arg26.IsWhole) (arg27 : Memref sig .tc .vmem S256x256 .f32) (harg27 : arg27.IsWhole) (arg28 : Memref sig .tc .vmem S1024x512 .f32) (harg28 : arg28.IsWhole) (arg29 : Memref sig .tc .vmem S1024x512 .f32) (harg29 : arg29.IsWhole) (arg30 : Memref sig .tc .vmem S1024x1024 .f32) (harg30 : arg30.IsWhole) (arg31 : Memref sig .tc .vmem S1024x1024 .f32) (harg31 : arg31.IsWhole) (arg32 : Memref sig .tc .vmem S1024x1024 .f32) (harg32 : arg32.IsWhole) (arg33 : Memref sig .tc .vmem S1024x64 .f32) (harg33 : arg33.IsWhole) (arg34 : Memref sig .tc .vmem S16x64x1024 .f32) (harg34 : arg34.IsWhole) (arg35 : Memref sig .tc .vmem S16x64x1024 .f32) (harg35 : arg35.IsWhole) (arg36 : Memref sig .tc .vmem S64x1024 .f32) (harg36 : arg36.IsWhole) (arg37 : Memref sig .tc .vmem S16x1024 .f32) (harg37 : arg37.IsWhole) (arg38 : Memref sig .tc .vmem S128x2048 .f32) (harg38 : arg38.IsWhole)
    (x0 : Vec F S4x256x512 .f32) (x1 : Vec F S4x256x1024 .f32) (x2 : Vec F S4x256x1024 .f32) (x3 : Vec F S512x2048 .f32) (x4 : Vec F S4x1024 .f32) (x5 : Vec F S1x1024 .f32) (x6 : Vec F S1x1024 .f32) (x7 : Vec F S1024x512 .f32) (x8 : Vec F S1x512 .f32) (x9 : Vec F S1x512 .f32) (x10 : Vec F S256x16 .f32) (x11 : Vec F S16x256 .f32) (x12 : Vec F S512x2048 .f32) (x13 : Vec F S4x1024 .f32) (x14 : Vec F S1x1024 .f32) (x15 : Vec F S1x1024 .f32) (x16 : Vec F S1024x512 .f32) (x17 : Vec F S1x512 .f32) (x18 : Vec F S1x512 .f32) (x19 : Vec F S1x512 .f32) (x20 : Vec F S1x512 .f32) (x21 : Vec F S512x2048 .f32) (x22 : Vec F S1x2048 .f32) (x23 : Vec F S2048x512 .f32) (x24 : Vec F S1x512 .f32) : Vec F S256x256 .f32 :=
  VO0_26.read (Elt F) (VO0_26.writes (Elt F) VO0_26.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 x0 x1 x2 x3 x4 x5 x6 x7 x8 x9 x10 x11 x12 x13 x14 x15 x16 x17 x18 x19 x20 x21 x22 x23 x24).2.1)

/-! ## What the outputs hold after each point -/

/-- What the body leaves of both outputs at point `t`, from the blocks of the inputs there. -/
def outsAt0 (c : Dev nD) (t : Fin cfg0.N) : Vec F S4x256x512 .f32 × Vec F S256x256 .f32 :=
  (out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t))

/-! ## The pipeline's proof data -/

/-- What every window holds around the body: the arrays as the call finds them; after point `t` each input its block and the
    outputs `outsAt0`; the scratch at some contents; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => (outsAt0 m c t).1
    | ⟨26, _⟩ => (outsAt0 m c t).2
    | ⟨_ + 27, h⟩ => absurd h (Nat.not_lt.2 (Nat.le_add_left _ _))
  Φ _ := Pipeline.ΦA spec0 c
  q _ := fullShare
  owed _ := 0

/-- The arrays are those that the call finds. -/
theorem A_eq (c : Dev nD) (w : Fin cfg0.W) : (dats m 0 c).A w = V m c (Pipeline.arrRef spec0 w) := by
  dsimp only [dats]

/-- What each window holds after the body. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = (outsAt0 m c t).1 := by dsimp only [dats]
theorem after0_26 (c : Dev nD) (t : Fin cfg0.N) : (dats m 0 c).after 26 t = (outsAt0 m c t).2 := by dsimp only [dats]

/-- Each input's buffer holds its block before the body, at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d

/-! ## The body obligation, at a generic point -/

/-- What the body is called with at point `t`, a window at a time, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 3600000 in
/-- The body at any point: its inputs hold their blocks, its scratch is taken at some contents and given back at some. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  rw [show (dats m 0 c).Φ t.castSucc = Pipeline.ΦA spec0 c from rfl, PhiA0_eq]
  unfold outsAt0
  unfold out0_A_25 out0_A_26; (try dsimp only)
  iintro ⟨⟨⟨HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexists _; iexact H25
  isplitl [H26]; · iexists _; iexact H26
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  iintro ⟨H0, H1, H2, H3, H4, H5, H6, H7, H8, H9, H10, H11, H12, H13, H14, H15, H16, H17, H18, H19, H20, H21, H22, H23, H24, ⟨%e25, H25⟩, ⟨%e26, H26⟩, ⟨%fT0, HS0⟩, ⟨%fT1, HS1⟩, ⟨%fT2, HS2⟩, ⟨%fT3, HS3⟩, HS4, HS5, HS6, HS7, HS8, HS9, ⟨%fT10, HS10⟩⟩
  isplitl [HS0 HS1 HS2 HS3 HS4 HS5 HS6 HS7 HS8 HS9 HS10 Hg]
  · isplitl [HS0 HS1 HS2 HS3 HS4 HS5 HS6 HS7 HS8 HS9 HS10]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexact HS4
      isplitl [HS5]
      · iexact HS5
      isplitl [HS6]
      · iexact HS6
      isplitl [HS7]
      · iexact HS7
      isplitl [HS8]
      · iexact HS8
      isplitl [HS9]
      · iexact HS9
      iexists _; unfold owns; iexists _; isplitr
      swap; · iexact HS10
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]
  · unfold owns; iexists _; isplitr
    swap; · iexact H25
    ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H26
  ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body that the call runs at point `t` is `bodyAt0`. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- What the launch asks of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every array ends at what the windows leave of it, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_of m ρ (dats m) (A_eq m) (run_main m ρ)

/-- The frame: the arguments end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24))
      ∧ r.2.sem = fun _ => 0) :=
  θ_run_and (unchanged m ρ) ((θ_run defs _ _).mono (fun _ h => h.2) (run_main_quiescent m ρ))

end Cert.Kernel2Ideal.Hand

end
-- ==== Proof.BlockRow.lean ====
/-
  One batch of the block, over the extended reals, as matrices of 256 rows: the difference of neighbouring rows, the graph's
  mixing, the state-space block with its scan's output given, the layer norm, and the feed-forward with its residual. Both
  programs of the slice are read at an index as these functions (Proof/BlockKernel.lean, Proof/BlockRef.lean).
-/
module

public import proofs.«01_k».proof.Proof.Graph
public import Idealize.ShloMosaic.Lib.Pointwise

@[expose] public section

noncomputable section

namespace Cert.Block

open Idealize.ShloMosaic

/-- Silu. -/
def silu (s : EReal) : EReal := s * Ideal.logistic s

/-- Each row less the row before it; the first row stays. -/
def diff (x : Fin 256 → Fin 512 → EReal) (i : Fin 256) (j : Fin 512) : EReal :=
  x i j - (if h : 1 ≤ i.val then x ⟨i.val - 1, by omega⟩ j else 0)

/-- The rows mixed by the graph `a`. -/
def mix (a : Fin 256 → Fin 256 → EReal) (x : Fin 256 → Fin 512 → EReal) (i : Fin 256) (j : Fin 512) : EReal :=
  ∑ k, a i k * x k j

/-- The row `d` before row `i`, zero before the first. -/
def back (u : Fin 256 → Fin 1024 → EReal) (d : Nat) (i : Fin 256) (k : Fin 1024) : EReal :=
  if h : d ≤ i.val then u ⟨i.val - d, by omega⟩ k else 0

/-- The product of the rows with a weight. -/
def times {n : Nat} (x : Fin 256 → Fin 512 → EReal) (w : Fin 512 → Fin n → EReal) (i : Fin 256) (k : Fin n) : EReal :=
  ∑ l, x i l * w l k

theorem times_congr {n : Nat} {f : Fin 512 → EReal} {x : Fin 256 → Fin 512 → EReal} {w : Fin 512 → Fin n → EReal} {i : Fin 256} {k : Fin n}
    (h : ∀ l, f l = x i l) : (∑ l, f l * w l k) = times x w i k :=
  Finset.sum_congr rfl fun l _ => congrArg (· * w l k) (h l)

/-- The causal convolution of four taps. -/
def taps (u : Fin 256 → Fin 1024 → EReal) (c : Fin 4 → Fin 1024 → EReal) (b : Fin 1024 → EReal) (i : Fin 256) (k : Fin 1024) : EReal :=
  u i k * c 3 k + b k + back u 1 i k * c 2 k + back u 2 i k * c 1 k + back u 3 i k * c 0 k

/-- The convolution, then silu. -/
def conv (u : Fin 256 → Fin 1024 → EReal) (c : Fin 4 → Fin 1024 → EReal) (b : Fin 1024 → EReal) (i : Fin 256) (k : Fin 1024) : EReal :=
  silu (taps u c b i k)

theorem mix_congr {f : Fin 256 → EReal} {a : Fin 256 → Fin 256 → EReal} {x : Fin 256 → Fin 512 → EReal} {i : Fin 256} {j : Fin 512}
    (h : ∀ k, f k = a i k) : (∑ k, x k j * f k) = mix a x i j :=
  Finset.sum_congr rfl fun k _ => (congrArg (x k j * ·) (h k)).trans (mul_comm _ _)

/-- The state-space block with its residual `x`: `xg` is what it reads, `ys` its scan's output. -/
def mamba (x xg : Fin 256 → Fin 512 → EReal) (ys : Fin 256 → Fin 1024 → EReal) (wu wz : Fin 512 → Fin 1024 → EReal)
    (c : Fin 4 → Fin 1024 → EReal) (b dp : Fin 1024 → EReal) (wo : Fin 1024 → Fin 512 → EReal) (i : Fin 256) (j : Fin 512) : EReal :=
  x i j + ∑ k, (ys i k + conv (times xg wu) c b i k * dp k) * silu (∑ l, xg i l * wz l k) * wo k j

/-- The mean of a row: its sum over the 512 that both programs carry as a word of f32. -/
def mean (v : Fin 512 → EReal) : EReal := Ideal.div (∑ k, v k) (Ideal.ofBits .f32 0x44000000#32)

/-- The layer norm of the row `v` with scales `g` and shifts `b`, at column `j`. -/
def lnRow (v g b : Fin 512 → EReal) (j : Fin 512) : EReal :=
  (v j - mean v) * Ideal.rsqrt (Ideal.div (∑ k, (v k - mean v) * (v k - mean v)) (Ideal.ofBits .f32 0x44000000#32)
    + Ideal.ofBits .f32 0x3727C5AC#32) * g j + b j

/-- Gelu in its tanh form. -/
def gelu (s : EReal) : EReal :=
  s * (Ideal.ofBits .f32 0x3F000000#32
    * (1 + Ideal.tanh (Ideal.ofBits .f32 0x3F4C422A#32 * (s + Ideal.ofBits .f32 0x3D372713#32 * (s * (s * s))))))

/-- The hidden layer of the row `v`, at column `k`. -/
def hidRow (v g b : Fin 512 → EReal) (w1 : Fin 512 → Fin 2048 → EReal) (b1 : Fin 2048 → EReal) (k : Fin 2048) : EReal :=
  gelu ((∑ l, lnRow v g b l * w1 l k) + b1 k)

/-- The feed-forward of the row `v` with its residual, at column `j`. -/
def ffnRow (v g b : Fin 512 → EReal) (w1 : Fin 512 → Fin 2048 → EReal) (b1 : Fin 2048 → EReal) (w2 : Fin 2048 → Fin 512 → EReal)
    (b2 : Fin 512 → EReal) (j : Fin 512) : EReal :=
  v j + (∑ k, hidRow v g b w1 b1 k * w2 k j) + b2 j

/-- The weights of one state-space block, its layer norm's included. -/
structure Weights where
  /-- The first half of the input product's columns. -/
  wu : Fin 512 → Fin 1024 → EReal
  /-- The second half, the gate's. -/
  wz : Fin 512 → Fin 1024 → EReal
  /-- The convolution's taps. -/
  c : Fin 4 → Fin 1024 → EReal
  /-- The convolution's shifts. -/
  b : Fin 1024 → EReal
  /-- The skip's scales. -/
  dp : Fin 1024 → EReal
  /-- The output product's matrix. -/
  wo : Fin 1024 → Fin 512 → EReal
  /-- The layer norm's scales. -/
  lg : Fin 512 → EReal
  /-- The layer norm's shifts. -/
  lb : Fin 512 → EReal

/-- A state-space block with its residual and layer norm. -/
def stage (p : Weights) (x xg : Fin 256 → Fin 512 → EReal) (ys : Fin 256 → Fin 1024 → EReal) (i : Fin 256) (j : Fin 512) : EReal :=
  lnRow (mamba x xg ys p.wu p.wz p.c p.b p.dp p.wo i) p.lg p.lb j

/-- The block's two state-space blocks: the first on the differences, the second on the rows that the graph `a` mixes. -/
def twoStages (p q : Weights) (a : Fin 256 → Fin 256 → EReal) (x : Fin 256 → Fin 512 → EReal) (dy gy : Fin 256 → Fin 1024 → EReal) :
    Fin 256 → Fin 512 → EReal :=
  stage q (stage p x (diff x) dy) (mix a (stage p x (diff x) dy)) gy

/-- Weights read from the arguments: the taps are the transposed argument's rows. -/
def weights (w : FVec Ideal (⟨2, ![512, 2048]⟩ : Shape) .f32) (c : FVec Ideal (⟨2, ![1024, 4]⟩ : Shape) .f32)
    (b dp : FVec Ideal (⟨1, ![1024]⟩ : Shape) .f32) (wo : FVec Ideal (⟨2, ![1024, 512]⟩ : Shape) .f32)
    (lg lb : FVec Ideal (⟨1, ![512]⟩ : Shape) .f32) : Weights where
  wu l k := w (ix2 l (⟨k.val, by omega⟩ : Fin 2048))
  wz l k := w (ix2 l (⟨1024 + k.val, by omega⟩ : Fin 2048))
  c d k := c (ix2 k d)
  b k := b (ix1 k)
  dp k := dp (ix1 k)
  wo k j := wo (ix2 k j)
  lg j := lg (ix1 j)
  lb j := lb (ix1 j)

/-- The graph of two embeddings, in the reference's operations (Proof/RefGraph.lean). -/
def graph (e₁ e₂ : FVec Ideal (⟨2, ![256, 16]⟩ : Shape) .f32) (i k : Fin 256) : EReal :=
  Cert.ReferenceIdeal.Hand.norm (F := Ideal) (Cert.ReferenceIdeal.Hand.expo (Cert.ReferenceIdeal.Hand.scores e₁
    (transpose Cert.ReferenceIdeal.S16x256 [1, 0] e₂ Cert.ReferenceIdeal.Gen.transposes_S256x16_S16x256_1_0))) (ix2 i k)

/-- The whole result of the slice. -/
def whole (X : FVec Ideal (⟨3, ![32, 256, 512]⟩ : Shape) .f32) (DY GY : FVec Ideal (⟨3, ![32, 256, 1024]⟩ : Shape) .f32) (p q : Weights)
    (e₁ e₂ : FVec Ideal (⟨2, ![256, 16]⟩ : Shape) .f32) (fg fb : FVec Ideal (⟨1, ![512]⟩ : Shape) .f32)
    (w1 : FVec Ideal (⟨2, ![512, 2048]⟩ : Shape) .f32) (b1 : FVec Ideal (⟨1, ![2048]⟩ : Shape) .f32)
    (w2 : FVec Ideal (⟨2, ![2048, 512]⟩ : Shape) .f32) (b2 : FVec Ideal (⟨1, ![512]⟩ : Shape) .f32)
    (y : (⟨3, ![32, 256, 512]⟩ : Shape).Idx) : EReal :=
  ffnRow (twoStages p q (graph e₁ e₂) (fun i j => X (ix3 (y 0) i j)) (fun i k => DY (ix3 (y 0) i k)) (fun i k => GY (ix3 (y 0) i k)) (y 1))
    (fun k => fg (ix1 k)) (fun k => fb (ix1 k)) (fun l k => w1 (ix2 l k)) (fun k => b1 (ix1 k))
    (fun l k => w2 (ix2 l k)) (fun k => b2 (ix1 k)) (y 2)

end Cert.Block
-- ==== Proof.BlockKernel.lean ====
/-
  What the slice's kernel computes, a stored value at a time: each is one of the matrix functions of Proof/BlockRow.lean of
  what was loaded for it.
-/
module

public import proofs.«01_k».proof.Proof.Gen.Kernel2Ideal.Skeleton
public import proofs.«01_k».proof.Proof.BlockRow
public import Idealize.ShloMosaic.Lib.Pipeline.ValueKit
public import Idealize.ShloMosaic.Lib.Pipeline.ReadBack
public import Idealize.ShloMosaic.Lib.Pipeline.RowLoads

@[expose] public section

set_option maxRecDepth 16384

noncomputable section

namespace Cert.Kernel2Ideal.Hand

open Idealize.ShloMosaic Idealize.ShloMosaic.TcCoe Idealize.SL.Sem
open Idealize.ShloMosaic.Pipeline (Dat)
open Cert.Kernel2Ideal Cert.Kernel2Ideal.Gen
open RowLoads Cert.Block

/-! ## Reads of the scratch -/

/-- Rows `o'` to `o' + k` read of a buffer whose newest store holds the rows `o` to `o + 256` around them. -/
theorem readCov_sub {sig : RefSig} {κ : Kind} {sp : Space} {n : Nat} (k : Nat) (v : View sig κ sp (⟨2, ![1024, n]⟩ : Shape) .f32) (o o' : Nat)
    (w : (⟨2, ![256, n]⟩ : Shape).Idx → Elt Ideal .f32) (L : List (View.Piece (Elt Ideal) (⟨2, ![1024, n]⟩ : Shape) .f32))
    (inb : ∀ a, (![o, 0] : Fin 2 → Nat) a + (![256, n] : Fin 2 → Nat) a ≤ (⟨2, ![1024, n]⟩ : Shape).size a)
    (inb' : ∀ a, (![o', 0] : Fin 2 → Nat) a + (![k, n] : Fin 2 → Nat) a ≤ (⟨2, ![1024, n]⟩ : Shape).size a)
    (h : o ≤ o') (h' : o' - o + k ≤ 256) :
    v.readCov ((⟨Rect.unit (s := (⟨2, ![1024, n]⟩ : Shape)) ![o, 0] ![256, n] inb, w⟩ : View.Piece (Elt Ideal) (⟨2, ![1024, n]⟩ : Shape) .f32) :: L)
        (Rect.unit (s := (⟨2, ![1024, n]⟩ : Shape)) ![o', 0] ![k, n] inb').toLoadRect
      = rowsFrom k w (o' - o) h' := by
  rw [View.readCov_eq_canon']
  funext j
  have e : (Rect.unit (s := (⟨2, ![1024, n]⟩ : Shape)) ![o', 0] ![k, n] inb').toLoadRect.idx j
      = (Rect.unit (s := (⟨2, ![1024, n]⟩ : Shape)) ![o, 0] ![256, n] inb).emb
          (ix2 (⟨o' - o + (j 0).val, by have : (j 0).val < k := (j 0).isLt; omega⟩ : Fin 256) (j 1 : Fin n)) := by
    funext a
    apply Fin.ext
    fin_cases a
    · show o' + 1 * (j 0).val = o + 1 * (o' - o + (j 0).val); omega
    · show 0 + 1 * (j 1).val = 0 + 1 * (j 1).val; rfl
  rw [e]
  exact View.canon_cons_emb (Rect.unit (s := (⟨2, ![1024, n]⟩ : Shape)) ![o, 0] ![256, n] inb) w L _

/-- 128 rows of the 256 of the newest store. -/
theorem readCov_128 {sig : RefSig} {κ : Kind} {sp : Space} (v : View sig κ sp S1024x512 .f32) (o o' : Nat)
    (w : S256x512.Idx → Elt Ideal .f32) (L : List (View.Piece (Elt Ideal) S1024x512 .f32))
    (inb : ∀ a, (![o, 0] : Fin 2 → Nat) a + (![256, 512] : Fin 2 → Nat) a ≤ S1024x512.size a)
    (inb' : ∀ a, (![o', 0] : Fin 2 → Nat) a + (![128, 512] : Fin 2 → Nat) a ≤ S1024x512.size a)
    (h : o ≤ o') (h' : o' - o + 128 ≤ 256) :
    v.readCov ((⟨Rect.unit (s := S1024x512) ![o, 0] ![256, 512] inb, w⟩ : View.Piece (Elt Ideal) S1024x512 .f32) :: L)
        (Rect.unit (s := S1024x512) ![o', 0] ![128, 512] inb').toLoadRect
      = rowsFrom (m := 256) (n := 512) 128 w (o' - o) h' := readCov_sub 128 v o o' w L inb inb' h h'

/-- The first 255 rows. -/
def upTo255 (u : FVec Ideal S256x1024 .f32) : FVec Ideal S255x1024 .f32 := rowsFrom (m := 256) (n := 1024) 255 u 0 (by decide)

/-- The first 255 rows of the newest store. -/
theorem readCov_255 {sig : RefSig} {κ : Kind} {sp : Space} (v : View sig κ sp S1024x1024 .f32) (o : Nat)
    (w : S256x1024.Idx → Elt Ideal .f32) (L : List (View.Piece (Elt Ideal) S1024x1024 .f32))
    (inb : ∀ a, (![o, 0] : Fin 2 → Nat) a + (![256, 1024] : Fin 2 → Nat) a ≤ S1024x1024.size a)
    (inb' : ∀ a, (![o, 0] : Fin 2 → Nat) a + (![255, 1024] : Fin 2 → Nat) a ≤ S1024x1024.size a) :
    v.readCov ((⟨Rect.unit (s := S1024x1024) ![o, 0] ![256, 1024] inb, w⟩ : View.Piece (Elt Ideal) S1024x1024 .f32) :: L)
        (Rect.unit (s := S1024x1024) ![o, 0] ![255, 1024] inb').toLoadRect
      = upTo255 w := by
  rw [readCov_sub 255 v o o w L inb inb' (Nat.le_refl o) (by omega)]
  unfold upTo255
  congr 1
  omega

/-- The first 254 rows. -/
def upTo254 (u : FVec Ideal S256x1024 .f32) : FVec Ideal S254x1024 .f32 := rowsFrom (m := 256) (n := 1024) 254 u 0 (by decide)

/-- The first 254 rows of the newest store. -/
theorem readCov_254 {sig : RefSig} {κ : Kind} {sp : Space} (v : View sig κ sp S1024x1024 .f32) (o : Nat)
    (w : S256x1024.Idx → Elt Ideal .f32) (L : List (View.Piece (Elt Ideal) S1024x1024 .f32))
    (inb : ∀ a, (![o, 0] : Fin 2 → Nat) a + (![256, 1024] : Fin 2 → Nat) a ≤ S1024x1024.size a)
    (inb' : ∀ a, (![o, 0] : Fin 2 → Nat) a + (![254, 1024] : Fin 2 → Nat) a ≤ S1024x1024.size a) :
    v.readCov ((⟨Rect.unit (s := S1024x1024) ![o, 0] ![256, 1024] inb, w⟩ : View.Piece (Elt Ideal) S1024x1024 .f32) :: L)
        (Rect.unit (s := S1024x1024) ![o, 0] ![254, 1024] inb').toLoadRect
      = upTo254 w := by
  rw [readCov_sub 254 v o o w L inb inb' (Nat.le_refl o) (by omega)]
  unfold upTo254
  congr 1
  omega

/-- The first 253 rows. -/
def upTo253 (u : FVec Ideal S256x1024 .f32) : FVec Ideal S253x1024 .f32 := rowsFrom (m := 256) (n := 1024) 253 u 0 (by decide)

/-- The first 253 rows of the newest store. -/
theorem readCov_253 {sig : RefSig} {κ : Kind} {sp : Space} (v : View sig κ sp S1024x1024 .f32) (o : Nat)
    (w : S256x1024.Idx → Elt Ideal .f32) (L : List (View.Piece (Elt Ideal) S1024x1024 .f32))
    (inb : ∀ a, (![o, 0] : Fin 2 → Nat) a + (![256, 1024] : Fin 2 → Nat) a ≤ S1024x1024.size a)
    (inb' : ∀ a, (![o, 0] : Fin 2 → Nat) a + (![253, 1024] : Fin 2 → Nat) a ≤ S1024x1024.size a) :
    v.readCov ((⟨Rect.unit (s := S1024x1024) ![o, 0] ![256, 1024] inb, w⟩ : View.Piece (Elt Ideal) S1024x1024 .f32) :: L)
        (Rect.unit (s := S1024x1024) ![o, 0] ![253, 1024] inb').toLoadRect
      = upTo253 w := by
  rw [readCov_sub 253 v o o w L inb inb' (Nat.le_refl o) (by omega)]
  unfold upTo253
  congr 1
  omega

/-! ## The stored values as arrays -/

/-- A batch's rows. -/
def rowsOf (x : FVec Ideal S1x256x512 .f32) : FVec Ideal S256x512 .f32 := fun y => x (ix3 0 (y 0) (y 1))

/-- Their differences. -/
def diffOf (x : FVec Ideal S1x256x512 .f32) : FVec Ideal S256x512 .f32 := fun y => diff (fun i j => x (ix3 0 i j)) (y 0) (y 1)

/-- A batch of a scan's output. -/
def scanOf (x : FVec Ideal S1x256x1024 .f32) : FVec Ideal S256x1024 .f32 := fun y => x (ix3 0 (y 0) (y 1))

/-- A product with half of the input weight's columns. -/
def timesOf (x : FVec Ideal S256x512 .f32) (w : FVec Ideal S512x1024 .f32) : FVec Ideal S256x1024 .f32 :=
  fun y => times (fun i l => x (ix2 i l)) (fun l k => w (ix2 l k)) (y 0) (y 1)

/-- The rows mixed by the graph. -/
def mixOf (a : FVec Ideal S256x256 .f32) (x : FVec Ideal S256x512 .f32) : FVec Ideal S256x512 .f32 :=
  fun y => mix (fun i k => a (ix2 i k)) (fun i l => x (ix2 i l)) (y 0) (y 1)

/-- The convolution with silu; a row of taps each. -/
def convOf (u : FVec Ideal S256x1024 .f32) (c0 c1 c2 c3 cb : FVec Ideal S1x1024 .f32) : FVec Ideal S256x1024 .f32 :=
  fun y => silu (u (ix2 (y 0) (y 1)) * c3 (ix2 0 (y 1)) + cb (ix2 0 (y 1)) + back (fun i k => u (ix2 i k)) 1 (y 0) (y 1) * c2 (ix2 0 (y 1))
    + back (fun i k => u (ix2 i k)) 2 (y 0) (y 1) * c1 (ix2 0 (y 1)) + back (fun i k => u (ix2 i k)) 3 (y 0) (y 1) * c0 (ix2 0 (y 1)))

/-- A state-space block's output with its residual. -/
def sumOf (x xg : FVec Ideal S256x512 .f32) (ys u : FVec Ideal S256x1024 .f32) (wz : FVec Ideal S512x1024 .f32) (dp : FVec Ideal S1x1024 .f32)
    (wo : FVec Ideal S1024x512 .f32) : FVec Ideal S256x512 .f32 :=
  fun y => x (ix2 (y 0) (y 1)) + ∑ k, (ys (ix2 (y 0) k) + u (ix2 (y 0) k) * dp (ix2 0 k)) * silu (∑ l, xg (ix2 (y 0) l) * wz (ix2 l k)) * wo (ix2 k (y 1))

/-- The layer norm of each row. -/
def normOf (x : FVec Ideal S256x512 .f32) (g b : FVec Ideal S1x512 .f32) : FVec Ideal S256x512 .f32 :=
  fun y => lnRow (fun k => x (ix2 (y 0) k)) (fun k => g (ix2 0 k)) (fun k => b (ix2 0 k)) (y 1)

/-- The differences as the kernel has them. -/
theorem diff_form (x : Fin 256 → Fin 512 → EReal) (i : Fin 256) (j : Fin 512) :
    (x i j - if h : i.val < 1 then 0 else x ⟨i.val - 1, by omega⟩ j) = diff x i j := by
  unfold diff
  split_ifs <;> first | rfl | omega

/-- The `n` rows moved down by `d`, under `d` rows of zero. -/
theorem back_form {n d : Nat} (u : FVec Ideal S256x1024 .f32) (hn : 0 + n ≤ 256) (hd : n + d = 256) (i : Fin 256) (k : Fin 1024) :
    (if h : i.val < d then (0 : EReal) else rowsFrom (m := 256) (n := 1024) n u 0 hn (ix2 (⟨i.val - d, by omega⟩ : Fin n) k))
      = back (fun i k => u (ix2 i k)) d i k := by
  unfold back
  split_ifs with h h'
  · omega
  · rfl
  · show u _ = u _
    congr 2
    exact Fin.ext (Nat.zero_add _)
  · omega

/-- The convolution as the kernel has it. -/
theorem conv_form (u : FVec Ideal S256x1024 .f32) (c0 c1 c2 c3 cb : FVec Ideal S1x1024 .f32) (i : Fin 256) (k : Fin 1024) :
    silu (u (ix2 i k) * c3 (ix2 0 k) + cb (ix2 0 k)
      + (if h : i.val < 1 then (0 : EReal) else rowsFrom (m := 256) (n := 1024) 255 u 0 (by decide) (ix2 (⟨i.val - 1, by omega⟩ : Fin 255) k)) * c2 (ix2 0 k)
      + (if h : i.val < 2 then (0 : EReal) else rowsFrom (m := 256) (n := 1024) 254 u 0 (by decide) (ix2 (⟨i.val - 2, by omega⟩ : Fin 254) k)) * c1 (ix2 0 k)
      + (if h : i.val < 3 then (0 : EReal) else rowsFrom (m := 256) (n := 1024) 253 u 0 (by decide) (ix2 (⟨i.val - 3, by omega⟩ : Fin 253) k)) * c0 (ix2 0 k))
      = convOf u c0 c1 c2 c3 cb (ix2 i k) := by
  rw [back_form (d := 1) u _ rfl, back_form (d := 2) u _ rfl, back_form (d := 3) u _ rfl]
  rfl

/-! ## The rows of a batch, and their differences -/

/-- The first batch. -/
theorem x0 (x : FVec Ideal S1x256x512 .f32) : k0_pay3 (F := Ideal) x
    = rowsOf x := by
  funext y
  idx_vars y
  pointwise [k0_pay3, k0_pay2]
  rfl

/-- Its differences. -/
theorem d0 (x : FVec Ideal S1x256x512 .f32) : k0_pay4 (F := Ideal) x
    = diffOf x := by
  funext y
  idx_vars y
  pointwise [k0_pay4, k0_pay2]
  exact diff_form (fun i j => x (ix3 0 i j)) y0 y1

/-- The second batch. -/
theorem x1 (x : FVec Ideal S1x256x512 .f32) : k0_pay6 (F := Ideal) x
    = rowsOf x := by
  funext y
  idx_vars y
  pointwise [k0_pay6, k0_pay5]
  rfl

/-- Its differences. -/
theorem d1 (x : FVec Ideal S1x256x512 .f32) : k0_pay7 (F := Ideal) x
    = diffOf x := by
  funext y
  idx_vars y
  pointwise [k0_pay7, k0_pay5]
  exact diff_form (fun i j => x (ix3 0 i j)) y0 y1

/-- The third batch. -/
theorem x2 (x : FVec Ideal S1x256x512 .f32) : k0_pay9 (F := Ideal) x
    = rowsOf x := by
  funext y
  idx_vars y
  pointwise [k0_pay9, k0_pay8]
  rfl

/-- Its differences. -/
theorem d2 (x : FVec Ideal S1x256x512 .f32) : k0_pay11 (F := Ideal) (k0_pay8 (F := Ideal) x) (k0_pay10 (F := Ideal) x)
    = diffOf x := by
  funext y
  idx_vars y
  pointwise [k0_pay11, k0_pay8, k0_pay10]
  exact diff_form (fun i j => x (ix3 0 i j)) y0 y1

/-- The fourth batch. -/
theorem x3 (x : FVec Ideal S1x256x512 .f32) : k0_pay13 (F := Ideal) x
    = rowsOf x := by
  funext y
  idx_vars y
  pointwise [k0_pay13, k0_pay12]
  rfl

/-- Its differences. -/
theorem d3 (x : FVec Ideal S1x256x512 .f32) : k0_pay14 (F := Ideal) x
    = diffOf x := by
  funext y
  idx_vars y
  pointwise [k0_pay14, k0_pay12]
  exact diff_form (fun i j => x (ix3 0 i j)) y0 y1

/-! ## The scans' outputs -/

/-- The first batch of the first scan. -/
theorem ys0 (x : FVec Ideal S1x256x1024 .f32) : k0_pay25 (F := Ideal) x
    = scanOf x := by
  funext y
  idx_vars y
  pointwise [k0_pay25]
  rfl

/-- The second batch of the first scan. -/
theorem ys1 (x : FVec Ideal S1x256x1024 .f32) : k0_pay26 (F := Ideal) x
    = scanOf x := by
  funext y
  idx_vars y
  pointwise [k0_pay26]
  rfl

/-- The third batch of the first scan. -/
theorem ys2 (x : FVec Ideal S1x256x1024 .f32) : k0_pay27 (F := Ideal) x
    = scanOf x := by
  funext y
  idx_vars y
  pointwise [k0_pay27]
  rfl

/-- The fourth batch of the first scan. -/
theorem ys3 (x : FVec Ideal S1x256x1024 .f32) : k0_pay28 (F := Ideal) x
    = scanOf x := by
  funext y
  idx_vars y
  pointwise [k0_pay28]
  rfl

/-- The first batch of the second scan. -/
theorem ys4 (x : FVec Ideal S1x256x1024 .f32) : k0_pay69 (F := Ideal) x
    = scanOf x := by
  funext y
  idx_vars y
  pointwise [k0_pay69]
  rfl

/-- The second batch of the second scan. -/
theorem ys5 (x : FVec Ideal S1x256x1024 .f32) : k0_pay70 (F := Ideal) x
    = scanOf x := by
  funext y
  idx_vars y
  pointwise [k0_pay70]
  rfl

/-- The third batch of the second scan. -/
theorem ys6 (x : FVec Ideal S1x256x1024 .f32) : k0_pay71 (F := Ideal) x
    = scanOf x := by
  funext y
  idx_vars y
  pointwise [k0_pay71]
  rfl

/-- The fourth batch of the second scan. -/
theorem ys7 (x : FVec Ideal S1x256x1024 .f32) : k0_pay72 (F := Ideal) x
    = scanOf x := by
  funext y
  idx_vars y
  pointwise [k0_pay72]
  rfl

/-! ## The input products -/

/-- The first batch of the first block. -/
theorem p0 (x : FVec Ideal S256x512 .f32) (w : FVec Ideal S512x1024 .f32) : k0_pay16 (F := Ideal) x w
    = timesOf x w := by
  funext y
  idx_vars y
  pointwise [k0_pay16]
  rfl

/-- The second batch of the first block. -/
theorem p1 (x : FVec Ideal S256x512 .f32) (w : FVec Ideal S512x1024 .f32) : k0_pay17 (F := Ideal) x w
    = timesOf x w := by
  funext y
  idx_vars y
  pointwise [k0_pay17]
  rfl

/-- The third batch of the first block. -/
theorem p2 (x : FVec Ideal S256x512 .f32) (w : FVec Ideal S512x1024 .f32) : k0_pay18 (F := Ideal) x w
    = timesOf x w := by
  funext y
  idx_vars y
  pointwise [k0_pay18]
  rfl

/-- The fourth batch of the first block. -/
theorem p3 (x : FVec Ideal S256x512 .f32) (w : FVec Ideal S512x1024 .f32) : k0_pay19 (F := Ideal) x w
    = timesOf x w := by
  funext y
  idx_vars y
  pointwise [k0_pay19]
  rfl

/-- The first batch of the second block. -/
theorem p4 (x : FVec Ideal S256x512 .f32) (w : FVec Ideal S512x1024 .f32) : k0_pay53 (F := Ideal) x w
    = timesOf x w := by
  funext y
  idx_vars y
  pointwise [k0_pay53]
  rfl

/-- The second batch of the second block. -/
theorem p5 (x : FVec Ideal S256x512 .f32) (w : FVec Ideal S512x1024 .f32) : k0_pay54 (F := Ideal) x w
    = timesOf x w := by
  funext y
  idx_vars y
  pointwise [k0_pay54]
  rfl

/-- The third batch of the second block. -/
theorem p6 (x : FVec Ideal S256x512 .f32) (w : FVec Ideal S512x1024 .f32) : k0_pay55 (F := Ideal) x w
    = timesOf x w := by
  funext y
  idx_vars y
  pointwise [k0_pay55]
  rfl

/-- The fourth batch of the second block. -/
theorem p7 (x : FVec Ideal S256x512 .f32) (w : FVec Ideal S512x1024 .f32) : k0_pay57 (F := Ideal) (k0_pay56 (F := Ideal) x w)
    = timesOf x w := by
  funext y
  idx_vars y
  pointwise [k0_pay57, k0_pay56]
  rfl

/-! ## The graph's mixing -/

/-- The first batch. -/
theorem m0 (a : FVec Ideal S256x256 .f32) (x : FVec Ideal S256x512 .f32) : k0_pay48 (F := Ideal) a x
    = mixOf a x := by
  funext y
  idx_vars y
  pointwise [k0_pay48]
  rfl

/-- The second batch. -/
theorem m1 (a : FVec Ideal S256x256 .f32) (x : FVec Ideal S256x512 .f32) : k0_pay49 (F := Ideal) a x
    = mixOf a x := by
  funext y
  idx_vars y
  pointwise [k0_pay49]
  rfl

/-- The third batch. -/
theorem m2 (a : FVec Ideal S256x256 .f32) (x : FVec Ideal S256x512 .f32) : k0_pay50 (F := Ideal) a x
    = mixOf a x := by
  funext y
  idx_vars y
  pointwise [k0_pay50]
  rfl

/-- The fourth batch. -/
theorem m3 (a : FVec Ideal S256x256 .f32) (x : FVec Ideal S256x512 .f32) : k0_pay52 (F := Ideal) (k0_pay51 (F := Ideal) a) x
    = mixOf a x := by
  funext y
  idx_vars y
  pointwise [k0_pay52, k0_pay51]
  rfl

/-! ## The convolutions -/

/-- The first batch of the first block. -/
theorem c0 (u : FVec Ideal S256x1024 .f32) (c0 c1 c2 c3 cb : FVec Ideal S1x1024 .f32) : k0_pay21 (F := Ideal) u (k0_pay20 (F := Ideal) c3) cb (upTo255 u) c2 (upTo254 u) c1 (upTo253 u) c0
    = convOf u c0 c1 c2 c3 cb := by
  funext y
  idx_vars y
  pointwise [k0_pay21, k0_pay20]
  exact conv_form u c0 c1 c2 c3 cb y0 y1

/-- The second batch of the first block. -/
theorem c1 (u : FVec Ideal S256x1024 .f32) (c0 c1 c2 c3 cb : FVec Ideal S1x1024 .f32) : k0_pay22 (F := Ideal) u c3 cb (upTo255 u) c2 (upTo254 u) c1 (upTo253 u) c0
    = convOf u c0 c1 c2 c3 cb := by
  funext y
  idx_vars y
  pointwise [k0_pay22]
  exact conv_form u c0 c1 c2 c3 cb y0 y1

/-- The third batch of the first block. -/
theorem c2 (u : FVec Ideal S256x1024 .f32) (c0 c1 c2 c3 cb : FVec Ideal S1x1024 .f32) : k0_pay23 (F := Ideal) u c3 cb (upTo255 u) c2 (upTo254 u) c1 (upTo253 u) c0
    = convOf u c0 c1 c2 c3 cb := by
  funext y
  idx_vars y
  pointwise [k0_pay23]
  exact conv_form u c0 c1 c2 c3 cb y0 y1

/-- The fourth batch of the first block. -/
theorem c3 (u : FVec Ideal S256x1024 .f32) (c0 c1 c2 c3 cb : FVec Ideal S1x1024 .f32) : k0_pay24 (F := Ideal) u c3 cb (upTo255 u) c2 (upTo254 u) c1 (upTo253 u) c0
    = convOf u c0 c1 c2 c3 cb := by
  funext y
  idx_vars y
  pointwise [k0_pay24]
  exact conv_form u c0 c1 c2 c3 cb y0 y1

/-- The first batch of the second block. -/
theorem c4 (u : FVec Ideal S256x1024 .f32) (c0 c1 c2 c3 cb : FVec Ideal S1x1024 .f32) : k0_pay59 (F := Ideal) (k0_pay58 (F := Ideal) u c3 cb (upTo255 u) c2 (upTo254 u) c1 (upTo253 u) c0)
    = convOf u c0 c1 c2 c3 cb := by
  funext y
  idx_vars y
  pointwise [k0_pay59, k0_pay58]
  exact conv_form u c0 c1 c2 c3 cb y0 y1

/-- The second batch of the second block. -/
theorem c5 (u : FVec Ideal S256x1024 .f32) (c0 c1 c2 c3 cb : FVec Ideal S1x1024 .f32) : k0_pay61 (F := Ideal) (k0_pay60 (F := Ideal) u c3 cb (upTo255 u) c2 (upTo254 u) c1 (upTo253 u) c0)
    = convOf u c0 c1 c2 c3 cb := by
  funext y
  idx_vars y
  pointwise [k0_pay61, k0_pay60]
  exact conv_form u c0 c1 c2 c3 cb y0 y1

/-- The third batch of the second block. -/
theorem c6 (u : FVec Ideal S256x1024 .f32) (c0 c1 c2 c3 cb : FVec Ideal S1x1024 .f32) : k0_pay65 (F := Ideal) (k0_pay62 (F := Ideal) u c3 cb (upTo255 u) c2 (upTo254 u) c1) (k0_pay63 (F := Ideal) (upTo253 u)) (k0_pay64 (F := Ideal) c0)
    = convOf u c0 c1 c2 c3 cb := by
  funext y
  idx_vars y
  pointwise [k0_pay65, k0_pay62, k0_pay63, k0_pay64]
  exact conv_form u c0 c1 c2 c3 cb y0 y1

/-- The fourth batch of the second block. -/
theorem c7 (u : FVec Ideal S256x1024 .f32) (c0 c1 c2 c3 cb : FVec Ideal S1x1024 .f32) : k0_pay68 (F := Ideal) (k0_pay66 (F := Ideal) u c3 cb (upTo255 u) c2 (upTo254 u) c1) (k0_pay67 (F := Ideal) (upTo253 u)) c0
    = convOf u c0 c1 c2 c3 cb := by
  funext y
  idx_vars y
  pointwise [k0_pay68, k0_pay66, k0_pay67]
  exact conv_form u c0 c1 c2 c3 cb y0 y1

/-! ## The blocks' outputs with their residuals -/

/-- The first batch of the first block. -/
theorem s0 (x xg : FVec Ideal S256x512 .f32) (ys u : FVec Ideal S256x1024 .f32) (wz : FVec Ideal S512x1024 .f32) (dp : FVec Ideal S1x1024 .f32)
    (wo : FVec Ideal S1024x512 .f32) : k0_pay30 (F := Ideal) (k0_pay29 (F := Ideal) xg wz) ys u dp x wo
    = sumOf x xg ys u wz dp wo := by
  funext y
  idx_vars y
  pointwise [k0_pay30, k0_pay29]
  rfl

/-- The second batch of the first block. -/
theorem s1 (x xg : FVec Ideal S256x512 .f32) (ys u : FVec Ideal S256x1024 .f32) (wz : FVec Ideal S512x1024 .f32) (dp : FVec Ideal S1x1024 .f32)
    (wo : FVec Ideal S1024x512 .f32) : k0_pay32 (F := Ideal) (k0_pay31 (F := Ideal) xg wz ys u dp x wo)
    = sumOf x xg ys u wz dp wo := by
  funext y
  idx_vars y
  pointwise [k0_pay32, k0_pay31]
  rfl

/-- The third batch of the first block. -/
theorem s2 (x xg : FVec Ideal S256x512 .f32) (ys u : FVec Ideal S256x1024 .f32) (wz : FVec Ideal S512x1024 .f32) (dp : FVec Ideal S1x1024 .f32)
    (wo : FVec Ideal S1024x512 .f32) : k0_pay33 (F := Ideal) xg wz ys u dp x wo
    = sumOf x xg ys u wz dp wo := by
  funext y
  idx_vars y
  pointwise [k0_pay33]
  rfl

/-- The fourth batch of the first block. -/
theorem s3 (x xg : FVec Ideal S256x512 .f32) (ys u : FVec Ideal S256x1024 .f32) (wz : FVec Ideal S512x1024 .f32) (dp : FVec Ideal S1x1024 .f32)
    (wo : FVec Ideal S1024x512 .f32) : k0_pay36 (F := Ideal) (k0_pay34 (F := Ideal) xg wz) ys u (k0_pay35 (F := Ideal) dp) x wo
    = sumOf x xg ys u wz dp wo := by
  funext y
  idx_vars y
  pointwise [k0_pay36, k0_pay34, k0_pay35]
  rfl

/-- The first batch of the second block. -/
theorem s4 (x xg : FVec Ideal S256x512 .f32) (ys u : FVec Ideal S256x1024 .f32) (wz : FVec Ideal S512x1024 .f32) (dp : FVec Ideal S1x1024 .f32)
    (wo : FVec Ideal S1024x512 .f32) : k0_pay73 (F := Ideal) xg wz ys u dp x wo
    = sumOf x xg ys u wz dp wo := by
  funext y
  idx_vars y
  pointwise [k0_pay73]
  rfl

/-- The second batch of the second block. -/
theorem s5 (x xg : FVec Ideal S256x512 .f32) (ys u : FVec Ideal S256x1024 .f32) (wz : FVec Ideal S512x1024 .f32) (dp : FVec Ideal S1x1024 .f32)
    (wo : FVec Ideal S1024x512 .f32) : k0_pay75 (F := Ideal) (k0_pay74 (F := Ideal) xg wz ys u dp) x wo
    = sumOf x xg ys u wz dp wo := by
  funext y
  idx_vars y
  pointwise [k0_pay75, k0_pay74]
  rfl

/-- The third batch of the second block. -/
theorem s6 (x xg : FVec Ideal S256x512 .f32) (ys u : FVec Ideal S256x1024 .f32) (wz : FVec Ideal S512x1024 .f32) (dp : FVec Ideal S1x1024 .f32)
    (wo : FVec Ideal S1024x512 .f32) : k0_pay76 (F := Ideal) xg wz ys u dp x wo
    = sumOf x xg ys u wz dp wo := by
  funext y
  idx_vars y
  pointwise [k0_pay76]
  rfl

/-- The fourth batch of the second block. -/
theorem s7 (x xg : FVec Ideal S256x512 .f32) (ys u : FVec Ideal S256x1024 .f32) (wz : FVec Ideal S512x1024 .f32) (dp : FVec Ideal S1x1024 .f32)
    (wo : FVec Ideal S1024x512 .f32) : k0_pay77 (F := Ideal) xg wz (constant S256x1024 .f32 0x00000000#32) ys u dp x wo
    = sumOf x xg ys u wz dp wo := by
  funext y
  idx_vars y
  pointwise [k0_pay77]
  rfl

/-! ## The layer norms -/

/-- The first batch of the first block. -/
theorem l0 (x : FVec Ideal S256x512 .f32) (g b : FVec Ideal S1x512 .f32) : k0_pay38 (F := Ideal) (k0_pay37 (F := Ideal) x g b)
    = normOf x g b := by
  funext y
  idx_vars y
  pointwise [k0_pay38, k0_pay37]
  rfl

/-- The second batch of the first block. -/
theorem l1 (x : FVec Ideal S256x512 .f32) (g b : FVec Ideal S1x512 .f32) : k0_pay39 (F := Ideal) x g b
    = normOf x g b := by
  funext y
  idx_vars y
  pointwise [k0_pay39]
  rfl

/-- The third batch of the first block. -/
theorem l2 (x : FVec Ideal S256x512 .f32) (g b : FVec Ideal S1x512 .f32) : k0_pay44 (F := Ideal) x (k0_pay40 (F := Ideal) g) (k0_pay41 (F := Ideal) b) (k0_pay42 (F := Ideal) x) (k0_pay43 (F := Ideal))
    = normOf x g b := by
  funext y
  idx_vars y
  pointwise [k0_pay44, k0_pay40, k0_pay41, k0_pay42, k0_pay43]
  rfl

/-- The fourth batch of the first block. -/
theorem l3 (x : FVec Ideal S256x512 .f32) (g b : FVec Ideal S1x512 .f32) : k0_pay47 (F := Ideal) (k0_pay45 (F := Ideal) b) (k0_pay46 (F := Ideal) x g)
    = normOf x g b := by
  funext y
  idx_vars y
  pointwise [k0_pay47, k0_pay45, k0_pay46]
  rfl

/-- The first batch of the second block. -/
theorem l4 (x : FVec Ideal S256x512 .f32) (g b : FVec Ideal S1x512 .f32) : k0_pay83 (F := Ideal) (k0_pay78 (F := Ideal) g) (k0_pay79 (F := Ideal) b) (k0_pay80 (F := Ideal) x) (k0_pay81 (F := Ideal) x) (k0_pay82 (F := Ideal))
    = normOf x g b := by
  funext y
  idx_vars y
  pointwise [k0_pay83, k0_pay78, k0_pay79, k0_pay80, k0_pay81, k0_pay82]
  rfl

/-- The second batch of the second block. -/
theorem l5 (x : FVec Ideal S256x512 .f32) (g b : FVec Ideal S1x512 .f32) : k0_pay84 (F := Ideal) x g b
    = normOf x g b := by
  funext y
  idx_vars y
  pointwise [k0_pay84]
  rfl

/-- The third batch of the second block. -/
theorem l6 (x : FVec Ideal S256x512 .f32) (g b : FVec Ideal S1x512 .f32) : k0_pay85 (F := Ideal) x g b
    = normOf x g b := by
  funext y
  idx_vars y
  pointwise [k0_pay85]
  rfl

/-- The fourth batch of the second block. -/
theorem l7 (x : FVec Ideal S256x512 .f32) (g b : FVec Ideal S1x512 .f32) : k0_pay90 (F := Ideal) (k0_pay86 (F := Ideal) g) (k0_pay87 (F := Ideal) b) (k0_pay88 (F := Ideal) x) (k0_pay89 (F := Ideal) x)
    = normOf x g b := by
  funext y
  idx_vars y
  pointwise [k0_pay90, k0_pay86, k0_pay87, k0_pay88, k0_pay89]
  rfl

/-! ## The feed-forward of half a batch -/

/-- The first half of the first batch. -/
theorem out0 (v : FVec Ideal S128x512 .f32) (g b : FVec Ideal S1x512 .f32) (w1 : FVec Ideal S512x2048 .f32) (b1 : FVec Ideal S1x2048 .f32)
    (w2 : FVec Ideal S2048x512 .f32) (b2 : FVec Ideal S1x512 .f32) (y : S1x128x512.Idx) : k0_pay93 (F := Ideal) v (k0_pay92 (F := Ideal) (k0_pay91 (F := Ideal) v g b) w1 (constant S128x2048 .f32 0x00000000#32) b1) w2 b2 y
    = ffnRow (fun k => v (ix2 (y 1) k)) (fun k => g (ix2 0 k)) (fun k => b (ix2 0 k)) (fun l k => w1 (ix2 l k)) (fun k => b1 (ix2 0 k))
        (fun l k => w2 (ix2 l k)) (fun k => b2 (ix2 0 k)) (y 2) := by
  idx_vars y
  pointwise [k0_pay93, k0_pay92, k0_pay91]
  rfl

/-- The second half of the first batch. -/
theorem out1 (v : FVec Ideal S128x512 .f32) (g b : FVec Ideal S1x512 .f32) (w1 : FVec Ideal S512x2048 .f32) (b1 : FVec Ideal S1x2048 .f32)
    (w2 : FVec Ideal S2048x512 .f32) (b2 : FVec Ideal S1x512 .f32) (y : S1x128x512.Idx) : k0_pay97 (F := Ideal) v (k0_pay96 (F := Ideal) (k0_pay95 (F := Ideal) v (k0_pay94 (F := Ideal) g) b w1 b1)) w2 b2 y
    = ffnRow (fun k => v (ix2 (y 1) k)) (fun k => g (ix2 0 k)) (fun k => b (ix2 0 k)) (fun l k => w1 (ix2 l k)) (fun k => b1 (ix2 0 k))
        (fun l k => w2 (ix2 l k)) (fun k => b2 (ix2 0 k)) (y 2) := by
  idx_vars y
  pointwise [k0_pay97, k0_pay96, k0_pay95, k0_pay94]
  rfl

/-- The first half of the second batch. -/
theorem out2 (v : FVec Ideal S128x512 .f32) (g b : FVec Ideal S1x512 .f32) (w1 : FVec Ideal S512x2048 .f32) (b1 : FVec Ideal S1x2048 .f32)
    (w2 : FVec Ideal S2048x512 .f32) (b2 : FVec Ideal S1x512 .f32) (y : S1x128x512.Idx) : k0_pay100 (F := Ideal) v (k0_pay99 (F := Ideal) (k0_pay98 (F := Ideal) v g b) w1 b1) w2 b2 y
    = ffnRow (fun k => v (ix2 (y 1) k)) (fun k => g (ix2 0 k)) (fun k => b (ix2 0 k)) (fun l k => w1 (ix2 l k)) (fun k => b1 (ix2 0 k))
        (fun l k => w2 (ix2 l k)) (fun k => b2 (ix2 0 k)) (y 2) := by
  idx_vars y
  pointwise [k0_pay100, k0_pay99, k0_pay98]
  rfl

/-- The second half of the second batch. -/
theorem out3 (v : FVec Ideal S128x512 .f32) (g b : FVec Ideal S1x512 .f32) (w1 : FVec Ideal S512x2048 .f32) (b1 : FVec Ideal S1x2048 .f32)
    (w2 : FVec Ideal S2048x512 .f32) (b2 : FVec Ideal S1x512 .f32) (y : S1x128x512.Idx) : k0_pay103 (F := Ideal) v (k0_pay102 (F := Ideal) (k0_pay101 (F := Ideal) v g b w1 b1)) w2 b2 y
    = ffnRow (fun k => v (ix2 (y 1) k)) (fun k => g (ix2 0 k)) (fun k => b (ix2 0 k)) (fun l k => w1 (ix2 l k)) (fun k => b1 (ix2 0 k))
        (fun l k => w2 (ix2 l k)) (fun k => b2 (ix2 0 k)) (y 2) := by
  idx_vars y
  pointwise [k0_pay103, k0_pay102, k0_pay101]
  rfl

/-- The first half of the third batch. -/
theorem out4 (v : FVec Ideal S128x512 .f32) (g b : FVec Ideal S1x512 .f32) (w1 : FVec Ideal S512x2048 .f32) (b1 : FVec Ideal S1x2048 .f32)
    (w2 : FVec Ideal S2048x512 .f32) (b2 : FVec Ideal S1x512 .f32) (y : S1x128x512.Idx) : k0_pay108 (F := Ideal) v (k0_pay107 (F := Ideal) (k0_pay104 (F := Ideal) g) (k0_pay105 (F := Ideal) b) (k0_pay106 (F := Ideal) v) w1 b1) w2 b2 y
    = ffnRow (fun k => v (ix2 (y 1) k)) (fun k => g (ix2 0 k)) (fun k => b (ix2 0 k)) (fun l k => w1 (ix2 l k)) (fun k => b1 (ix2 0 k))
        (fun l k => w2 (ix2 l k)) (fun k => b2 (ix2 0 k)) (y 2) := by
  idx_vars y
  pointwise [k0_pay108, k0_pay107, k0_pay104, k0_pay105, k0_pay106]
  rfl

/-- The second half of the third batch. -/
theorem out5 (v : FVec Ideal S128x512 .f32) (g b : FVec Ideal S1x512 .f32) (w1 : FVec Ideal S512x2048 .f32) (b1 : FVec Ideal S1x2048 .f32)
    (w2 : FVec Ideal S2048x512 .f32) (b2 : FVec Ideal S1x512 .f32) (y : S1x128x512.Idx) : k0_pay112 (F := Ideal) v (k0_pay111 (F := Ideal) (k0_pay109 (F := Ideal) v g b w1 b1) (k0_pay110 (F := Ideal) v g b w1 b1)) w2 b2 y
    = ffnRow (fun k => v (ix2 (y 1) k)) (fun k => g (ix2 0 k)) (fun k => b (ix2 0 k)) (fun l k => w1 (ix2 l k)) (fun k => b1 (ix2 0 k))
        (fun l k => w2 (ix2 l k)) (fun k => b2 (ix2 0 k)) (y 2) := by
  idx_vars y
  pointwise [k0_pay112, k0_pay111, k0_pay109, k0_pay110]
  rfl

/-- The first half of the fourth batch. -/
theorem out6 (v : FVec Ideal S128x512 .f32) (g b : FVec Ideal S1x512 .f32) (w1 : FVec Ideal S512x2048 .f32) (b1 : FVec Ideal S1x2048 .f32)
    (w2 : FVec Ideal S2048x512 .f32) (b2 : FVec Ideal S1x512 .f32) (y : S1x128x512.Idx) : k0_pay120 (F := Ideal) (k0_pay119 (F := Ideal) v (k0_pay118 (F := Ideal) (k0_pay113 (F := Ideal) g) (k0_pay114 (F := Ideal) b) (k0_pay115 (F := Ideal) v) (k0_pay116 (F := Ideal) v) (k0_pay117 (F := Ideal)) w1 b1) w2 b2) y
    = ffnRow (fun k => v (ix2 (y 1) k)) (fun k => g (ix2 0 k)) (fun k => b (ix2 0 k)) (fun l k => w1 (ix2 l k)) (fun k => b1 (ix2 0 k))
        (fun l k => w2 (ix2 l k)) (fun k => b2 (ix2 0 k)) (y 2) := by
  idx_vars y
  pointwise [k0_pay120, k0_pay119, k0_pay118, k0_pay113, k0_pay114, k0_pay115, k0_pay116, k0_pay117]
  rfl

/-- The second half of the fourth batch. -/
theorem out7 (v : FVec Ideal S128x512 .f32) (g b : FVec Ideal S1x512 .f32) (w1 : FVec Ideal S512x2048 .f32) (b1 : FVec Ideal S1x2048 .f32)
    (w2 : FVec Ideal S2048x512 .f32) (b2 : FVec Ideal S1x512 .f32) (y : S1x128x512.Idx) : k0_pay1 (F := Ideal) (k0_pay124 (F := Ideal) v (k0_pay123 (F := Ideal) (k0_pay121 (F := Ideal) v g b w1 b1) (k0_pay122 (F := Ideal) v g b w1 b1)) w2) b2 y
    = ffnRow (fun k => v (ix2 (y 1) k)) (fun k => g (ix2 0 k)) (fun k => b (ix2 0 k)) (fun l k => w1 (ix2 l k)) (fun k => b1 (ix2 0 k))
        (fun l k => w2 (ix2 l k)) (fun k => b2 (ix2 0 k)) (y 2) := by
  idx_vars y
  pointwise [k0_pay1, k0_pay124, k0_pay123, k0_pay121, k0_pay122]
  rfl

end Cert.Kernel2Ideal.Hand
-- ==== Proof.BlockPoint.lean ====
/-
  The slice's kernel: what a grid point leaves of its block (four batches, two halves each), element by element as the matrix
  functions of Proof/BlockRow.lean of the windows' blocks.
-/
module

public import proofs.«01_k».proof.Proof.BlockFrame
public import proofs.«01_k».proof.Proof.BlockKernel

@[expose] public section

set_option maxRecDepth 16384

noncomputable section

namespace Cert.Kernel2Ideal.Hand

open Idealize.ShloMosaic Idealize.ShloMosaic.TcCoe Idealize.SL.Sem
open Idealize.ShloMosaic.Pipeline (Dat)
open Cert.Kernel2Ideal Cert.Kernel2Ideal.Gen
open RowLoads Cert.Block

/-! ## A batch's two state-space blocks -/

/-- A state-space block with its layer norm. -/
def stageOf (x xg : FVec Ideal S256x512 .f32) (ys : FVec Ideal S256x1024 .f32) (wu wz : FVec Ideal S512x1024 .f32)
    (c0 c1 c2 c3 cb dp : FVec Ideal S1x1024 .f32) (wo : FVec Ideal S1024x512 .f32) (g b : FVec Ideal S1x512 .f32) : FVec Ideal S256x512 .f32 :=
  normOf (sumOf x xg ys (convOf (timesOf xg wu) c0 c1 c2 c3 cb) wz dp wo) g b

theorem stageOf_fold (x xg : FVec Ideal S256x512 .f32) (ys : FVec Ideal S256x1024 .f32) (wu wz : FVec Ideal S512x1024 .f32)
    (c0 c1 c2 c3 cb dp : FVec Ideal S1x1024 .f32) (wo : FVec Ideal S1024x512 .f32) (g b : FVec Ideal S1x512 .f32) :
    normOf (sumOf x xg ys (convOf (timesOf xg wu) c0 c1 c2 c3 cb) wz dp wo) g b = stageOf x xg ys wu wz c0 c1 c2 c3 cb dp wo g b := rfl

/-- Weights read from the kernel's arrays: the taps are rows. -/
def rowWeights (w : FVec Ideal S512x2048 .f32) (c : FVec Ideal S4x1024 .f32) (b dp : FVec Ideal S1x1024 .f32) (wo : FVec Ideal S1024x512 .f32)
    (lg lb : FVec Ideal S1x512 .f32) : Weights where
  wu l k := w (ix2 l (⟨k.val, by omega⟩ : Fin 2048))
  wz l k := w (ix2 l (⟨1024 + k.val, by omega⟩ : Fin 2048))
  c d k := c (ix2 d k)
  b k := b (ix2 0 k)
  dp k := dp (ix2 0 k)
  wo k j := wo (ix2 k j)
  lg j := lg (ix2 0 j)
  lb j := lb (ix2 0 j)

/-- The first half of an input weight's columns. -/
def leftOf (w : FVec Ideal S512x2048 .f32) : FVec Ideal S512x1024 .f32 := fun y => w (ix2 (y 0) (⟨(y 1).val, by have : (y 1).val < 1024 := (y 1).isLt; omega⟩ : Fin 2048))

/-- The second half. -/
def rightOf (w : FVec Ideal S512x2048 .f32) : FVec Ideal S512x1024 .f32 := fun y => w (ix2 (y 0) (⟨1024 + (y 1).val, by have : (y 1).val < 1024 := (y 1).isLt; omega⟩ : Fin 2048))

/-- A row of taps. -/
def tapOf (c : FVec Ideal S4x1024 .f32) (d : Fin 4) : FVec Ideal S1x1024 .f32 := fun y => c (ix2 d (y 1))

/-- A batch of the rows. -/
def batchOf (X : FVec Ideal S4x256x512 .f32) (q : Fin 4) : FVec Ideal S1x256x512 .f32 := fun y => X (ix3 q (y 1) (y 2))

/-- A batch of a scan's output. -/
def scanBatchOf (X : FVec Ideal S4x256x1024 .f32) (q : Fin 4) : FVec Ideal S1x256x1024 .f32 := fun y => X (ix3 q (y 1) (y 2))

theorem ld_left (w : S512x2048.Idx → Elt Ideal .f32) (inb) : View.ld w (Rect.unit (s := S512x2048) ![0, 0] ![512, 1024] inb) = leftOf w := by
  funext y
  unfold leftOf
  show w ((Rect.unit (s := S512x2048) ![0, 0] ![512, 1024] inb).emb y) = w _
  congr 1
  funext a
  apply Fin.ext
  fin_cases a
  · exact (Nat.zero_add _).trans (Nat.one_mul _)
  · exact (Nat.zero_add _).trans (Nat.one_mul _)

theorem ld_right (w : S512x2048.Idx → Elt Ideal .f32) (inb) : View.ld w (Rect.unit (s := S512x2048) ![0, 1024] ![512, 1024] inb) = rightOf w := by
  funext y
  unfold rightOf
  show w ((Rect.unit (s := S512x2048) ![0, 1024] ![512, 1024] inb).emb y) = w _
  congr 1
  funext a
  apply Fin.ext
  fin_cases a
  · exact (Nat.zero_add _).trans (Nat.one_mul _)
  · exact congrArg (1024 + ·) (Nat.one_mul _)

theorem ld_tap (w : S4x1024.Idx → Elt Ideal .f32) (d : Nat) (inb : ∀ a, (![d, 0] : Fin 2 → Nat) a + (![1, 1024] : Fin 2 → Nat) a ≤ S4x1024.size a)
    (hd : d < 4) : View.ld w (Rect.unit (s := S4x1024) ![d, 0] ![1, 1024] inb) = tapOf w ⟨d, hd⟩ := by
  funext y
  unfold tapOf
  show w ((Rect.unit (s := S4x1024) ![d, 0] ![1, 1024] inb).emb y) = w _
  congr 1
  funext a
  apply Fin.ext
  fin_cases a
  · show d + 1 * (y 0).val = d; have : (y 0).val < 1 := (y 0).isLt; omega
  · exact (Nat.zero_add _).trans (Nat.one_mul _)

theorem ld_batch (w : S4x256x512.Idx → Elt Ideal .f32) (d : Nat)
    (inb : ∀ a, (![d, 0, 0] : Fin 3 → Nat) a + (![1, 256, 512] : Fin 3 → Nat) a ≤ S4x256x512.size a)
    (hd : d < 4) : View.ld w (Rect.unit (s := S4x256x512) ![d, 0, 0] ![1, 256, 512] inb) = batchOf w ⟨d, hd⟩ := by
  funext y
  unfold batchOf
  show w ((Rect.unit (s := S4x256x512) ![d, 0, 0] ![1, 256, 512] inb).emb y) = w _
  congr 1
  funext a
  apply Fin.ext
  fin_cases a
  · show d + 1 * (y 0).val = d; have : (y 0).val < 1 := (y 0).isLt; omega
  · exact (Nat.zero_add _).trans (Nat.one_mul _)
  · exact (Nat.zero_add _).trans (Nat.one_mul _)

theorem ld_scan (w : S4x256x1024.Idx → Elt Ideal .f32) (d : Nat)
    (inb : ∀ a, (![d, 0, 0] : Fin 3 → Nat) a + (![1, 256, 1024] : Fin 3 → Nat) a ≤ S4x256x1024.size a)
    (hd : d < 4) : View.ld w (Rect.unit (s := S4x256x1024) ![d, 0, 0] ![1, 256, 1024] inb) = scanBatchOf w ⟨d, hd⟩ := by
  funext y
  unfold scanBatchOf
  show w ((Rect.unit (s := S4x256x1024) ![d, 0, 0] ![1, 256, 1024] inb).emb y) = w _
  congr 1
  funext a
  apply Fin.ext
  fin_cases a
  · show d + 1 * (y 0).val = d; have : (y 0).val < 1 := (y 0).isLt; omega
  · exact (Nat.zero_add _).trans (Nat.one_mul _)
  · exact (Nat.zero_add _).trans (Nat.one_mul _)

section Two

variable (X : FVec Ideal S4x256x512 .f32) (DY GY : FVec Ideal S4x256x1024 .f32)
  (w : FVec Ideal S512x2048 .f32) (c : FVec Ideal S4x1024 .f32) (b dp : FVec Ideal S1x1024 .f32) (wo : FVec Ideal S1024x512 .f32) (lg lb : FVec Ideal S1x512 .f32)
  (a : FVec Ideal S256x256 .f32)
  (w' : FVec Ideal S512x2048 .f32) (c' : FVec Ideal S4x1024 .f32) (b' dp' : FVec Ideal S1x1024 .f32) (wo' : FVec Ideal S1024x512 .f32) (lg' lb' : FVec Ideal S1x512 .f32)

/-- The first block of batch `q`. -/
def firstOf (q : Fin 4) : FVec Ideal S256x512 .f32 :=
  stageOf (rowsOf (batchOf X q)) (diffOf (batchOf X q)) (scanOf (scanBatchOf DY q)) (leftOf w) (rightOf w) (tapOf c 0) (tapOf c 1) (tapOf c 2) (tapOf c 3) b dp wo lg lb

/-- Both blocks of batch `q`. -/
def bothOf (q : Fin 4) : FVec Ideal S256x512 .f32 :=
  stageOf (firstOf X DY w c b dp wo lg lb q) (mixOf a (firstOf X DY w c b dp wo lg lb q)) (scanOf (scanBatchOf GY q))
    (leftOf w') (rightOf w') (tapOf c' 0) (tapOf c' 1) (tapOf c' 2) (tapOf c' 3) b' dp' wo' lg' lb'

theorem firstOf_at (q : Fin 4) : (fun i j => firstOf X DY w c b dp wo lg lb q (ix2 i j))
    = stage (rowWeights w c b dp wo lg lb) (fun i j => X (ix3 q i j)) (diff fun i j => X (ix3 q i j)) (fun i k => DY (ix3 q i k)) := rfl

theorem bothOf_at (q : Fin 4) (i : Fin 256) (j : Fin 512) : bothOf X DY GY w c b dp wo lg lb a w' c' b' dp' wo' lg' lb' q (ix2 i j)
    = twoStages (rowWeights w c b dp wo lg lb) (rowWeights w' c' b' dp' wo' lg' lb') (fun i k => a (ix2 i k))
        (fun i j => X (ix3 q i j)) (fun i k => DY (ix3 q i k)) (fun i k => GY (ix3 q i k)) i j := by
  unfold twoStages
  rw [← firstOf_at]
  rfl

end Two

/-- The block that the windows give. -/
def blockOf (X : FVec Ideal S4x256x512 .f32) (DY GY : FVec Ideal S4x256x1024 .f32)
    (w : FVec Ideal S512x2048 .f32) (c : FVec Ideal S4x1024 .f32) (b dp : FVec Ideal S1x1024 .f32) (wo : FVec Ideal S1024x512 .f32) (lg lb : FVec Ideal S1x512 .f32)
    (e : FVec Ideal S256x16 .f32) (e' : FVec Ideal S16x256 .f32)
    (w' : FVec Ideal S512x2048 .f32) (c' : FVec Ideal S4x1024 .f32) (b' dp' : FVec Ideal S1x1024 .f32) (wo' : FVec Ideal S1024x512 .f32) (lg' lb' : FVec Ideal S1x512 .f32)
    (fg fb : FVec Ideal S1x512 .f32) (w1 : FVec Ideal S512x2048 .f32) (b1 : FVec Ideal S1x2048 .f32) (w2 : FVec Ideal S2048x512 .f32) (b2 : FVec Ideal S1x512 .f32)
    (q : Fin 4) (i : Fin 256) (j : Fin 512) : EReal :=
  ffnRow (twoStages (rowWeights w c b dp wo lg lb) (rowWeights w' c' b' dp' wo' lg' lb') (fun i k => k0_pay15 (F := Ideal) e e' (ix2 i k))
      (fun i j => X (ix3 q i j)) (fun i k => DY (ix3 q i k)) (fun i k => GY (ix3 q i k)) i)
    (fun k => fg (ix2 0 k)) (fun k => fb (ix2 0 k)) (fun l k => w1 (ix2 l k)) (fun k => b1 (ix2 0 k))
    (fun l k => w2 (ix2 l k)) (fun k => b2 (ix2 0 k)) j

/-- Half of batch `q`, from row `o`. -/
theorem half (X : FVec Ideal S4x256x512 .f32) (DY GY : FVec Ideal S4x256x1024 .f32)
    (w : FVec Ideal S512x2048 .f32) (c : FVec Ideal S4x1024 .f32) (b dp : FVec Ideal S1x1024 .f32) (wo : FVec Ideal S1024x512 .f32) (lg lb : FVec Ideal S1x512 .f32)
    (e : FVec Ideal S256x16 .f32) (e' : FVec Ideal S16x256 .f32)
    (w' : FVec Ideal S512x2048 .f32) (c' : FVec Ideal S4x1024 .f32) (b' dp' : FVec Ideal S1x1024 .f32) (wo' : FVec Ideal S1024x512 .f32) (lg' lb' : FVec Ideal S1x512 .f32)
    (fg fb : FVec Ideal S1x512 .f32) (w1 : FVec Ideal S512x2048 .f32) (b1 : FVec Ideal S1x2048 .f32) (w2 : FVec Ideal S2048x512 .f32) (b2 : FVec Ideal S1x512 .f32)
    (q : Fin 4) (o : Nat) (h : o + 128 ≤ 256) (i : Fin 128) (j : Fin 512) :
    ffnRow (fun k => rowsFrom (m := 256) (n := 512) 128 (bothOf X DY GY w c b dp wo lg lb (k0_pay15 (F := Ideal) e e') w' c' b' dp' wo' lg' lb' q) o h (ix2 i k))
      (fun k => fg (ix2 0 k)) (fun k => fb (ix2 0 k)) (fun l k => w1 (ix2 l k)) (fun k => b1 (ix2 0 k)) (fun l k => w2 (ix2 l k)) (fun k => b2 (ix2 0 k)) j
      = blockOf X DY GY w c b dp wo lg lb e e' w' c' b' dp' wo' lg' lb' fg fb w1 b1 w2 b2 q (⟨o + i.val, by omega⟩ : Fin 256) j :=
  congrArg (fun r : Fin 512 → EReal => ffnRow r (fun k => fg (ix2 0 k)) (fun k => fb (ix2 0 k)) (fun l k => w1 (ix2 l k)) (fun k => b1 (ix2 0 k))
    (fun l k => w2 (ix2 l k)) (fun k => b2 (ix2 0 k)) j)
    (funext fun k => bothOf_at X DY GY w c b dp wo lg lb (k0_pay15 (F := Ideal) e e') w' c' b' dp' wo' lg' lb' q (⟨o + i.val, by omega⟩ : Fin 256) k)

variable (m : (ℓ : Loc nD τ sig) → Buf (Elt Ideal) ℓ)

set_option maxHeartbeats 8000000 in
/-- What point `t` leaves in the output's buffer. -/
theorem point (c : Dev nD) (t : Fin cfg0.N) (y : S4x256x512.Idx) :
    (outsAt0 m c t).1 y = blockOf (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (y 0) (y 1) (y 2) := by
  unfold outsAt0
  dsimp only
  unfold out0_A_25
  frame_open
  simp (disch := decide) only [↓ View.readCov_skip, ↓ View.readCov_cons_toLoadRect, ↓ readCov_128, ↓ readCov_255, ↓ readCov_254, ↓ readCov_253,
    View.read_writes_junk_eq_canon, View.canon_cons_unit_lit', View.ld_unit_lit', View.readCov_unit_lit', View.readCov_cons_unit_lit', View.readAt_eq_ld,
    Memref.IsWhole.read_unread]
  simp (disch := decide) only [ld_left, ld_right, ld_tap, ld_batch, ld_scan]
  simp only [x0, d0, x1, d1, x2, d2, x3, d3, ys0, ys1, ys2, ys3, ys4, ys5, ys6, ys7, p0, p1, p2, p3, p4, p5, p6, p7, m0, m1, m2, m3, c0, c1, c2, c3, c4, c5, c6, c7, s0, s1, s2, s3, s4, s5, s6, s7, l0, l1, l2, l3, l4, l5, l6, l7, stageOf_fold]
  canon_tiles x h
  case piece0 =>
    rw [show y 0 = (3 : Fin 4) from Fin.ext (h0.trans (by have : (x 0).val < 1 := (x 0).isLt; show 3 + (x 0).val = 3; omega)),
      show y 1 = (⟨128 + (x 1).val, by have : (x 1).val < 128 := (x 1).isLt; omega⟩ : Fin 256) from Fin.ext (h1.trans (by rfl)), show y 2 = x 2 from Fin.ext h2]
    exact (out7 _ _ _ _ _ _ _ x).trans (half (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) 3 128 (by decide) (x 1) (x 2))
  case piece1 =>
    rw [show y 0 = (3 : Fin 4) from Fin.ext (h0.trans (by have : (x 0).val < 1 := (x 0).isLt; show 3 + (x 0).val = 3; omega)),
      show y 1 = (⟨0 + (x 1).val, by have : (x 1).val < 128 := (x 1).isLt; omega⟩ : Fin 256) from Fin.ext (h1.trans (by exact (Nat.zero_add _).symm)), show y 2 = x 2 from Fin.ext h2]
    exact (out6 _ _ _ _ _ _ _ x).trans (half (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) 3 0 (by decide) (x 1) (x 2))
  case piece2 =>
    rw [show y 0 = (2 : Fin 4) from Fin.ext (h0.trans (by have : (x 0).val < 1 := (x 0).isLt; show 2 + (x 0).val = 2; omega)),
      show y 1 = (⟨128 + (x 1).val, by have : (x 1).val < 128 := (x 1).isLt; omega⟩ : Fin 256) from Fin.ext (h1.trans (by rfl)), show y 2 = x 2 from Fin.ext h2]
    exact (out5 _ _ _ _ _ _ _ x).trans (half (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) 2 128 (by decide) (x 1) (x 2))
  case piece3 =>
    rw [show y 0 = (2 : Fin 4) from Fin.ext (h0.trans (by have : (x 0).val < 1 := (x 0).isLt; show 2 + (x 0).val = 2; omega)),
      show y 1 = (⟨0 + (x 1).val, by have : (x 1).val < 128 := (x 1).isLt; omega⟩ : Fin 256) from Fin.ext (h1.trans (by exact (Nat.zero_add _).symm)), show y 2 = x 2 from Fin.ext h2]
    exact (out4 _ _ _ _ _ _ _ x).trans (half (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) 2 0 (by decide) (x 1) (x 2))
  case piece4 =>
    rw [show y 0 = (1 : Fin 4) from Fin.ext (h0.trans (by have : (x 0).val < 1 := (x 0).isLt; show 1 + (x 0).val = 1; omega)),
      show y 1 = (⟨128 + (x 1).val, by have : (x 1).val < 128 := (x 1).isLt; omega⟩ : Fin 256) from Fin.ext (h1.trans (by rfl)), show y 2 = x 2 from Fin.ext h2]
    exact (out3 _ _ _ _ _ _ _ x).trans (half (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) 1 128 (by decide) (x 1) (x 2))
  case piece5 =>
    rw [show y 0 = (1 : Fin 4) from Fin.ext (h0.trans (by have : (x 0).val < 1 := (x 0).isLt; show 1 + (x 0).val = 1; omega)),
      show y 1 = (⟨0 + (x 1).val, by have : (x 1).val < 128 := (x 1).isLt; omega⟩ : Fin 256) from Fin.ext (h1.trans (by exact (Nat.zero_add _).symm)), show y 2 = x 2 from Fin.ext h2]
    exact (out2 _ _ _ _ _ _ _ x).trans (half (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) 1 0 (by decide) (x 1) (x 2))
  case piece6 =>
    rw [show y 0 = (0 : Fin 4) from Fin.ext (h0.trans (by have : (x 0).val < 1 := (x 0).isLt; show (x 0).val = 0; omega)),
      show y 1 = (⟨128 + (x 1).val, by have : (x 1).val < 128 := (x 1).isLt; omega⟩ : Fin 256) from Fin.ext (h1.trans (by rfl)), show y 2 = x 2 from Fin.ext h2]
    exact (out1 _ _ _ _ _ _ _ x).trans (half (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) 0 128 (by decide) (x 1) (x 2))
  case piece7 =>
    rw [show y 0 = (0 : Fin 4) from Fin.ext (h0.trans (by have : (x 0).val < 1 := (x 0).isLt; show (x 0).val = 0; omega)),
      show y 1 = (⟨0 + (x 1).val, by have : (x 1).val < 128 := (x 1).isLt; omega⟩ : Fin 256) from Fin.ext (h1.trans (by exact (Nat.zero_add _).symm)), show y 2 = x 2 from Fin.ext h2]
    exact (out0 _ _ _ _ _ _ _ x).trans (half (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) 0 0 (by decide) (x 1) (x 2))

end Cert.Kernel2Ideal.Hand
-- ==== Proof.BlockWin.lean ====
/-
  The slice's kernel: what its windows' blocks are of the arguments, and its graph.
-/
module

public import proofs.«01_k».proof.Proof.BlockPoint

@[expose] public section

set_option maxRecDepth 16384

noncomputable section

namespace Cert.Kernel2Ideal.Hand

open Idealize.ShloMosaic Idealize.ShloMosaic.TcCoe Idealize.SL.Sem
open Idealize.ShloMosaic.Pipeline (Dat)
open Cert.Kernel2Ideal Cert.Kernel2Ideal.Gen
open RowLoads Cert.Block

variable (m : (ℓ : Loc nD τ sig) → Buf (Elt Ideal) ℓ)

/-- The blocks that the first windows hold at each point: batches `4 t` to `4 t + 3` of the inputs, and all of each weight. -/
theorem idx : ∀ t : Fin cfg0.N, win0_0.index t = ![t.val, 0, 0] ∧ win0_1.index t = ![t.val, 0, 0] ∧ win0_2.index t = ![t.val, 0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![0, 0] :=
  (by decide +kernel : ∀ t : Fin grid0.N, _)

/-- The same of the other windows: all of each weight, and batches `4 t` to `4 t + 3` of the output. -/
theorem idx' : ∀ t : Fin cfg0.N, win0_13.index t = ![0, 0] ∧ win0_14.index t = ![0, 0] ∧ win0_15.index t = ![0, 0] ∧ win0_16.index t = ![0, 0]
    ∧ win0_17.index t = ![0, 0] ∧ win0_18.index t = ![0, 0] ∧ win0_19.index t = ![0, 0] ∧ win0_20.index t = ![0, 0]
    ∧ win0_21.index t = ![0, 0] ∧ win0_22.index t = ![0, 0] ∧ win0_23.index t = ![0, 0] ∧ win0_24.index t = ![0, 0]
    ∧ win0_25.index t = ![t.val, 0, 0] :=
  (by decide +kernel : ∀ t : Fin grid0.N, _)

/-- Window 0's block. -/
theorem win_0 (c : Dev nD) (t : Fin cfg0.N) : (iblk m c 0 t : FVec Ideal S4x256x512 .f32) = fun y => (m ((c : Thread nD τ).loc main_arg0)) (ix3 (⟨4 * t.val + (y 0).val, by have : (y 0).val < 4 := (y 0).isLt; have : t.val < 8 := t.isLt; omega⟩ : Fin 32) (y 1) (y 2)) := by
  funext y
  blk_point [iblk, V, idx t]

/-- Window 1's block. -/
theorem win_1 (c : Dev nD) (t : Fin cfg0.N) : (iblk m c 1 t : FVec Ideal S4x256x1024 .f32) = fun y => (m ((c : Thread nD τ).loc main_arg1)) (ix3 (⟨4 * t.val + (y 0).val, by have : (y 0).val < 4 := (y 0).isLt; have : t.val < 8 := t.isLt; omega⟩ : Fin 32) (y 1) (y 2)) := by
  funext y
  blk_point [iblk, V, idx t]

/-- Window 2's block. -/
theorem win_2 (c : Dev nD) (t : Fin cfg0.N) : (iblk m c 2 t : FVec Ideal S4x256x1024 .f32) = fun y => (m ((c : Thread nD τ).loc main_arg2)) (ix3 (⟨4 * t.val + (y 0).val, by have : (y 0).val < 4 := (y 0).isLt; have : t.val < 8 := t.isLt; omega⟩ : Fin 32) (y 1) (y 2)) := by
  funext y
  blk_point [iblk, V, idx t]

/-- Window 3's block. -/
theorem win_3 (c : Dev nD) (t : Fin cfg0.N) : (iblk m c 3 t : FVec Ideal S512x2048 .f32) = (m ((c : Thread nD τ).loc main_arg3)) := by
  funext y
  blk_point [iblk, V, idx t]

/-- Window 4's block. -/
theorem win_4 (c : Dev nD) (t : Fin cfg0.N) : (iblk m c 4 t : FVec Ideal S4x1024 .f32) = fun y => (m ((c : Thread nD τ).loc main_arg4)) (ix2 (y 1) (y 0)) := by
  funext y
  blk_point [iblk, V, idx t]

/-- Window 5's block. -/
theorem win_5 (c : Dev nD) (t : Fin cfg0.N) : (iblk m c 5 t : FVec Ideal S1x1024 .f32) = fun y => (m ((c : Thread nD τ).loc main_arg5)) (ix1 (y 1)) := by
  funext y
  blk_point [iblk, V, idx t]

/-- Window 6's block. -/
theorem win_6 (c : Dev nD) (t : Fin cfg0.N) : (iblk m c 6 t : FVec Ideal S1x1024 .f32) = fun y => (m ((c : Thread nD τ).loc main_arg6)) (ix1 (y 1)) := by
  funext y
  blk_point [iblk, V, idx t]

/-- Window 7's block. -/
theorem win_7 (c : Dev nD) (t : Fin cfg0.N) : (iblk m c 7 t : FVec Ideal S1024x512 .f32) = (m ((c : Thread nD τ).loc main_arg7)) := by
  funext y
  blk_point [iblk, V, idx t]

/-- Window 8's block. -/
theorem win_8 (c : Dev nD) (t : Fin cfg0.N) : (iblk m c 8 t : FVec Ideal S1x512 .f32) = fun y => (m ((c : Thread nD τ).loc main_arg8)) (ix1 (y 1)) := by
  funext y
  blk_point [iblk, V, idx t]

/-- Window 9's block. -/
theorem win_9 (c : Dev nD) (t : Fin cfg0.N) : (iblk m c 9 t : FVec Ideal S1x512 .f32) = fun y => (m ((c : Thread nD τ).loc main_arg9)) (ix1 (y 1)) := by
  funext y
  blk_point [iblk, V, idx t]

/-- Window 10's block. -/
theorem win_10 (c : Dev nD) (t : Fin cfg0.N) : (iblk m c 10 t : FVec Ideal S256x16 .f32) = (m ((c : Thread nD τ).loc main_arg10)) := by
  funext y
  blk_point [iblk, V, idx t]

/-- Window 11's block. -/
theorem win_11 (c : Dev nD) (t : Fin cfg0.N) : (iblk m c 11 t : FVec Ideal S16x256 .f32) = transpose Cert.ReferenceIdeal.S16x256 [1, 0] (m ((c : Thread nD τ).loc main_arg11)) Cert.ReferenceIdeal.Gen.transposes_S256x16_S16x256_1_0 := by
  funext y
  blk_point [iblk, V, idx t]

/-- Window 12's block. -/
theorem win_12 (c : Dev nD) (t : Fin cfg0.N) : (iblk m c 12 t : FVec Ideal S512x2048 .f32) = (m ((c : Thread nD τ).loc main_arg12)) := by
  funext y
  blk_point [iblk, V, idx t]

/-- Window 13's block. -/
theorem win_13 (c : Dev nD) (t : Fin cfg0.N) : (iblk m c 13 t : FVec Ideal S4x1024 .f32) = fun y => (m ((c : Thread nD τ).loc main_arg13)) (ix2 (y 1) (y 0)) := by
  funext y
  blk_point [iblk, V, idx' t]

/-- Window 14's block. -/
theorem win_14 (c : Dev nD) (t : Fin cfg0.N) : (iblk m c 14 t : FVec Ideal S1x1024 .f32) = fun y => (m ((c : Thread nD τ).loc main_arg14)) (ix1 (y 1)) := by
  funext y
  blk_point [iblk, V, idx' t]

/-- Window 15's block. -/
theorem win_15 (c : Dev nD) (t : Fin cfg0.N) : (iblk m c 15 t : FVec Ideal S1x1024 .f32) = fun y => (m ((c : Thread nD τ).loc main_arg15)) (ix1 (y 1)) := by
  funext y
  blk_point [iblk, V, idx' t]

/-- Window 16's block. -/
theorem win_16 (c : Dev nD) (t : Fin cfg0.N) : (iblk m c 16 t : FVec Ideal S1024x512 .f32) = (m ((c : Thread nD τ).loc main_arg16)) := by
  funext y
  blk_point [iblk, V, idx' t]

/-- Window 17's block. -/
theorem win_17 (c : Dev nD) (t : Fin cfg0.N) : (iblk m c 17 t : FVec Ideal S1x512 .f32) = fun y => (m ((c : Thread nD τ).loc main_arg17)) (ix1 (y 1)) := by
  funext y
  blk_point [iblk, V, idx' t]

/-- Window 18's block. -/
theorem win_18 (c : Dev nD) (t : Fin cfg0.N) : (iblk m c 18 t : FVec Ideal S1x512 .f32) = fun y => (m ((c : Thread nD τ).loc main_arg18)) (ix1 (y 1)) := by
  funext y
  blk_point [iblk, V, idx' t]

/-- Window 19's block. -/
theorem win_19 (c : Dev nD) (t : Fin cfg0.N) : (iblk m c 19 t : FVec Ideal S1x512 .f32) = fun y => (m ((c : Thread nD τ).loc main_arg19)) (ix1 (y 1)) := by
  funext y
  blk_point [iblk, V, idx' t]

/-- Window 20's block. -/
theorem win_20 (c : Dev nD) (t : Fin cfg0.N) : (iblk m c 20 t : FVec Ideal S1x512 .f32) = fun y => (m ((c : Thread nD τ).loc main_arg20)) (ix1 (y 1)) := by
  funext y
  blk_point [iblk, V, idx' t]

/-- Window 21's block. -/
theorem win_21 (c : Dev nD) (t : Fin cfg0.N) : (iblk m c 21 t : FVec Ideal S512x2048 .f32) = (m ((c : Thread nD τ).loc main_arg21)) := by
  funext y
  blk_point [iblk, V, idx' t]

/-- Window 22's block. -/
theorem win_22 (c : Dev nD) (t : Fin cfg0.N) : (iblk m c 22 t : FVec Ideal S1x2048 .f32) = fun y => (m ((c : Thread nD τ).loc main_arg22)) (ix1 (y 1)) := by
  funext y
  blk_point [iblk, V, idx' t]

/-- Window 23's block. -/
theorem win_23 (c : Dev nD) (t : Fin cfg0.N) : (iblk m c 23 t : FVec Ideal S2048x512 .f32) = (m ((c : Thread nD τ).loc main_arg23)) := by
  funext y
  blk_point [iblk, V, idx' t]

/-- Window 24's block. -/
theorem win_24 (c : Dev nD) (t : Fin cfg0.N) : (iblk m c 24 t : FVec Ideal S1x512 .f32) = fun y => (m ((c : Thread nD τ).loc main_arg24)) (ix1 (y 1)) := by
  funext y
  blk_point [iblk, V, idx' t]

/-- The graph that the kernel computes. -/
theorem graph_of (a b : FVec Ideal S256x16 .f32) :
    (fun i k => k0_pay15 (F := Ideal) a (transpose Cert.ReferenceIdeal.S16x256 [1, 0] b Cert.ReferenceIdeal.Gen.transposes_S256x16_S16x256_1_0) (ix2 i k)) = graph a b := by
  funext i k
  exact congrFun (Cert.Graph.graph_eq a (transpose Cert.ReferenceIdeal.S16x256 [1, 0] b Cert.ReferenceIdeal.Gen.transposes_S256x16_S16x256_1_0)) (ix2 i k)

end Cert.Kernel2Ideal.Hand
-- ==== Proof.BlockBlock.lean ====
/-
  The slice's kernel: the whole result array, element by element as the matrix functions of Proof/BlockRow.lean of the
  arguments.
-/
module

public import proofs.«01_k».proof.Proof.BlockWin

@[expose] public section

set_option maxRecDepth 16384

noncomputable section

namespace Cert.Kernel2Ideal.Hand

open Idealize.ShloMosaic Idealize.ShloMosaic.TcCoe Idealize.SL.Sem
open Idealize.ShloMosaic.Pipeline (Dat)
open Cert.Kernel2Ideal Cert.Kernel2Ideal.Gen
open RowLoads Cert.Block

variable (m : (ℓ : Loc nD τ sig) → Buf (Elt Ideal) ℓ)

set_option maxHeartbeats 4000000 in
/-- The result array after the run. -/
theorem final (c : Dev nD) : (dats m 0 c).arrAt 25 cfg0.N
    = whole (m ((c : Thread nD τ).loc main_arg0)) (m ((c : Thread nD τ).loc main_arg1)) (m ((c : Thread nD τ).loc main_arg2))
        (weights (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
        (weights (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)))
        (m ((c : Thread nD τ).loc main_arg10)) (m ((c : Thread nD τ).loc main_arg11)) (m ((c : Thread nD τ).loc main_arg19)) (m ((c : Thread nD τ).loc main_arg20))
        (m ((c : Thread nD τ).loc main_arg21)) (m ((c : Thread nD τ).loc main_arg22)) (m ((c : Thread nD τ).loc main_arg23)) (m ((c : Thread nD τ).loc main_arg24)) := by
  refine (dats m 0 c).arrAt_eq_of_covers 25 _ (by decide +kernel) fun t _ y => ?_
  blk_simp
  rw [after0_25]
  refine (point m c t y).trans ?_
  unfold blockOf
  rw [win_0, win_1, win_2, win_3, win_4, win_5, win_6, win_7, win_8, win_9, win_10, win_11, win_12, win_13, win_14, win_15, win_16, win_17, win_18, win_19, win_20, win_21, win_22, win_23, win_24, graph_of]
  refine (show _ = whole (m ((c : Thread nD τ).loc main_arg0)) (m ((c : Thread nD τ).loc main_arg1)) (m ((c : Thread nD τ).loc main_arg2)) (weights (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (weights (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) (m ((c : Thread nD τ).loc main_arg10)) (m ((c : Thread nD τ).loc main_arg11)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24))
      (ix3 (⟨4 * t.val + (y 0).val, by have : (y 0).val < 4 := (y 0).isLt; have : t.val < 8 := t.isLt; omega⟩ : Fin 32) (y 1) (y 2)) from rfl).trans ?_
  generalize whole (m ((c : Thread nD τ).loc main_arg0)) (m ((c : Thread nD τ).loc main_arg1)) (m ((c : Thread nD τ).loc main_arg2)) (weights (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (weights (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) (m ((c : Thread nD τ).loc main_arg10)) (m ((c : Thread nD τ).loc main_arg11)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) = f
  blk_point [idx' t]

/-- The first result after the run. -/
theorem result (g : Dev nD → PrngReg) : θ_run defs (onTc (τ := τ) (main (F := Ideal))) ⟨m, fun _ => 0, g⟩ fun r => ∀ c : Dev nD,
    r.2.mem ((c : Thread nD τ).loc main_v15_0) = (dats m 0 c).arrAt 25 cfg0.N :=
  (θ_run defs _ _).mono (fun r h c => (h c).1 25) (run_main m g)

end Cert.Kernel2Ideal.Hand
-- ==== Proof.BlockRef.lean ====
/-
  The slice's reference: its result, read at an index a stage at a time, is the matrix functions of Proof/BlockRow.lean of
  the arguments.
-/
module

public import proofs.«01_k».proof.Proof.Gen.Reference2Ideal.Run
public import proofs.«01_k».proof.Proof.BlockRow
public import Idealize.ShloMosaic.Lib.Pipeline.ValueKit

@[expose] public section

set_option maxRecDepth 16384

noncomputable section

namespace Cert.Reference2Ideal.Hand

open Idealize.ShloMosaic Idealize.ShloMosaic.TcCoe Idealize.SL.Sem
open Idealize.ShloMosaic.StableHlo (launchContents)
open Cert.Reference2Ideal Cert.Reference2Ideal.Gen

open Cert.Reference2Ideal.Value
open Cert.Block

variable (m : (ℓ : Loc nD τ sig) → Buf (Elt Ideal) ℓ)

/-- Gelu with the cube bracketed as the reference has it. -/
def gelu' (s : EReal) : EReal :=
  s * (Ideal.ofBits .f32 0x3F000000#32
    * (1 + Ideal.tanh (Ideal.ofBits .f32 0x3F4C422A#32 * (s + Ideal.ofBits .f32 0x3D372713#32 * (s * s * s)))))

theorem gelu_eq : gelu = gelu' := by
  funext s
  unfold gelu gelu'
  rw [mul_assoc]

/-- The padding is zero. -/
theorem sitofp_zero : (FloatOps.sitofp (F := Ideal) .f32 (0#32) : Ideal .f32) = (0 : EReal) := by
  show (((0#32).toInt : ℝ) : EReal) = 0
  simp

/-- The two orders of the convolution's sum. -/
theorem order (a b c d s : EReal) : a + b + c + d + s = d + s + c + b + a := by
  ac_rfl

/-- The differences as the reference has them, in a product. -/
theorem prod_diff {n : Nat} (x : Fin 256 → Fin 512 → EReal) (w : Fin 512 → Fin n → EReal) (i : Fin 256) (k : Fin n) :
    (∑ l, (if h : i.val < 1 then x i l else x ⟨1 + (i.val - 1), by omega⟩ l - x ⟨i.val - 1, by omega⟩ l) * w l k) = times (diff x) w i k := by
  refine times_congr fun l => ?_
  unfold diff
  split_ifs with h h'
  · omega
  · exact (sub_zero _).symm
  · simp only [show 1 + (i.val - 1) = i.val by omega]
  · omega

/-- The mixed rows as the reference has them, in a product. -/
theorem prod_mix {n : Nat} (a : Fin 256 → Fin 256 → EReal) (x : Fin 256 → Fin 512 → EReal) (w : Fin 512 → Fin n → EReal) (i : Fin 256) (k : Fin n) :
    (∑ l, (∑ t, x t l * a i t) * w l k) = times (mix a x) w i k :=
  times_congr fun l => mix_congr fun t => rfl

section Stages

variable (V : Valuation τ sig (Elt Ideal))

/-- The first state-space block's input product. -/
theorem prod0 (p : Fin 32) (i : Fin 256) (k : Fin 2048) : res_main_v5 V (ix3 p i k)
    = times (diff (fun i j => (V (Proc.devRef .tc main_arg0)) (ix3 p i j))) (fun l k => (V (Proc.devRef .tc main_arg3)) (ix2 l k)) i k := by
  pointwise [res_main_v5]
  exact prod_diff (fun i j => (V (Proc.devRef .tc main_arg0)) (ix3 p i j)) (fun l k => (V (Proc.devRef .tc main_arg3)) (ix2 l k)) i k

/-- The convolution of the first state-space block. -/
theorem taps0 (p : Fin 32) (i : Fin 256) (k : Fin 1024) : res_main_v40 V (ix3 p i k)
    = taps (fun i k => res_main_v5 V (ix3 p i (⟨k.val, by omega⟩ : Fin 2048))) (fun d k => (V (Proc.devRef .tc main_arg4)) (ix2 k d)) (fun k => (V (Proc.devRef .tc main_arg5)) (ix1 k)) i k := by
  pointwise [res_main_v40, res_main_v8]
  simp only [sitofp_zero, show 1 + i.val - 3 = i.val - 2 by omega, show 2 + i.val - 3 = i.val - 1 by omega,
    show (3 ≤ i.val ∧ i.val - 3 < 256) ↔ 3 ≤ i.val by omega, show (3 ≤ 1 + i.val ∧ i.val - 2 < 256) ↔ 2 ≤ i.val by omega,
    show (3 ≤ 2 + i.val ∧ i.val - 1 < 256) ↔ 1 ≤ i.val by omega]
  exact order _ _ _ _ _

/-- The first state-space block with its residual. -/
theorem sum0 (p : Fin 32) (i : Fin 256) (j : Fin 512) : res_main_v49 V (ix3 p i j)
    = mamba (fun i j => (V (Proc.devRef .tc main_arg0)) (ix3 p i j)) (diff (fun i j => (V (Proc.devRef .tc main_arg0)) (ix3 p i j))) (fun i j => (V (Proc.devRef .tc main_arg1)) (ix3 p i j))
        (fun l k => (V (Proc.devRef .tc main_arg3)) (ix2 l (⟨k.val, by omega⟩ : Fin 2048))) (fun l k => (V (Proc.devRef .tc main_arg3)) (ix2 l (⟨1024 + k.val, by omega⟩ : Fin 2048)))
        (fun d k => (V (Proc.devRef .tc main_arg4)) (ix2 k d)) (fun k => (V (Proc.devRef .tc main_arg5)) (ix1 k)) (fun k => (V (Proc.devRef .tc main_arg6)) (ix1 k)) (fun k j => (V (Proc.devRef .tc main_arg7)) (ix2 k j)) i j := by
  pointwise [res_main_v49, res_main_v7]
  simp only [taps0, prod0]
  rfl

/-- Its layer norm. -/
theorem norm0 (p : Fin 32) (i : Fin 256) (j : Fin 512) : res_main_v73 V (ix3 p i j)
    = lnRow (fun k => res_main_v49 V (ix3 p i k)) (fun k => (V (Proc.devRef .tc main_arg8)) (ix1 k)) (fun k => (V (Proc.devRef .tc main_arg9)) (ix1 k)) j := by
  pointwise [res_main_v73, res_main_v55, res_main_v53]
  rfl

/-- The first state-space block, its layer norm included. -/
theorem stage0 (p : Fin 32) : (fun i j => res_main_v73 V (ix3 p i j))
    = stage (weights (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))) (fun i j => (V (Proc.devRef .tc main_arg0)) (ix3 p i j)) (diff (fun i j => (V (Proc.devRef .tc main_arg0)) (ix3 p i j))) (fun i j => (V (Proc.devRef .tc main_arg1)) (ix3 p i j)) := by
  funext i j
  rw [norm0]
  simp only [sum0]
  rfl

/-- The graph as the reference has it. -/
theorem graph_eq (i k : Fin 256) : graph (V (Proc.devRef .tc main_arg10)) (V (Proc.devRef .tc main_arg11)) i k = Ideal.div (res_main_v83 V (ix2 i k)) (∑ l, res_main_v83 V (ix2 i l)) := by
  show Cert.ReferenceIdeal.Hand.norm (F := Ideal) (res_main_v83 V) (ix2 i k) = _
  pointwise [Cert.ReferenceIdeal.Hand.norm, Cert.ReferenceIdeal.Hand.spread]

/-- The second state-space block's input product. -/
theorem prod1 (p : Fin 32) (i : Fin 256) (k : Fin 2048) : res_main_v90 V (ix3 p i k)
    = times ((mix (graph (V (Proc.devRef .tc main_arg10)) (V (Proc.devRef .tc main_arg11))) (fun i j => res_main_v73 V (ix3 p i j)))) (fun l k => (V (Proc.devRef .tc main_arg12)) (ix2 l k)) i k := by
  pointwise [res_main_v90]
  rw [show graph (V (Proc.devRef .tc main_arg10)) (V (Proc.devRef .tc main_arg11)) = fun i k => Ideal.div (res_main_v83 V (ix2 i k)) (∑ l, res_main_v83 V (ix2 i l))
    from funext fun i => funext fun k => graph_eq V i k]
  exact prod_mix (fun i k => Ideal.div (res_main_v83 V (ix2 i k)) (∑ l, res_main_v83 V (ix2 i l))) (fun i j => res_main_v73 V (ix3 p i j))
    (fun l k => (V (Proc.devRef .tc main_arg12)) (ix2 l k)) i k

/-- The convolution of the second state-space block. -/
theorem taps1 (p : Fin 32) (i : Fin 256) (k : Fin 1024) : res_main_v125 V (ix3 p i k)
    = taps (fun i k => res_main_v90 V (ix3 p i (⟨k.val, by omega⟩ : Fin 2048))) (fun d k => (V (Proc.devRef .tc main_arg13)) (ix2 k d)) (fun k => (V (Proc.devRef .tc main_arg14)) (ix1 k)) i k := by
  pointwise [res_main_v125, res_main_v93]
  simp only [sitofp_zero, show 1 + i.val - 3 = i.val - 2 by omega, show 2 + i.val - 3 = i.val - 1 by omega,
    show (3 ≤ i.val ∧ i.val - 3 < 256) ↔ 3 ≤ i.val by omega, show (3 ≤ 1 + i.val ∧ i.val - 2 < 256) ↔ 2 ≤ i.val by omega,
    show (3 ≤ 2 + i.val ∧ i.val - 1 < 256) ↔ 1 ≤ i.val by omega]
  exact order _ _ _ _ _

/-- The second state-space block with its residual. -/
theorem sum1 (p : Fin 32) (i : Fin 256) (j : Fin 512) : res_main_v134 V (ix3 p i j)
    = mamba (fun i j => res_main_v73 V (ix3 p i j)) (mix (graph (V (Proc.devRef .tc main_arg10)) (V (Proc.devRef .tc main_arg11))) (fun i j => res_main_v73 V (ix3 p i j))) (fun i j => (V (Proc.devRef .tc main_arg2)) (ix3 p i j))
        (fun l k => (V (Proc.devRef .tc main_arg12)) (ix2 l (⟨k.val, by omega⟩ : Fin 2048))) (fun l k => (V (Proc.devRef .tc main_arg12)) (ix2 l (⟨1024 + k.val, by omega⟩ : Fin 2048)))
        (fun d k => (V (Proc.devRef .tc main_arg13)) (ix2 k d)) (fun k => (V (Proc.devRef .tc main_arg14)) (ix1 k)) (fun k => (V (Proc.devRef .tc main_arg15)) (ix1 k)) (fun k j => (V (Proc.devRef .tc main_arg16)) (ix2 k j)) i j := by
  pointwise [res_main_v134, res_main_v92]
  simp only [taps1, prod1]
  rfl

/-- Its layer norm. -/
theorem norm1 (p : Fin 32) (i : Fin 256) (j : Fin 512) : res_main_v158 V (ix3 p i j)
    = lnRow (fun k => res_main_v134 V (ix3 p i k)) (fun k => (V (Proc.devRef .tc main_arg17)) (ix1 k)) (fun k => (V (Proc.devRef .tc main_arg18)) (ix1 k)) j := by
  pointwise [res_main_v158, res_main_v140, res_main_v138]
  rfl

/-- The second state-space block, its layer norm included. -/
theorem stage1 (p : Fin 32) : (fun i j => res_main_v158 V (ix3 p i j))
    = stage (weights (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18))) (fun i j => res_main_v73 V (ix3 p i j)) (mix (graph (V (Proc.devRef .tc main_arg10)) (V (Proc.devRef .tc main_arg11))) (fun i j => res_main_v73 V (ix3 p i j))) (fun i j => (V (Proc.devRef .tc main_arg2)) (ix3 p i j)) := by
  funext i j
  rw [norm1]
  simp only [sum1]
  rfl

/-- Both state-space blocks. -/
theorem two_eq (p : Fin 32) (i : Fin 256) (j : Fin 512) : res_main_v158 V (ix3 p i j)
    = twoStages (weights (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))) (weights (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18))) (graph (V (Proc.devRef .tc main_arg10)) (V (Proc.devRef .tc main_arg11)))
        (fun i j => (V (Proc.devRef .tc main_arg0)) (ix3 p i j)) (fun i j => (V (Proc.devRef .tc main_arg1)) (ix3 p i j)) (fun i j => (V (Proc.devRef .tc main_arg2)) (ix3 p i j)) i j := by
  refine (congrFun (congrFun (stage1 V p) i) j).trans ?_
  rw [stage0]
  rfl

/-- The hidden layer before gelu. -/
theorem hid_eq (p : Fin 32) (i : Fin 256) (k : Fin 2048) : res_main_v186 V (ix3 p i k)
    = (∑ l, lnRow (fun k => res_main_v158 V (ix3 p i k)) (fun k => (V (Proc.devRef .tc main_arg19)) (ix1 k)) (fun k => (V (Proc.devRef .tc main_arg20)) (ix1 k)) l * (V (Proc.devRef .tc main_arg21)) (ix2 l k)) + (V (Proc.devRef .tc main_arg22)) (ix1 k) := by
  pointwise [res_main_v186, res_main_v164, res_main_v162]
  rfl

/-- The feed-forward of the array `a` whose hidden layer before gelu is `h`. -/
theorem out_eq (a : FVec Ideal S32x256x512 .f32) (h : FVec Ideal S32x256x2048 .f32) (w2 : FVec Ideal S2048x512 .f32) (b2 : FVec Ideal S512 .f32)
    (p : Fin 32) (i : Fin 256) (j : Fin 512) :
    addf (addf a (Host.dotGeneral dot_S32x256x2048_S2048x512_S32x256x512_2_0_01_1_n_n none (mulf h (mulf (broadcastInDim S32x256x2048 ![] bcast_S_S32x256x2048 (constant S_ .f32 0x3F000000#32)) (addf (broadcastInDim S32x256x2048 ![] bcast_S_S32x256x2048 (constant S_ .f32 0x3F800000#32)) (Host.tanh (mulf (broadcastInDim S32x256x2048 ![] bcast_S_S32x256x2048 (constant S_ .f32 0x3F4C422A#32)) (addf h (mulf (broadcastInDim S32x256x2048 ![] bcast_S_S32x256x2048 (constant S_ .f32 0x3D372713#32)) (mulf (mulf h h) h)))))))) w2)) (broadcastInDim S32x256x512 ![0, 1, 2] bcast_S1x1x512_S32x256x512_0_1_2 (broadcastInDim S1x1x512 ![2] bcast_S512_S1x1x512_2 b2)) (ix3 p i j)
      = a (ix3 p i j) + (∑ k, gelu' (h (ix3 p i k)) * w2 (ix2 k j)) + b2 (ix1 j) := by
  pointwise
  rfl

end Stages

/-- The reference's run: its first result over the arguments, and the arguments as they were. -/
theorem run (g : Dev nD → PrngReg) : θ_run defs (onTc (τ := τ) (main (F := Ideal))) ⟨m, fun _ => 0, g⟩ fun r => ∀ c : Dev nD,
      r.2.mem ((c : Thread nD τ).loc main_v204) = whole (m ((c : Thread nD τ).loc main_arg0)) (m ((c : Thread nD τ).loc main_arg1)) (m ((c : Thread nD τ).loc main_arg2)) (weights (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
        (weights (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) (m ((c : Thread nD τ).loc main_arg10)) (m ((c : Thread nD τ).loc main_arg11)) (m ((c : Thread nD τ).loc main_arg19)) (m ((c : Thread nD τ).loc main_arg20))
        (m ((c : Thread nD τ).loc main_arg21)) (m ((c : Thread nD τ).loc main_arg22)) (m ((c : Thread nD τ).loc main_arg23)) (m ((c : Thread nD τ).loc main_arg24))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24) := by
  refine (θ_run defs _ _).mono (fun r h c => ⟨(h c).1.trans ?_, (h c).2.2⟩) (Cert.Reference2Ideal.Value.run m g)
  funext y
  idx_vars y
  refine (out_eq (res_main_v158 (launchContents m c)) (res_main_v186 (launchContents m c)) _ _ _ _ _).trans ?_
  unfold whole ffnRow hidRow
  rw [gelu_eq]
  simp only [hid_eq, two_eq]
  rfl

end Cert.Reference2Ideal.Hand
-- ==== Proof.lean ====
/-
  The proof of `Cert.Claim`: the frames of the kernel as it is printed, of its idealization and of the reference
  (Proof/KernelFrame.lean, Proof/KernelIdealFrame.lean, Proof/RefRun.lean), what the idealization's one rewrite keeps,
  and the second result of both sides (Proof/Graph.lean); then the same for the slice of the body with the outputs of its two
  scans given (Proof/BitsFrame.lean, Proof/BlockFrame.lean), whose first result is read on both sides as the matrix functions
  of Proof/BlockRow.lean (Proof/BlockBlock.lean, Proof/BlockRef.lean).
-/
module

public import proofs.«01_k».proof.Defs
public import proofs.«01_k».proof.Proof.KernelFrame
public import proofs.«01_k».proof.Proof.Graph
public import proofs.«01_k».proof.Proof.BitsFrame
public import proofs.«01_k».proof.Proof.BlockBlock
public import proofs.«01_k».proof.Proof.BlockRef
public import proofs.«01_k».proof.Proof.Gen.Kernel
public import proofs.«01_k».proof.Proof.Gen.KernelIdeal
public import proofs.«01_k».proof.Proof.Gen.ReferenceIdeal
public import proofs.«01_k».proof.Proof.Gen.On_graph
public import proofs.«01_k».proof.Proof.Gen.On_block
public import proofs.«01_k».proof.Proof.Gen.Kernel2
public import proofs.«01_k».proof.Proof.Gen.Kernel2Ideal
public import proofs.«01_k».proof.Proof.Gen.Reference2Ideal.Run
public import Idealize.ShloMosaic.Adequacy
public import Idealize.ShloMosaic.Init

@[expose] public section

noncomputable section

namespace Cert.Proof

open Idealize.ShloMosaic Idealize.SL.Sem

/-- The constant the idealization names `log2_e` is the real `1 / log 2` the certificate's table gives that name. -/
theorem preserves : Cert.preserves_Kernel_KernelIdeal :=
  IdealRules.named_const.statement Cert.KernelIdeal.κ "log2_e" .f32 0x3FB8AA3B#32 (((Real.log 2)⁻¹ : ℝ) : EReal) rfl

/-- An element at which the mask is zero is not selected. -/
theorem unmasked {p : BitVec 1} {P : Prop} (h : p = 0#1) (h' : p = 1#1) : P :=
  absurd (h.symm.trans h') (by decide)

/-- The second result of both is one array of reals, the graph of the two embeddings. -/
theorem algebraic : Cert.algebraic_KernelIdeal_ReferenceIdeal_on_graph := by
  intro m g m' g' _ hargs
  refine ⟨fun c => m (c.tc.loc Cert.KernelIdeal.main_v28_0), fun c => Cert.KernelIdeal.Hand.adjOf (F := Ideal) (m (c.tc.loc Cert.KernelIdeal.main_arg12))
      (transpose Cert.KernelIdeal.S16x256 [1, 0] (m (c.tc.loc Cert.KernelIdeal.main_arg13)) Cert.KernelIdeal.Gen.transposes_S256x16_S16x256_1_0), ?_, ?_⟩
  · exact (θ_run _ _ _).mono (fun r h c => ⟨fun i hi => unmasked rfl hi, fun i _ => congrFun (h c).1 i, (h c).2⟩)
      (Cert.KernelIdeal.Hand.graph (F := Ideal) m g)
  · refine (θ_run _ _ _).mono (fun r h c => ⟨fun i hi => unmasked rfl hi, fun i _ => congrFun ((h c).1.trans ?_) i, (h c).2⟩)
      (Cert.ReferenceIdeal.Hand.graph (F := Ideal) m' g')
    obtain ⟨_, _, _, _, _, _, _, _, _, _, _, _, h12, h13, _⟩ := hargs c
    refine Eq.trans ?_ (Cert.Graph.graph_eq _ _).symm
    rw [h12, h13]

/-- The slice's first result on both sides is one array, the matrix functions of the arguments. -/
theorem algebraic_slice : Cert.algebraic_Kernel2Ideal_Reference2Ideal_on_block := by
  intro m g m' g' _ hargs
  refine ⟨fun c => Cert.Block.whole (m (c.tc.loc Cert.Kernel2Ideal.main_arg0)) (m (c.tc.loc Cert.Kernel2Ideal.main_arg1)) (m (c.tc.loc Cert.Kernel2Ideal.main_arg2))
      (Cert.Block.weights (m (c.tc.loc Cert.Kernel2Ideal.main_arg3)) (m (c.tc.loc Cert.Kernel2Ideal.main_arg4)) (m (c.tc.loc Cert.Kernel2Ideal.main_arg5)) (m (c.tc.loc Cert.Kernel2Ideal.main_arg6)) (m (c.tc.loc Cert.Kernel2Ideal.main_arg7)) (m (c.tc.loc Cert.Kernel2Ideal.main_arg8)) (m (c.tc.loc Cert.Kernel2Ideal.main_arg9)))
      (Cert.Block.weights (m (c.tc.loc Cert.Kernel2Ideal.main_arg12)) (m (c.tc.loc Cert.Kernel2Ideal.main_arg13)) (m (c.tc.loc Cert.Kernel2Ideal.main_arg14)) (m (c.tc.loc Cert.Kernel2Ideal.main_arg15)) (m (c.tc.loc Cert.Kernel2Ideal.main_arg16)) (m (c.tc.loc Cert.Kernel2Ideal.main_arg17)) (m (c.tc.loc Cert.Kernel2Ideal.main_arg18)))
      (m (c.tc.loc Cert.Kernel2Ideal.main_arg10)) (m (c.tc.loc Cert.Kernel2Ideal.main_arg11)) (m (c.tc.loc Cert.Kernel2Ideal.main_arg19)) (m (c.tc.loc Cert.Kernel2Ideal.main_arg20))
      (m (c.tc.loc Cert.Kernel2Ideal.main_arg21)) (m (c.tc.loc Cert.Kernel2Ideal.main_arg22)) (m (c.tc.loc Cert.Kernel2Ideal.main_arg23)) (m (c.tc.loc Cert.Kernel2Ideal.main_arg24)), fun c => m (c.tc.loc Cert.Kernel2Ideal.main_v15_1), ?_, ?_⟩
  · exact (θ_run _ _ _).mono (fun r h c => ⟨fun i _ => congrFun ((h.1 c).trans (Cert.Kernel2Ideal.Hand.final m c)) i, fun i hi => unmasked rfl hi, h.2 c⟩)
      (θ_run_and (Cert.Kernel2Ideal.Hand.result m g) (Cert.Kernel2Ideal.Hand.unchanged m g))
  · refine (θ_run _ _ _).mono (fun r h c => ⟨fun i _ => congrFun ((h c).1.trans ?_) i, fun i hi => unmasked rfl hi, (h c).2⟩) (Cert.Reference2Ideal.Hand.run m' g')
    obtain ⟨h0, h1, h2, h3, h4, h5, h6, h7, h8, h9, h10, h11, h12, h13, h14, h15, h16, h17, h18, h19, h20, h21, h22, h23, h24⟩ := hargs c
    rw [h0, h1, h2, h3, h4, h5, h6, h7, h8, h9, h10, h11, h12, h13, h14, h15, h16, h17, h18, h19, h20, h21, h22, h23, h24]

/-- Every claim of the certificate. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.On_graph.Gen.facts, Cert.On_block.Gen.facts,
    fun m g _ => Cert.Kernel.Hand.quiescent (F := Bits) m g,
    fun m g _ => Cert.KernelIdeal.Hand.quiescent (F := Ideal) m g,
    fun m g _ => Cert.ReferenceIdeal.Hand.quiescent (F := Ideal) m g,
    fun m g _ => Cert.Kernel2.Hand.frame (F := Bits) m g,
    fun m g _ => Cert.Kernel2Ideal.Hand.frame (F := Ideal) m g,
    fun m g _ => (θ_run _ _ _).mono (fun r h => ⟨fun c => (h c).2.2, sem_eq_zero_of_no_sems rfl r.2⟩)
      (Cert.Reference2Ideal.Value.run (F := Ideal) m g),
    preserves, algebraic, trivial, algebraic_slice⟩

end Cert.Proof
